-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S4x128x2x128 Cert.KernelIdeal.S4x128x1x128
  ∧ IdealRules.bf16_pair.Statement Cert.KernelIdeal.S128x128 Cert.KernelIdeal.S64x128
  ∧ IdealRules.bf16_pair.Statement Cert.KernelIdeal.S1x64x2x128 Cert.KernelIdeal.S1x64x1x128
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x8192 : Shape := ⟨3, ![64, 1, 8192]⟩
abbrev S38016x4096 : Shape := ⟨2, ![38016, 4096]⟩
abbrev S38016x256 : Shape := ⟨2, ![38016, 256]⟩
abbrev S32 : Shape := ⟨1, ![32]⟩
abbrev S32x1 : Shape := ⟨2, ![32, 1]⟩
abbrev S1x32x1x1 : Shape := ⟨4, ![1, 32, 1, 1]⟩
abbrev S1x32x128x1 : Shape := ⟨4, ![1, 32, 128, 1]⟩
abbrev S32x128 : Shape := ⟨2, ![32, 128]⟩
abbrev S64x8192 : Shape := ⟨2, ![64, 8192]⟩
abbrev S64x1 : Shape := ⟨2, ![64, 1]⟩
abbrev S512x4096 : Shape := ⟨2, ![512, 4096]⟩
abbrev S512x256 : Shape := ⟨2, ![512, 256]⟩
abbrev S4x128x128 : Shape := ⟨3, ![4, 128, 128]⟩
abbrev S64x128 : Shape := ⟨2, ![64, 128]⟩
abbrev S128x128 : Shape := ⟨2, ![128, 128]⟩
abbrev S1x64x128 : Shape := ⟨3, ![1, 64, 128]⟩
abbrev S64x256 : Shape := ⟨2, ![64, 256]⟩
abbrev S8x128 : Shape := ⟨2, ![8, 128]⟩
abbrev S32x128x1 : Shape := ⟨3, ![32, 128, 1]⟩
abbrev S1x1x128 : Shape := ⟨3, ![1, 1, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩
abbrev S64 : Shape := ⟨1, ![64]⟩

abbrev nBuf : Space → Nat
  | .hbm => 12
  | .vmem => 14
  | .smem => 0
  | _ => 0

abbrev bufTy : (tb : Table) → Fin (tcTables nBuf tb) → BufTy
  | .hbm, ⟨0, _⟩ => ⟨S64x1x8192, .bf16⟩
  | .hbm, ⟨1, _⟩ => ⟨S38016x4096, .i8⟩
  | .hbm, ⟨2, _⟩ => ⟨S38016x256, .bf16⟩
  | .hbm, ⟨3, _⟩ => ⟨S32, .i8⟩
  | .hbm, ⟨4, _⟩ => ⟨S32x1, .i8⟩
  | .hbm, ⟨5, _⟩ => ⟨S1x32x1x1, .i8⟩
  | .hbm, ⟨6, _⟩ => ⟨S1x32x128x1, .i8⟩
  | .hbm, ⟨7, _⟩ => ⟨S32x128, .i8⟩
  | .hbm, ⟨8, _⟩ => ⟨S64x8192, .bf16⟩
  | .hbm, ⟨9, _⟩ => ⟨S64x1, .i32⟩
  | .hbm, ⟨10, _⟩ => ⟨S64x1, .f32⟩
  | .hbm, ⟨11, _⟩ => ⟨S64x1, .f32⟩
  | .local _ .vmem, ⟨0, _⟩ => ⟨S32x128, .i8⟩
  | .local _ .vmem, ⟨1, _⟩ => ⟨S64x8192, .bf16⟩
  | .local _ .vmem, ⟨2, _⟩ => ⟨S512x4096, .i8⟩
  | .local _ .vmem, ⟨3, _⟩ => ⟨S512x4096, .i8⟩
  | .local _ .vmem, ⟨4, _⟩ => ⟨S512x256, .bf16⟩
  | .local _ .vmem, ⟨5, _⟩ => ⟨S512x256, .bf16⟩
  | .local _ .vmem, ⟨6, _⟩ => ⟨S64x1, .i32⟩
  | .local _ .vmem, ⟨7, _⟩ => ⟨S64x1, .f32⟩
  | .local _ .vmem, ⟨8, _⟩ => ⟨S64x1, .f32⟩
  | .local _ .vmem, ⟨9, _⟩ => ⟨S4x128x128, .i32⟩
  | .local _ .vmem, ⟨10, _⟩ => ⟨S4x128x128, .i32⟩
  | .local _ .vmem, ⟨11, _⟩ => ⟨S64x128, .f32⟩
  | .local _ .vmem, ⟨12, _⟩ => ⟨S64x128, .i32⟩
  | .local _ .vmem, ⟨13, _⟩ => ⟨S64x128, .f32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [BitOps F]

abbrev grid0 : Pipeline.Grid := ⟨1, ![75], ![false]⟩

@[reducible] def k0_t1_loop : Scf.Loop 32 :=
  let c0_i32_94 : BitVec 32 := 0#32
  let c32_i32 : BitVec 32 := 32#32
  let v161 : BitVec 32 := Scalar.addi c0_i32_94 c32_i32
  let c1_i32 : BitVec 32 := 1#32
  ⟨c0_i32_94, v161, c1_i32⟩
def k0_mult1 (k0_t1 : Fin k0_t1_loop.trips) : BitVec 32 :=
  let c0_i32_94 : BitVec 32 := 0#32
  let c1_i32 : BitVec 32 := 1#32
  let arg13 : BitVec 32 := Scf.iv c0_i32_94 c1_i32 k0_t1
  let c128_i32 : BitVec 32 := 128#32
  let v230 : BitVec 32 := Scalar.muli arg13 c128_i32
  v230
def k0_mult2 (k0_t1 : Fin k0_t1_loop.trips) : BitVec 32 :=
  let c0_i32_94 : BitVec 32 := 0#32
  let c1_i32 : BitVec 32 := 1#32
  let arg13 : BitVec 32 := Scf.iv c0_i32_94 c1_i32 k0_t1
  let c256_i32 : BitVec 32 := 256#32
  let v232 : BitVec 32 := Scalar.muli arg13 c256_i32
  v232
def k0_off1 (k0_t1 : Fin k0_t1_loop.trips) : Fin 2 → Nat :=
  let c0_126 : Index := 0#32
  let c0_i32_94 : BitVec 32 := 0#32
  let c1_i32 : BitVec 32 := 1#32
  let arg13 : BitVec 32 := Scf.iv c0_i32_94 c1_i32 k0_t1
  let c128_i32 : BitVec 32 := 128#32
  let v230 : BitVec 32 := Scalar.muli arg13 c128_i32
  let v231 : BitVec 32 := v230
  let v234 : Index := Scalar.indexCast v231
  ![0, v234.toNat]
def k0_off2 (k0_t1 : Fin k0_t1_loop.trips) (c0_i32_129 : BitVec 32) : Fin 3 → Nat :=
  let c0_130 : Index := 0#32
  let c0_i32_94 : BitVec 32 := 0#32
  let c1_i32 : BitVec 32 := 1#32
  let arg13 : BitVec 32 := Scf.iv c0_i32_94 c1_i32 k0_t1
  let c4_i32_128 : BitVec 32 := 4#32
  let v257 : BitVec 32 := Scalar.muli arg13 c4_i32_128
  let v258 : BitVec 32 := Scalar.addi v257 c0_i32_129
  let v259 : Index := Scalar.indexCast v258
  let c0_131 : Index := 0#32
  ![0, v259.toNat, 0]
def k0_off3 (k0_t1 : Fin k0_t1_loop.trips) : Fin 2 → Nat :=
  let c128_154 : Index := 128#32
  let c0_i32_94 : BitVec 32 := 0#32
  let c1_i32 : BitVec 32 := 1#32
  let arg13 : BitVec 32 := Scf.iv c0_i32_94 c1_i32 k0_t1
  let c128_i32 : BitVec 32 := 128#32
  let v230 : BitVec 32 := Scalar.muli arg13 c128_i32
  let v231 : BitVec 32 := v230
  let v398 : Index := Scalar.indexCast v231
  ![128, v398.toNat]
def k0_off4 (k0_t1 : Fin k0_t1_loop.trips) (c0_i32_157 : BitVec 32) : Fin 3 → Nat :=
  let c1_158 : Index := 1#32
  let c0_i32_94 : BitVec 32 := 0#32
  let c1_i32 : BitVec 32 := 1#32
  let arg13 : BitVec 32 := Scf.iv c0_i32_94 c1_i32 k0_t1
  let c4_i32_156 : BitVec 32 := 4#32
  let v421 : BitVec 32 := Scalar.muli arg13 c4_i32_156
  let v422 : BitVec 32 := Scalar.addi v421 c0_i32_157
  let v423 : Index := Scalar.indexCast v422
  let c0_159 : Index := 0#32
  ![1, v423.toNat, 0]
def k0_off5 (k0_t1 : Fin k0_t1_loop.trips) : Fin 2 → Nat :=
  let c0_183 : Index := 0#32
  let c0_i32_94 : BitVec 32 := 0#32
  let c1_i32 : BitVec 32 := 1#32
  let arg13 : BitVec 32 := Scf.iv c0_i32_94 c1_i32 k0_t1
  let c256_i32 : BitVec 32 := 256#32
  let v232 : BitVec 32 := Scalar.muli arg13 c256_i32
  let v233 : BitVec 32 := v232
  let v563 : Index := Scalar.indexCast v233
  ![0, v563.toNat]
@[reducible] def k0_t2_loop : Scf.Loop 32 :=
  let c0_i32_106 : BitVec 32 := 0#32
  let c32_i32_107 : BitVec 32 := 32#32
  let v190 : BitVec 32 := Scalar.addi c0_i32_106 c32_i32_107
  let c1_i32_108 : BitVec 32 := 1#32
  ⟨c0_i32_106, v190, c1_i32_108⟩
def k0_mult3 (k0_t2 : Fin k0_t2_loop.trips) : BitVec 32 :=
  let c0_i32_106 : BitVec 32 := 0#32
  let c1_i32_108 : BitVec 32 := 1#32
  let arg13 : BitVec 32 := Scf.iv c0_i32_106 c1_i32_108 k0_t2
  let c128_i32 : BitVec 32 := 128#32
  let v230 : BitVec 32 := Scalar.muli arg13 c128_i32
  v230
def k0_mult4 (k0_t2 : Fin k0_t2_loop.trips) : BitVec 32 :=
  let c0_i32_106 : BitVec 32 := 0#32
  let c1_i32_108 : BitVec 32 := 1#32
  let arg13 : BitVec 32 := Scf.iv c0_i32_106 c1_i32_108 k0_t2
  let c256_i32 : BitVec 32 := 256#32
  let v232 : BitVec 32 := Scalar.muli arg13 c256_i32
  v232
def k0_off6 (k0_t2 : Fin k0_t2_loop.trips) : Fin 2 → Nat :=
  let c256_126 : Index := 256#32
  let c0_i32_106 : BitVec 32 := 0#32
  let c1_i32_108 : BitVec 32 := 1#32
  let arg13 : BitVec 32 := Scf.iv c0_i32_106 c1_i32_108 k0_t2
  let c128_i32 : BitVec 32 := 128#32
  let v230 : BitVec 32 := Scalar.muli arg13 c128_i32
  let v231 : BitVec 32 := v230
  let v234 : Index := Scalar.indexCast v231
  ![256, v234.toNat]
def k0_off7 (k0_t2 : Fin k0_t2_loop.trips) (c0_i32_129 : BitVec 32) : Fin 3 → Nat :=
  let c2_130 : Index := 2#32
  let c0_i32_106 : BitVec 32 := 0#32
  let c1_i32_108 : BitVec 32 := 1#32
  let arg13 : BitVec 32 := Scf.iv c0_i32_106 c1_i32_108 k0_t2
  let c4_i32_128 : BitVec 32 := 4#32
  let v257 : BitVec 32 := Scalar.muli arg13 c4_i32_128
  let v258 : BitVec 32 := Scalar.addi v257 c0_i32_129
  let v259 : Index := Scalar.indexCast v258
  let c0_131 : Index := 0#32
  ![2, v259.toNat, 0]
def k0_off8 (k0_t2 : Fin k0_t2_loop.trips) : Fin 2 → Nat :=
  let c384_154 : Index := 384#32
  let c0_i32_106 : BitVec 32 := 0#32
  let c1_i32_108 : BitVec 32 := 1#32
  let arg13 : BitVec 32 := Scf.iv c0_i32_106 c1_i32_108 k0_t2
  let c128_i32 : BitVec 32 := 128#32
  let v230 : BitVec 32 := Scalar.muli arg13 c128_i32
  let v231 : BitVec 32 := v230
  let v398 : Index := Scalar.indexCast v231
  ![384, v398.toNat]
def k0_off9 (k0_t2 : Fin k0_t2_loop.trips) (c0_i32_157 : BitVec 32) : Fin 3 → Nat :=
  let c3_158 : Index := 3#32
  let c0_i32_106 : BitVec 32 := 0#32
  let c1_i32_108 : BitVec 32 := 1#32
  let arg13 : BitVec 32 := Scf.iv c0_i32_106 c1_i32_108 k0_t2
  let c4_i32_156 : BitVec 32 := 4#32
  let v421 : BitVec 32 := Scalar.muli arg13 c4_i32_156
  let v422 : BitVec 32 := Scalar.addi v421 c0_i32_157
  let v423 : Index := Scalar.indexCast v422
  let c0_159 : Index := 0#32
  ![3, v423.toNat, 0]
def k0_off10 (k0_t2 : Fin k0_t2_loop.trips) : Fin 2 → Nat :=
  let c0_183 : Index := 0#32
  let c0_i32_106 : BitVec 32 := 0#32
  let c1_i32_108 : BitVec 32 := 1#32
  let arg13 : BitVec 32 := Scf.iv c0_i32_106 c1_i32_108 k0_t2
  let c256_i32 : BitVec 32 := 256#32
  let v232 : BitVec 32 := Scalar.muli arg13 c256_i32
  let v233 : BitVec 32 := v232
  let v563 : Index := Scalar.indexCast v233
  ![0, v563.toNat]
def k0_cond2 (i : grid0.Coords) : BitVec 1 :=
  let arg0 : BitVec 32 := BitVec.ofNat 32 (i 0).val
  let c74_i32 : BitVec 32 := 74#32
  let v227 : BitVec 1 := Scalar.cmpi .eq arg0 c74_i32
  let v228 : BitVec 32 := Scalar.extui v227
  let c0_i32_125 : BitVec 32 := 0#32
  let v229 : BitVec 1 := Scalar.cmpi .ne v228 c0_i32_125
  v229

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
abbrev S64x1x8192 : Shape := ⟨3, ![64, 1, 8192]⟩
abbrev S38016x4096 : Shape := ⟨2, ![38016, 4096]⟩
abbrev S38016x256 : Shape := ⟨2, ![38016, 256]⟩
abbrev S32 : Shape := ⟨1, ![32]⟩
abbrev S32x1 : Shape := ⟨2, ![32, 1]⟩
abbrev S1x32x1x1 : Shape := ⟨4, ![1, 32, 1, 1]⟩
abbrev S1x32x128x1 : Shape := ⟨4, ![1, 32, 128, 1]⟩
abbrev S32x128 : Shape := ⟨2, ![32, 128]⟩
abbrev S64x8192 : Shape := ⟨2, ![64, 8192]⟩
abbrev S64x1 : Shape := ⟨2, ![64, 1]⟩
abbrev S512x4096 : Shape := ⟨2, ![512, 4096]⟩
abbrev S512x256 : Shape := ⟨2, ![512, 256]⟩
abbrev S4x128x128 : Shape := ⟨3, ![4, 128, 128]⟩
abbrev S4x128x2x128 : Shape := ⟨4, ![4, 128, 2, 128]⟩
abbrev S4x128x1x128 : Shape := ⟨4, ![4, 128, 1, 128]⟩
abbrev S64x128 : Shape := ⟨2, ![64, 128]⟩
abbrev S128x128 : Shape := ⟨2, ![128, 128]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S64x256 : Shape := ⟨2, ![64, 256]⟩
abbrev S8x128 : Shape := ⟨2, ![8, 128]⟩
abbrev S32x128x1 : Shape := ⟨3, ![32, 128, 1]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩
abbrev S64 : Shape := ⟨1, ![64]⟩

abbrev nBuf : Space → Nat
  | .hbm => 12
  | .vmem => 14
  | .smem => 0
  | _ => 0

abbrev bufTy : (tb : Table) → Fin (tcTables nBuf tb) → BufTy
  | .hbm, ⟨0, _⟩ => ⟨S64x1x8192, .bf16⟩
  | .hbm, ⟨1, _⟩ => ⟨S38016x4096, .i8⟩
  | .hbm, ⟨2, _⟩ => ⟨S38016x256, .bf16⟩
  | .hbm, ⟨3, _⟩ => ⟨S32, .i8⟩
  | .hbm, ⟨4, _⟩ => ⟨S32x1, .i8⟩
  | .hbm, ⟨5, _⟩ => ⟨S1x32x1x1, .i8⟩
  | .hbm, ⟨6, _⟩ => ⟨S1x32x128x1, .i8⟩
  | .hbm, ⟨7, _⟩ => ⟨S32x128, .i8⟩
  | .hbm, ⟨8, _⟩ => ⟨S64x8192, .bf16⟩
  | .hbm, ⟨9, _⟩ => ⟨S64x1, .i32⟩
  | .hbm, ⟨10, _⟩ => ⟨S64x1, .f32⟩
  | .hbm, ⟨11, _⟩ => ⟨S64x1, .f32⟩
  | .local _ .vmem, ⟨0, _⟩ => ⟨S32x128, .i8⟩
  | .local _ .vmem, ⟨1, _⟩ => ⟨S64x8192, .bf16⟩
  | .local _ .vmem, ⟨2, _⟩ => ⟨S512x4096, .i8⟩
  | .local _ .vmem, ⟨3, _⟩ => ⟨S512x4096, .i8⟩
  | .local _ .vmem, ⟨4, _⟩ => ⟨S512x256, .bf16⟩
  | .local _ .vmem, ⟨5, _⟩ => ⟨S512x256, .bf16⟩
  | .local _ .vmem, ⟨6, _⟩ => ⟨S64x1, .i32⟩
  | .local _ .vmem, ⟨7, _⟩ => ⟨S64x1, .f32⟩
  | .local _ .vmem, ⟨8, _⟩ => ⟨S64x1, .f32⟩
  | .local _ .vmem, ⟨9, _⟩ => ⟨S4x128x2x128, .bf16⟩
  | .local _ .vmem, ⟨10, _⟩ => ⟨S4x128x2x128, .bf16⟩
  | .local _ .vmem, ⟨11, _⟩ => ⟨S64x128, .f32⟩
  | .local _ .vmem, ⟨12, _⟩ => ⟨S64x128, .i32⟩
  | .local _ .vmem, ⟨13, _⟩ => ⟨S64x128, .f32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![75], ![false]⟩

@[reducible] def k0_t1_loop : Scf.Loop 32 :=
  let c0_i32_94 : BitVec 32 := 0#32
  let c32_i32 : BitVec 32 := 32#32
  let v161 : BitVec 32 := Scalar.addi c0_i32_94 c32_i32
  let c1_i32 : BitVec 32 := 1#32
  ⟨c0_i32_94, v161, c1_i32⟩
def k0_mult1 (k0_t1 : Fin k0_t1_loop.trips) : BitVec 32 :=
  let c0_i32_94 : BitVec 32 := 0#32
  let c1_i32 : BitVec 32 := 1#32
  let arg13 : BitVec 32 := Scf.iv c0_i32_94 c1_i32 k0_t1
  let c128_i32 : BitVec 32 := 128#32
  let v230 : BitVec 32 := Scalar.muli arg13 c128_i32
  v230
def k0_mult2 (k0_t1 : Fin k0_t1_loop.trips) : BitVec 32 :=
  let c0_i32_94 : BitVec 32 := 0#32
  let c1_i32 : BitVec 32 := 1#32
  let arg13 : BitVec 32 := Scf.iv c0_i32_94 c1_i32 k0_t1
  let c256_i32 : BitVec 32 := 256#32
  let v232 : BitVec 32 := Scalar.muli arg13 c256_i32
  v232
def k0_off1 (k0_t1 : Fin k0_t1_loop.trips) : Fin 2 → Nat :=
  let c0_126 : Index := 0#32
  let c0_i32_94 : BitVec 32 := 0#32
  let c1_i32 : BitVec 32 := 1#32
  let arg13 : BitVec 32 := Scf.iv c0_i32_94 c1_i32 k0_t1
  let c128_i32 : BitVec 32 := 128#32
  let v230 : BitVec 32 := Scalar.muli arg13 c128_i32
  let v231 : BitVec 32 := v230
  let v234 : Index := Scalar.indexCast v231
  ![0, v234.toNat]
def k0_off2 (k0_t1 : Fin k0_t1_loop.trips) (c0_i32_129 : BitVec 32) : Fin 4 → Nat :=
  let c0_130 : Index := 0#32
  let c0_i32_94 : BitVec 32 := 0#32
  let c1_i32 : BitVec 32 := 1#32
  let arg13 : BitVec 32 := Scf.iv c0_i32_94 c1_i32 k0_t1
  let c4_i32_128 : BitVec 32 := 4#32
  let v257 : BitVec 32 := Scalar.muli arg13 c4_i32_128
  let v258 : BitVec 32 := Scalar.addi v257 c0_i32_129
  let v259 : Index := Scalar.indexCast v258
  let c0_131 : Index := 0#32
  ![0, v259.toNat, 0, 0]
def k0_off3 (k0_t1 : Fin k0_t1_loop.trips) : Fin 2 → Nat :=
  let c128_154 : Index := 128#32
  let c0_i32_94 : BitVec 32 := 0#32
  let c1_i32 : BitVec 32 := 1#32
  let arg13 : BitVec 32 := Scf.iv c0_i32_94 c1_i32 k0_t1
  let c128_i32 : BitVec 32 := 128#32
  let v230 : BitVec 32 := Scalar.muli arg13 c128_i32
  let v231 : BitVec 32 := v230
  let v398 : Index := Scalar.indexCast v231
  ![128, v398.toNat]
def k0_off4 (k0_t1 : Fin k0_t1_loop.trips) (c0_i32_157 : BitVec 32) : Fin 4 → Nat :=
  let c1_158 : Index := 1#32
  let c0_i32_94 : BitVec 32 := 0#32
  let c1_i32 : BitVec 32 := 1#32
  let arg13 : BitVec 32 := Scf.iv c0_i32_94 c1_i32 k0_t1
  let c4_i32_156 : BitVec 32 := 4#32
  let v421 : BitVec 32 := Scalar.muli arg13 c4_i32_156
  let v422 : BitVec 32 := Scalar.addi v421 c0_i32_157
  let v423 : Index := Scalar.indexCast v422
  let c0_159 : Index := 0#32
  ![1, v423.toNat, 0, 0]
def k0_off5 (k0_t1 : Fin k0_t1_loop.trips) : Fin 2 → Nat :=
  let c0_183 : Index := 0#32
  let c0_i32_94 : BitVec 32 := 0#32
  let c1_i32 : BitVec 32 := 1#32
  let arg13 : BitVec 32 := Scf.iv c0_i32_94 c1_i32 k0_t1
  let c256_i32 : BitVec 32 := 256#32
  let v232 : BitVec 32 := Scalar.muli arg13 c256_i32
  let v233 : BitVec 32 := v232
  let v563 : Index := Scalar.indexCast v233
  ![0, v563.toNat]
@[reducible] def k0_t2_loop : Scf.Loop 32 :=
  let c0_i32_106 : BitVec 32 := 0#32
  let c32_i32_107 : BitVec 32 := 32#32
  let v190 : BitVec 32 := Scalar.addi c0_i32_106 c32_i32_107
  let c1_i32_108 : BitVec 32 := 1#32
  ⟨c0_i32_106, v190, c1_i32_108⟩
def k0_mult3 (k0_t2 : Fin k0_t2_loop.trips) : BitVec 32 :=
  let c0_i32_106 : BitVec 32 := 0#32
  let c1_i32_108 : BitVec 32 := 1#32
  let arg13 : BitVec 32 := Scf.iv c0_i32_106 c1_i32_108 k0_t2
  let c128_i32 : BitVec 32 := 128#32
  let v230 : BitVec 32 := Scalar.muli arg13 c128_i32
  v230
def k0_mult4 (k0_t2 : Fin k0_t2_loop.trips) : BitVec 32 :=
  let c0_i32_106 : BitVec 32 := 0#32
  let c1_i32_108 : BitVec 32 := 1#32
  let arg13 : BitVec 32 := Scf.iv c0_i32_106 c1_i32_108 k0_t2
  let c256_i32 : BitVec 32 := 256#32
  let v232 : BitVec 32 := Scalar.muli arg13 c256_i32
  v232
def k0_off6 (k0_t2 : Fin k0_t2_loop.trips) : Fin 2 → Nat :=
  let c256_126 : Index := 256#32
  let c0_i32_106 : BitVec 32 := 0#32
  let c1_i32_108 : BitVec 32 := 1#32
  let arg13 : BitVec 32 := Scf.iv c0_i32_106 c1_i32_108 k0_t2
  let c128_i32 : BitVec 32 := 128#32
  let v230 : BitVec 32 := Scalar.muli arg13 c128_i32
  let v231 : BitVec 32 := v230
  let v234 : Index := Scalar.indexCast v231
  ![256, v234.toNat]
def k0_off7 (k0_t2 : Fin k0_t2_loop.trips) (c0_i32_129 : BitVec 32) : Fin 4 → Nat :=
  let c2_130 : Index := 2#32
  let c0_i32_106 : BitVec 32 := 0#32
  let c1_i32_108 : BitVec 32 := 1#32
  let arg13 : BitVec 32 := Scf.iv c0_i32_106 c1_i32_108 k0_t2
  let c4_i32_128 : BitVec 32 := 4#32
  let v257 : BitVec 32 := Scalar.muli arg13 c4_i32_128
  let v258 : BitVec 32 := Scalar.addi v257 c0_i32_129
  let v259 : Index := Scalar.indexCast v258
  let c0_131 : Index := 0#32
  ![2, v259.toNat, 0, 0]
def k0_off8 (k0_t2 : Fin k0_t2_loop.trips) : Fin 2 → Nat :=
  let c384_154 : Index := 384#32
  let c0_i32_106 : BitVec 32 := 0#32
  let c1_i32_108 : BitVec 32 := 1#32
  let arg13 : BitVec 32 := Scf.iv c0_i32_106 c1_i32_108 k0_t2
  let c128_i32 : BitVec 32 := 128#32
  let v230 : BitVec 32 := Scalar.muli arg13 c128_i32
  let v231 : BitVec 32 := v230
  let v398 : Index := Scalar.indexCast v231
  ![384, v398.toNat]
def k0_off9 (k0_t2 : Fin k0_t2_loop.trips) (c0_i32_157 : BitVec 32) : Fin 4 → Nat :=
  let c3_158 : Index := 3#32
  let c0_i32_106 : BitVec 32 := 0#32
  let c1_i32_108 : BitVec 32 := 1#32
  let arg13 : BitVec 32 := Scf.iv c0_i32_106 c1_i32_108 k0_t2
  let c4_i32_156 : BitVec 32 := 4#32
  let v421 : BitVec 32 := Scalar.muli arg13 c4_i32_156
  let v422 : BitVec 32 := Scalar.addi v421 c0_i32_157
  let v423 : Index := Scalar.indexCast v422
  let c0_159 : Index := 0#32
  ![3, v423.toNat, 0, 0]
def k0_off10 (k0_t2 : Fin k0_t2_loop.trips) : Fin 2 → Nat :=
  let c0_183 : Index := 0#32
  let c0_i32_106 : BitVec 32 := 0#32
  let c1_i32_108 : BitVec 32 := 1#32
  let arg13 : BitVec 32 := Scf.iv c0_i32_106 c1_i32_108 k0_t2
  let c256_i32 : BitVec 32 := 256#32
  let v232 : BitVec 32 := Scalar.muli arg13 c256_i32
  let v233 : BitVec 32 := v232
  let v563 : Index := Scalar.indexCast v233
  ![0, v563.toNat]
def k0_cond2 (i : grid0.Coords) : BitVec 1 :=
  let arg0 : BitVec 32 := BitVec.ofNat 32 (i 0).val
  let c74_i32 : BitVec 32 := 74#32
  let v227 : BitVec 1 := Scalar.cmpi .eq arg0 c74_i32
  let v228 : BitVec 32 := Scalar.extui v227
  let c0_i32_125 : BitVec 32 := 0#32
  let v229 : BitVec 1 := Scalar.cmpi .ne v228 c0_i32_125
  v229

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1x8192 : Shape := ⟨3, ![64, 1, 8192]⟩
abbrev S38016x4096 : Shape := ⟨2, ![38016, 4096]⟩
abbrev S38016x256 : Shape := ⟨2, ![38016, 256]⟩
abbrev S64x256x32 : Shape := ⟨3, ![64, 256, 32]⟩
abbrev S64x256x16 : Shape := ⟨3, ![64, 256, 16]⟩
abbrev S64x4096 : Shape := ⟨2, ![64, 4096]⟩
abbrev S38016x256x1 : Shape := ⟨3, ![38016, 256, 1]⟩
abbrev S38016x256x16 : Shape := ⟨3, ![38016, 256, 16]⟩
abbrev S_ : Shape := ⟨0, ![]⟩
abbrev S64x38016 : Shape := ⟨2, ![64, 38016]⟩
abbrev S64 : Shape := ⟨1, ![64]⟩
abbrev S64x1 : Shape := ⟨2, ![64, 1]⟩

abbrev nBuf : Space → Nat
  | .hbm => 218
  | .vmem => 0
  | .smem => 0
  | _ => 0

abbrev hbmTy0_0 (i : Nat) : BufTy := match i % 128 with
  | 0 => ⟨S64x1x8192, .bf16⟩
  | 1 => ⟨S38016x4096, .i8⟩
  | 2 => ⟨S38016x256, .bf16⟩
  | 3 => ⟨S64x256x32, .bf16⟩
  | 4 => ⟨S64x256x16, .bf16⟩
  | 5 => ⟨S64x4096, .bf16⟩
  | 6 => ⟨S64x256x16, .bf16⟩
  | 7 => ⟨S64x4096, .bf16⟩
  | 8 => ⟨S38016x256x1, .bf16⟩
  | 9 => ⟨S38016x256x16, .bf16⟩
  | 10 => ⟨S38016x4096, .bf16⟩
  | 11 => ⟨S38016x4096, .i32⟩
  | 12 => ⟨S_, .i32⟩
  | 13 => ⟨S38016x4096, .i32⟩
  | 14 => ⟨S38016x4096, .i32⟩
  | 15 => ⟨S_, .i32⟩
  | 16 => ⟨S38016x4096, .i32⟩
  | 17 => ⟨S38016x4096, .i32⟩
  | 18 => ⟨S_, .i32⟩
  | 19 => ⟨S38016x4096, .i32⟩
  | 20 => ⟨S38016x4096, .i32⟩
  | 21 => ⟨S_, .i32⟩
  | 22 => ⟨S38016x4096, .i32⟩
  | 23 => ⟨S38016x4096, .i1⟩
  | 24 => ⟨S38016x4096, .i1⟩
  | 25 => ⟨S_, .bf16⟩
  | 26 => ⟨S_, .bf16⟩
  | 27 => ⟨S38016x4096, .bf16⟩
  | 28 => ⟨S38016x4096, .bf16⟩
  | 29 => ⟨S38016x4096, .bf16⟩
  | 30 => ⟨S_, .bf16⟩
  | 31 => ⟨S_, .bf16⟩
  | 32 => ⟨S38016x4096, .bf16⟩
  | 33 => ⟨S38016x4096, .bf16⟩
  | 34 => ⟨S38016x4096, .bf16⟩
  | 35 => ⟨S_, .bf16⟩
  | 36 => ⟨S_, .bf16⟩
  | 37 => ⟨S38016x4096, .bf16⟩
  | 38 => ⟨S38016x4096, .bf16⟩
  | 39 => ⟨S38016x4096, .bf16⟩
  | 40 => ⟨S_, .bf16⟩
  | 41 => ⟨S_, .bf16⟩
  | 42 => ⟨S38016x4096, .bf16⟩
  | 43 => ⟨S38016x4096, .bf16⟩
  | 44 => ⟨S38016x4096, .bf16⟩
  | 45 => ⟨S_, .bf16⟩
  | 46 => ⟨S_, .bf16⟩
  | 47 => ⟨S38016x4096, .bf16⟩
  | 48 => ⟨S38016x4096, .bf16⟩
  | 49 => ⟨S38016x4096, .bf16⟩
  | 50 => ⟨S_, .bf16⟩
  | 51 => ⟨S_, .bf16⟩
  | 52 => ⟨S38016x4096, .bf16⟩
  | 53 => ⟨S38016x4096, .bf16⟩
  | 54 => ⟨S38016x4096, .bf16⟩
  | 55 => ⟨S_, .bf16⟩
  | 56 => ⟨S_, .bf16⟩
  | 57 => ⟨S38016x4096, .bf16⟩
  | 58 => ⟨S38016x4096, .bf16⟩
  | 59 => ⟨S38016x4096, .bf16⟩
  | 60 => ⟨S_, .bf16⟩
  | 61 => ⟨S_, .bf16⟩
  | 62 => ⟨S38016x4096, .bf16⟩
  | 63 => ⟨S38016x4096, .bf16⟩
  | 64 => ⟨S38016x4096, .bf16⟩
  | 65 => ⟨S_, .i32⟩
  | 66 => ⟨S38016x4096, .i32⟩
  | 67 => ⟨S38016x4096, .i32⟩
  | 68 => ⟨S_, .i32⟩
  | 69 => ⟨S38016x4096, .i32⟩
  | 70 => ⟨S38016x4096, .i32⟩
  | 71 => ⟨S_, .i32⟩
  | 72 => ⟨S38016x4096, .i32⟩
  | 73 => ⟨S38016x4096, .i1⟩
  | 74 => ⟨S38016x4096, .i1⟩
  | 75 => ⟨S38016x4096, .bf16⟩
  | 76 => ⟨S38016x4096, .bf16⟩
  | 77 => ⟨S38016x4096, .bf16⟩
  | 78 => ⟨S38016x4096, .bf16⟩
  | 79 => ⟨S_, .i32⟩
  | 80 => ⟨S38016x4096, .i32⟩
  | 81 => ⟨S38016x4096, .i32⟩
  | 82 => ⟨S_, .i32⟩
  | 83 => ⟨S38016x4096, .i32⟩
  | 84 => ⟨S38016x4096, .i32⟩
  | 85 => ⟨S_, .i32⟩
  | 86 => ⟨S38016x4096, .i32⟩
  | 87 => ⟨S38016x4096, .i1⟩
  | 88 => ⟨S38016x4096, .i1⟩
  | 89 => ⟨S38016x4096, .bf16⟩
  | 90 => ⟨S38016x4096, .bf16⟩
  | 91 => ⟨S_, .i32⟩
  | 92 => ⟨S38016x4096, .i32⟩
  | 93 => ⟨S38016x4096, .i32⟩
  | 94 => ⟨S_, .i32⟩
  | 95 => ⟨S38016x4096, .i32⟩
  | 96 => ⟨S38016x4096, .i32⟩
  | 97 => ⟨S_, .i32⟩
  | 98 => ⟨S38016x4096, .i32⟩
  | 99 => ⟨S38016x4096, .i1⟩
  | 100 => ⟨S38016x4096, .i1⟩
  | 101 => ⟨S38016x4096, .bf16⟩
  | 102 => ⟨S38016x4096, .bf16⟩
  | 103 => ⟨S_, .i32⟩
  | 104 => ⟨S38016x4096, .i32⟩
  | 105 => ⟨S38016x4096, .i32⟩
  | 106 => ⟨S_, .i32⟩
  | 107 => ⟨S38016x4096, .i32⟩
  | 108 => ⟨S38016x4096, .i32⟩
  | 109 => ⟨S_, .i32⟩
  | 110 => ⟨S38016x4096, .i32⟩
  | 111 => ⟨S38016x4096, .i32⟩
  | 112 => ⟨S_, .i32⟩
  | 113 => ⟨S38016x4096, .i32⟩
  | 114 => ⟨S38016x4096, .i1⟩
  | 115 => ⟨S38016x4096, .i1⟩
  | 116 => ⟨S_, .bf16⟩
  | 117 => ⟨S_, .bf16⟩
  | 118 => ⟨S38016x4096, .bf16⟩
  | 119 => ⟨S38016x4096, .bf16⟩
  | 120 => ⟨S38016x4096, .bf16⟩
  | 121 => ⟨S_, .bf16⟩
  | 122 => ⟨S_, .bf16⟩
  | 123 => ⟨S38016x4096, .bf16⟩
  | 124 => ⟨S38016x4096, .bf16⟩
  | 125 => ⟨S38016x4096, .bf16⟩
  | 126 => ⟨S_, .bf16⟩
  | 127 => ⟨S_, .bf16⟩
  | _ => ⟨S64x1x8192, .bf16⟩

abbrev hbmTy0_1 (i : Nat) : BufTy := match i % 128 with
  | 0 => ⟨S38016x4096, .bf16⟩
  | 1 => ⟨S38016x4096, .bf16⟩
  | 2 => ⟨S38016x4096, .bf16⟩
  | 3 => ⟨S_, .bf16⟩
  | 4 => ⟨S_, .bf16⟩
  | 5 => ⟨S38016x4096, .bf16⟩
  | 6 => ⟨S38016x4096, .bf16⟩
  | 7 => ⟨S38016x4096, .bf16⟩
  | 8 => ⟨S_, .bf16⟩
  | 9 => ⟨S_, .bf16⟩
  | 10 => ⟨S38016x4096, .bf16⟩
  | 11 => ⟨S38016x4096, .bf16⟩
  | 12 => ⟨S38016x4096, .bf16⟩
  | 13 => ⟨S_, .bf16⟩
  | 14 => ⟨S_, .bf16⟩
  | 15 => ⟨S38016x4096, .bf16⟩
  | 16 => ⟨S38016x4096, .bf16⟩
  | 17 => ⟨S38016x4096, .bf16⟩
  | 18 => ⟨S_, .bf16⟩
  | 19 => ⟨S_, .bf16⟩
  | 20 => ⟨S38016x4096, .bf16⟩
  | 21 => ⟨S38016x4096, .bf16⟩
  | 22 => ⟨S38016x4096, .bf16⟩
  | 23 => ⟨S_, .bf16⟩
  | 24 => ⟨S_, .bf16⟩
  | 25 => ⟨S38016x4096, .bf16⟩
  | 26 => ⟨S38016x4096, .bf16⟩
  | 27 => ⟨S38016x4096, .bf16⟩
  | 28 => ⟨S_, .i32⟩
  | 29 => ⟨S38016x4096, .i32⟩
  | 30 => ⟨S38016x4096, .i32⟩
  | 31 => ⟨S_, .i32⟩
  | 32 => ⟨S38016x4096, .i32⟩
  | 33 => ⟨S38016x4096, .i32⟩
  | 34 => ⟨S_, .i32⟩
  | 35 => ⟨S38016x4096, .i32⟩
  | 36 => ⟨S38016x4096, .i1⟩
  | 37 => ⟨S38016x4096, .i1⟩
  | 38 => ⟨S38016x4096, .bf16⟩
  | 39 => ⟨S38016x4096, .bf16⟩
  | 40 => ⟨S38016x4096, .bf16⟩
  | 41 => ⟨S38016x4096, .bf16⟩
  | 42 => ⟨S_, .i32⟩
  | 43 => ⟨S38016x4096, .i32⟩
  | 44 => ⟨S38016x4096, .i32⟩
  | 45 => ⟨S_, .i32⟩
  | 46 => ⟨S38016x4096, .i32⟩
  | 47 => ⟨S38016x4096, .i32⟩
  | 48 => ⟨S_, .i32⟩
  | 49 => ⟨S38016x4096, .i32⟩
  | 50 => ⟨S38016x4096, .i1⟩
  | 51 => ⟨S38016x4096, .i1⟩
  | 52 => ⟨S38016x4096, .bf16⟩
  | 53 => ⟨S38016x4096, .bf16⟩
  | 54 => ⟨S_, .i32⟩
  | 55 => ⟨S38016x4096, .i32⟩
  | 56 => ⟨S38016x4096, .i32⟩
  | 57 => ⟨S_, .i32⟩
  | 58 => ⟨S38016x4096, .i32⟩
  | 59 => ⟨S38016x4096, .i32⟩
  | 60 => ⟨S_, .i32⟩
  | 61 => ⟨S38016x4096, .i32⟩
  | 62 => ⟨S38016x4096, .i1⟩
  | 63 => ⟨S38016x4096, .i1⟩
  | 64 => ⟨S38016x4096, .bf16⟩
  | 65 => ⟨S38016x4096, .bf16⟩
  | 66 => ⟨S64x38016, .f32⟩
  | 67 => ⟨S64x38016, .f32⟩
  | 68 => ⟨S64x38016, .f32⟩
  | 69 => ⟨S_, .f32⟩
  | 70 => ⟨S64, .f32⟩
  | 71 => ⟨S64x38016, .i32⟩
  | 72 => ⟨S_, .f32⟩
  | 73 => ⟨S_, .i32⟩
  | 74 => ⟨S64, .f32⟩
  | 75 => ⟨S64, .i32⟩
  | 76 => ⟨S64x38016, .i32⟩
  | 77 => ⟨S64x1, .i32⟩
  | 78 => ⟨S64x38016, .i32⟩
  | 79 => ⟨S64x38016, .i1⟩
  | 80 => ⟨S_, .f32⟩
  | 81 => ⟨S_, .f32⟩
  | 82 => ⟨S64x38016, .f32⟩
  | 83 => ⟨S64x38016, .f32⟩
  | 84 => ⟨S_, .f32⟩
  | 85 => ⟨S64, .f32⟩
  | 86 => ⟨S64, .f32⟩
  | 87 => ⟨S64x1, .i32⟩
  | 88 => ⟨S64x1, .f32⟩
  | 89 => ⟨S64x1, .f32⟩
  | _ => ⟨S64x1x8192, .bf16⟩

abbrev hbmTy (i : Nat) : BufTy := match i / 128 with
  | 0 => hbmTy0_0 i
  | 1 => hbmTy0_1 i
  | _ => ⟨S64x1x8192, .bf16⟩

abbrev bufTy : (tb : Table) → Fin (tcTables nBuf tb) → BufTy
  | .hbm, ⟨i, _⟩ => hbmTy i
  | _, _ => ⟨S64x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_cst_6 : Ref sig .tc := ⟨.hbm, 35, rfl⟩
abbrev main_cst_7 : Ref sig .tc := ⟨.hbm, 36, rfl⟩
abbrev main_call2_v0 : Ref sig .tc := ⟨.hbm, 37, rfl⟩
abbrev main_call2_v1 : Ref sig .tc := ⟨.hbm, 38, rfl⟩
abbrev main_v20 : Ref sig .tc := ⟨.hbm, 39, rfl⟩
abbrev main_cst_8 : Ref sig .tc := ⟨.hbm, 40, rfl⟩
abbrev main_cst_9 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_cst_10 : Ref sig .tc := ⟨.hbm, 45, rfl⟩
abbrev main_cst_11 : Ref sig .tc := ⟨.hbm, 46, rfl⟩
abbrev main_call4_v0 : Ref sig .tc := ⟨.hbm, 47, rfl⟩
abbrev main_call4_v1 : Ref sig .tc := ⟨.hbm, 48, rfl⟩
abbrev main_v22 : Ref sig .tc := ⟨.hbm, 49, rfl⟩
abbrev main_cst_12 : Ref sig .tc := ⟨.hbm, 50, rfl⟩
abbrev main_cst_13 : Ref sig .tc := ⟨.hbm, 51, rfl⟩
abbrev main_call5_v0 : Ref sig .tc := ⟨.hbm, 52, rfl⟩
abbrev main_call5_v1 : Ref sig .tc := ⟨.hbm, 53, rfl⟩
abbrev main_v23 : Ref sig .tc := ⟨.hbm, 54, rfl⟩
abbrev main_cst_14 : Ref sig .tc := ⟨.hbm, 55, rfl⟩
abbrev main_cst_15 : Ref sig .tc := ⟨.hbm, 56, rfl⟩
abbrev main_call6_v0 : Ref sig .tc := ⟨.hbm, 57, rfl⟩
abbrev main_call6_v1 : Ref sig .tc := ⟨.hbm, 58, rfl⟩
abbrev main_v24 : Ref sig .tc := ⟨.hbm, 59, rfl⟩
abbrev main_cst_16 : Ref sig .tc := ⟨.hbm, 60, rfl⟩
abbrev main_cst_17 : Ref sig .tc := ⟨.hbm, 61, rfl⟩
abbrev main_call7_v0 : Ref sig .tc := ⟨.hbm, 62, rfl⟩
abbrev main_call7_v1 : Ref sig .tc := ⟨.hbm, 63, rfl⟩
abbrev main_v25 : Ref sig .tc := ⟨.hbm, 64, rfl⟩
abbrev main_c_18 : Ref sig .tc := ⟨.hbm, 65, rfl⟩
abbrev main_v26 : Ref sig .tc := ⟨.hbm, 66, rfl⟩
abbrev main_v27 : Ref sig .tc := ⟨.hbm, 67, rfl⟩
abbrev main_c_19 : Ref sig .tc := ⟨.hbm, 68, rfl⟩
abbrev main_v28 : Ref sig .tc := ⟨.hbm, 69, rfl⟩
abbrev main_v29 : Ref sig .tc := ⟨.hbm, 70, rfl⟩
abbrev main_c_20 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_21 : Ref sig .tc := ⟨.hbm, 79, rfl⟩
abbrev main_v37 : Ref sig .tc := ⟨.hbm, 80, rfl⟩
abbrev main_v38 : Ref sig .tc := ⟨.hbm, 81, rfl⟩
abbrev main_c_22 : Ref sig .tc := ⟨.hbm, 82, rfl⟩
abbrev main_v39 : Ref sig .tc := ⟨.hbm, 83, rfl⟩
abbrev main_v40 : Ref sig .tc := ⟨.hbm, 84, rfl⟩
abbrev main_c_23 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_24 : Ref sig .tc := ⟨.hbm, 91, rfl⟩
abbrev main_v46 : Ref sig .tc := ⟨.hbm, 92, rfl⟩
abbrev main_v47 : Ref sig .tc := ⟨.hbm, 93, rfl⟩
abbrev main_c_25 : Ref sig .tc := ⟨.hbm, 94, rfl⟩
abbrev main_v48 : Ref sig .tc := ⟨.hbm, 95, rfl⟩
abbrev main_v49 : Ref sig .tc := ⟨.hbm, 96, rfl⟩
abbrev main_c_26 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_c_27 : Ref sig .tc := ⟨.hbm, 103, rfl⟩
abbrev main_v55 : Ref sig .tc := ⟨.hbm, 104, rfl⟩
abbrev main_v56 : Ref sig .tc := ⟨.hbm, 105, rfl⟩
abbrev main_c_28 : Ref sig .tc := ⟨.hbm, 106, rfl⟩
abbrev main_v57 : Ref sig .tc := ⟨.hbm, 107, rfl⟩
abbrev main_v58 : Ref sig .tc := ⟨.hbm, 108, rfl⟩
abbrev main_c_29 : Ref sig .tc := ⟨.hbm, 109, rfl⟩
abbrev main_v59 : Ref sig .tc := ⟨.hbm, 110, rfl⟩
abbrev main_v60 : Ref sig .tc := ⟨.hbm, 111, rfl⟩
abbrev main_c_30 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_31 : Ref sig .tc := ⟨.hbm, 116, rfl⟩
abbrev main_cst_32 : Ref sig .tc := ⟨.hbm, 117, rfl⟩
abbrev main_call15_v0 : Ref sig .tc := ⟨.hbm, 118, rfl⟩
abbrev main_call15_v1 : Ref sig .tc := ⟨.hbm, 119, rfl⟩
abbrev main_v64 : Ref sig .tc := ⟨.hbm, 120, rfl⟩
abbrev main_cst_33 : Ref sig .tc := ⟨.hbm, 121, rfl⟩
abbrev main_cst_34 : Ref sig .tc := ⟨.hbm, 122, rfl⟩
abbrev main_call16_v0 : Ref sig .tc := ⟨.hbm, 123, rfl⟩
abbrev main_call16_v1 : Ref sig .tc := ⟨.hbm, 124, rfl⟩
abbrev main_v65 : Ref sig .tc := ⟨.hbm, 125, rfl⟩
abbrev main_cst_35 : Ref sig .tc := ⟨.hbm, 126, rfl⟩
abbrev main_cst_36 : Ref sig .tc := ⟨.hbm, 127, rfl⟩
abbrev main_call17_v0 : Ref sig .tc := ⟨.hbm, 128, rfl⟩
abbrev main_call17_v1 : Ref sig .tc := ⟨.hbm, 129, rfl⟩
abbrev main_v66 : Ref sig .tc := ⟨.hbm, 130, rfl⟩
abbrev main_cst_37 : Ref sig .tc := ⟨.hbm, 131, rfl⟩
abbrev main_cst_38 : Ref sig .tc := ⟨.hbm, 132, rfl⟩
abbrev main_call18_v0 : Ref sig .tc := ⟨.hbm, 133, rfl⟩
abbrev main_call18_v1 : Ref sig .tc := ⟨.hbm, 134, rfl⟩
abbrev main_v67 : Ref sig .tc := ⟨.hbm, 135, rfl⟩
abbrev main_cst_39 : Ref sig .tc := ⟨.hbm, 136, rfl⟩
abbrev main_cst_40 : Ref sig .tc := ⟨.hbm, 137, rfl⟩
abbrev main_call19_v0 : Ref sig .tc := ⟨.hbm, 138, rfl⟩
abbrev main_call19_v1 : Ref sig .tc := ⟨.hbm, 139, rfl⟩
abbrev main_v68 : Ref sig .tc := ⟨.hbm, 140, rfl⟩
abbrev main_cst_41 : Ref sig .tc := ⟨.hbm, 141, rfl⟩
abbrev main_cst_42 : Ref sig .tc := ⟨.hbm, 142, rfl⟩
abbrev main_call20_v0 : Ref sig .tc := ⟨.hbm, 143, rfl⟩
abbrev main_call20_v1 : Ref sig .tc := ⟨.hbm, 144, rfl⟩
abbrev main_v69 : Ref sig .tc := ⟨.hbm, 145, rfl⟩
abbrev main_cst_43 : Ref sig .tc := ⟨.hbm, 146, rfl⟩
abbrev main_cst_44 : Ref sig .tc := ⟨.hbm, 147, rfl⟩
abbrev main_call21_v0 : Ref sig .tc := ⟨.hbm, 148, rfl⟩
abbrev main_call21_v1 : Ref sig .tc := ⟨.hbm, 149, rfl⟩
abbrev main_v70 : Ref sig .tc := ⟨.hbm, 150, rfl⟩
abbrev main_cst_45 : Ref sig .tc := ⟨.hbm, 151, rfl⟩
abbrev main_cst_46 : Ref sig .tc := ⟨.hbm, 152, rfl⟩
abbrev main_call22_v0 : Ref sig .tc := ⟨.hbm, 153, rfl⟩
abbrev main_call22_v1 : Ref sig .tc := ⟨.hbm, 154, rfl⟩
abbrev main_v71 : Ref sig .tc := ⟨.hbm, 155, rfl⟩
abbrev main_c_47 : Ref sig .tc := ⟨.hbm, 156, rfl⟩
abbrev main_v72 : Ref sig .tc := ⟨.hbm, 157, rfl⟩
abbrev main_v73 : Ref sig .tc := ⟨.hbm, 158, rfl⟩
abbrev main_c_48 : Ref sig .tc := ⟨.hbm, 159, rfl⟩
abbrev main_v74 : Ref sig .tc := ⟨.hbm, 160, rfl⟩
abbrev main_v75 : Ref sig .tc := ⟨.hbm, 161, rfl⟩
abbrev main_c_49 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_c_50 : Ref sig .tc := ⟨.hbm, 170, rfl⟩
abbrev main_v83 : Ref sig .tc := ⟨.hbm, 171, rfl⟩
abbrev main_v84 : Ref sig .tc := ⟨.hbm, 172, rfl⟩
abbrev main_c_51 : Ref sig .tc := ⟨.hbm, 173, rfl⟩
abbrev main_v85 : Ref sig .tc := ⟨.hbm, 174, rfl⟩
abbrev main_v86 : Ref sig .tc := ⟨.hbm, 175, rfl⟩
abbrev main_c_52 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_c_53 : Ref sig .tc := ⟨.hbm, 182, rfl⟩
abbrev main_v92 : Ref sig .tc := ⟨.hbm, 183, rfl⟩
abbrev main_v93 : Ref sig .tc := ⟨.hbm, 184, rfl⟩
abbrev main_c_54 : Ref sig .tc := ⟨.hbm, 185, rfl⟩
abbrev main_v94 : Ref sig .tc := ⟨.hbm, 186, rfl⟩
abbrev main_v95 : Ref sig .tc := ⟨.hbm, 187, rfl⟩
abbrev main_c_55 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_cst_56 : Ref sig .tc := ⟨.hbm, 197, rfl⟩
abbrev main_v104 : Ref sig .tc := ⟨.hbm, 198, rfl⟩
abbrev main_call30_v0 : Ref sig .tc := ⟨.hbm, 199, rfl⟩
abbrev main_call30_cst : Ref sig .tc := ⟨.hbm, 200, rfl⟩
abbrev main_call30_c : Ref sig .tc := ⟨.hbm, 201, rfl⟩
abbrev main_call30_v1_0 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_cst_57 : Ref sig .tc := ⟨.hbm, 208, rfl⟩
abbrev main_call31_v0 : Ref sig .tc := ⟨.hbm, 209, rfl⟩
abbrev main_call31_v1 : Ref sig .tc := ⟨.hbm, 210, rfl⟩
abbrev main_v110 : Ref sig .tc := ⟨.hbm, 211, rfl⟩
abbrev main_cst_58 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩

abbrev nD : Nat := 1
abbrev τ : Topo := Topo.v7x

variable {F : FTy → Type} [FloatOps F]
-- ==== Proof.R.Ops.lean ====
/-
  The reference program's @main as a LIST of its 215 host operations, cut into windows, with the side conditions a run of a list
  asks for, and the composed terms (`res_‹buffer›`) of the values used more than once.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 215 (window `main_part0`). -/
abbrev ops_part0_0 : List (HloOp τ sig (Elt F)) :=
  [ reshape main_arg0 main_v0 (rfl : (.bf16 : EltTy) = .bf16) shapeCasts_S64x1x8192_S64x256x32,
    unary main_v0 main_v1 ((extractStridedSlice S64x256x16 ![0, 0, 0] · slices_S64x256x32_S64x256x16_0_0_0) : (⟨S64x256x32, .bf16⟩ : BufTy).Contents (Elt F) → (⟨S64x256x16, .bf16⟩ : BufTy).Contents (Elt F)),
    reshape main_v1 main_v2 (rfl : (.bf16 : EltTy) = .bf16) shapeCasts_S64x256x16_S64x4096,
    unary main_v0 main_v3 ((extractStridedSlice S64x256x16 ![0, 0, 16] · slices_S64x256x32_S64x256x16_0_0_16) : (⟨S64x256x32, .bf16⟩ : BufTy).Contents (Elt F) → (⟨S64x256x16, .bf16⟩ : BufTy).Contents (Elt F)),
    reshape main_v3 main_v4 (rfl : (.bf16 : EltTy) = .bf16) shapeCasts_S64x256x16_S64x4096,
    unary main_arg2 main_v5 (broadcastInDim S38016x256x1 ![0, 1] bcast_S38016x256_S38016x256x1_0_1 : (⟨S38016x256, .bf16⟩ : BufTy).Contents (Elt F) → (⟨S38016x256x1, .bf16⟩ : BufTy).Contents (Elt F)),
    unary main_v5 main_v6 (broadcastInDim S38016x256x16 ![0, 1, 2] bcast_S38016x256x1_S38016x256x16_0_1_2 : (⟨S38016x256x1, .bf16⟩ : BufTy).Contents (Elt F) → (⟨S38016x256x16, .bf16⟩ : BufTy).Contents (Elt F)),
    reshape main_v6 main_v7 (rfl : (.bf16 : EltTy) = .bf16) shapeCasts_S38016x256x16_S38016x4096,
    unary main_arg1 main_v8 ((extui 32 · natLt_8_32) : (⟨S38016x4096, .i8⟩ : BufTy).Contents (Elt F) → (⟨S38016x4096, .i32⟩ : BufTy).Contents (Elt F)),
    nullary main_c (constantI S_ 32 15#32),
    unary main_c main_v9 (broadcastInDim S38016x4096 ![] bcast_S_S38016x4096 : (⟨S_, .i32⟩ : BufTy).Contents (Elt F) → (⟨S38016x4096, .i32⟩ : BufTy).Contents (Elt F)),
    binary main_v8 main_v9 main_v10 (andi : (⟨S38016x4096, .i32⟩ : BufTy).Contents (Elt F) → (⟨S38016x4096, .i32⟩ : BufTy).Contents (Elt F) → (⟨S38016x4096, .i32⟩ : BufTy).Contents (Elt F)),
    nullary main_c_0 (constantI S_ 32 0#32),
    unary main_c_0 main_v11 (broadcastInDim S38016x4096 ![] bcast_S_S38016x4096 : (⟨S_, .i32⟩ : BufTy).Contents (Elt F) → (⟨S38016x4096, .i32⟩ : BufTy).Contents (Elt F)),
    binary main_v10 main_v11 main_v12 (Host.shrsi : (⟨S38016x4096, .i32⟩ : BufTy).Contents (Elt F) → (⟨S38016x4096, .i32⟩ : BufTy).Contents (Elt F) → (⟨S38016x4096, .i32⟩ : BufTy).Contents (Elt F)),
    nullary main_c_1 (constantI S_ 32 1#32),
    unary main_c_1 main_v13 (broadcastInDim S38016x4096 ![] bcast_S_S38016x4096 : (⟨S_, .i32⟩ : BufTy).Contents (Elt F) → (⟨S38016x4096, .i32⟩ : BufTy).Contents (Elt F)),
    binary main_v12 main_v13 main_v14 (andi : (⟨S38016x4096, .i32⟩ : BufTy).Contents (Elt F) → (⟨S38016x4096, .i32⟩ : BufTy).Contents (Elt F) → (⟨S38016x4096, .i32⟩ : BufTy).Contents (Elt F)),
    nullary main_c_2 (constantI S_ 32 0#32),
    unary main_c_2 main_v15 (broadcastInDim S38016x4096 ![] bcast_S_S38016x4096 : (⟨S_, .i32⟩ : BufTy).Contents (Elt F) → (⟨S38016x4096, .i32⟩ : BufTy).Contents (Elt F)),
    binary main_v14 main_v15 main_v16 (cmpi .ne : (⟨S38016x4096, .i32⟩ : BufTy).Contents (Elt F) → (⟨S38016x4096, .i32⟩ : BufTy).Contents (Elt F) → (⟨S38016x4096, .i1⟩ : BufTy).Contents (Elt F)),
    unary main_v16 main_v17 (id : (⟨S38016x4096, .i1⟩ : BufTy).Contents (Elt F) → (⟨S38016x4096, .i1⟩ : BufTy).Contents (Elt F)),
    nullary main_cst (constant S_ .bf16 0xC2D0#16),
    nullary main_cst_3 (constant S_ .bf16 0xC2FE#16),
    TRef.unary (TRef.of (T := ⟨S_, .bf16⟩) main_cst) (TRef.of (T := ⟨S38016x4096, .bf16⟩) main_call0_v0) (broadcastInDim S38016x4096 ![] bcast_S_S38016x4096),
    TRef.unary (TRef.of (T := ⟨S_, .bf16⟩) main_cst_3) (TRef.of (T := ⟨S38016x4096, .bf16⟩) main_call0_v1) (broadcastInDim S38016x4096 ![] bcast_S_S38016x4096),
    TRef.ternary (TRef.of (T := ⟨S38016x4096, .i1⟩) main_v17) (TRef.of (T := ⟨S38016x4096, .bf16⟩) main_call0_v0) (TRef.of (T := ⟨S38016x4096, .bf16⟩) main_call0_v1) (TRef.of (T := ⟨S38016x4096, .bf16⟩) main_v18) select,
    nullary main_cst_4 (constant S_ .bf16 0xC282#16),
    nullary main_cst_5 (constant S_ .bf16 0xC2A6#16),
    TRef.unary (TRef.of (T := ⟨S_, .bf16⟩) main_cst_4) (TRef.of (T := ⟨S38016x4096, .bf16⟩) main_call1_v0) (broadcastInDim S38016x4096 ![] bcast_S_S38016x4096) ]

/-- @main's operations 31 … 60 of 215 (window `main_part0`). -/
abbrev ops_part0_1 : List (HloOp τ sig (Elt F)) :=
  [ TRef.unary (TRef.of (T := ⟨S_, .bf16⟩) main_cst_5) (TRef.of (T := ⟨S38016x4096, .bf16⟩) main_call1_v1) (broadcastInDim S38016x4096 ![] bcast_S_S38016x4096),
    TRef.ternary (TRef.of (T := ⟨S38016x4096, .i1⟩) main_v17) (TRef.of (T := ⟨S38016x4096, .bf16⟩) main_call1_v0) (TRef.of (T := ⟨S38016x4096, .bf16⟩) main_call1_v1) (TRef.of (T := ⟨S38016x4096, .bf16⟩) main_v19) select,
    nullary main_cst_6 (constant S_ .bf16 0xC20C#16),
    nullary main_cst_7 (constant S_ .bf16 0xC244#16),
    TRef.unary (TRef.of (T := ⟨S_, .bf16⟩) main_cst_6) (TRef.of (T := ⟨S38016x4096, .bf16⟩) main_call2_v0) (broadcastInDim S38016x4096 ![] bcast_S_S38016x4096),
    TRef.unary (TRef.of (T := ⟨S_, .bf16⟩) main_cst_7) (TRef.of (T := ⟨S38016x4096, .bf16⟩) main_call2_v1) (broadcastInDim S38016x4096 ![] bcast_S_S38016x4096),
    TRef.ternary (TRef.of (T := ⟨S38016x4096, .i1⟩) main_v17) (TRef.of (T := ⟨S38016x4096, .bf16⟩) main_call2_v0) (TRef.of (T := ⟨S38016x4096, .bf16⟩) main_call2_v1) (TRef.of (T := ⟨S38016x4096, .bf16⟩) main_v20) select,
    nullary main_cst_8 (constant S_ .bf16 0xC120#16),
    nullary main_cst_9 (constant S_ .bf16 0xC1B0#16),
    TRef.unary (TRef.of (T := ⟨S_, .bf16⟩) main_cst_8) (TRef.of (T := ⟨S38016x4096, .bf16⟩) main_call3_v0) (broadcastInDim S38016x4096 ![] bcast_S_S38016x4096),
    TRef.unary (TRef.of (T := ⟨S_, .bf16⟩) main_cst_9) (TRef.of (T := ⟨S38016x4096, .bf16⟩) main_call3_v1) (broadcastInDim S38016x4096 ![] bcast_S_S38016x4096),
    TRef.ternary (TRef.of (T := ⟨S38016x4096, .i1⟩) main_v17) (TRef.of (T := ⟨S38016x4096, .bf16⟩) main_call3_v0) (TRef.of (T := ⟨S38016x4096, .bf16⟩) main_call3_v1) (TRef.of (T := ⟨S38016x4096, .bf16⟩) main_v21) select,
    nullary main_cst_10 (constant S_ .bf16 0x4150#16),
    nullary main_cst_11 (constant S_ .bf16 0x3F80#16),
    TRef.unary (TRef.of (T := ⟨S_, .bf16⟩) main_cst_10) (TRef.of (T := ⟨S38016x4096, .bf16⟩) main_call4_v0) (broadcastInDim S38016x4096 ![] bcast_S_S38016x4096),
    TRef.unary (TRef.of (T := ⟨S_, .bf16⟩) main_cst_11) (TRef.of (T := ⟨S38016x4096, .bf16⟩) main_call4_v1) (broadcastInDim S38016x4096 ![] bcast_S_S38016x4096),
    TRef.ternary (TRef.of (T := ⟨S38016x4096, .i1⟩) main_v17) (TRef.of (T := ⟨S38016x4096, .bf16⟩) main_call4_v0) (TRef.of (T := ⟨S38016x4096, .bf16⟩) main_call4_v1) (TRef.of (T := ⟨S38016x4096, .bf16⟩) main_v22) select,
    nullary main_cst_12 (constant S_ .bf16 0x4218#16),
    nullary main_cst_13 (constant S_ .bf16 0x41C8#16),
    TRef.unary (TRef.of (T := ⟨S_, .bf16⟩) main_cst_12) (TRef.of (T := ⟨S38016x4096, .bf16⟩) main_call5_v0) (broadcastInDim S38016x4096 ![] bcast_S_S38016x4096),
    TRef.unary (TRef.of (T := ⟨S_, .bf16⟩) main_cst_13) (TRef.of (T := ⟨S38016x4096, .bf16⟩) main_call5_v1) (broadcastInDim S38016x4096 ![] bcast_S_S38016x4096),
    TRef.ternary (TRef.of (T := ⟨S38016x4096, .i1⟩) main_v17) (TRef.of (T := ⟨S38016x4096, .bf16⟩) main_call5_v0) (TRef.of (T := ⟨S38016x4096, .bf16⟩) main_call5_v1) (TRef.of (T := ⟨S38016x4096, .bf16⟩) main_v23) select,
    nullary main_cst_14 (constant S_ .bf16 0x428A#16),
    nullary main_cst_15 (constant S_ .bf16 0x4254#16),
    TRef.unary (TRef.of (T := ⟨S_, .bf16⟩) main_cst_14) (TRef.of (T := ⟨S38016x4096, .bf16⟩) main_call6_v0) (broadcastInDim S38016x4096 ![] bcast_S_S38016x4096),
    TRef.unary (TRef.of (T := ⟨S_, .bf16⟩) main_cst_15) (TRef.of (T := ⟨S38016x4096, .bf16⟩) main_call6_v1) (broadcastInDim S38016x4096 ![] bcast_S_S38016x4096),
    TRef.ternary (TRef.of (T := ⟨S38016x4096, .i1⟩) main_v17) (TRef.of (T := ⟨S38016x4096, .bf16⟩) main_call6_v0) (TRef.of (T := ⟨S38016x4096, .bf16⟩) main_call6_v1) (TRef.of (T := ⟨S38016x4096, .bf16⟩) main_v24) select,
    nullary main_cst_16 (constant S_ .bf16 0x42E2#16),
    nullary main_cst_17 (constant S_ .bf16 0x42B2#16),
    TRef.unary (TRef.of (T := ⟨S_, .bf16⟩) main_cst_16) (TRef.of (T := ⟨S38016x4096, .bf16⟩) main_call7_v0) (broadcastInDim S38016x4096 ![] bcast_S_S38016x4096) ]

/-- @main's operations 61 … 76 of 215 (window `main_part0`). -/
abbrev ops_part0_2 : List (HloOp τ sig (Elt F)) :=
  [ TRef.unary (TRef.of (T := ⟨S_, .bf16⟩) main_cst_17) (TRef.of (T := ⟨S38016x4096, .bf16⟩) main_call7_v1) (broadcastInDim S38016x4096 ![] bcast_S_S38016x4096),
    TRef.ternary (TRef.of (T := ⟨S38016x4096, .i1⟩) main_v17) (TRef.of (T := ⟨S38016x4096, .bf16⟩) main_call7_v0) (TRef.of (T := ⟨S38016x4096, .bf16⟩) main_call7_v1) (TRef.of (T := ⟨S38016x4096, .bf16⟩) main_v25) select,
    nullary main_c_18 (constantI S_ 32 1#32),
    unary main_c_18 main_v26 (broadcastInDim S38016x4096 ![] bcast_S_S38016x4096 : (⟨S_, .i32⟩ : BufTy).Contents (Elt F) → (⟨S38016x4096, .i32⟩ : BufTy).Contents (Elt F)),
    binary main_v10 main_v26 main_v27 (Host.shrsi : (⟨S38016x4096, .i32⟩ : BufTy).Contents (Elt F) → (⟨S38016x4096, .i32⟩ : BufTy).Contents (Elt F) → (⟨S38016x4096, .i32⟩ : BufTy).Contents (Elt F)),
    nullary main_c_19 (constantI S_ 32 1#32),
    unary main_c_19 main_v28 (broadcastInDim S38016x4096 ![] bcast_S_S38016x4096 : (⟨S_, .i32⟩ : BufTy).Contents (Elt F) → (⟨S38016x4096, .i32⟩ : BufTy).Contents (Elt F)),
    binary main_v27 main_v28 main_v29 (andi : (⟨S38016x4096, .i32⟩ : BufTy).Contents (Elt F) → (⟨S38016x4096, .i32⟩ : BufTy).Contents (Elt F) → (⟨S38016x4096, .i32⟩ : BufTy).Contents (Elt F)),
    nullary main_c_20 (constantI S_ 32 0#32),
    unary main_c_20 main_v30 (broadcastInDim S38016x4096 ![] bcast_S_S38016x4096 : (⟨S_, .i32⟩ : BufTy).Contents (Elt F) → (⟨S38016x4096, .i32⟩ : BufTy).Contents (Elt F)),
    binary main_v29 main_v30 main_v31 (cmpi .ne : (⟨S38016x4096, .i32⟩ : BufTy).Contents (Elt F) → (⟨S38016x4096, .i32⟩ : BufTy).Contents (Elt F) → (⟨S38016x4096, .i1⟩ : BufTy).Contents (Elt F)),
    unary main_v31 main_v32 (id : (⟨S38016x4096, .i1⟩ : BufTy).Contents (Elt F) → (⟨S38016x4096, .i1⟩ : BufTy).Contents (Elt F)),
    TRef.ternary (TRef.of (T := ⟨S38016x4096, .i1⟩) main_v32) (TRef.of (T := ⟨S38016x4096, .bf16⟩) main_v19) (TRef.of (T := ⟨S38016x4096, .bf16⟩) main_v18) (TRef.of (T := ⟨S38016x4096, .bf16⟩) main_v33) select,
    TRef.ternary (TRef.of (T := ⟨S38016x4096, .i1⟩) main_v32) (TRef.of (T := ⟨S38016x4096, .bf16⟩) main_v21) (TRef.of (T := ⟨S38016x4096, .bf16⟩) main_v20) (TRef.of (T := ⟨S38016x4096, .bf16⟩) main_v34) select,
    TRef.ternary (TRef.of (T := ⟨S38016x4096, .i1⟩) main_v32) (TRef.of (T := ⟨S38016x4096, .bf16⟩) main_v23) (TRef.of (T := ⟨S38016x4096, .bf16⟩) main_v22) (TRef.of (T := ⟨S38016x4096, .bf16⟩) main_v35) select,
    TRef.ternary (TRef.of (T := ⟨S38016x4096, .i1⟩) main_v32) (TRef.of (T := ⟨S38016x4096, .bf16⟩) main_v25) (TRef.of (T := ⟨S38016x4096, .bf16⟩) main_v24) (TRef.of (T := ⟨S38016x4096, .bf16⟩) main_v36) select ]

/-- Window `main_part0`'s operations. Not an abbreviation: `main_eq` below splits `ops` into the windows and no further. -/
def ops_part0 : List (HloOp τ sig (Elt F)) :=
  ops_part0_0 ++ (ops_part0_1 ++ (ops_part0_2))

/-- @main's operations 77 … 106 of 215 (window `main_part1`). -/
abbrev ops_part1_0 : List (HloOp τ sig (Elt F)) :=
  [ nullary main_c_21 (constantI S_ 32 2#32),
    unary main_c_21 main_v37 (broadcastInDim S38016x4096 ![] bcast_S_S38016x4096 : (⟨S_, .i32⟩ : BufTy).Contents (Elt F) → (⟨S38016x4096, .i32⟩ : BufTy).Contents (Elt F)),
    binary main_v10 main_v37 main_v38 (Host.shrsi : (⟨S38016x4096, .i32⟩ : BufTy).Contents (Elt F) → (⟨S38016x4096, .i32⟩ : BufTy).Contents (Elt F) → (⟨S38016x4096, .i32⟩ : BufTy).Contents (Elt F)),
    nullary main_c_22 (constantI S_ 32 1#32),
    unary main_c_22 main_v39 (broadcastInDim S38016x4096 ![] bcast_S_S38016x4096 : (⟨S_, .i32⟩ : BufTy).Contents (Elt F) → (⟨S38016x4096, .i32⟩ : BufTy).Contents (Elt F)),
    binary main_v38 main_v39 main_v40 (andi : (⟨S38016x4096, .i32⟩ : BufTy).Contents (Elt F) → (⟨S38016x4096, .i32⟩ : BufTy).Contents (Elt F) → (⟨S38016x4096, .i32⟩ : BufTy).Contents (Elt F)),
    nullary main_c_23 (constantI S_ 32 0#32),
    unary main_c_23 main_v41 (broadcastInDim S38016x4096 ![] bcast_S_S38016x4096 : (⟨S_, .i32⟩ : BufTy).Contents (Elt F) → (⟨S38016x4096, .i32⟩ : BufTy).Contents (Elt F)),
    binary main_v40 main_v41 main_v42 (cmpi .ne : (⟨S38016x4096, .i32⟩ : BufTy).Contents (Elt F) → (⟨S38016x4096, .i32⟩ : BufTy).Contents (Elt F) → (⟨S38016x4096, .i1⟩ : BufTy).Contents (Elt F)),
    unary main_v42 main_v43 (id : (⟨S38016x4096, .i1⟩ : BufTy).Contents (Elt F) → (⟨S38016x4096, .i1⟩ : BufTy).Contents (Elt F)),
    TRef.ternary (TRef.of (T := ⟨S38016x4096, .i1⟩) main_v43) (TRef.of (T := ⟨S38016x4096, .bf16⟩) main_v34) (TRef.of (T := ⟨S38016x4096, .bf16⟩) main_v33) (TRef.of (T := ⟨S38016x4096, .bf16⟩) main_v44) select,
    TRef.ternary (TRef.of (T := ⟨S38016x4096, .i1⟩) main_v43) (TRef.of (T := ⟨S38016x4096, .bf16⟩) main_v36) (TRef.of (T := ⟨S38016x4096, .bf16⟩) main_v35) (TRef.of (T := ⟨S38016x4096, .bf16⟩) main_v45) select,
    nullary main_c_24 (constantI S_ 32 3#32),
    unary main_c_24 main_v46 (broadcastInDim S38016x4096 ![] bcast_S_S38016x4096 : (⟨S_, .i32⟩ : BufTy).Contents (Elt F) → (⟨S38016x4096, .i32⟩ : BufTy).Contents (Elt F)),
    binary main_v10 main_v46 main_v47 (Host.shrsi : (⟨S38016x4096, .i32⟩ : BufTy).Contents (Elt F) → (⟨S38016x4096, .i32⟩ : BufTy).Contents (Elt F) → (⟨S38016x4096, .i32⟩ : BufTy).Contents (Elt F)),
    nullary main_c_25 (constantI S_ 32 1#32),
    unary main_c_25 main_v48 (broadcastInDim S38016x4096 ![] bcast_S_S38016x4096 : (⟨S_, .i32⟩ : BufTy).Contents (Elt F) → (⟨S38016x4096, .i32⟩ : BufTy).Contents (Elt F)),
    binary main_v47 main_v48 main_v49 (andi : (⟨S38016x4096, .i32⟩ : BufTy).Contents (Elt F) → (⟨S38016x4096, .i32⟩ : BufTy).Contents (Elt F) → (⟨S38016x4096, .i32⟩ : BufTy).Contents (Elt F)),
    nullary main_c_26 (constantI S_ 32 0#32),
    unary main_c_26 main_v50 (broadcastInDim S38016x4096 ![] bcast_S_S38016x4096 : (⟨S_, .i32⟩ : BufTy).Contents (Elt F) → (⟨S38016x4096, .i32⟩ : BufTy).Contents (Elt F)),
    binary main_v49 main_v50 main_v51 (cmpi .ne : (⟨S38016x4096, .i32⟩ : BufTy).Contents (Elt F) → (⟨S38016x4096, .i32⟩ : BufTy).Contents (Elt F) → (⟨S38016x4096, .i1⟩ : BufTy).Contents (Elt F)),
    unary main_v51 main_v52 (id : (⟨S38016x4096, .i1⟩ : BufTy).Contents (Elt F) → (⟨S38016x4096, .i1⟩ : BufTy).Contents (Elt F)),
    TRef.ternary (TRef.of (T := ⟨S38016x4096, .i1⟩) main_v52) (TRef.of (T := ⟨S38016x4096, .bf16⟩) main_v45) (TRef.of (T := ⟨S38016x4096, .bf16⟩) main_v44) (TRef.of (T := ⟨S38016x4096, .bf16⟩) main_v53) select,
    binary main_v53 main_v7 main_v54 (mulf : (⟨S38016x4096, .bf16⟩ : BufTy).Contents (Elt F) → (⟨S38016x4096, .bf16⟩ : BufTy).Contents (Elt F) → (⟨S38016x4096, .bf16⟩ : BufTy).Contents (Elt F)),
    nullary main_c_27 (constantI S_ 32 4#32),
    unary main_c_27 main_v55 (broadcastInDim S38016x4096 ![] bcast_S_S38016x4096 : (⟨S_, .i32⟩ : BufTy).Contents (Elt F) → (⟨S38016x4096, .i32⟩ : BufTy).Contents (Elt F)),
    binary main_v8 main_v55 main_v56 (Host.shrsi : (⟨S38016x4096, .i32⟩ : BufTy).Contents (Elt F) → (⟨S38016x4096, .i32⟩ : BufTy).Contents (Elt F) → (⟨S38016x4096, .i32⟩ : BufTy).Contents (Elt F)),
    nullary main_c_28 (constantI S_ 32 0#32),
    unary main_c_28 main_v57 (broadcastInDim S38016x4096 ![] bcast_S_S38016x4096 : (⟨S_, .i32⟩ : BufTy).Contents (Elt F) → (⟨S38016x4096, .i32⟩ : BufTy).Contents (Elt F)),
    binary main_v56 main_v57 main_v58 (Host.shrsi : (⟨S38016x4096, .i32⟩ : BufTy).Contents (Elt F) → (⟨S38016x4096, .i32⟩ : BufTy).Contents (Elt F) → (⟨S38016x4096, .i32⟩ : BufTy).Contents (Elt F)) ]

/-- @main's operations 107 … 136 of 215 (window `main_part1`). -/
abbrev ops_part1_1 : List (HloOp τ sig (Elt F)) :=
  [ nullary main_c_29 (constantI S_ 32 1#32),
    unary main_c_29 main_v59 (broadcastInDim S38016x4096 ![] bcast_S_S38016x4096 : (⟨S_, .i32⟩ : BufTy).Contents (Elt F) → (⟨S38016x4096, .i32⟩ : BufTy).Contents (Elt F)),
    binary main_v58 main_v59 main_v60 (andi : (⟨S38016x4096, .i32⟩ : BufTy).Contents (Elt F) → (⟨S38016x4096, .i32⟩ : BufTy).Contents (Elt F) → (⟨S38016x4096, .i32⟩ : BufTy).Contents (Elt F)),
    nullary main_c_30 (constantI S_ 32 0#32),
    unary main_c_30 main_v61 (broadcastInDim S38016x4096 ![] bcast_S_S38016x4096 : (⟨S_, .i32⟩ : BufTy).Contents (Elt F) → (⟨S38016x4096, .i32⟩ : BufTy).Contents (Elt F)),
    binary main_v60 main_v61 main_v62 (cmpi .ne : (⟨S38016x4096, .i32⟩ : BufTy).Contents (Elt F) → (⟨S38016x4096, .i32⟩ : BufTy).Contents (Elt F) → (⟨S38016x4096, .i1⟩ : BufTy).Contents (Elt F)),
    unary main_v62 main_v63 (id : (⟨S38016x4096, .i1⟩ : BufTy).Contents (Elt F) → (⟨S38016x4096, .i1⟩ : BufTy).Contents (Elt F)),
    nullary main_cst_31 (constant S_ .bf16 0xC2D0#16),
    nullary main_cst_32 (constant S_ .bf16 0xC2FE#16),
    TRef.unary (TRef.of (T := ⟨S_, .bf16⟩) main_cst_31) (TRef.of (T := ⟨S38016x4096, .bf16⟩) main_call15_v0) (broadcastInDim S38016x4096 ![] bcast_S_S38016x4096),
    TRef.unary (TRef.of (T := ⟨S_, .bf16⟩) main_cst_32) (TRef.of (T := ⟨S38016x4096, .bf16⟩) main_call15_v1) (broadcastInDim S38016x4096 ![] bcast_S_S38016x4096),
    TRef.ternary (TRef.of (T := ⟨S38016x4096, .i1⟩) main_v63) (TRef.of (T := ⟨S38016x4096, .bf16⟩) main_call15_v0) (TRef.of (T := ⟨S38016x4096, .bf16⟩) main_call15_v1) (TRef.of (T := ⟨S38016x4096, .bf16⟩) main_v64) select,
    nullary main_cst_33 (constant S_ .bf16 0xC282#16),
    nullary main_cst_34 (constant S_ .bf16 0xC2A6#16),
    TRef.unary (TRef.of (T := ⟨S_, .bf16⟩) main_cst_33) (TRef.of (T := ⟨S38016x4096, .bf16⟩) main_call16_v0) (broadcastInDim S38016x4096 ![] bcast_S_S38016x4096),
    TRef.unary (TRef.of (T := ⟨S_, .bf16⟩) main_cst_34) (TRef.of (T := ⟨S38016x4096, .bf16⟩) main_call16_v1) (broadcastInDim S38016x4096 ![] bcast_S_S38016x4096),
    TRef.ternary (TRef.of (T := ⟨S38016x4096, .i1⟩) main_v63) (TRef.of (T := ⟨S38016x4096, .bf16⟩) main_call16_v0) (TRef.of (T := ⟨S38016x4096, .bf16⟩) main_call16_v1) (TRef.of (T := ⟨S38016x4096, .bf16⟩) main_v65) select,
    nullary main_cst_35 (constant S_ .bf16 0xC20C#16),
    nullary main_cst_36 (constant S_ .bf16 0xC244#16),
    TRef.unary (TRef.of (T := ⟨S_, .bf16⟩) main_cst_35) (TRef.of (T := ⟨S38016x4096, .bf16⟩) main_call17_v0) (broadcastInDim S38016x4096 ![] bcast_S_S38016x4096),
    TRef.unary (TRef.of (T := ⟨S_, .bf16⟩) main_cst_36) (TRef.of (T := ⟨S38016x4096, .bf16⟩) main_call17_v1) (broadcastInDim S38016x4096 ![] bcast_S_S38016x4096),
    TRef.ternary (TRef.of (T := ⟨S38016x4096, .i1⟩) main_v63) (TRef.of (T := ⟨S38016x4096, .bf16⟩) main_call17_v0) (TRef.of (T := ⟨S38016x4096, .bf16⟩) main_call17_v1) (TRef.of (T := ⟨S38016x4096, .bf16⟩) main_v66) select,
    nullary main_cst_37 (constant S_ .bf16 0xC120#16),
    nullary main_cst_38 (constant S_ .bf16 0xC1B0#16),
    TRef.unary (TRef.of (T := ⟨S_, .bf16⟩) main_cst_37) (TRef.of (T := ⟨S38016x4096, .bf16⟩) main_call18_v0) (broadcastInDim S38016x4096 ![] bcast_S_S38016x4096),
    TRef.unary (TRef.of (T := ⟨S_, .bf16⟩) main_cst_38) (TRef.of (T := ⟨S38016x4096, .bf16⟩) main_call18_v1) (broadcastInDim S38016x4096 ![] bcast_S_S38016x4096),
    TRef.ternary (TRef.of (T := ⟨S38016x4096, .i1⟩) main_v63) (TRef.of (T := ⟨S38016x4096, .bf16⟩) main_call18_v0) (TRef.of (T := ⟨S38016x4096, .bf16⟩) main_call18_v1) (TRef.of (T := ⟨S38016x4096, .bf16⟩) main_v67) select,
    nullary main_cst_39 (constant S_ .bf16 0x4150#16),
    nullary main_cst_40 (constant S_ .bf16 0x3F80#16),
    TRef.unary (TRef.of (T := ⟨S_, .bf16⟩) main_cst_39) (TRef.of (T := ⟨S38016x4096, .bf16⟩) main_call19_v0) (broadcastInDim S38016x4096 ![] bcast_S_S38016x4096) ]

/-- @main's operations 137 … 150 of 215 (window `main_part1`). -/
abbrev ops_part1_2 : List (HloOp τ sig (Elt F)) :=
  [ TRef.unary (TRef.of (T := ⟨S_, .bf16⟩) main_cst_40) (TRef.of (T := ⟨S38016x4096, .bf16⟩) main_call19_v1) (broadcastInDim S38016x4096 ![] bcast_S_S38016x4096),
    TRef.ternary (TRef.of (T := ⟨S38016x4096, .i1⟩) main_v63) (TRef.of (T := ⟨S38016x4096, .bf16⟩) main_call19_v0) (TRef.of (T := ⟨S38016x4096, .bf16⟩) main_call19_v1) (TRef.of (T := ⟨S38016x4096, .bf16⟩) main_v68) select,
    nullary main_cst_41 (constant S_ .bf16 0x4218#16),
    nullary main_cst_42 (constant S_ .bf16 0x41C8#16),
    TRef.unary (TRef.of (T := ⟨S_, .bf16⟩) main_cst_41) (TRef.of (T := ⟨S38016x4096, .bf16⟩) main_call20_v0) (broadcastInDim S38016x4096 ![] bcast_S_S38016x4096),
    TRef.unary (TRef.of (T := ⟨S_, .bf16⟩) main_cst_42) (TRef.of (T := ⟨S38016x4096, .bf16⟩) main_call20_v1) (broadcastInDim S38016x4096 ![] bcast_S_S38016x4096),
    TRef.ternary (TRef.of (T := ⟨S38016x4096, .i1⟩) main_v63) (TRef.of (T := ⟨S38016x4096, .bf16⟩) main_call20_v0) (TRef.of (T := ⟨S38016x4096, .bf16⟩) main_call20_v1) (TRef.of (T := ⟨S38016x4096, .bf16⟩) main_v69) select,
    nullary main_cst_43 (constant S_ .bf16 0x428A#16),
    nullary main_cst_44 (constant S_ .bf16 0x4254#16),
    TRef.unary (TRef.of (T := ⟨S_, .bf16⟩) main_cst_43) (TRef.of (T := ⟨S38016x4096, .bf16⟩) main_call21_v0) (broadcastInDim S38016x4096 ![] bcast_S_S38016x4096),
    TRef.unary (TRef.of (T := ⟨S_, .bf16⟩) main_cst_44) (TRef.of (T := ⟨S38016x4096, .bf16⟩) main_call21_v1) (broadcastInDim S38016x4096 ![] bcast_S_S38016x4096),
    TRef.ternary (TRef.of (T := ⟨S38016x4096, .i1⟩) main_v63) (TRef.of (T := ⟨S38016x4096, .bf16⟩) main_call21_v0) (TRef.of (T := ⟨S38016x4096, .bf16⟩) main_call21_v1) (TRef.of (T := ⟨S38016x4096, .bf16⟩) main_v70) select,
    nullary main_cst_45 (constant S_ .bf16 0x42E2#16),
    nullary main_cst_46 (constant S_ .bf16 0x42B2#16) ]

/-- Window `main_part1`'s operations. Not an abbreviation: `main_eq` below splits `ops` into the windows and no further. -/
def ops_part1 : List (HloOp τ sig (Elt F)) :=
  ops_part1_0 ++ (ops_part1_1 ++ (ops_part1_2))

/-- @main's operations 151 … 180 of 215 (window `main_part2`). -/
abbrev ops_part2_0 : List (HloOp τ sig (Elt F)) :=
  [ TRef.unary (TRef.of (T := ⟨S_, .bf16⟩) main_cst_45) (TRef.of (T := ⟨S38016x4096, .bf16⟩) main_call22_v0) (broadcastInDim S38016x4096 ![] bcast_S_S38016x4096),
    TRef.unary (TRef.of (T := ⟨S_, .bf16⟩) main_cst_46) (TRef.of (T := ⟨S38016x4096, .bf16⟩) main_call22_v1) (broadcastInDim S38016x4096 ![] bcast_S_S38016x4096),
    TRef.ternary (TRef.of (T := ⟨S38016x4096, .i1⟩) main_v63) (TRef.of (T := ⟨S38016x4096, .bf16⟩) main_call22_v0) (TRef.of (T := ⟨S38016x4096, .bf16⟩) main_call22_v1) (TRef.of (T := ⟨S38016x4096, .bf16⟩) main_v71) select,
    nullary main_c_47 (constantI S_ 32 1#32),
    unary main_c_47 main_v72 (broadcastInDim S38016x4096 ![] bcast_S_S38016x4096 : (⟨S_, .i32⟩ : BufTy).Contents (Elt F) → (⟨S38016x4096, .i32⟩ : BufTy).Contents (Elt F)),
    binary main_v56 main_v72 main_v73 (Host.shrsi : (⟨S38016x4096, .i32⟩ : BufTy).Contents (Elt F) → (⟨S38016x4096, .i32⟩ : BufTy).Contents (Elt F) → (⟨S38016x4096, .i32⟩ : BufTy).Contents (Elt F)),
    nullary main_c_48 (constantI S_ 32 1#32),
    unary main_c_48 main_v74 (broadcastInDim S38016x4096 ![] bcast_S_S38016x4096 : (⟨S_, .i32⟩ : BufTy).Contents (Elt F) → (⟨S38016x4096, .i32⟩ : BufTy).Contents (Elt F)),
    binary main_v73 main_v74 main_v75 (andi : (⟨S38016x4096, .i32⟩ : BufTy).Contents (Elt F) → (⟨S38016x4096, .i32⟩ : BufTy).Contents (Elt F) → (⟨S38016x4096, .i32⟩ : BufTy).Contents (Elt F)),
    nullary main_c_49 (constantI S_ 32 0#32),
    unary main_c_49 main_v76 (broadcastInDim S38016x4096 ![] bcast_S_S38016x4096 : (⟨S_, .i32⟩ : BufTy).Contents (Elt F) → (⟨S38016x4096, .i32⟩ : BufTy).Contents (Elt F)),
    binary main_v75 main_v76 main_v77 (cmpi .ne : (⟨S38016x4096, .i32⟩ : BufTy).Contents (Elt F) → (⟨S38016x4096, .i32⟩ : BufTy).Contents (Elt F) → (⟨S38016x4096, .i1⟩ : BufTy).Contents (Elt F)),
    unary main_v77 main_v78 (id : (⟨S38016x4096, .i1⟩ : BufTy).Contents (Elt F) → (⟨S38016x4096, .i1⟩ : BufTy).Contents (Elt F)),
    TRef.ternary (TRef.of (T := ⟨S38016x4096, .i1⟩) main_v78) (TRef.of (T := ⟨S38016x4096, .bf16⟩) main_v65) (TRef.of (T := ⟨S38016x4096, .bf16⟩) main_v64) (TRef.of (T := ⟨S38016x4096, .bf16⟩) main_v79) select,
    TRef.ternary (TRef.of (T := ⟨S38016x4096, .i1⟩) main_v78) (TRef.of (T := ⟨S38016x4096, .bf16⟩) main_v67) (TRef.of (T := ⟨S38016x4096, .bf16⟩) main_v66) (TRef.of (T := ⟨S38016x4096, .bf16⟩) main_v80) select,
    TRef.ternary (TRef.of (T := ⟨S38016x4096, .i1⟩) main_v78) (TRef.of (T := ⟨S38016x4096, .bf16⟩) main_v69) (TRef.of (T := ⟨S38016x4096, .bf16⟩) main_v68) (TRef.of (T := ⟨S38016x4096, .bf16⟩) main_v81) select,
    TRef.ternary (TRef.of (T := ⟨S38016x4096, .i1⟩) main_v78) (TRef.of (T := ⟨S38016x4096, .bf16⟩) main_v71) (TRef.of (T := ⟨S38016x4096, .bf16⟩) main_v70) (TRef.of (T := ⟨S38016x4096, .bf16⟩) main_v82) select,
    nullary main_c_50 (constantI S_ 32 2#32),
    unary main_c_50 main_v83 (broadcastInDim S38016x4096 ![] bcast_S_S38016x4096 : (⟨S_, .i32⟩ : BufTy).Contents (Elt F) → (⟨S38016x4096, .i32⟩ : BufTy).Contents (Elt F)),
    binary main_v56 main_v83 main_v84 (Host.shrsi : (⟨S38016x4096, .i32⟩ : BufTy).Contents (Elt F) → (⟨S38016x4096, .i32⟩ : BufTy).Contents (Elt F) → (⟨S38016x4096, .i32⟩ : BufTy).Contents (Elt F)),
    nullary main_c_51 (constantI S_ 32 1#32),
    unary main_c_51 main_v85 (broadcastInDim S38016x4096 ![] bcast_S_S38016x4096 : (⟨S_, .i32⟩ : BufTy).Contents (Elt F) → (⟨S38016x4096, .i32⟩ : BufTy).Contents (Elt F)),
    binary main_v84 main_v85 main_v86 (andi : (⟨S38016x4096, .i32⟩ : BufTy).Contents (Elt F) → (⟨S38016x4096, .i32⟩ : BufTy).Contents (Elt F) → (⟨S38016x4096, .i32⟩ : BufTy).Contents (Elt F)),
    nullary main_c_52 (constantI S_ 32 0#32),
    unary main_c_52 main_v87 (broadcastInDim S38016x4096 ![] bcast_S_S38016x4096 : (⟨S_, .i32⟩ : BufTy).Contents (Elt F) → (⟨S38016x4096, .i32⟩ : BufTy).Contents (Elt F)),
    binary main_v86 main_v87 main_v88 (cmpi .ne : (⟨S38016x4096, .i32⟩ : BufTy).Contents (Elt F) → (⟨S38016x4096, .i32⟩ : BufTy).Contents (Elt F) → (⟨S38016x4096, .i1⟩ : BufTy).Contents (Elt F)),
    unary main_v88 main_v89 (id : (⟨S38016x4096, .i1⟩ : BufTy).Contents (Elt F) → (⟨S38016x4096, .i1⟩ : BufTy).Contents (Elt F)),
    TRef.ternary (TRef.of (T := ⟨S38016x4096, .i1⟩) main_v89) (TRef.of (T := ⟨S38016x4096, .bf16⟩) main_v80) (TRef.of (T := ⟨S38016x4096, .bf16⟩) main_v79) (TRef.of (T := ⟨S38016x4096, .bf16⟩) main_v90) select,
    TRef.ternary (TRef.of (T := ⟨S38016x4096, .i1⟩) main_v89) (TRef.of (T := ⟨S38016x4096, .bf16⟩) main_v82) (TRef.of (T := ⟨S38016x4096, .bf16⟩) main_v81) (TRef.of (T := ⟨S38016x4096, .bf16⟩) main_v91) select,
    nullary main_c_53 (constantI S_ 32 3#32) ]

/-- @main's operations 181 … 210 of 215 (window `main_part2`). -/
abbrev ops_part2_1 : List (HloOp τ sig (Elt F)) :=
  [ unary main_c_53 main_v92 (broadcastInDim S38016x4096 ![] bcast_S_S38016x4096 : (⟨S_, .i32⟩ : BufTy).Contents (Elt F) → (⟨S38016x4096, .i32⟩ : BufTy).Contents (Elt F)),
    binary main_v56 main_v92 main_v93 (Host.shrsi : (⟨S38016x4096, .i32⟩ : BufTy).Contents (Elt F) → (⟨S38016x4096, .i32⟩ : BufTy).Contents (Elt F) → (⟨S38016x4096, .i32⟩ : BufTy).Contents (Elt F)),
    nullary main_c_54 (constantI S_ 32 1#32),
    unary main_c_54 main_v94 (broadcastInDim S38016x4096 ![] bcast_S_S38016x4096 : (⟨S_, .i32⟩ : BufTy).Contents (Elt F) → (⟨S38016x4096, .i32⟩ : BufTy).Contents (Elt F)),
    binary main_v93 main_v94 main_v95 (andi : (⟨S38016x4096, .i32⟩ : BufTy).Contents (Elt F) → (⟨S38016x4096, .i32⟩ : BufTy).Contents (Elt F) → (⟨S38016x4096, .i32⟩ : BufTy).Contents (Elt F)),
    nullary main_c_55 (constantI S_ 32 0#32),
    unary main_c_55 main_v96 (broadcastInDim S38016x4096 ![] bcast_S_S38016x4096 : (⟨S_, .i32⟩ : BufTy).Contents (Elt F) → (⟨S38016x4096, .i32⟩ : BufTy).Contents (Elt F)),
    binary main_v95 main_v96 main_v97 (cmpi .ne : (⟨S38016x4096, .i32⟩ : BufTy).Contents (Elt F) → (⟨S38016x4096, .i32⟩ : BufTy).Contents (Elt F) → (⟨S38016x4096, .i1⟩ : BufTy).Contents (Elt F)),
    unary main_v97 main_v98 (id : (⟨S38016x4096, .i1⟩ : BufTy).Contents (Elt F) → (⟨S38016x4096, .i1⟩ : BufTy).Contents (Elt F)),
    TRef.ternary (TRef.of (T := ⟨S38016x4096, .i1⟩) main_v98) (TRef.of (T := ⟨S38016x4096, .bf16⟩) main_v91) (TRef.of (T := ⟨S38016x4096, .bf16⟩) main_v90) (TRef.of (T := ⟨S38016x4096, .bf16⟩) main_v99) select,
    binary main_v99 main_v7 main_v100 (mulf : (⟨S38016x4096, .bf16⟩ : BufTy).Contents (Elt F) → (⟨S38016x4096, .bf16⟩ : BufTy).Contents (Elt F) → (⟨S38016x4096, .bf16⟩ : BufTy).Contents (Elt F)),
    binary main_v2 main_v54 main_v101 ((fun l r => Host.dotGeneral dot_S64x4096_S38016x4096_S64x38016_1_1_0_0_n_n none l r) : (⟨S64x4096, .bf16⟩ : BufTy).Contents (Elt F) → (⟨S38016x4096, .bf16⟩ : BufTy).Contents (Elt F) → (⟨S64x38016, .f32⟩ : BufTy).Contents (Elt F)),
    binary main_v4 main_v100 main_v102 ((fun l r => Host.dotGeneral dot_S64x4096_S38016x4096_S64x38016_1_1_0_0_n_n none l r) : (⟨S64x4096, .bf16⟩ : BufTy).Contents (Elt F) → (⟨S38016x4096, .bf16⟩ : BufTy).Contents (Elt F) → (⟨S64x38016, .f32⟩ : BufTy).Contents (Elt F)),
    binary main_v101 main_v102 main_v103 (addf : (⟨S64x38016, .f32⟩ : BufTy).Contents (Elt F) → (⟨S64x38016, .f32⟩ : BufTy).Contents (Elt F) → (⟨S64x38016, .f32⟩ : BufTy).Contents (Elt F)),
    nullary main_cst_56 (constant S_ .f32 0xFF800000#32),
    binary main_v103 main_cst_56 main_v104 ((fun x v => Host.reduce FloatOps.maximumf x v reducesTo_S64x38016_S64_d1 h_S_) : (⟨S64x38016, .f32⟩ : BufTy).Contents (Elt F) → (⟨S_, .f32⟩ : BufTy).Contents (Elt F) → (⟨S64, .f32⟩ : BufTy).Contents (Elt F)),
    TRef.nullary (TRef.of (T := ⟨S64x38016, .i32⟩) main_call30_v0) (iotaInDim S64x38016 32 1),
    TRef.nullary (TRef.of (T := ⟨S_, .f32⟩) main_call30_cst) (constant S_ .f32 0xFF800000#32),
    TRef.nullary (TRef.of (T := ⟨S_, .i32⟩) main_call30_c) (constantI S_ 32 0#32),
    TRef.quaternary (TRef.of (T := ⟨S64x38016, .f32⟩) main_v103) (TRef.of (T := ⟨S64x38016, .i32⟩) main_call30_v0) (TRef.of (T := ⟨S_, .f32⟩) main_call30_cst) (TRef.of (T := ⟨S_, .i32⟩) main_call30_c) (TRef.of (T := ⟨S64, .f32⟩) main_call30_v1_0) (fun x y u v j => (Host.argReduce reducer_argmax_f32_i32 x y u v reducesTo_S64x38016_S64_d1 h_S_ j).1),
    TRef.quaternary (TRef.of (T := ⟨S64x38016, .f32⟩) main_v103) (TRef.of (T := ⟨S64x38016, .i32⟩) main_call30_v0) (TRef.of (T := ⟨S_, .f32⟩) main_call30_cst) (TRef.of (T := ⟨S_, .i32⟩) main_call30_c) (TRef.of (T := ⟨S64, .i32⟩) main_v105) (fun x y u v j => (Host.argReduce reducer_argmax_f32_i32 x y u v reducesTo_S64x38016_S64_d1 h_S_ j).2),
    nullary main_v106 (iotaInDim S64x38016 32 1),
    unary main_v105 main_v107 (broadcastInDim S64x1 ![0] bcast_S64_S64x1_0 : (⟨S64, .i32⟩ : BufTy).Contents (Elt F) → (⟨S64x1, .i32⟩ : BufTy).Contents (Elt F)),
    unary main_v107 main_v108 (broadcastInDim S64x38016 ![0, 1] bcast_S64x1_S64x38016_0_1 : (⟨S64x1, .i32⟩ : BufTy).Contents (Elt F) → (⟨S64x38016, .i32⟩ : BufTy).Contents (Elt F)),
    binary main_v106 main_v108 main_v109 (cmpi .eq : (⟨S64x38016, .i32⟩ : BufTy).Contents (Elt F) → (⟨S64x38016, .i32⟩ : BufTy).Contents (Elt F) → (⟨S64x38016, .i1⟩ : BufTy).Contents (Elt F)),
    nullary main_cst_57 (constant S_ .f32 0xFF800000#32),
    TRef.unary (TRef.of (T := ⟨S_, .f32⟩) main_cst_57) (TRef.of (T := ⟨S_, .f32⟩) main_call31_v0) id,
    TRef.unary (TRef.of (T := ⟨S_, .f32⟩) main_call31_v0) (TRef.of (T := ⟨S64x38016, .f32⟩) main_call31_v1) (broadcastInDim S64x38016 ![] bcast_S_S64x38016),
    TRef.ternary (TRef.of (T := ⟨S64x38016, .i1⟩) main_v109) (TRef.of (T := ⟨S64x38016, .f32⟩) main_call31_v1) (TRef.of (T := ⟨S64x38016, .f32⟩) main_v103) (TRef.of (T := ⟨S64x38016, .f32⟩) main_v110) select,
    nullary main_cst_58 (constant S_ .f32 0xFF800000#32) ]

/-- @main's operations 211 … 215 of 215 (window `main_part2`). -/
abbrev ops_part2_2 : List (HloOp τ sig (Elt F)) :=
  [ binary main_v110 main_cst_58 main_v111 ((fun x v => Host.reduce FloatOps.maximumf x v reducesTo_S64x38016_S64_d1 h_S_) : (⟨S64x38016, .f32⟩ : BufTy).Contents (Elt F) → (⟨S_, .f32⟩ : BufTy).Contents (Elt F) → (⟨S64, .f32⟩ : BufTy).Contents (Elt F)),
    binary main_v104 main_v111 main_v112 (subf : (⟨S64, .f32⟩ : BufTy).Contents (Elt F) → (⟨S64, .f32⟩ : BufTy).Contents (Elt F) → (⟨S64, .f32⟩ : BufTy).Contents (Elt F)),
    reshape main_v105 main_v113 (rfl : (.i32 : EltTy) = .i32) shapeCasts_S64_S64x1,
    reshape main_v112 main_v114 (rfl : (.f32 : EltTy) = .f32) shapeCasts_S64_S64x1,
    reshape main_v104 main_v115 (rfl : (.f32 : EltTy) = .f32) shapeCasts_S64_S64x1 ]

/-- Window `main_part2`'s operations. Not an abbreviation: `main_eq` below splits `ops` into the windows and no further. -/
def ops_part2 : List (HloOp τ sig (Elt F)) :=
  ops_part2_0 ++ (ops_part2_1 ++ (ops_part2_2))

/-- @main's 215 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨reshape_bufs_sub .., unary_bufs_sub .., reshape_bufs_sub .., unary_bufs_sub .., reshape_bufs_sub .., unary_bufs_sub .., unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., ternary_bufs_sub .., nullary_bufs_sub .., nullary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., ternary_bufs_sub .., ternary_bufs_sub .., ternary_bufs_sub .., ternary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., unary_bufs_sub .., ternary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., ternary_bufs_sub .., binary_bufs_sub .., nullary_bufs_sub .., unary_bufs_sub .., binary_bufs_sub .., nullary_bufs_sub .., unary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., ternary_bufs_sub .., ternary_bufs_sub .., ternary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., ternary_bufs_sub .., ternary_bufs_sub .., nullary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., unary_bufs_sub .., ternary_bufs_sub .., binary_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., binary_bufs_sub .., nullary_bufs_sub .., unary_bufs_sub .., unary_bufs_sub .., ternary_bufs_sub .., nullary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., binary_bufs_sub .., reshape_bufs_sub .., reshape_bufs_sub .., reshape_bufs_sub ..⟩
set_option maxRecDepth 8192 in
theorem ops_part2_2_fresh : (ops_part2_2 : List (HloOp τ sig (Elt F))).Forall fun op => op.fresh = ∅ :=
  ⟨rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h]

set_option maxRecDepth 8192 in
/-- `main_v0`'s composed term of the arguments (named: it is used 2 times). -/
def res_main_v0 (V0 : Valuation τ sig (Elt F)) : (Proc.devRef .tc main_v0 : DevRef τ sig).ty.Contents (Elt F) :=
  shapeCast _ (V0 (Proc.devRef .tc main_arg0)) shapeCasts_S64x1x8192_S64x256x32

set_option maxRecDepth 8192 in
/-- `main_v7`'s composed term of the arguments (named: it is used 2 times). -/
def res_main_v7 (V0 : Valuation τ sig (Elt F)) : (Proc.devRef .tc main_v7 : DevRef τ sig).ty.Contents (Elt F) :=
  shapeCast _ (broadcastInDim S38016x256x16 ![0, 1, 2] bcast_S38016x256x1_S38016x256x16_0_1_2 (broadcastInDim S38016x256x1 ![0, 1] bcast_S38016x256_S38016x256x1_0_1 (V0 (Proc.devRef .tc main_arg2)))) shapeCasts_S38016x256x16_S38016x4096

set_option maxRecDepth 8192 in
/-- `main_v8`'s composed term of the arguments (named: it is used 2 times). -/
def res_main_v8 (V0 : Valuation τ sig (Elt F)) : (Proc.devRef .tc main_v8 : DevRef τ sig).ty.Contents (Elt F) :=
  extui 32 (V0 (Proc.devRef .tc main_arg1)) natLt_8_32

set_option maxRecDepth 8192 in
/-- `main_v10`'s composed term of the arguments (named: it is used 4 times). -/
def res_main_v10 (V0 : Valuation τ sig (Elt F)) : (Proc.devRef .tc main_v10 : DevRef τ sig).ty.Contents (Elt F) :=
  andi (res_main_v8 V0) (broadcastInDim S38016x4096 ![] bcast_S_S38016x4096 (constantI S_ 32 15#32))

set_option maxRecDepth 8192 in
/-- `main_v17`'s composed term of the arguments (named: it is used 8 times). -/
def res_main_v17 (V0 : Valuation τ sig (Elt F)) : (Proc.devRef .tc main_v17 : DevRef τ sig).ty.Contents (Elt F) :=
  id (cmpi .ne (andi (Host.shrsi (res_main_v10 V0) (broadcastInDim S38016x4096 ![] bcast_S_S38016x4096 (constantI S_ 32 0#32))) (broadcastInDim S38016x4096 ![] bcast_S_S38016x4096 (constantI S_ 32 1#32))) (broadcastInDim S38016x4096 ![] bcast_S_S38016x4096 (constantI S_ 32 0#32)))

set_option maxRecDepth 8192 in
/-- `main_v32`'s composed term of the arguments (named: it is used 4 times). -/
def res_main_v32 (V0 : Valuation τ sig (Elt F)) : (Proc.devRef .tc main_v32 : DevRef τ sig).ty.Contents (Elt F) :=
  id (cmpi .ne (andi (Host.shrsi (res_main_v10 V0) (broadcastInDim S38016x4096 ![] bcast_S_S38016x4096 (constantI S_ 32 1#32))) (broadcastInDim S38016x4096 ![] bcast_S_S38016x4096 (constantI S_ 32 1#32))) (broadcastInDim S38016x4096 ![] bcast_S_S38016x4096 (constantI S_ 32 0#32)))

set_option maxRecDepth 8192 in
/-- `main_v43`'s composed term of the arguments (named: it is used 2 times). -/
def res_main_v43 (V0 : Valuation τ sig (Elt F)) : (Proc.devRef .tc main_v43 : DevRef τ sig).ty.Contents (Elt F) :=
  id (cmpi .ne (andi (Host.shrsi (res_main_v10 V0) (broadcastInDim S38016x4096 ![] bcast_S_S38016x4096 (constantI S_ 32 2#32))) (broadcastInDim S38016x4096 ![] bcast_S_S38016x4096 (constantI S_ 32 1#32))) (broadcastInDim S38016x4096 ![] bcast_S_S38016x4096 (constantI S_ 32 0#32)))

set_option maxRecDepth 8192 in
/-- `main_v56`'s composed term of the arguments (named: it is used 4 times). -/
def res_main_v56 (V0 : Valuation τ sig (Elt F)) : (Proc.devRef .tc main_v56 : DevRef τ sig).ty.Contents (Elt F) :=
  Host.shrsi (res_main_v8 V0) (broadcastInDim S38016x4096 ![] bcast_S_S38016x4096 (constantI S_ 32 4#32))

set_option maxRecDepth 8192 in
/-- `main_v63`'s composed term of the arguments (named: it is used 8 times). -/
def res_main_v63 (V0 : Valuation τ sig (Elt F)) : (Proc.devRef .tc main_v63 : DevRef τ sig).ty.Contents (Elt F) :=
  id (cmpi .ne (andi (Host.shrsi (res_main_v56 V0) (broadcastInDim S38016x4096 ![] bcast_S_S38016x4096 (constantI S_ 32 0#32))) (broadcastInDim S38016x4096 ![] bcast_S_S38016x4096 (constantI S_ 32 1#32))) (broadcastInDim S38016x4096 ![] bcast_S_S38016x4096 (constantI S_ 32 0#32)))

set_option maxRecDepth 8192 in
/-- `main_v78`'s composed term of the arguments (named: it is used 4 times). -/
def res_main_v78 (V0 : Valuation τ sig (Elt F)) : (Proc.devRef .tc main_v78 : DevRef τ sig).ty.Contents (Elt F) :=
  id (cmpi .ne (andi (Host.shrsi (res_main_v56 V0) (broadcastInDim S38016x4096 ![] bcast_S_S38016x4096 (constantI S_ 32 1#32))) (broadcastInDim S38016x4096 ![] bcast_S_S38016x4096 (constantI S_ 32 1#32))) (broadcastInDim S38016x4096 ![] bcast_S_S38016x4096 (constantI S_ 32 0#32)))

set_option maxRecDepth 8192 in
/-- `main_v89`'s composed term of the arguments (named: it is used 2 times). -/
def res_main_v89 (V0 : Valuation τ sig (Elt F)) : (Proc.devRef .tc main_v89 : DevRef τ sig).ty.Contents (Elt F) :=
  id (cmpi .ne (andi (Host.shrsi (res_main_v56 V0) (broadcastInDim S38016x4096 ![] bcast_S_S38016x4096 (constantI S_ 32 2#32))) (broadcastInDim S38016x4096 ![] bcast_S_S38016x4096 (constantI S_ 32 1#32))) (broadcastInDim S38016x4096 ![] bcast_S_S38016x4096 (constantI S_ 32 0#32)))

set_option maxRecDepth 8192 in
/-- `main_v103`'s composed term of the arguments (named: it is used 4 times). -/
def res_main_v103 (V0 : Valuation τ sig (Elt F)) : (Proc.devRef .tc main_v103 : DevRef τ sig).ty.Contents (Elt F) :=
  addf (Host.dotGeneral dot_S64x4096_S38016x4096_S64x38016_1_1_0_0_n_n none (shapeCast _ (extractStridedSlice S64x256x16 ![0, 0, 0] (res_main_v0 V0) slices_S64x256x32_S64x256x16_0_0_0) shapeCasts_S64x256x16_S64x4096) (mulf (select (id (cmpi .ne (andi (Host.shrsi (res_main_v10 V0) (broadcastInDim S38016x4096 ![] bcast_S_S38016x4096 (constantI S_ 32 3#32))) (broadcastInDim S38016x4096 ![] bcast_S_S38016x4096 (constantI S_ 32 1#32))) (broadcastInDim S38016x4096 ![] bcast_S_S38016x4096 (constantI S_ 32 0#32)))) (select (res_main_v43 V0) (select (res_main_v32 V0) (select (res_main_v17 V0) (broadcastInDim S38016x4096 ![] bcast_S_S38016x4096 (constant S_ .bf16 0x42E2#16)) (broadcastInDim S38016x4096 ![] bcast_S_S38016x4096 (constant S_ .bf16 0x42B2#16))) (select (res_main_v17 V0) (broadcastInDim S38016x4096 ![] bcast_S_S38016x4096 (constant S_ .bf16 0x428A#16)) (broadcastInDim S38016x4096 ![] bcast_S_S38016x4096 (constant S_ .bf16 0x4254#16)))) (select (res_main_v32 V0) (select (res_main_v17 V0) (broadcastInDim S38016x4096 ![] bcast_S_S38016x4096 (constant S_ .bf16 0x4218#16)) (broadcastInDim S38016x4096 ![] bcast_S_S38016x4096 (constant S_ .bf16 0x41C8#16))) (select (res_main_v17 V0) (broadcastInDim S38016x4096 ![] bcast_S_S38016x4096 (constant S_ .bf16 0x4150#16)) (broadcastInDim S38016x4096 ![] bcast_S_S38016x4096 (constant S_ .bf16 0x3F80#16))))) (select (res_main_v43 V0) (select (res_main_v32 V0) (select (res_main_v17 V0) (broadcastInDim S38016x4096 ![] bcast_S_S38016x4096 (constant S_ .bf16 0xC120#16)) (broadcastInDim S38016x4096 ![] bcast_S_S38016x4096 (constant S_ .bf16 0xC1B0#16))) (select (res_main_v17 V0) (broadcastInDim S38016x4096 ![] bcast_S_S38016x4096 (constant S_ .bf16 0xC20C#16)) (broadcastInDim S38016x4096 ![] bcast_S_S38016x4096 (constant S_ .bf16 0xC244#16)))) (select (res_main_v32 V0) (select (res_main_v17 V0) (broadcastInDim S38016x4096 ![] bcast_S_S38016x4096 (constant S_ .bf16 0xC282#16)) (broadcastInDim S38016x4096 ![] bcast_S_S38016x4096 (constant S_ .bf16 0xC2A6#16))) (select (res_main_v17 V0) (broadcastInDim S38016x4096 ![] bcast_S_S38016x4096 (constant S_ .bf16 0xC2D0#16)) (broadcastInDim S38016x4096 ![] bcast_S_S38016x4096 (constant S_ .bf16 0xC2FE#16)))))) (res_main_v7 V0))) (Host.dotGeneral dot_S64x4096_S38016x4096_S64x38016_1_1_0_0_n_n none (shapeCast _ (extractStridedSlice S64x256x16 ![0, 0, 16] (res_main_v0 V0) slices_S64x256x32_S64x256x16_0_0_16) shapeCasts_S64x256x16_S64x4096) (mulf (select (id (cmpi .ne (andi (Host.shrsi (res_main_v56 V0) (broadcastInDim S38016x4096 ![] bcast_S_S38016x4096 (constantI S_ 32 3#32))) (broadcastInDim S38016x4096 ![] bcast_S_S38016x4096 (constantI S_ 32 1#32))) (broadcastInDim S38016x4096 ![] bcast_S_S38016x4096 (constantI S_ 32 0#32)))) (select (res_main_v89 V0) (select (res_main_v78 V0) (select (res_main_v63 V0) (broadcastInDim S38016x4096 ![] bcast_S_S38016x4096 (constant S_ .bf16 0x42E2#16)) (broadcastInDim S38016x4096 ![] bcast_S_S38016x4096 (constant S_ .bf16 0x42B2#16))) (select (res_main_v63 V0) (broadcastInDim S38016x4096 ![] bcast_S_S38016x4096 (constant S_ .bf16 0x428A#16)) (broadcastInDim S38016x4096 ![] bcast_S_S38016x4096 (constant S_ .bf16 0x4254#16)))) (select (res_main_v78 V0) (select (res_main_v63 V0) (broadcastInDim S38016x4096 ![] bcast_S_S38016x4096 (constant S_ .bf16 0x4218#16)) (broadcastInDim S38016x4096 ![] bcast_S_S38016x4096 (constant S_ .bf16 0x41C8#16))) (select (res_main_v63 V0) (broadcastInDim S38016x4096 ![] bcast_S_S38016x4096 (constant S_ .bf16 0x4150#16)) (broadcastInDim S38016x4096 ![] bcast_S_S38016x4096 (constant S_ .bf16 0x3F80#16))))) (select (res_main_v89 V0) (select (res_main_v78 V0) (select (res_main_v63 V0) (broadcastInDim S38016x4096 ![] bcast_S_S38016x4096 (constant S_ .bf16 0xC120#16)) (broadcastInDim S38016x4096 ![] bcast_S_S38016x4096 (constant S_ .bf16 0xC1B0#16))) (select (res_main_v63 V0) (broadcastInDim S38016x4096 ![] bcast_S_S38016x4096 (constant S_ .bf16 0xC20C#16)) (broadcastInDim S38016x4096 ![] bcast_S_S38016x4096 (constant S_ .bf16 0xC244#16)))) (select (res_main_v78 V0) (select (res_main_v63 V0) (broadcastInDim S38016x4096 ![] bcast_S_S38016x4096 (constant S_ .bf16 0xC282#16)) (broadcastInDim S38016x4096 ![] bcast_S_S38016x4096 (constant S_ .bf16 0xC2A6#16))) (select (res_main_v63 V0) (broadcastInDim S38016x4096 ![] bcast_S_S38016x4096 (constant S_ .bf16 0xC2D0#16)) (broadcastInDim S38016x4096 ![] bcast_S_S38016x4096 (constant S_ .bf16 0xC2FE#16)))))) (res_main_v7 V0)))

set_option maxRecDepth 8192 in
/-- `main_v104`'s composed term of the arguments (named: it is used 2 times). -/
def res_main_v104 (V0 : Valuation τ sig (Elt F)) : (Proc.devRef .tc main_v104 : DevRef τ sig).ty.Contents (Elt F) :=
  Host.reduce FloatOps.maximumf (res_main_v103 V0) (constant S_ .f32 0xFF800000#32) reducesTo_S64x38016_S64_d1 h_S_

set_option maxRecDepth 8192 in
/-- `main_call30_v0`'s composed term of the arguments (named: it is used 2 times). -/
def res_main_call30_v0 (V0 : Valuation τ sig (Elt F)) : (Proc.devRef .tc main_call30_v0 : DevRef τ sig).ty.Contents (Elt F) :=
  iotaInDim S64x38016 32 1

set_option maxRecDepth 8192 in
/-- `main_call30_cst`'s composed term of the arguments (named: it is used 2 times). -/
def res_main_call30_cst (V0 : Valuation τ sig (Elt F)) : (Proc.devRef .tc main_call30_cst : DevRef τ sig).ty.Contents (Elt F) :=
  constant S_ .f32 0xFF800000#32

set_option maxRecDepth 8192 in
/-- `main_call30_c`'s composed term of the arguments (named: it is used 2 times). -/
def res_main_call30_c (V0 : Valuation τ sig (Elt F)) : (Proc.devRef .tc main_call30_c : DevRef τ sig).ty.Contents (Elt F) :=
  constantI S_ 32 0#32

set_option maxRecDepth 8192 in
/-- `main_v105`'s composed term of the arguments (named: it is used 2 times). -/
def res_main_v105 (V0 : Valuation τ sig (Elt F)) : (Proc.devRef .tc main_v105 : DevRef τ sig).ty.Contents (Elt F) :=
  (fun j => (Host.argReduce reducer_argmax_f32_i32 (res_main_v103 V0) (res_main_call30_v0 V0) (res_main_call30_cst V0) (res_main_call30_c V0) reducesTo_S64x38016_S64_d1 h_S_ j).2)

end Cert.ReferenceIdeal.Value

end
-- ==== Proof.R.Run.lean ====
/-
  The reference program's run read back: every weakly fair execution terminates with each result buffer at the operations' composed
  pure term of the arguments' launch contents, the arguments unchanged.
-/
module

public import proofs.«01_k».proof.Proof.R.Ops

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_c, main_v9, main_v10, main_c_0, main_v11, main_v12, main_c_1, main_v13, main_v14, main_c_2, main_v15, main_v16, main_v17, main_cst, main_cst_3, main_call0_v0, main_call0_v1, main_v18, main_cst_4, main_cst_5, main_call1_v0]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v2 (V0 : Valuation τ sig (Elt F)) : val0_1 V0 (no_index (Proc.devRef .tc main_v2)) = shapeCast _ (extractStridedSlice S64x256x16 ![0, 0, 0] (res_main_v0 V0) slices_S64x256x32_S64x256x16_0_0_0) shapeCasts_S64x256x16_S64x4096 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v4 (V0 : Valuation τ sig (Elt F)) : val0_1 V0 (no_index (Proc.devRef .tc main_v4)) = shapeCast _ (extractStridedSlice S64x256x16 ![0, 0, 16] (res_main_v0 V0) slices_S64x256x32_S64x256x16_0_0_16) shapeCasts_S64x256x16_S64x4096 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0, TRef.ternary, TRef.unary, TRef.toBuf, TRef.ofBuf, cast_eq]
  after_results_simp
  simp only [val0_main_arg2] <;> rfl
set_option maxRecDepth 8192 in
set_option maxHeartbeats 2000000 in
theorem val0_1_main_v8 (V0 : Valuation τ sig (Elt F)) : val0_1 V0 (no_index (Proc.devRef .tc main_v8)) = res_main_v8 V0 := by
  unfold val0_1
  simp only [ops_part0_0, TRef.ternary, TRef.unary, TRef.toBuf, TRef.ofBuf, cast_eq]
  after_results_simp
  simp only [val0_main_arg1] <;> rfl
set_option maxRecDepth 8192 in
set_option maxHeartbeats 2000000 in
theorem val0_1_main_v10 (V0 : Valuation τ sig (Elt F)) : val0_1 V0 (no_index (Proc.devRef .tc main_v10)) = res_main_v10 V0 := by
  unfold val0_1
  simp only [ops_part0_0, TRef.ternary, TRef.unary, TRef.toBuf, TRef.ofBuf, cast_eq]
  after_results_simp
  simp only [val0_main_arg1] <;> rfl
set_option maxRecDepth 8192 in
set_option maxHeartbeats 2000000 in
theorem val0_1_main_v17 (V0 : Valuation τ sig (Elt F)) : val0_1 V0 (no_index (Proc.devRef .tc main_v17)) = res_main_v17 V0 := by
  unfold val0_1
  simp only [ops_part0_0, TRef.ternary, TRef.unary, TRef.toBuf, TRef.ofBuf, cast_eq]
  after_results_simp
  simp only [val0_main_arg1] <;> rfl
set_option maxRecDepth 8192 in
set_option maxHeartbeats 2000000 in
theorem val0_1_main_v18 (V0 : Valuation τ sig (Elt F)) : val0_1 V0 (no_index (Proc.devRef .tc main_v18)) = select (res_main_v17 V0) (broadcastInDim S38016x4096 ![] bcast_S_S38016x4096 (constant S_ .bf16 0xC2D0#16)) (broadcastInDim S38016x4096 ![] bcast_S_S38016x4096 (constant S_ .bf16 0xC2FE#16)) := by
  unfold val0_1
  simp only [ops_part0_0, TRef.ternary, TRef.unary, TRef.toBuf, TRef.ofBuf, cast_eq]
  after_results_simp
  simp only [val0_main_arg1] <;> rfl
set_option maxRecDepth 8192 in
set_option maxHeartbeats 2000000 in
theorem val0_1_main_cst_5 (V0 : Valuation τ sig (Elt F)) : val0_1 V0 (no_index (Proc.devRef .tc main_cst_5)) = constant S_ .bf16 0xC2A6#16 := by
  unfold val0_1
  simp only [ops_part0_0, TRef.ternary, TRef.unary, TRef.toBuf, TRef.ofBuf, cast_eq]
  after_results_simp
  all_goals rfl
set_option maxRecDepth 8192 in
set_option maxHeartbeats 2000000 in
theorem val0_1_main_call1_v0 (V0 : Valuation τ sig (Elt F)) : val0_1 V0 (no_index (Proc.devRef .tc main_call1_v0)) = broadcastInDim S38016x4096 ![] bcast_S_S38016x4096 (constant S_ .bf16 0xC282#16) := by
  unfold val0_1
  simp only [ops_part0_0, TRef.ternary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call1_v1, main_v19, main_cst_6, main_cst_7, main_call2_v0, main_call2_v1, main_v20, main_cst_8, main_cst_9, main_call3_v0, main_call3_v1, main_v21, main_cst_10, main_cst_11, main_call4_v0, main_call4_v1, main_v22, main_cst_12, main_cst_13, main_call5_v0, main_call5_v1, main_v23, main_cst_14, main_cst_15, main_call6_v0, main_call6_v1, main_v24, main_cst_16, main_cst_17, main_call7_v0]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v2 (V0 : Valuation τ sig (Elt F)) : val0_2 V0 (no_index (Proc.devRef .tc main_v2)) = shapeCast _ (extractStridedSlice S64x256x16 ![0, 0, 0] (res_main_v0 V0) slices_S64x256x32_S64x256x16_0_0_0) shapeCasts_S64x256x16_S64x4096 :=
  (val0_2_keep V0 main_v2 (by decide)).trans (val0_1_main_v2 V0)
theorem val0_2_main_v4 (V0 : Valuation τ sig (Elt F)) : val0_2 V0 (no_index (Proc.devRef .tc main_v4)) = shapeCast _ (extractStridedSlice S64x256x16 ![0, 0, 16] (res_main_v0 V0) slices_S64x256x32_S64x256x16_0_0_16) shapeCasts_S64x256x16_S64x4096 :=
  (val0_2_keep V0 main_v4 (by decide)).trans (val0_1_main_v4 V0)
theorem val0_2_main_v7 (V0 : Valuation τ sig (Elt F)) : val0_2 V0 (no_index (Proc.devRef .tc main_v7)) = res_main_v7 V0 :=
  (val0_2_keep V0 main_v7 (by decide)).trans (val0_1_main_v7 V0)
theorem val0_2_main_v8 (V0 : Valuation τ sig (Elt F)) : val0_2 V0 (no_index (Proc.devRef .tc main_v8)) = res_main_v8 V0 :=
  (val0_2_keep V0 main_v8 (by decide)).trans (val0_1_main_v8 V0)
theorem val0_2_main_v10 (V0 : Valuation τ sig (Elt F)) : val0_2 V0 (no_index (Proc.devRef .tc main_v10)) = res_main_v10 V0 :=
  (val0_2_keep V0 main_v10 (by decide)).trans (val0_1_main_v10 V0)
theorem val0_2_main_v17 (V0 : Valuation τ sig (Elt F)) : val0_2 V0 (no_index (Proc.devRef .tc main_v17)) = res_main_v17 V0 :=
  (val0_2_keep V0 main_v17 (by decide)).trans (val0_1_main_v17 V0)
theorem val0_2_main_v18 (V0 : Valuation τ sig (Elt F)) : val0_2 V0 (no_index (Proc.devRef .tc main_v18)) = select (res_main_v17 V0) (broadcastInDim S38016x4096 ![] bcast_S_S38016x4096 (constant S_ .bf16 0xC2D0#16)) (broadcastInDim S38016x4096 ![] bcast_S_S38016x4096 (constant S_ .bf16 0xC2FE#16)) :=
  (val0_2_keep V0 main_v18 (by decide)).trans (val0_1_main_v18 V0)
set_option maxRecDepth 8192 in
set_option maxHeartbeats 2000000 in
theorem val0_2_main_v19 (V0 : Valuation τ sig (Elt F)) : val0_2 V0 (no_index (Proc.devRef .tc main_v19)) = select (res_main_v17 V0) (broadcastInDim S38016x4096 ![] bcast_S_S38016x4096 (constant S_ .bf16 0xC282#16)) (broadcastInDim S38016x4096 ![] bcast_S_S38016x4096 (constant S_ .bf16 0xC2A6#16)) := by
  unfold val0_2
  simp only [ops_part0_1, TRef.ternary, TRef.unary, TRef.toBuf, TRef.ofBuf, cast_eq]
  after_results_simp
  simp only [val0_1_main_cst_5, val0_1_main_call1_v0, val0_1_main_v17] <;> rfl
set_option maxRecDepth 8192 in
set_option maxHeartbeats 2000000 in
theorem val0_2_main_v20 (V0 : Valuation τ sig (Elt F)) : val0_2 V0 (no_index (Proc.devRef .tc main_v20)) = select (res_main_v17 V0) (broadcastInDim S38016x4096 ![] bcast_S_S38016x4096 (constant S_ .bf16 0xC20C#16)) (broadcastInDim S38016x4096 ![] bcast_S_S38016x4096 (constant S_ .bf16 0xC244#16)) := by
  unfold val0_2
  simp only [ops_part0_1, TRef.ternary, TRef.unary, TRef.toBuf, TRef.ofBuf, cast_eq]
  after_results_simp
  simp only [val0_1_main_v17] <;> rfl
set_option maxRecDepth 8192 in
set_option maxHeartbeats 2000000 in
theorem val0_2_main_v21 (V0 : Valuation τ sig (Elt F)) : val0_2 V0 (no_index (Proc.devRef .tc main_v21)) = select (res_main_v17 V0) (broadcastInDim S38016x4096 ![] bcast_S_S38016x4096 (constant S_ .bf16 0xC120#16)) (broadcastInDim S38016x4096 ![] bcast_S_S38016x4096 (constant S_ .bf16 0xC1B0#16)) := by
  unfold val0_2
  simp only [ops_part0_1, TRef.ternary, TRef.unary, TRef.toBuf, TRef.ofBuf, cast_eq]
  after_results_simp
  simp only [val0_1_main_v17] <;> rfl
set_option maxRecDepth 8192 in
set_option maxHeartbeats 2000000 in
theorem val0_2_main_v22 (V0 : Valuation τ sig (Elt F)) : val0_2 V0 (no_index (Proc.devRef .tc main_v22)) = select (res_main_v17 V0) (broadcastInDim S38016x4096 ![] bcast_S_S38016x4096 (constant S_ .bf16 0x4150#16)) (broadcastInDim S38016x4096 ![] bcast_S_S38016x4096 (constant S_ .bf16 0x3F80#16)) := by
  unfold val0_2
  simp only [ops_part0_1, TRef.ternary, TRef.unary, TRef.toBuf, TRef.ofBuf, cast_eq]
  after_results_simp
  simp only [val0_1_main_v17] <;> rfl
set_option maxRecDepth 8192 in
set_option maxHeartbeats 2000000 in
theorem val0_2_main_v23 (V0 : Valuation τ sig (Elt F)) : val0_2 V0 (no_index (Proc.devRef .tc main_v23)) = select (res_main_v17 V0) (broadcastInDim S38016x4096 ![] bcast_S_S38016x4096 (constant S_ .bf16 0x4218#16)) (broadcastInDim S38016x4096 ![] bcast_S_S38016x4096 (constant S_ .bf16 0x41C8#16)) := by
  unfold val0_2
  simp only [ops_part0_1, TRef.ternary, TRef.unary, TRef.toBuf, TRef.ofBuf, cast_eq]
  after_results_simp
  simp only [val0_1_main_v17] <;> rfl
set_option maxRecDepth 8192 in
set_option maxHeartbeats 2000000 in
theorem val0_2_main_v24 (V0 : Valuation τ sig (Elt F)) : val0_2 V0 (no_index (Proc.devRef .tc main_v24)) = select (res_main_v17 V0) (broadcastInDim S38016x4096 ![] bcast_S_S38016x4096 (constant S_ .bf16 0x428A#16)) (broadcastInDim S38016x4096 ![] bcast_S_S38016x4096 (constant S_ .bf16 0x4254#16)) := by
  unfold val0_2
  simp only [ops_part0_1, TRef.ternary, TRef.unary, TRef.toBuf, TRef.ofBuf, cast_eq]
  after_results_simp
  simp only [val0_1_main_v17] <;> rfl
set_option maxRecDepth 8192 in
set_option maxHeartbeats 2000000 in
theorem val0_2_main_cst_17 (V0 : Valuation τ sig (Elt F)) : val0_2 V0 (no_index (Proc.devRef .tc main_cst_17)) = constant S_ .bf16 0x42B2#16 := by
  unfold val0_2
  simp only [ops_part0_1, TRef.ternary, TRef.unary, TRef.toBuf, TRef.ofBuf, cast_eq]
  after_results_simp
  all_goals rfl
set_option maxRecDepth 8192 in
set_option maxHeartbeats 2000000 in
theorem val0_2_main_call7_v0 (V0 : Valuation τ sig (Elt F)) : val0_2 V0 (no_index (Proc.devRef .tc main_call7_v0)) = broadcastInDim S38016x4096 ![] bcast_S_S38016x4096 (constant S_ .bf16 0x42E2#16) := by
  unfold val0_2
  simp only [ops_part0_1, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call7_v1, main_v25, main_c_18, main_v26, main_v27, main_c_19, main_v28, main_v29, main_c_20, main_v30, main_v31, main_v32, main_v33, main_v34, main_v35, main_v36]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v2 (V0 : Valuation τ sig (Elt F)) : val1 V0 (no_index (Proc.devRef .tc main_v2)) = shapeCast _ (extractStridedSlice S64x256x16 ![0, 0, 0] (res_main_v0 V0) slices_S64x256x32_S64x256x16_0_0_0) shapeCasts_S64x256x16_S64x4096 :=
  (val1_keep V0 main_v2 (by decide)).trans (val0_2_main_v2 V0)
theorem val1_main_v4 (V0 : Valuation τ sig (Elt F)) : val1 V0 (no_index (Proc.devRef .tc main_v4)) = shapeCast _ (extractStridedSlice S64x256x16 ![0, 0, 16] (res_main_v0 V0) slices_S64x256x32_S64x256x16_0_0_16) shapeCasts_S64x256x16_S64x4096 :=
  (val1_keep V0 main_v4 (by decide)).trans (val0_2_main_v4 V0)
theorem val1_main_v7 (V0 : Valuation τ sig (Elt F)) : val1 V0 (no_index (Proc.devRef .tc main_v7)) = res_main_v7 V0 :=
  (val1_keep V0 main_v7 (by decide)).trans (val0_2_main_v7 V0)
theorem val1_main_v8 (V0 : Valuation τ sig (Elt F)) : val1 V0 (no_index (Proc.devRef .tc main_v8)) = res_main_v8 V0 :=
  (val1_keep V0 main_v8 (by decide)).trans (val0_2_main_v8 V0)
theorem val1_main_v10 (V0 : Valuation τ sig (Elt F)) : val1 V0 (no_index (Proc.devRef .tc main_v10)) = res_main_v10 V0 :=
  (val1_keep V0 main_v10 (by decide)).trans (val0_2_main_v10 V0)
set_option maxRecDepth 8192 in
set_option maxHeartbeats 1600000 in
theorem val1_main_v33 (V0 : Valuation τ sig (Elt F)) : val1 V0 (no_index (Proc.devRef .tc main_v33)) = select (res_main_v32 V0) (select (res_main_v17 V0) (broadcastInDim S38016x4096 ![] bcast_S_S38016x4096 (constant S_ .bf16 0xC282#16)) (broadcastInDim S38016x4096 ![] bcast_S_S38016x4096 (constant S_ .bf16 0xC2A6#16))) (select (res_main_v17 V0) (broadcastInDim S38016x4096 ![] bcast_S_S38016x4096 (constant S_ .bf16 0xC2D0#16)) (broadcastInDim S38016x4096 ![] bcast_S_S38016x4096 (constant S_ .bf16 0xC2FE#16))) := by
  unfold val1
  simp only [ops_part0_2, TRef.ternary, TRef.unary, TRef.toBuf, TRef.ofBuf, cast_eq]
  after_results_simp
  simp only [val0_2_main_v18, val0_2_main_v19, val0_2_main_v10] <;> rfl
set_option maxRecDepth 8192 in
set_option maxHeartbeats 1600000 in
theorem val1_main_v34 (V0 : Valuation τ sig (Elt F)) : val1 V0 (no_index (Proc.devRef .tc main_v34)) = select (res_main_v32 V0) (select (res_main_v17 V0) (broadcastInDim S38016x4096 ![] bcast_S_S38016x4096 (constant S_ .bf16 0xC120#16)) (broadcastInDim S38016x4096 ![] bcast_S_S38016x4096 (constant S_ .bf16 0xC1B0#16))) (select (res_main_v17 V0) (broadcastInDim S38016x4096 ![] bcast_S_S38016x4096 (constant S_ .bf16 0xC20C#16)) (broadcastInDim S38016x4096 ![] bcast_S_S38016x4096 (constant S_ .bf16 0xC244#16))) := by
  unfold val1
  simp only [ops_part0_2, TRef.ternary, TRef.unary, TRef.toBuf, TRef.ofBuf, cast_eq]
  after_results_simp
  simp only [val0_2_main_v20, val0_2_main_v21, val0_2_main_v10] <;> rfl
set_option maxRecDepth 8192 in
set_option maxHeartbeats 1600000 in
theorem val1_main_v35 (V0 : Valuation τ sig (Elt F)) : val1 V0 (no_index (Proc.devRef .tc main_v35)) = select (res_main_v32 V0) (select (res_main_v17 V0) (broadcastInDim S38016x4096 ![] bcast_S_S38016x4096 (constant S_ .bf16 0x4218#16)) (broadcastInDim S38016x4096 ![] bcast_S_S38016x4096 (constant S_ .bf16 0x41C8#16))) (select (res_main_v17 V0) (broadcastInDim S38016x4096 ![] bcast_S_S38016x4096 (constant S_ .bf16 0x4150#16)) (broadcastInDim S38016x4096 ![] bcast_S_S38016x4096 (constant S_ .bf16 0x3F80#16))) := by
  unfold val1
  simp only [ops_part0_2, TRef.ternary, TRef.unary, TRef.toBuf, TRef.ofBuf, cast_eq]
  after_results_simp
  simp only [val0_2_main_v22, val0_2_main_v23, val0_2_main_v10] <;> rfl
set_option maxRecDepth 8192 in
set_option maxHeartbeats 1600000 in
theorem val1_main_v36 (V0 : Valuation τ sig (Elt F)) : val1 V0 (no_index (Proc.devRef .tc main_v36)) = select (res_main_v32 V0) (select (res_main_v17 V0) (broadcastInDim S38016x4096 ![] bcast_S_S38016x4096 (constant S_ .bf16 0x42E2#16)) (broadcastInDim S38016x4096 ![] bcast_S_S38016x4096 (constant S_ .bf16 0x42B2#16))) (select (res_main_v17 V0) (broadcastInDim S38016x4096 ![] bcast_S_S38016x4096 (constant S_ .bf16 0x428A#16)) (broadcastInDim S38016x4096 ![] bcast_S_S38016x4096 (constant S_ .bf16 0x4254#16))) := by
  unfold val1
  simp only [ops_part0_2, TRef.ternary, TRef.unary, TRef.toBuf, TRef.ofBuf, cast_eq]
  after_results_simp
  simp only [val0_2_main_v24, val0_2_main_cst_17, val0_2_main_call7_v0, val0_2_main_v17, val0_2_main_v10] <;> rfl

/-- The device's buffer contents after @main's first 106 operations. -/
def val1_1 (V0 : Valuation τ sig (Elt F)) : Valuation τ sig (Elt F) := after ops_part1_0 (val1 V0)
/-- The buffers that window `ops_part1_0`'s operations write. -/
abbrev ops_part1_0_W : List (Ref sig .tc) := [main_c_21, main_v37, main_v38, main_c_22, main_v39, main_v40, main_c_23, main_v41, main_v42, main_v43, main_v44, main_v45, main_c_24, main_v46, main_v47, main_c_25, main_v48, main_v49, main_c_26, main_v50, main_v51, main_v52, main_v53, main_v54, main_c_27, main_v55, main_v56, main_c_28, main_v57, main_v58]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v2 (V0 : Valuation τ sig (Elt F)) : val1_1 V0 (no_index (Proc.devRef .tc main_v2)) = shapeCast _ (extractStridedSlice S64x256x16 ![0, 0, 0] (res_main_v0 V0) slices_S64x256x32_S64x256x16_0_0_0) shapeCasts_S64x256x16_S64x4096 :=
  (val1_1_keep V0 main_v2 (by decide)).trans (val1_main_v2 V0)
theorem val1_1_main_v4 (V0 : Valuation τ sig (Elt F)) : val1_1 V0 (no_index (Proc.devRef .tc main_v4)) = shapeCast _ (extractStridedSlice S64x256x16 ![0, 0, 16] (res_main_v0 V0) slices_S64x256x32_S64x256x16_0_0_16) shapeCasts_S64x256x16_S64x4096 :=
  (val1_1_keep V0 main_v4 (by decide)).trans (val1_main_v4 V0)
theorem val1_1_main_v7 (V0 : Valuation τ sig (Elt F)) : val1_1 V0 (no_index (Proc.devRef .tc main_v7)) = res_main_v7 V0 :=
  (val1_1_keep V0 main_v7 (by decide)).trans (val1_main_v7 V0)
set_option maxRecDepth 8192 in
set_option maxHeartbeats 2000000 in
theorem val1_1_main_v54 (V0 : Valuation τ sig (Elt F)) : val1_1 V0 (no_index (Proc.devRef .tc main_v54)) = mulf (select (id (cmpi .ne (andi (Host.shrsi (res_main_v10 V0) (broadcastInDim S38016x4096 ![] bcast_S_S38016x4096 (constantI S_ 32 3#32))) (broadcastInDim S38016x4096 ![] bcast_S_S38016x4096 (constantI S_ 32 1#32))) (broadcastInDim S38016x4096 ![] bcast_S_S38016x4096 (constantI S_ 32 0#32)))) (select (res_main_v43 V0) (select (res_main_v32 V0) (select (res_main_v17 V0) (broadcastInDim S38016x4096 ![] bcast_S_S38016x4096 (constant S_ .bf16 0x42E2#16)) (broadcastInDim S38016x4096 ![] bcast_S_S38016x4096 (constant S_ .bf16 0x42B2#16))) (select (res_main_v17 V0) (broadcastInDim S38016x4096 ![] bcast_S_S38016x4096 (constant S_ .bf16 0x428A#16)) (broadcastInDim S38016x4096 ![] bcast_S_S38016x4096 (constant S_ .bf16 0x4254#16)))) (select (res_main_v32 V0) (select (res_main_v17 V0) (broadcastInDim S38016x4096 ![] bcast_S_S38016x4096 (constant S_ .bf16 0x4218#16)) (broadcastInDim S38016x4096 ![] bcast_S_S38016x4096 (constant S_ .bf16 0x41C8#16))) (select (res_main_v17 V0) (broadcastInDim S38016x4096 ![] bcast_S_S38016x4096 (constant S_ .bf16 0x4150#16)) (broadcastInDim S38016x4096 ![] bcast_S_S38016x4096 (constant S_ .bf16 0x3F80#16))))) (select (res_main_v43 V0) (select (res_main_v32 V0) (select (res_main_v17 V0) (broadcastInDim S38016x4096 ![] bcast_S_S38016x4096 (constant S_ .bf16 0xC120#16)) (broadcastInDim S38016x4096 ![] bcast_S_S38016x4096 (constant S_ .bf16 0xC1B0#16))) (select (res_main_v17 V0) (broadcastInDim S38016x4096 ![] bcast_S_S38016x4096 (constant S_ .bf16 0xC20C#16)) (broadcastInDim S38016x4096 ![] bcast_S_S38016x4096 (constant S_ .bf16 0xC244#16)))) (select (res_main_v32 V0) (select (res_main_v17 V0) (broadcastInDim S38016x4096 ![] bcast_S_S38016x4096 (constant S_ .bf16 0xC282#16)) (broadcastInDim S38016x4096 ![] bcast_S_S38016x4096 (constant S_ .bf16 0xC2A6#16))) (select (res_main_v17 V0) (broadcastInDim S38016x4096 ![] bcast_S_S38016x4096 (constant S_ .bf16 0xC2D0#16)) (broadcastInDim S38016x4096 ![] bcast_S_S38016x4096 (constant S_ .bf16 0xC2FE#16)))))) (res_main_v7 V0) := by
  unfold val1_1
  simp only [ops_part1_0, TRef.ternary, TRef.toBuf, TRef.ofBuf, cast_eq]
  after_results_simp
  simp only [val1_main_v7, val1_main_v33, val1_main_v34, val1_main_v10, val1_main_v35, val1_main_v36] <;> rfl
set_option maxRecDepth 8192 in
set_option maxHeartbeats 2000000 in
theorem val1_1_main_v56 (V0 : Valuation τ sig (Elt F)) : val1_1 V0 (no_index (Proc.devRef .tc main_v56)) = res_main_v56 V0 := by
  unfold val1_1
  simp only [ops_part1_0, TRef.ternary, TRef.toBuf, TRef.ofBuf, cast_eq]
  after_results_simp
  simp only [val1_main_v8] <;> rfl
set_option maxRecDepth 8192 in
set_option maxHeartbeats 2000000 in
theorem val1_1_main_v58 (V0 : Valuation τ sig (Elt F)) : val1_1 V0 (no_index (Proc.devRef .tc main_v58)) = Host.shrsi (res_main_v56 V0) (broadcastInDim S38016x4096 ![] bcast_S_S38016x4096 (constantI S_ 32 0#32)) := by
  unfold val1_1
  simp only [ops_part1_0, TRef.ternary, TRef.toBuf, TRef.ofBuf, cast_eq]
  after_results_simp
  simp only [val1_main_v8] <;> rfl

/-- The device's buffer contents after @main's first 136 operations. -/
def val1_2 (V0 : Valuation τ sig (Elt F)) : Valuation τ sig (Elt F) := after ops_part1_1 (val1_1 V0)
/-- The buffers that window `ops_part1_1`'s operations write. -/
abbrev ops_part1_1_W : List (Ref sig .tc) := [main_c_29, main_v59, main_v60, main_c_30, main_v61, main_v62, main_v63, main_cst_31, main_cst_32, main_call15_v0, main_call15_v1, main_v64, main_cst_33, main_cst_34, main_call16_v0, main_call16_v1, main_v65, main_cst_35, main_cst_36, main_call17_v0, main_call17_v1, main_v66, main_cst_37, main_cst_38, main_call18_v0, main_call18_v1, main_v67, main_cst_39, main_cst_40, main_call19_v0]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v2 (V0 : Valuation τ sig (Elt F)) : val1_2 V0 (no_index (Proc.devRef .tc main_v2)) = shapeCast _ (extractStridedSlice S64x256x16 ![0, 0, 0] (res_main_v0 V0) slices_S64x256x32_S64x256x16_0_0_0) shapeCasts_S64x256x16_S64x4096 :=
  (val1_2_keep V0 main_v2 (by decide)).trans (val1_1_main_v2 V0)
theorem val1_2_main_v4 (V0 : Valuation τ sig (Elt F)) : val1_2 V0 (no_index (Proc.devRef .tc main_v4)) = shapeCast _ (extractStridedSlice S64x256x16 ![0, 0, 16] (res_main_v0 V0) slices_S64x256x32_S64x256x16_0_0_16) shapeCasts_S64x256x16_S64x4096 :=
  (val1_2_keep V0 main_v4 (by decide)).trans (val1_1_main_v4 V0)
theorem val1_2_main_v7 (V0 : Valuation τ sig (Elt F)) : val1_2 V0 (no_index (Proc.devRef .tc main_v7)) = res_main_v7 V0 :=
  (val1_2_keep V0 main_v7 (by decide)).trans (val1_1_main_v7 V0)
theorem val1_2_main_v54 (V0 : Valuation τ sig (Elt F)) : val1_2 V0 (no_index (Proc.devRef .tc main_v54)) = mulf (select (id (cmpi .ne (andi (Host.shrsi (res_main_v10 V0) (broadcastInDim S38016x4096 ![] bcast_S_S38016x4096 (constantI S_ 32 3#32))) (broadcastInDim S38016x4096 ![] bcast_S_S38016x4096 (constantI S_ 32 1#32))) (broadcastInDim S38016x4096 ![] bcast_S_S38016x4096 (constantI S_ 32 0#32)))) (select (res_main_v43 V0) (select (res_main_v32 V0) (select (res_main_v17 V0) (broadcastInDim S38016x4096 ![] bcast_S_S38016x4096 (constant S_ .bf16 0x42E2#16)) (broadcastInDim S38016x4096 ![] bcast_S_S38016x4096 (constant S_ .bf16 0x42B2#16))) (select (res_main_v17 V0) (broadcastInDim S38016x4096 ![] bcast_S_S38016x4096 (constant S_ .bf16 0x428A#16)) (broadcastInDim S38016x4096 ![] bcast_S_S38016x4096 (constant S_ .bf16 0x4254#16)))) (select (res_main_v32 V0) (select (res_main_v17 V0) (broadcastInDim S38016x4096 ![] bcast_S_S38016x4096 (constant S_ .bf16 0x4218#16)) (broadcastInDim S38016x4096 ![] bcast_S_S38016x4096 (constant S_ .bf16 0x41C8#16))) (select (res_main_v17 V0) (broadcastInDim S38016x4096 ![] bcast_S_S38016x4096 (constant S_ .bf16 0x4150#16)) (broadcastInDim S38016x4096 ![] bcast_S_S38016x4096 (constant S_ .bf16 0x3F80#16))))) (select (res_main_v43 V0) (select (res_main_v32 V0) (select (res_main_v17 V0) (broadcastInDim S38016x4096 ![] bcast_S_S38016x4096 (constant S_ .bf16 0xC120#16)) (broadcastInDim S38016x4096 ![] bcast_S_S38016x4096 (constant S_ .bf16 0xC1B0#16))) (select (res_main_v17 V0) (broadcastInDim S38016x4096 ![] bcast_S_S38016x4096 (constant S_ .bf16 0xC20C#16)) (broadcastInDim S38016x4096 ![] bcast_S_S38016x4096 (constant S_ .bf16 0xC244#16)))) (select (res_main_v32 V0) (select (res_main_v17 V0) (broadcastInDim S38016x4096 ![] bcast_S_S38016x4096 (constant S_ .bf16 0xC282#16)) (broadcastInDim S38016x4096 ![] bcast_S_S38016x4096 (constant S_ .bf16 0xC2A6#16))) (select (res_main_v17 V0) (broadcastInDim S38016x4096 ![] bcast_S_S38016x4096 (constant S_ .bf16 0xC2D0#16)) (broadcastInDim S38016x4096 ![] bcast_S_S38016x4096 (constant S_ .bf16 0xC2FE#16)))))) (res_main_v7 V0) :=
  (val1_2_keep V0 main_v54 (by decide)).trans (val1_1_main_v54 V0)
theorem val1_2_main_v56 (V0 : Valuation τ sig (Elt F)) : val1_2 V0 (no_index (Proc.devRef .tc main_v56)) = res_main_v56 V0 :=
  (val1_2_keep V0 main_v56 (by decide)).trans (val1_1_main_v56 V0)
set_option maxRecDepth 8192 in
set_option maxHeartbeats 2000000 in
theorem val1_2_main_v63 (V0 : Valuation τ sig (Elt F)) : val1_2 V0 (no_index (Proc.devRef .tc main_v63)) = res_main_v63 V0 := by
  unfold val1_2
  simp only [ops_part1_1, TRef.ternary, TRef.unary, TRef.toBuf, TRef.ofBuf, cast_eq]
  after_results_simp
  simp only [val1_1_main_v58] <;> rfl
set_option maxRecDepth 8192 in
set_option maxHeartbeats 2000000 in
theorem val1_2_main_v64 (V0 : Valuation τ sig (Elt F)) : val1_2 V0 (no_index (Proc.devRef .tc main_v64)) = select (res_main_v63 V0) (broadcastInDim S38016x4096 ![] bcast_S_S38016x4096 (constant S_ .bf16 0xC2D0#16)) (broadcastInDim S38016x4096 ![] bcast_S_S38016x4096 (constant S_ .bf16 0xC2FE#16)) := by
  unfold val1_2
  simp only [ops_part1_1, TRef.ternary, TRef.unary, TRef.toBuf, TRef.ofBuf, cast_eq]
  after_results_simp
  simp only [val1_1_main_v58] <;> rfl
set_option maxRecDepth 8192 in
set_option maxHeartbeats 2000000 in
theorem val1_2_main_v65 (V0 : Valuation τ sig (Elt F)) : val1_2 V0 (no_index (Proc.devRef .tc main_v65)) = select (res_main_v63 V0) (broadcastInDim S38016x4096 ![] bcast_S_S38016x4096 (constant S_ .bf16 0xC282#16)) (broadcastInDim S38016x4096 ![] bcast_S_S38016x4096 (constant S_ .bf16 0xC2A6#16)) := by
  unfold val1_2
  simp only [ops_part1_1, TRef.ternary, TRef.unary, TRef.toBuf, TRef.ofBuf, cast_eq]
  after_results_simp
  simp only [val1_1_main_v58] <;> rfl
set_option maxRecDepth 8192 in
set_option maxHeartbeats 2000000 in
theorem val1_2_main_v66 (V0 : Valuation τ sig (Elt F)) : val1_2 V0 (no_index (Proc.devRef .tc main_v66)) = select (res_main_v63 V0) (broadcastInDim S38016x4096 ![] bcast_S_S38016x4096 (constant S_ .bf16 0xC20C#16)) (broadcastInDim S38016x4096 ![] bcast_S_S38016x4096 (constant S_ .bf16 0xC244#16)) := by
  unfold val1_2
  simp only [ops_part1_1, TRef.ternary, TRef.unary, TRef.toBuf, TRef.ofBuf, cast_eq]
  after_results_simp
  simp only [val1_1_main_v58] <;> rfl
set_option maxRecDepth 8192 in
set_option maxHeartbeats 2000000 in
theorem val1_2_main_v67 (V0 : Valuation τ sig (Elt F)) : val1_2 V0 (no_index (Proc.devRef .tc main_v67)) = select (res_main_v63 V0) (broadcastInDim S38016x4096 ![] bcast_S_S38016x4096 (constant S_ .bf16 0xC120#16)) (broadcastInDim S38016x4096 ![] bcast_S_S38016x4096 (constant S_ .bf16 0xC1B0#16)) := by
  unfold val1_2
  simp only [ops_part1_1, TRef.ternary, TRef.unary, TRef.toBuf, TRef.ofBuf, cast_eq]
  after_results_simp
  simp only [val1_1_main_v58] <;> rfl
set_option maxRecDepth 8192 in
set_option maxHeartbeats 2000000 in
theorem val1_2_main_cst_40 (V0 : Valuation τ sig (Elt F)) : val1_2 V0 (no_index (Proc.devRef .tc main_cst_40)) = constant S_ .bf16 0x3F80#16 := by
  unfold val1_2
  simp only [ops_part1_1, TRef.ternary, TRef.unary, TRef.toBuf, TRef.ofBuf, cast_eq]
  after_results_simp
  all_goals rfl
set_option maxRecDepth 8192 in
set_option maxHeartbeats 2000000 in
theorem val1_2_main_call19_v0 (V0 : Valuation τ sig (Elt F)) : val1_2 V0 (no_index (Proc.devRef .tc main_call19_v0)) = broadcastInDim S38016x4096 ![] bcast_S_S38016x4096 (constant S_ .bf16 0x4150#16) := by
  unfold val1_2
  simp only [ops_part1_1, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_call19_v1, main_v68, main_cst_41, main_cst_42, main_call20_v0, main_call20_v1, main_v69, main_cst_43, main_cst_44, main_call21_v0, main_call21_v1, main_v70, main_cst_45, main_cst_46]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v2 (V0 : Valuation τ sig (Elt F)) : val2 V0 (no_index (Proc.devRef .tc main_v2)) = shapeCast _ (extractStridedSlice S64x256x16 ![0, 0, 0] (res_main_v0 V0) slices_S64x256x32_S64x256x16_0_0_0) shapeCasts_S64x256x16_S64x4096 :=
  (val2_keep V0 main_v2 (by decide)).trans (val1_2_main_v2 V0)
theorem val2_main_v4 (V0 : Valuation τ sig (Elt F)) : val2 V0 (no_index (Proc.devRef .tc main_v4)) = shapeCast _ (extractStridedSlice S64x256x16 ![0, 0, 16] (res_main_v0 V0) slices_S64x256x32_S64x256x16_0_0_16) shapeCasts_S64x256x16_S64x4096 :=
  (val2_keep V0 main_v4 (by decide)).trans (val1_2_main_v4 V0)
theorem val2_main_v7 (V0 : Valuation τ sig (Elt F)) : val2 V0 (no_index (Proc.devRef .tc main_v7)) = res_main_v7 V0 :=
  (val2_keep V0 main_v7 (by decide)).trans (val1_2_main_v7 V0)
theorem val2_main_v54 (V0 : Valuation τ sig (Elt F)) : val2 V0 (no_index (Proc.devRef .tc main_v54)) = mulf (select (id (cmpi .ne (andi (Host.shrsi (res_main_v10 V0) (broadcastInDim S38016x4096 ![] bcast_S_S38016x4096 (constantI S_ 32 3#32))) (broadcastInDim S38016x4096 ![] bcast_S_S38016x4096 (constantI S_ 32 1#32))) (broadcastInDim S38016x4096 ![] bcast_S_S38016x4096 (constantI S_ 32 0#32)))) (select (res_main_v43 V0) (select (res_main_v32 V0) (select (res_main_v17 V0) (broadcastInDim S38016x4096 ![] bcast_S_S38016x4096 (constant S_ .bf16 0x42E2#16)) (broadcastInDim S38016x4096 ![] bcast_S_S38016x4096 (constant S_ .bf16 0x42B2#16))) (select (res_main_v17 V0) (broadcastInDim S38016x4096 ![] bcast_S_S38016x4096 (constant S_ .bf16 0x428A#16)) (broadcastInDim S38016x4096 ![] bcast_S_S38016x4096 (constant S_ .bf16 0x4254#16)))) (select (res_main_v32 V0) (select (res_main_v17 V0) (broadcastInDim S38016x4096 ![] bcast_S_S38016x4096 (constant S_ .bf16 0x4218#16)) (broadcastInDim S38016x4096 ![] bcast_S_S38016x4096 (constant S_ .bf16 0x41C8#16))) (select (res_main_v17 V0) (broadcastInDim S38016x4096 ![] bcast_S_S38016x4096 (constant S_ .bf16 0x4150#16)) (broadcastInDim S38016x4096 ![] bcast_S_S38016x4096 (constant S_ .bf16 0x3F80#16))))) (select (res_main_v43 V0) (select (res_main_v32 V0) (select (res_main_v17 V0) (broadcastInDim S38016x4096 ![] bcast_S_S38016x4096 (constant S_ .bf16 0xC120#16)) (broadcastInDim S38016x4096 ![] bcast_S_S38016x4096 (constant S_ .bf16 0xC1B0#16))) (select (res_main_v17 V0) (broadcastInDim S38016x4096 ![] bcast_S_S38016x4096 (constant S_ .bf16 0xC20C#16)) (broadcastInDim S38016x4096 ![] bcast_S_S38016x4096 (constant S_ .bf16 0xC244#16)))) (select (res_main_v32 V0) (select (res_main_v17 V0) (broadcastInDim S38016x4096 ![] bcast_S_S38016x4096 (constant S_ .bf16 0xC282#16)) (broadcastInDim S38016x4096 ![] bcast_S_S38016x4096 (constant S_ .bf16 0xC2A6#16))) (select (res_main_v17 V0) (broadcastInDim S38016x4096 ![] bcast_S_S38016x4096 (constant S_ .bf16 0xC2D0#16)) (broadcastInDim S38016x4096 ![] bcast_S_S38016x4096 (constant S_ .bf16 0xC2FE#16)))))) (res_main_v7 V0) :=
  (val2_keep V0 main_v54 (by decide)).trans (val1_2_main_v54 V0)
theorem val2_main_v56 (V0 : Valuation τ sig (Elt F)) : val2 V0 (no_index (Proc.devRef .tc main_v56)) = res_main_v56 V0 :=
  (val2_keep V0 main_v56 (by decide)).trans (val1_2_main_v56 V0)
theorem val2_main_v63 (V0 : Valuation τ sig (Elt F)) : val2 V0 (no_index (Proc.devRef .tc main_v63)) = res_main_v63 V0 :=
  (val2_keep V0 main_v63 (by decide)).trans (val1_2_main_v63 V0)
theorem val2_main_v64 (V0 : Valuation τ sig (Elt F)) : val2 V0 (no_index (Proc.devRef .tc main_v64)) = select (res_main_v63 V0) (broadcastInDim S38016x4096 ![] bcast_S_S38016x4096 (constant S_ .bf16 0xC2D0#16)) (broadcastInDim S38016x4096 ![] bcast_S_S38016x4096 (constant S_ .bf16 0xC2FE#16)) :=
  (val2_keep V0 main_v64 (by decide)).trans (val1_2_main_v64 V0)
theorem val2_main_v65 (V0 : Valuation τ sig (Elt F)) : val2 V0 (no_index (Proc.devRef .tc main_v65)) = select (res_main_v63 V0) (broadcastInDim S38016x4096 ![] bcast_S_S38016x4096 (constant S_ .bf16 0xC282#16)) (broadcastInDim S38016x4096 ![] bcast_S_S38016x4096 (constant S_ .bf16 0xC2A6#16)) :=
  (val2_keep V0 main_v65 (by decide)).trans (val1_2_main_v65 V0)
theorem val2_main_v66 (V0 : Valuation τ sig (Elt F)) : val2 V0 (no_index (Proc.devRef .tc main_v66)) = select (res_main_v63 V0) (broadcastInDim S38016x4096 ![] bcast_S_S38016x4096 (constant S_ .bf16 0xC20C#16)) (broadcastInDim S38016x4096 ![] bcast_S_S38016x4096 (constant S_ .bf16 0xC244#16)) :=
  (val2_keep V0 main_v66 (by decide)).trans (val1_2_main_v66 V0)
theorem val2_main_v67 (V0 : Valuation τ sig (Elt F)) : val2 V0 (no_index (Proc.devRef .tc main_v67)) = select (res_main_v63 V0) (broadcastInDim S38016x4096 ![] bcast_S_S38016x4096 (constant S_ .bf16 0xC120#16)) (broadcastInDim S38016x4096 ![] bcast_S_S38016x4096 (constant S_ .bf16 0xC1B0#16)) :=
  (val2_keep V0 main_v67 (by decide)).trans (val1_2_main_v67 V0)
set_option maxRecDepth 8192 in
set_option maxHeartbeats 1400000 in
theorem val2_main_v68 (V0 : Valuation τ sig (Elt F)) : val2 V0 (no_index (Proc.devRef .tc main_v68)) = select (res_main_v63 V0) (broadcastInDim S38016x4096 ![] bcast_S_S38016x4096 (constant S_ .bf16 0x4150#16)) (broadcastInDim S38016x4096 ![] bcast_S_S38016x4096 (constant S_ .bf16 0x3F80#16)) := by
  unfold val2
  simp only [ops_part1_2, TRef.ternary, TRef.unary, TRef.toBuf, TRef.ofBuf, cast_eq]
  after_results_simp
  simp only [val1_2_main_cst_40, val1_2_main_call19_v0, val1_2_main_v63] <;> rfl
set_option maxRecDepth 8192 in
set_option maxHeartbeats 1400000 in
theorem val2_main_v69 (V0 : Valuation τ sig (Elt F)) : val2 V0 (no_index (Proc.devRef .tc main_v69)) = select (res_main_v63 V0) (broadcastInDim S38016x4096 ![] bcast_S_S38016x4096 (constant S_ .bf16 0x4218#16)) (broadcastInDim S38016x4096 ![] bcast_S_S38016x4096 (constant S_ .bf16 0x41C8#16)) := by
  unfold val2
  simp only [ops_part1_2, TRef.ternary, TRef.unary, TRef.toBuf, TRef.ofBuf, cast_eq]
  after_results_simp
  simp only [val1_2_main_v63] <;> rfl
set_option maxRecDepth 8192 in
set_option maxHeartbeats 1400000 in
theorem val2_main_v70 (V0 : Valuation τ sig (Elt F)) : val2 V0 (no_index (Proc.devRef .tc main_v70)) = select (res_main_v63 V0) (broadcastInDim S38016x4096 ![] bcast_S_S38016x4096 (constant S_ .bf16 0x428A#16)) (broadcastInDim S38016x4096 ![] bcast_S_S38016x4096 (constant S_ .bf16 0x4254#16)) := by
  unfold val2
  simp only [ops_part1_2, TRef.ternary, TRef.unary, TRef.toBuf, TRef.ofBuf, cast_eq]
  after_results_simp
  simp only [val1_2_main_v63] <;> rfl
set_option maxRecDepth 8192 in
set_option maxHeartbeats 1400000 in
theorem val2_main_cst_45 (V0 : Valuation τ sig (Elt F)) : val2 V0 (no_index (Proc.devRef .tc main_cst_45)) = constant S_ .bf16 0x42E2#16 := by
  unfold val2
  simp only [ops_part1_2, TRef.ternary, TRef.unary, TRef.toBuf, TRef.ofBuf, cast_eq]
  after_results_simp
  all_goals rfl
set_option maxRecDepth 8192 in
set_option maxHeartbeats 1400000 in
theorem val2_main_cst_46 (V0 : Valuation τ sig (Elt F)) : val2 V0 (no_index (Proc.devRef .tc main_cst_46)) = constant S_ .bf16 0x42B2#16 := by
  unfold val2
  simp only [ops_part1_2, TRef.ternary, TRef.unary, TRef.toBuf, TRef.ofBuf, cast_eq]
  after_results_simp
  all_goals rfl

/-- The device's buffer contents after @main's first 180 operations. -/
def val2_1 (V0 : Valuation τ sig (Elt F)) : Valuation τ sig (Elt F) := after ops_part2_0 (val2 V0)
/-- The buffers that window `ops_part2_0`'s operations write. -/
abbrev ops_part2_0_W : List (Ref sig .tc) := [main_call22_v0, main_call22_v1, main_v71, main_c_47, main_v72, main_v73, main_c_48, main_v74, main_v75, main_c_49, main_v76, main_v77, main_v78, main_v79, main_v80, main_v81, main_v82, main_c_50, main_v83, main_v84, main_c_51, main_v85, main_v86, main_c_52, main_v87, main_v88, main_v89, main_v90, main_v91, main_c_53]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_v2 (V0 : Valuation τ sig (Elt F)) : val2_1 V0 (no_index (Proc.devRef .tc main_v2)) = shapeCast _ (extractStridedSlice S64x256x16 ![0, 0, 0] (res_main_v0 V0) slices_S64x256x32_S64x256x16_0_0_0) shapeCasts_S64x256x16_S64x4096 :=
  (val2_1_keep V0 main_v2 (by decide)).trans (val2_main_v2 V0)
theorem val2_1_main_v4 (V0 : Valuation τ sig (Elt F)) : val2_1 V0 (no_index (Proc.devRef .tc main_v4)) = shapeCast _ (extractStridedSlice S64x256x16 ![0, 0, 16] (res_main_v0 V0) slices_S64x256x32_S64x256x16_0_0_16) shapeCasts_S64x256x16_S64x4096 :=
  (val2_1_keep V0 main_v4 (by decide)).trans (val2_main_v4 V0)
theorem val2_1_main_v7 (V0 : Valuation τ sig (Elt F)) : val2_1 V0 (no_index (Proc.devRef .tc main_v7)) = res_main_v7 V0 :=
  (val2_1_keep V0 main_v7 (by decide)).trans (val2_main_v7 V0)
theorem val2_1_main_v54 (V0 : Valuation τ sig (Elt F)) : val2_1 V0 (no_index (Proc.devRef .tc main_v54)) = mulf (select (id (cmpi .ne (andi (Host.shrsi (res_main_v10 V0) (broadcastInDim S38016x4096 ![] bcast_S_S38016x4096 (constantI S_ 32 3#32))) (broadcastInDim S38016x4096 ![] bcast_S_S38016x4096 (constantI S_ 32 1#32))) (broadcastInDim S38016x4096 ![] bcast_S_S38016x4096 (constantI S_ 32 0#32)))) (select (res_main_v43 V0) (select (res_main_v32 V0) (select (res_main_v17 V0) (broadcastInDim S38016x4096 ![] bcast_S_S38016x4096 (constant S_ .bf16 0x42E2#16)) (broadcastInDim S38016x4096 ![] bcast_S_S38016x4096 (constant S_ .bf16 0x42B2#16))) (select (res_main_v17 V0) (broadcastInDim S38016x4096 ![] bcast_S_S38016x4096 (constant S_ .bf16 0x428A#16)) (broadcastInDim S38016x4096 ![] bcast_S_S38016x4096 (constant S_ .bf16 0x4254#16)))) (select (res_main_v32 V0) (select (res_main_v17 V0) (broadcastInDim S38016x4096 ![] bcast_S_S38016x4096 (constant S_ .bf16 0x4218#16)) (broadcastInDim S38016x4096 ![] bcast_S_S38016x4096 (constant S_ .bf16 0x41C8#16))) (select (res_main_v17 V0) (broadcastInDim S38016x4096 ![] bcast_S_S38016x4096 (constant S_ .bf16 0x4150#16)) (broadcastInDim S38016x4096 ![] bcast_S_S38016x4096 (constant S_ .bf16 0x3F80#16))))) (select (res_main_v43 V0) (select (res_main_v32 V0) (select (res_main_v17 V0) (broadcastInDim S38016x4096 ![] bcast_S_S38016x4096 (constant S_ .bf16 0xC120#16)) (broadcastInDim S38016x4096 ![] bcast_S_S38016x4096 (constant S_ .bf16 0xC1B0#16))) (select (res_main_v17 V0) (broadcastInDim S38016x4096 ![] bcast_S_S38016x4096 (constant S_ .bf16 0xC20C#16)) (broadcastInDim S38016x4096 ![] bcast_S_S38016x4096 (constant S_ .bf16 0xC244#16)))) (select (res_main_v32 V0) (select (res_main_v17 V0) (broadcastInDim S38016x4096 ![] bcast_S_S38016x4096 (constant S_ .bf16 0xC282#16)) (broadcastInDim S38016x4096 ![] bcast_S_S38016x4096 (constant S_ .bf16 0xC2A6#16))) (select (res_main_v17 V0) (broadcastInDim S38016x4096 ![] bcast_S_S38016x4096 (constant S_ .bf16 0xC2D0#16)) (broadcastInDim S38016x4096 ![] bcast_S_S38016x4096 (constant S_ .bf16 0xC2FE#16)))))) (res_main_v7 V0) :=
  (val2_1_keep V0 main_v54 (by decide)).trans (val2_main_v54 V0)
theorem val2_1_main_v56 (V0 : Valuation τ sig (Elt F)) : val2_1 V0 (no_index (Proc.devRef .tc main_v56)) = res_main_v56 V0 :=
  (val2_1_keep V0 main_v56 (by decide)).trans (val2_main_v56 V0)
set_option maxRecDepth 8192 in
set_option maxHeartbeats 2000000 in
theorem val2_1_main_v90 (V0 : Valuation τ sig (Elt F)) : val2_1 V0 (no_index (Proc.devRef .tc main_v90)) = select (res_main_v89 V0) (select (res_main_v78 V0) (select (res_main_v63 V0) (broadcastInDim S38016x4096 ![] bcast_S_S38016x4096 (constant S_ .bf16 0xC120#16)) (broadcastInDim S38016x4096 ![] bcast_S_S38016x4096 (constant S_ .bf16 0xC1B0#16))) (select (res_main_v63 V0) (broadcastInDim S38016x4096 ![] bcast_S_S38016x4096 (constant S_ .bf16 0xC20C#16)) (broadcastInDim S38016x4096 ![] bcast_S_S38016x4096 (constant S_ .bf16 0xC244#16)))) (select (res_main_v78 V0) (select (res_main_v63 V0) (broadcastInDim S38016x4096 ![] bcast_S_S38016x4096 (constant S_ .bf16 0xC282#16)) (broadcastInDim S38016x4096 ![] bcast_S_S38016x4096 (constant S_ .bf16 0xC2A6#16))) (select (res_main_v63 V0) (broadcastInDim S38016x4096 ![] bcast_S_S38016x4096 (constant S_ .bf16 0xC2D0#16)) (broadcastInDim S38016x4096 ![] bcast_S_S38016x4096 (constant S_ .bf16 0xC2FE#16)))) := by
  unfold val2_1
  simp only [ops_part2_0, TRef.ternary, TRef.unary, TRef.toBuf, TRef.ofBuf, cast_eq]
  after_results_simp
  simp only [val2_main_v64, val2_main_v65, val2_main_v56, val2_main_v66, val2_main_v67] <;> rfl
set_option maxRecDepth 8192 in
set_option maxHeartbeats 2000000 in
theorem val2_1_main_v91 (V0 : Valuation τ sig (Elt F)) : val2_1 V0 (no_index (Proc.devRef .tc main_v91)) = select (res_main_v89 V0) (select (res_main_v78 V0) (select (res_main_v63 V0) (broadcastInDim S38016x4096 ![] bcast_S_S38016x4096 (constant S_ .bf16 0x42E2#16)) (broadcastInDim S38016x4096 ![] bcast_S_S38016x4096 (constant S_ .bf16 0x42B2#16))) (select (res_main_v63 V0) (broadcastInDim S38016x4096 ![] bcast_S_S38016x4096 (constant S_ .bf16 0x428A#16)) (broadcastInDim S38016x4096 ![] bcast_S_S38016x4096 (constant S_ .bf16 0x4254#16)))) (select (res_main_v78 V0) (select (res_main_v63 V0) (broadcastInDim S38016x4096 ![] bcast_S_S38016x4096 (constant S_ .bf16 0x4218#16)) (broadcastInDim S38016x4096 ![] bcast_S_S38016x4096 (constant S_ .bf16 0x41C8#16))) (select (res_main_v63 V0) (broadcastInDim S38016x4096 ![] bcast_S_S38016x4096 (constant S_ .bf16 0x4150#16)) (broadcastInDim S38016x4096 ![] bcast_S_S38016x4096 (constant S_ .bf16 0x3F80#16)))) := by
  unfold val2_1
  simp only [ops_part2_0, TRef.ternary, TRef.unary, TRef.toBuf, TRef.ofBuf, cast_eq]
  after_results_simp
  simp only [val2_main_v68, val2_main_v69, val2_main_v56, val2_main_v70, val2_main_cst_46, val2_main_cst_45, val2_main_v63] <;> rfl
set_option maxRecDepth 8192 in
set_option maxHeartbeats 2000000 in
theorem val2_1_main_c_53 (V0 : Valuation τ sig (Elt F)) : val2_1 V0 (no_index (Proc.devRef .tc main_c_53)) = constantI S_ 32 3#32 := by
  unfold val2_1
  simp only [ops_part2_0, TRef.ternary, TRef.unary, TRef.toBuf, TRef.ofBuf, cast_eq]
  after_results_simp
  all_goals rfl

/-- The device's buffer contents after @main's first 210 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v92, main_v93, main_c_54, main_v94, main_v95, main_c_55, main_v96, main_v97, main_v98, main_v99, main_v100, main_v101, main_v102, main_v103, main_cst_56, main_v104, main_call30_v0, main_call30_cst, main_call30_c, main_call30_v1_0, main_v105, main_v106, main_v107, main_v108, main_v109, main_cst_57, main_call31_v0, main_call31_v1, main_v110, main_cst_58]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
set_option maxRecDepth 8192 in
set_option maxHeartbeats 2000000 in
theorem val2_2_main_v104 (V0 : Valuation τ sig (Elt F)) : val2_2 V0 (no_index (Proc.devRef .tc main_v104)) = res_main_v104 V0 := by
  unfold val2_2
  simp only [ops_part2_1, TRef.nullary, TRef.quaternary, TRef.ternary, TRef.unary, TRef.toBuf, TRef.ofBuf, cast_eq]
  after_results_simp
  simp only [val2_1_main_v7, val2_1_main_v90, val2_1_main_v91, val2_1_main_c_53, val2_1_main_v56, val2_1_main_v4, val2_1_main_v54, val2_1_main_v2] <;> rfl
set_option maxRecDepth 8192 in
set_option maxHeartbeats 2000000 in
theorem val2_2_main_v105 (V0 : Valuation τ sig (Elt F)) : val2_2 V0 (no_index (Proc.devRef .tc main_v105)) = res_main_v105 V0 := by
  unfold val2_2
  simp only [ops_part2_1, TRef.nullary, TRef.quaternary, TRef.ternary, TRef.unary, TRef.toBuf, TRef.ofBuf, cast_eq]
  after_results_simp
  simp only [val2_1_main_v7, val2_1_main_v90, val2_1_main_v91, val2_1_main_c_53, val2_1_main_v56, val2_1_main_v4, val2_1_main_v54, val2_1_main_v2] <;> rfl
set_option maxRecDepth 8192 in
set_option maxHeartbeats 2000000 in
theorem val2_2_main_v110 (V0 : Valuation τ sig (Elt F)) : val2_2 V0 (no_index (Proc.devRef .tc main_v110)) = select (cmpi .eq (iotaInDim S64x38016 32 1) (broadcastInDim S64x38016 ![0, 1] bcast_S64x1_S64x38016_0_1 (broadcastInDim S64x1 ![0] bcast_S64_S64x1_0 (res_main_v105 V0)))) (broadcastInDim S64x38016 ![] bcast_S_S64x38016 (id (constant S_ .f32 0xFF800000#32))) (res_main_v103 V0) := by
  unfold val2_2
  simp only [ops_part2_1, TRef.nullary, TRef.quaternary, TRef.ternary, TRef.unary, TRef.toBuf, TRef.ofBuf, cast_eq]
  after_results_simp
  simp only [val2_1_main_v7, val2_1_main_v90, val2_1_main_v91, val2_1_main_c_53, val2_1_main_v56, val2_1_main_v4, val2_1_main_v54, val2_1_main_v2] <;> rfl
set_option maxRecDepth 8192 in
set_option maxHeartbeats 2000000 in
theorem val2_2_main_cst_58 (V0 : Valuation τ sig (Elt F)) : val2_2 V0 (no_index (Proc.devRef .tc main_cst_58)) = constant S_ .f32 0xFF800000#32 := by
  unfold val2_2
  simp only [ops_part2_1, TRef.nullary, TRef.quaternary, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v111, main_v112, main_v113, main_v114, main_v115]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
set_option maxRecDepth 8192 in
theorem val3_main_v113 (V0 : Valuation τ sig (Elt F)) : val3 V0 (no_index (Proc.devRef .tc main_v113)) = shapeCast _ (res_main_v105 V0) shapeCasts_S64_S64x1 := by
  unfold val3
  simp only [ops_part2_2]
  after_results_simp
  simp only [val2_2_main_v105] <;> rfl
set_option maxRecDepth 8192 in
theorem val3_main_v114 (V0 : Valuation τ sig (Elt F)) : val3 V0 (no_index (Proc.devRef .tc main_v114)) = shapeCast _ (subf (res_main_v104 V0) (Host.reduce FloatOps.maximumf (select (cmpi .eq (iotaInDim S64x38016 32 1) (broadcastInDim S64x38016 ![0, 1] bcast_S64x1_S64x38016_0_1 (broadcastInDim S64x1 ![0] bcast_S64_S64x1_0 (res_main_v105 V0)))) (broadcastInDim S64x38016 ![] bcast_S_S64x38016 (id (constant S_ .f32 0xFF800000#32))) (res_main_v103 V0)) (constant S_ .f32 0xFF800000#32) reducesTo_S64x38016_S64_d1 h_S_)) shapeCasts_S64_S64x1 := by
  unfold val3
  simp only [ops_part2_2]
  after_results_simp
  simp only [val2_2_main_cst_58, val2_2_main_v110, val2_2_main_v104] <;> rfl
set_option maxRecDepth 8192 in
theorem val3_main_v115 (V0 : Valuation τ sig (Elt F)) : val3 V0 (no_index (Proc.devRef .tc main_v115)) = shapeCast _ (res_main_v104 V0) shapeCasts_S64_S64x1 := by
  unfold val3
  simp only [ops_part2_2]
  after_results_simp
  simp only [val2_2_main_v104] <;> rfl

theorem after_ops (V0 : Valuation τ sig (Elt F)) : after ops V0 = val3 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113) = shapeCast _ (res_main_v105 (launchContents m c)) shapeCasts_S64_S64x1
      ∧ r.2.mem ((c.tc : Thread nD τ).loc main_v114) = shapeCast _ (subf (res_main_v104 (launchContents m c)) (Host.reduce FloatOps.maximumf (select (cmpi .eq (iotaInDim S64x38016 32 1) (broadcastInDim S64x38016 ![0, 1] bcast_S64x1_S64x38016_0_1 (broadcastInDim S64x1 ![0] bcast_S64_S64x1_0 (res_main_v105 (launchContents m c))))) (broadcastInDim S64x38016 ![] bcast_S_S64x38016 (id (constant S_ .f32 0xFF800000#32))) (res_main_v103 (launchContents m c))) (constant S_ .f32 0xFF800000#32) reducesTo_S64x38016_S64_d1 h_S_)) shapeCasts_S64_S64x1
      ∧ r.2.mem ((c.tc : Thread nD τ).loc main_v115) = shapeCast _ (res_main_v104 (launchContents m c)) shapeCasts_S64_S64x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v113).trans ((congrFun (after_ops (launchContents m c)) (Proc.devRef .tc main_v113)).trans (val3_main_v113 (launchContents m c))),
      (h c main_v114).trans ((congrFun (after_ops (launchContents m c)) (Proc.devRef .tc main_v114)).trans (val3_main_v114 (launchContents m c))),
      (h c main_v115).trans ((congrFun (after_ops (launchContents m c)) (Proc.devRef .tc main_v115)).trans (val3_main_v115 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.ReferenceIdeal.Value

end
-- ==== Proof.R.Read.lean ====
/-
  The reference program, one operation at a time. `val_‹buffer›` (one per operation, in program order) is the value the operation
  writes, as a function of the arguments of @main it depends on. `val_‹buffer›_apply` reads it at an index `i` from the operands at
  an index, for each operation whose result element depends on one element of each operand, and for the matrix products and sums at
  `F := Ideal`. `val_‹result›_eq`: a result's term as `run` states it equals its `val_`.
-/
module

public import proofs.«01_k».proof.Proof.R.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg0 : (tensor<64x1x8192xbf16>) -> tensor<64x256x32xbf16>
def val_main_v0 (x0 : (⟨S64x1x8192, .bf16⟩ : BufTy).Contents (Elt F)) : (⟨S64x256x32, .bf16⟩ : BufTy).Contents (Elt F) :=
  shapeCast _ (x0) shapeCasts_S64x1x8192_S64x256x32
set_option backward.proofsInPublic true in
abbrev idx_main_v0 (i : S64x256x32.Idx) : S64x1x8192.Idx := fun a => match a with
  | ⟨0, _⟩ => ⟨(((i 0).val * 256 + (i 1).val) * 32 + (i 2).val) / 8192, by have h0 : (i 0).val < 64 := (i 0).isLt; have h1 : (i 1).val < 256 := (i 1).isLt; have h2 : (i 2).val < 32 := (i 2).isLt; show (((i 0).val * 256 + (i 1).val) * 32 + (i 2).val) / 8192 < 64; omega⟩
  | ⟨1, _⟩ => ⟨0, Nat.one_pos⟩
  | ⟨2, _⟩ => ⟨(((i 0).val * 256 + (i 1).val) * 32 + (i 2).val) % 8192, by have h0 : (i 0).val < 64 := (i 0).isLt; have h1 : (i 1).val < 256 := (i 1).isLt; have h2 : (i 2).val < 32 := (i 2).isLt; show (((i 0).val * 256 + (i 1).val) * 32 + (i 2).val) % 8192 < 8192; omega⟩
theorem val_main_v0_apply (x0 : (⟨S64x1x8192, .bf16⟩ : BufTy).Contents (Elt F)) (i : S64x256x32.Idx) :
    val_main_v0 (F := F) x0 i = x0 (idx_main_v0 i) := by
  unfold val_main_v0
  exact shapeCast_apply x0 shapeCasts_S64x1x8192_S64x256x32 i (idx_main_v0 i)
    (by rewrite [Shape.rowMajor_val_three, Shape.rowMajor_val_three]; have h0 : (i 0).val < 64 := (i 0).isLt; have h1 : (i 1).val < 256 := (i 1).isLt; have h2 : (i 2).val < 32 := (i 2).isLt; show ((((i 0).val * 256 + (i 1).val) * 32 + (i 2).val) / 8192 * 1 + 0) * 8192 + (((i 0).val * 256 + (i 1).val) * 32 + (i 2).val) % 8192 = ((i 0).val * 256 + (i 1).val) * 32 + (i 2).val; omega)

-- %1 = stablehlo.slice %0 [0:64, 0:256, 0:16] : (tensor<64x256x32xbf16>) -> tensor<64x256x16xbf16>
def val_main_v1 (x0 : (⟨S64x1x8192, .bf16⟩ : BufTy).Contents (Elt F)) : (⟨S64x256x16, .bf16⟩ : BufTy).Contents (Elt F) :=
  extractStridedSlice S64x256x16 ![0, 0, 0] (val_main_v0 (F := F) x0) slices_S64x256x32_S64x256x16_0_0_0
set_option backward.proofsInPublic true in
abbrev idx_main_v1 (i : S64x256x16.Idx) : S64x256x32.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 16 := (i 2).isLt; show (i 2).val < 32; omega⟩
theorem val_main_v1_apply (x0 : (⟨S64x1x8192, .bf16⟩ : BufTy).Contents (Elt F)) (i : S64x256x16.Idx) :
    val_main_v1 (F := F) x0 i = val_main_v0 (F := F) x0 (idx_main_v1 i) := by
  unfold val_main_v1
  generalize val_main_v0 (F := F) x0 = y
  exact extractStridedSlice_apply ![0, 0, 0] y slices_S64x256x32_S64x256x16_0_0_0 i (idx_main_v1 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %2 = stablehlo.reshape %1 : (tensor<64x256x16xbf16>) -> tensor<64x4096xbf16>
def val_main_v2 (x0 : (⟨S64x1x8192, .bf16⟩ : BufTy).Contents (Elt F)) : (⟨S64x4096, .bf16⟩ : BufTy).Contents (Elt F) :=
  shapeCast _ (val_main_v1 (F := F) x0) shapeCasts_S64x256x16_S64x4096
set_option backward.proofsInPublic true in
abbrev idx_main_v2 (i : S64x4096.Idx) : S64x256x16.Idx := fun a => match a with
  | ⟨0, _⟩ => ⟨((i 0).val * 4096 + (i 1).val) / 4096, by have h0 : (i 0).val < 64 := (i 0).isLt; have h1 : (i 1).val < 4096 := (i 1).isLt; show ((i 0).val * 4096 + (i 1).val) / 4096 < 64; omega⟩
  | ⟨1, _⟩ => ⟨((i 0).val * 4096 + (i 1).val) / 16 % 256, by have h0 : (i 0).val < 64 := (i 0).isLt; have h1 : (i 1).val < 4096 := (i 1).isLt; show ((i 0).val * 4096 + (i 1).val) / 16 % 256 < 256; omega⟩
  | ⟨2, _⟩ => ⟨((i 0).val * 4096 + (i 1).val) % 16, by have h0 : (i 0).val < 64 := (i 0).isLt; have h1 : (i 1).val < 4096 := (i 1).isLt; show ((i 0).val * 4096 + (i 1).val) % 16 < 16; omega⟩
theorem val_main_v2_apply (x0 : (⟨S64x1x8192, .bf16⟩ : BufTy).Contents (Elt F)) (i : S64x4096.Idx) :
    val_main_v2 (F := F) x0 i = val_main_v1 (F := F) x0 (idx_main_v2 i) := by
  unfold val_main_v2
  generalize val_main_v1 (F := F) x0 = y
  exact shapeCast_apply y shapeCasts_S64x256x16_S64x4096 i (idx_main_v2 i)
    (by rewrite [Shape.rowMajor_val_three, Shape.rowMajor_val_two]; have h0 : (i 0).val < 64 := (i 0).isLt; have h1 : (i 1).val < 4096 := (i 1).isLt; show (((i 0).val * 4096 + (i 1).val) / 4096 * 256 + ((i 0).val * 4096 + (i 1).val) / 16 % 256) * 16 + ((i 0).val * 4096 + (i 1).val) % 16 = (i 0).val * 4096 + (i 1).val; omega)

-- %3 = stablehlo.slice %0 [0:64, 0:256, 16:32] : (tensor<64x256x32xbf16>) -> tensor<64x256x16xbf16>
def val_main_v3 (x0 : (⟨S64x1x8192, .bf16⟩ : BufTy).Contents (Elt F)) : (⟨S64x256x16, .bf16⟩ : BufTy).Contents (Elt F) :=
  extractStridedSlice S64x256x16 ![0, 0, 16] (val_main_v0 (F := F) x0) slices_S64x256x32_S64x256x16_0_0_16
set_option backward.proofsInPublic true in
abbrev idx_main_v3 (i : S64x256x16.Idx) : S64x256x32.Idx := fun a => match a with
  | ⟨0, _⟩ => ⟨(i 0).val, (i 0).isLt⟩
  | ⟨1, _⟩ => ⟨(i 1).val, (i 1).isLt⟩
  | ⟨2, _⟩ => ⟨16 + (i 2).val, by have h2 : (i 2).val < 16 := (i 2).isLt; show 16 + (i 2).val < 32; omega⟩
theorem val_main_v3_apply (x0 : (⟨S64x1x8192, .bf16⟩ : BufTy).Contents (Elt F)) (i : S64x256x16.Idx) :
    val_main_v3 (F := F) x0 i = val_main_v0 (F := F) x0 (idx_main_v3 i) := by
  unfold val_main_v3
  generalize val_main_v0 (F := F) x0 = y
  exact extractStridedSlice_apply ![0, 0, 16] y slices_S64x256x32_S64x256x16_0_0_16 i (idx_main_v3 i) (fun a => match a with
    | ⟨0, _⟩ => by show (i 0).val = 0 + (i 0).val; omega
    | ⟨1, _⟩ => by show (i 1).val = 0 + (i 1).val; omega
    | ⟨2, _⟩ => by show 16 + (i 2).val = 16 + (i 2).val; omega)

-- %4 = stablehlo.reshape %3 : (tensor<64x256x16xbf16>) -> tensor<64x4096xbf16>
def val_main_v4 (x0 : (⟨S64x1x8192, .bf16⟩ : BufTy).Contents (Elt F)) : (⟨S64x4096, .bf16⟩ : BufTy).Contents (Elt F) :=
  shapeCast _ (val_main_v3 (F := F) x0) shapeCasts_S64x256x16_S64x4096
set_option backward.proofsInPublic true in
abbrev idx_main_v4 (i : S64x4096.Idx) : S64x256x16.Idx := fun a => match a with
  | ⟨0, _⟩ => ⟨((i 0).val * 4096 + (i 1).val) / 4096, by have h0 : (i 0).val < 64 := (i 0).isLt; have h1 : (i 1).val < 4096 := (i 1).isLt; show ((i 0).val * 4096 + (i 1).val) / 4096 < 64; omega⟩
  | ⟨1, _⟩ => ⟨((i 0).val * 4096 + (i 1).val) / 16 % 256, by have h0 : (i 0).val < 64 := (i 0).isLt; have h1 : (i 1).val < 4096 := (i 1).isLt; show ((i 0).val * 4096 + (i 1).val) / 16 % 256 < 256; omega⟩
  | ⟨2, _⟩ => ⟨((i 0).val * 4096 + (i 1).val) % 16, by have h0 : (i 0).val < 64 := (i 0).isLt; have h1 : (i 1).val < 4096 := (i 1).isLt; show ((i 0).val * 4096 + (i 1).val) % 16 < 16; omega⟩
theorem val_main_v4_apply (x0 : (⟨S64x1x8192, .bf16⟩ : BufTy).Contents (Elt F)) (i : S64x4096.Idx) :
    val_main_v4 (F := F) x0 i = val_main_v3 (F := F) x0 (idx_main_v4 i) := by
  unfold val_main_v4
  generalize val_main_v3 (F := F) x0 = y
  exact shapeCast_apply y shapeCasts_S64x256x16_S64x4096 i (idx_main_v4 i)
    (by rewrite [Shape.rowMajor_val_three, Shape.rowMajor_val_two]; have h0 : (i 0).val < 64 := (i 0).isLt; have h1 : (i 1).val < 4096 := (i 1).isLt; show (((i 0).val * 4096 + (i 1).val) / 4096 * 256 + ((i 0).val * 4096 + (i 1).val) / 16 % 256) * 16 + ((i 0).val * 4096 + (i 1).val) % 16 = (i 0).val * 4096 + (i 1).val; omega)

-- %5 = stablehlo.broadcast_in_dim %arg2, dims = [0, 1] : (tensor<38016x256xbf16>) -> tensor<38016x256x1xbf16>
def val_main_v5 (x2 : (⟨S38016x256, .bf16⟩ : BufTy).Contents (Elt F)) : (⟨S38016x256x1, .bf16⟩ : BufTy).Contents (Elt F) :=
  broadcastInDim S38016x256x1 ![0, 1] bcast_S38016x256_S38016x256x1_0_1 (x2)
abbrev idx_main_v5 (i : S38016x256x1.Idx) : S38016x256.Idx := fun a => match a with
  | ⟨0, _⟩ => ⟨(i 0).val, (i 0).isLt⟩
  | ⟨1, _⟩ => ⟨(i 1).val, (i 1).isLt⟩
theorem val_main_v5_apply (x2 : (⟨S38016x256, .bf16⟩ : BufTy).Contents (Elt F)) (i : S38016x256x1.Idx) :
    val_main_v5 (F := F) x2 i = x2 (idx_main_v5 i) := by
  unfold val_main_v5
  exact broadcastInDim_apply _ bcast_S38016x256_S38016x256x1_0_1 x2 i (idx_main_v5 i) (fun a => match a with
    | ⟨0, _⟩ => by show (i 0).val = if (38016 : Nat) = 1 then 0 else (i 0).val; rw [if_neg (by decide)]
    | ⟨1, _⟩ => by show (i 1).val = if (256 : Nat) = 1 then 0 else (i 1).val; rw [if_neg (by decide)])

-- %6 = stablehlo.broadcast_in_dim %5, dims = [0, 1, 2] : (tensor<38016x256x1xbf16>) -> tensor<38016x256x16xbf16>
def val_main_v6 (x2 : (⟨S38016x256, .bf16⟩ : BufTy).Contents (Elt F)) : (⟨S38016x256x16, .bf16⟩ : BufTy).Contents (Elt F) :=
  broadcastInDim S38016x256x16 ![0, 1, 2] bcast_S38016x256x1_S38016x256x16_0_1_2 (val_main_v5 (F := F) x2)
abbrev idx_main_v6 (i : S38016x256x16.Idx) : S38016x256x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v6_apply (x2 : (⟨S38016x256, .bf16⟩ : BufTy).Contents (Elt F)) (i : S38016x256x16.Idx) :
    val_main_v6 (F := F) x2 i = val_main_v5 (F := F) x2 (idx_main_v6 i) := by
  unfold val_main_v6
  generalize val_main_v5 (F := F) x2 = y
  exact broadcastInDim_apply _ bcast_S38016x256x1_S38016x256x16_0_1_2 y i (idx_main_v6 i) (fun a => match a with
    | ⟨0, _⟩ => by show (i 0).val = if (38016 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

-- %7 = stablehlo.reshape %6 : (tensor<38016x256x16xbf16>) -> tensor<38016x4096xbf16>
def val_main_v7 (x2 : (⟨S38016x256, .bf16⟩ : BufTy).Contents (Elt F)) : (⟨S38016x4096, .bf16⟩ : BufTy).Contents (Elt F) :=
  shapeCast _ (val_main_v6 (F := F) x2) shapeCasts_S38016x256x16_S38016x4096
set_option backward.proofsInPublic true in
abbrev idx_main_v7 (i : S38016x4096.Idx) : S38016x256x16.Idx := fun a => match a with
  | ⟨0, _⟩ => ⟨((i 0).val * 4096 + (i 1).val) / 4096, by have h0 : (i 0).val < 38016 := (i 0).isLt; have h1 : (i 1).val < 4096 := (i 1).isLt; show ((i 0).val * 4096 + (i 1).val) / 4096 < 38016; omega⟩
  | ⟨1, _⟩ => ⟨((i 0).val * 4096 + (i 1).val) / 16 % 256, by have h0 : (i 0).val < 38016 := (i 0).isLt; have h1 : (i 1).val < 4096 := (i 1).isLt; show ((i 0).val * 4096 + (i 1).val) / 16 % 256 < 256; omega⟩
  | ⟨2, _⟩ => ⟨((i 0).val * 4096 + (i 1).val) % 16, by have h0 : (i 0).val < 38016 := (i 0).isLt; have h1 : (i 1).val < 4096 := (i 1).isLt; show ((i 0).val * 4096 + (i 1).val) % 16 < 16; omega⟩
theorem val_main_v7_apply (x2 : (⟨S38016x256, .bf16⟩ : BufTy).Contents (Elt F)) (i : S38016x4096.Idx) :
    val_main_v7 (F := F) x2 i = val_main_v6 (F := F) x2 (idx_main_v7 i) := by
  unfold val_main_v7
  generalize val_main_v6 (F := F) x2 = y
  exact shapeCast_apply y shapeCasts_S38016x256x16_S38016x4096 i (idx_main_v7 i)
    (by rewrite [Shape.rowMajor_val_three, Shape.rowMajor_val_two]; have h0 : (i 0).val < 38016 := (i 0).isLt; have h1 : (i 1).val < 4096 := (i 1).isLt; show (((i 0).val * 4096 + (i 1).val) / 4096 * 256 + ((i 0).val * 4096 + (i 1).val) / 16 % 256) * 16 + ((i 0).val * 4096 + (i 1).val) % 16 = (i 0).val * 4096 + (i 1).val; omega)

-- %8 = stablehlo.convert %arg1 : (tensor<38016x4096xui8>) -> tensor<38016x4096xi32>
def val_main_v8 (x1 : (⟨S38016x4096, .i8⟩ : BufTy).Contents (Elt F)) : (⟨S38016x4096, .i32⟩ : BufTy).Contents (Elt F) :=
  extui 32 (x1) natLt_8_32
theorem val_main_v8_apply (x1 : (⟨S38016x4096, .i8⟩ : BufTy).Contents (Elt F)) (i : S38016x4096.Idx) :
    val_main_v8 (F := F) x1 i = (x1 i).setWidth 32 := rfl

-- %c = stablehlo.constant dense<15> : tensor<i32>
def val_main_c : (⟨S_, .i32⟩ : BufTy).Contents (Elt F) :=
  constantI S_ 32 15#32
theorem val_main_c_apply (i : S_.Idx) :
    val_main_c (F := F) i = 15#32 := rfl

-- %9 = stablehlo.broadcast_in_dim %c, dims = [] : (tensor<i32>) -> tensor<38016x4096xi32>
def val_main_v9 : (⟨S38016x4096, .i32⟩ : BufTy).Contents (Elt F) :=
  broadcastInDim S38016x4096 ![] bcast_S_S38016x4096 (val_main_c (F := F))
abbrev idx_main_v9 (i : S38016x4096.Idx) : S_.Idx := fun a => a.elim0
theorem val_main_v9_apply (i : S38016x4096.Idx) :
    val_main_v9 (F := F) i = val_main_c (F := F) (idx_main_v9 i) := by
  unfold val_main_v9
  generalize val_main_c (F := F) = y
  exact broadcastInDim_apply _ bcast_S_S38016x4096 y i (idx_main_v9 i) (fun a => a.elim0)

-- %10 = stablehlo.and %8, %9 : tensor<38016x4096xi32>
def val_main_v10 (x1 : (⟨S38016x4096, .i8⟩ : BufTy).Contents (Elt F)) : (⟨S38016x4096, .i32⟩ : BufTy).Contents (Elt F) :=
  andi (val_main_v8 (F := F) x1) (val_main_v9 (F := F))
theorem val_main_v10_apply (x1 : (⟨S38016x4096, .i8⟩ : BufTy).Contents (Elt F)) (i : S38016x4096.Idx) :
    val_main_v10 (F := F) x1 i = IntOp.andi (val_main_v8 (F := F) x1 i) (val_main_v9 (F := F) i) := rfl

-- %c_0 = stablehlo.constant dense<0> : tensor<i32>
def val_main_c_0 : (⟨S_, .i32⟩ : BufTy).Contents (Elt F) :=
  constantI S_ 32 0#32
theorem val_main_c_0_apply (i : S_.Idx) :
    val_main_c_0 (F := F) i = 0#32 := rfl

-- %11 = stablehlo.broadcast_in_dim %c_0, dims = [] : (tensor<i32>) -> tensor<38016x4096xi32>
def val_main_v11 : (⟨S38016x4096, .i32⟩ : BufTy).Contents (Elt F) :=
  broadcastInDim S38016x4096 ![] bcast_S_S38016x4096 (val_main_c_0 (F := F))
abbrev idx_main_v11 (i : S38016x4096.Idx) : S_.Idx := fun a => a.elim0
theorem val_main_v11_apply (i : S38016x4096.Idx) :
    val_main_v11 (F := F) i = val_main_c_0 (F := F) (idx_main_v11 i) := by
  unfold val_main_v11
  generalize val_main_c_0 (F := F) = y
  exact broadcastInDim_apply _ bcast_S_S38016x4096 y i (idx_main_v11 i) (fun a => a.elim0)

-- %12 = stablehlo.shift_right_arithmetic %10, %11 : tensor<38016x4096xi32>
def val_main_v12 (x1 : (⟨S38016x4096, .i8⟩ : BufTy).Contents (Elt F)) : (⟨S38016x4096, .i32⟩ : BufTy).Contents (Elt F) :=
  Host.shrsi (val_main_v10 (F := F) x1) (val_main_v11 (F := F))
theorem val_main_v12_apply (x1 : (⟨S38016x4096, .i8⟩ : BufTy).Contents (Elt F)) (i : S38016x4096.Idx) :
    val_main_v12 (F := F) x1 i = IntOp.shrsi .host (val_main_v10 (F := F) x1 i) (val_main_v11 (F := F) i) := rfl

-- %c_1 = stablehlo.constant dense<1> : tensor<i32>
def val_main_c_1 : (⟨S_, .i32⟩ : BufTy).Contents (Elt F) :=
  constantI S_ 32 1#32
theorem val_main_c_1_apply (i : S_.Idx) :
    val_main_c_1 (F := F) i = 1#32 := rfl

-- %13 = stablehlo.broadcast_in_dim %c_1, dims = [] : (tensor<i32>) -> tensor<38016x4096xi32>
def val_main_v13 : (⟨S38016x4096, .i32⟩ : BufTy).Contents (Elt F) :=
  broadcastInDim S38016x4096 ![] bcast_S_S38016x4096 (val_main_c_1 (F := F))
abbrev idx_main_v13 (i : S38016x4096.Idx) : S_.Idx := fun a => a.elim0
theorem val_main_v13_apply (i : S38016x4096.Idx) :
    val_main_v13 (F := F) i = val_main_c_1 (F := F) (idx_main_v13 i) := by
  unfold val_main_v13
  generalize val_main_c_1 (F := F) = y
  exact broadcastInDim_apply _ bcast_S_S38016x4096 y i (idx_main_v13 i) (fun a => a.elim0)

-- %14 = stablehlo.and %12, %13 : tensor<38016x4096xi32>
def val_main_v14 (x1 : (⟨S38016x4096, .i8⟩ : BufTy).Contents (Elt F)) : (⟨S38016x4096, .i32⟩ : BufTy).Contents (Elt F) :=
  andi (val_main_v12 (F := F) x1) (val_main_v13 (F := F))
theorem val_main_v14_apply (x1 : (⟨S38016x4096, .i8⟩ : BufTy).Contents (Elt F)) (i : S38016x4096.Idx) :
    val_main_v14 (F := F) x1 i = IntOp.andi (val_main_v12 (F := F) x1 i) (val_main_v13 (F := F) i) := rfl

-- %c_2 = stablehlo.constant dense<0> : tensor<i32>
def val_main_c_2 : (⟨S_, .i32⟩ : BufTy).Contents (Elt F) :=
  constantI S_ 32 0#32
theorem val_main_c_2_apply (i : S_.Idx) :
    val_main_c_2 (F := F) i = 0#32 := rfl

-- %15 = stablehlo.broadcast_in_dim %c_2, dims = [] : (tensor<i32>) -> tensor<38016x4096xi32>
def val_main_v15 : (⟨S38016x4096, .i32⟩ : BufTy).Contents (Elt F) :=
  broadcastInDim S38016x4096 ![] bcast_S_S38016x4096 (val_main_c_2 (F := F))
abbrev idx_main_v15 (i : S38016x4096.Idx) : S_.Idx := fun a => a.elim0
theorem val_main_v15_apply (i : S38016x4096.Idx) :
    val_main_v15 (F := F) i = val_main_c_2 (F := F) (idx_main_v15 i) := by
  unfold val_main_v15
  generalize val_main_c_2 (F := F) = y
  exact broadcastInDim_apply _ bcast_S_S38016x4096 y i (idx_main_v15 i) (fun a => a.elim0)

-- %16 = stablehlo.compare NE, %14, %15, SIGNED : (tensor<38016x4096xi32>, tensor<38016x4096xi32>) -> tensor<38016x4096xi1>
def val_main_v16 (x1 : (⟨S38016x4096, .i8⟩ : BufTy).Contents (Elt F)) : (⟨S38016x4096, .i1⟩ : BufTy).Contents (Elt F) :=
  cmpi .ne (val_main_v14 (F := F) x1) (val_main_v15 (F := F))
theorem val_main_v16_apply (x1 : (⟨S38016x4096, .i8⟩ : BufTy).Contents (Elt F)) (i : S38016x4096.Idx) :
    val_main_v16 (F := F) x1 i = IntOp.cmpi .ne (val_main_v14 (F := F) x1 i) (val_main_v15 (F := F) i) := rfl

-- %17 = stablehlo.convert %16 : tensor<38016x4096xi1>
def val_main_v17 (x1 : (⟨S38016x4096, .i8⟩ : BufTy).Contents (Elt F)) : (⟨S38016x4096, .i1⟩ : BufTy).Contents (Elt F) :=
  id (val_main_v16 (F := F) x1)
theorem val_main_v17_apply (x1 : (⟨S38016x4096, .i8⟩ : BufTy).Contents (Elt F)) (i : S38016x4096.Idx) :
    val_main_v17 (F := F) x1 i = (val_main_v16 (F := F) x1 i) := rfl

-- %cst = stablehlo.constant dense<-1.040000e+02> : tensor<bf16>
def val_main_cst : (⟨S_, .bf16⟩ : BufTy).Contents (Elt F) :=
  constant S_ .bf16 0xC2D0#16
theorem val_main_cst_apply (i : S_.Idx) :
    val_main_cst (F := F) i = FloatOps.ofBits .bf16 0xC2D0#16 := rfl

-- %cst_3 = stablehlo.constant dense<-1.270000e+02> : tensor<bf16>
def val_main_cst_3 : (⟨S_, .bf16⟩ : BufTy).Contents (Elt F) :=
  constant S_ .bf16 0xC2FE#16
theorem val_main_cst_3_apply (i : S_.Idx) :
    val_main_cst_3 (F := F) i = FloatOps.ofBits .bf16 0xC2FE#16 := rfl

-- @_where's %0 = stablehlo.broadcast_in_dim %arg1, dims = [] : (tensor<bf16>) -> tensor<38016x4096xbf16>, in %18 = func.call @_where(…) (record main_call0)
def val_main_call0_v0 : (⟨S38016x4096, .bf16⟩ : BufTy).Contents (Elt F) :=
  broadcastInDim S38016x4096 ![] bcast_S_S38016x4096 (val_main_cst (F := F))
abbrev idx_main_call0_v0 (i : S38016x4096.Idx) : S_.Idx := fun a => a.elim0
theorem val_main_call0_v0_apply (i : S38016x4096.Idx) :
    val_main_call0_v0 (F := F) i = val_main_cst (F := F) (idx_main_call0_v0 i) := by
  unfold val_main_call0_v0
  generalize val_main_cst (F := F) = y
  exact broadcastInDim_apply _ bcast_S_S38016x4096 y i (idx_main_call0_v0 i) (fun a => a.elim0)

-- @_where's %1 = stablehlo.broadcast_in_dim %arg2, dims = [] : (tensor<bf16>) -> tensor<38016x4096xbf16>, in %18 = func.call @_where(…) (record main_call0)
def val_main_call0_v1 : (⟨S38016x4096, .bf16⟩ : BufTy).Contents (Elt F) :=
  broadcastInDim S38016x4096 ![] bcast_S_S38016x4096 (val_main_cst_3 (F := F))
abbrev idx_main_call0_v1 (i : S38016x4096.Idx) : S_.Idx := fun a => a.elim0
theorem val_main_call0_v1_apply (i : S38016x4096.Idx) :
    val_main_call0_v1 (F := F) i = val_main_cst_3 (F := F) (idx_main_call0_v1 i) := by
  unfold val_main_call0_v1
  generalize val_main_cst_3 (F := F) = y
  exact broadcastInDim_apply _ bcast_S_S38016x4096 y i (idx_main_call0_v1 i) (fun a => a.elim0)

-- %18 = func.call @_where(…) (record main_call0) result 0: @_where's %2 = stablehlo.select %arg0, %0, %1 : tensor<38016x4096xi1>, tensor<38016x4096xbf16>
def val_main_v18 (x1 : (⟨S38016x4096, .i8⟩ : BufTy).Contents (Elt F)) : (⟨S38016x4096, .bf16⟩ : BufTy).Contents (Elt F) :=
  select (val_main_v17 (F := F) x1) (val_main_call0_v0 (F := F)) (val_main_call0_v1 (F := F))
theorem val_main_v18_apply (x1 : (⟨S38016x4096, .i8⟩ : BufTy).Contents (Elt F)) (i : S38016x4096.Idx) :
    val_main_v18 (F := F) x1 i = Scalar.select (val_main_v17 (F := F) x1 i) (val_main_call0_v0 (F := F) i) (val_main_call0_v1 (F := F) i) := rfl

-- %cst_4 = stablehlo.constant dense<-6.500000e+01> : tensor<bf16>
def val_main_cst_4 : (⟨S_, .bf16⟩ : BufTy).Contents (Elt F) :=
  constant S_ .bf16 0xC282#16
theorem val_main_cst_4_apply (i : S_.Idx) :
    val_main_cst_4 (F := F) i = FloatOps.ofBits .bf16 0xC282#16 := rfl

-- %cst_5 = stablehlo.constant dense<-8.300000e+01> : tensor<bf16>
def val_main_cst_5 : (⟨S_, .bf16⟩ : BufTy).Contents (Elt F) :=
  constant S_ .bf16 0xC2A6#16
theorem val_main_cst_5_apply (i : S_.Idx) :
    val_main_cst_5 (F := F) i = FloatOps.ofBits .bf16 0xC2A6#16 := rfl

-- @_where's %0 = stablehlo.broadcast_in_dim %arg1, dims = [] : (tensor<bf16>) -> tensor<38016x4096xbf16>, in %19 = func.call @_where(…) (record main_call1)
def val_main_call1_v0 : (⟨S38016x4096, .bf16⟩ : BufTy).Contents (Elt F) :=
  broadcastInDim S38016x4096 ![] bcast_S_S38016x4096 (val_main_cst_4 (F := F))
abbrev idx_main_call1_v0 (i : S38016x4096.Idx) : S_.Idx := fun a => a.elim0
theorem val_main_call1_v0_apply (i : S38016x4096.Idx) :
    val_main_call1_v0 (F := F) i = val_main_cst_4 (F := F) (idx_main_call1_v0 i) := by
  unfold val_main_call1_v0
  generalize val_main_cst_4 (F := F) = y
  exact broadcastInDim_apply _ bcast_S_S38016x4096 y i (idx_main_call1_v0 i) (fun a => a.elim0)

-- @_where's %1 = stablehlo.broadcast_in_dim %arg2, dims = [] : (tensor<bf16>) -> tensor<38016x4096xbf16>, in %19 = func.call @_where(…) (record main_call1)
def val_main_call1_v1 : (⟨S38016x4096, .bf16⟩ : BufTy).Contents (Elt F) :=
  broadcastInDim S38016x4096 ![] bcast_S_S38016x4096 (val_main_cst_5 (F := F))
abbrev idx_main_call1_v1 (i : S38016x4096.Idx) : S_.Idx := fun a => a.elim0
theorem val_main_call1_v1_apply (i : S38016x4096.Idx) :
    val_main_call1_v1 (F := F) i = val_main_cst_5 (F := F) (idx_main_call1_v1 i) := by
  unfold val_main_call1_v1
  generalize val_main_cst_5 (F := F) = y
  exact broadcastInDim_apply _ bcast_S_S38016x4096 y i (idx_main_call1_v1 i) (fun a => a.elim0)

-- %19 = func.call @_where(…) (record main_call1) result 0: @_where's %2 = stablehlo.select %arg0, %0, %1 : tensor<38016x4096xi1>, tensor<38016x4096xbf16>
def val_main_v19 (x1 : (⟨S38016x4096, .i8⟩ : BufTy).Contents (Elt F)) : (⟨S38016x4096, .bf16⟩ : BufTy).Contents (Elt F) :=
  select (val_main_v17 (F := F) x1) (val_main_call1_v0 (F := F)) (val_main_call1_v1 (F := F))
theorem val_main_v19_apply (x1 : (⟨S38016x4096, .i8⟩ : BufTy).Contents (Elt F)) (i : S38016x4096.Idx) :
    val_main_v19 (F := F) x1 i = Scalar.select (val_main_v17 (F := F) x1 i) (val_main_call1_v0 (F := F) i) (val_main_call1_v1 (F := F) i) := rfl

-- %cst_6 = stablehlo.constant dense<-3.500000e+01> : tensor<bf16>
def val_main_cst_6 : (⟨S_, .bf16⟩ : BufTy).Contents (Elt F) :=
  constant S_ .bf16 0xC20C#16
theorem val_main_cst_6_apply (i : S_.Idx) :
    val_main_cst_6 (F := F) i = FloatOps.ofBits .bf16 0xC20C#16 := rfl

-- %cst_7 = stablehlo.constant dense<-4.900000e+01> : tensor<bf16>
def val_main_cst_7 : (⟨S_, .bf16⟩ : BufTy).Contents (Elt F) :=
  constant S_ .bf16 0xC244#16
theorem val_main_cst_7_apply (i : S_.Idx) :
    val_main_cst_7 (F := F) i = FloatOps.ofBits .bf16 0xC244#16 := rfl

-- @_where's %0 = stablehlo.broadcast_in_dim %arg1, dims = [] : (tensor<bf16>) -> tensor<38016x4096xbf16>, in %20 = func.call @_where(…) (record main_call2)
def val_main_call2_v0 : (⟨S38016x4096, .bf16⟩ : BufTy).Contents (Elt F) :=
  broadcastInDim S38016x4096 ![] bcast_S_S38016x4096 (val_main_cst_6 (F := F))
abbrev idx_main_call2_v0 (i : S38016x4096.Idx) : S_.Idx := fun a => a.elim0
theorem val_main_call2_v0_apply (i : S38016x4096.Idx) :
    val_main_call2_v0 (F := F) i = val_main_cst_6 (F := F) (idx_main_call2_v0 i) := by
  unfold val_main_call2_v0
  generalize val_main_cst_6 (F := F) = y
  exact broadcastInDim_apply _ bcast_S_S38016x4096 y i (idx_main_call2_v0 i) (fun a => a.elim0)

-- @_where's %1 = stablehlo.broadcast_in_dim %arg2, dims = [] : (tensor<bf16>) -> tensor<38016x4096xbf16>, in %20 = func.call @_where(…) (record main_call2)
def val_main_call2_v1 : (⟨S38016x4096, .bf16⟩ : BufTy).Contents (Elt F) :=
  broadcastInDim S38016x4096 ![] bcast_S_S38016x4096 (val_main_cst_7 (F := F))
abbrev idx_main_call2_v1 (i : S38016x4096.Idx) : S_.Idx := fun a => a.elim0
theorem val_main_call2_v1_apply (i : S38016x4096.Idx) :
    val_main_call2_v1 (F := F) i = val_main_cst_7 (F := F) (idx_main_call2_v1 i) := by
  unfold val_main_call2_v1
  generalize val_main_cst_7 (F := F) = y
  exact broadcastInDim_apply _ bcast_S_S38016x4096 y i (idx_main_call2_v1 i) (fun a => a.elim0)

-- %20 = func.call @_where(…) (record main_call2) result 0: @_where's %2 = stablehlo.select %arg0, %0, %1 : tensor<38016x4096xi1>, tensor<38016x4096xbf16>
def val_main_v20 (x1 : (⟨S38016x4096, .i8⟩ : BufTy).Contents (Elt F)) : (⟨S38016x4096, .bf16⟩ : BufTy).Contents (Elt F) :=
  select (val_main_v17 (F := F) x1) (val_main_call2_v0 (F := F)) (val_main_call2_v1 (F := F))
theorem val_main_v20_apply (x1 : (⟨S38016x4096, .i8⟩ : BufTy).Contents (Elt F)) (i : S38016x4096.Idx) :
    val_main_v20 (F := F) x1 i = Scalar.select (val_main_v17 (F := F) x1 i) (val_main_call2_v0 (F := F) i) (val_main_call2_v1 (F := F) i) := rfl

-- %cst_8 = stablehlo.constant dense<-1.000000e+01> : tensor<bf16>
def val_main_cst_8 : (⟨S_, .bf16⟩ : BufTy).Contents (Elt F) :=
  constant S_ .bf16 0xC120#16
theorem val_main_cst_8_apply (i : S_.Idx) :
    val_main_cst_8 (F := F) i = FloatOps.ofBits .bf16 0xC120#16 := rfl

-- %cst_9 = stablehlo.constant dense<-2.200000e+01> : tensor<bf16>
def val_main_cst_9 : (⟨S_, .bf16⟩ : BufTy).Contents (Elt F) :=
  constant S_ .bf16 0xC1B0#16
theorem val_main_cst_9_apply (i : S_.Idx) :
    val_main_cst_9 (F := F) i = FloatOps.ofBits .bf16 0xC1B0#16 := rfl

-- @_where's %0 = stablehlo.broadcast_in_dim %arg1, dims = [] : (tensor<bf16>) -> tensor<38016x4096xbf16>, in %21 = func.call @_where(…) (record main_call3)
def val_main_call3_v0 : (⟨S38016x4096, .bf16⟩ : BufTy).Contents (Elt F) :=
  broadcastInDim S38016x4096 ![] bcast_S_S38016x4096 (val_main_cst_8 (F := F))
abbrev idx_main_call3_v0 (i : S38016x4096.Idx) : S_.Idx := fun a => a.elim0
theorem val_main_call3_v0_apply (i : S38016x4096.Idx) :
    val_main_call3_v0 (F := F) i = val_main_cst_8 (F := F) (idx_main_call3_v0 i) := by
  unfold val_main_call3_v0
  generalize val_main_cst_8 (F := F) = y
  exact broadcastInDim_apply _ bcast_S_S38016x4096 y i (idx_main_call3_v0 i) (fun a => a.elim0)

-- @_where's %1 = stablehlo.broadcast_in_dim %arg2, dims = [] : (tensor<bf16>) -> tensor<38016x4096xbf16>, in %21 = func.call @_where(…) (record main_call3)
def val_main_call3_v1 : (⟨S38016x4096, .bf16⟩ : BufTy).Contents (Elt F) :=
  broadcastInDim S38016x4096 ![] bcast_S_S38016x4096 (val_main_cst_9 (F := F))
abbrev idx_main_call3_v1 (i : S38016x4096.Idx) : S_.Idx := fun a => a.elim0
theorem val_main_call3_v1_apply (i : S38016x4096.Idx) :
    val_main_call3_v1 (F := F) i = val_main_cst_9 (F := F) (idx_main_call3_v1 i) := by
  unfold val_main_call3_v1
  generalize val_main_cst_9 (F := F) = y
  exact broadcastInDim_apply _ bcast_S_S38016x4096 y i (idx_main_call3_v1 i) (fun a => a.elim0)

-- %21 = func.call @_where(…) (record main_call3) result 0: @_where's %2 = stablehlo.select %arg0, %0, %1 : tensor<38016x4096xi1>, tensor<38016x4096xbf16>
def val_main_v21 (x1 : (⟨S38016x4096, .i8⟩ : BufTy).Contents (Elt F)) : (⟨S38016x4096, .bf16⟩ : BufTy).Contents (Elt F) :=
  select (val_main_v17 (F := F) x1) (val_main_call3_v0 (F := F)) (val_main_call3_v1 (F := F))
theorem val_main_v21_apply (x1 : (⟨S38016x4096, .i8⟩ : BufTy).Contents (Elt F)) (i : S38016x4096.Idx) :
    val_main_v21 (F := F) x1 i = Scalar.select (val_main_v17 (F := F) x1 i) (val_main_call3_v0 (F := F) i) (val_main_call3_v1 (F := F) i) := rfl

-- %cst_10 = stablehlo.constant dense<1.300000e+01> : tensor<bf16>
def val_main_cst_10 : (⟨S_, .bf16⟩ : BufTy).Contents (Elt F) :=
  constant S_ .bf16 0x4150#16
theorem val_main_cst_10_apply (i : S_.Idx) :
    val_main_cst_10 (F := F) i = FloatOps.ofBits .bf16 0x4150#16 := rfl

-- %cst_11 = stablehlo.constant dense<1.000000e+00> : tensor<bf16>
def val_main_cst_11 : (⟨S_, .bf16⟩ : BufTy).Contents (Elt F) :=
  constant S_ .bf16 0x3F80#16
theorem val_main_cst_11_apply (i : S_.Idx) :
    val_main_cst_11 (F := F) i = FloatOps.ofBits .bf16 0x3F80#16 := rfl

-- @_where's %0 = stablehlo.broadcast_in_dim %arg1, dims = [] : (tensor<bf16>) -> tensor<38016x4096xbf16>, in %22 = func.call @_where(…) (record main_call4)
def val_main_call4_v0 : (⟨S38016x4096, .bf16⟩ : BufTy).Contents (Elt F) :=
  broadcastInDim S38016x4096 ![] bcast_S_S38016x4096 (val_main_cst_10 (F := F))
abbrev idx_main_call4_v0 (i : S38016x4096.Idx) : S_.Idx := fun a => a.elim0
theorem val_main_call4_v0_apply (i : S38016x4096.Idx) :
    val_main_call4_v0 (F := F) i = val_main_cst_10 (F := F) (idx_main_call4_v0 i) := by
  unfold val_main_call4_v0
  generalize val_main_cst_10 (F := F) = y
  exact broadcastInDim_apply _ bcast_S_S38016x4096 y i (idx_main_call4_v0 i) (fun a => a.elim0)

-- @_where's %1 = stablehlo.broadcast_in_dim %arg2, dims = [] : (tensor<bf16>) -> tensor<38016x4096xbf16>, in %22 = func.call @_where(…) (record main_call4)
def val_main_call4_v1 : (⟨S38016x4096, .bf16⟩ : BufTy).Contents (Elt F) :=
  broadcastInDim S38016x4096 ![] bcast_S_S38016x4096 (val_main_cst_11 (F := F))
abbrev idx_main_call4_v1 (i : S38016x4096.Idx) : S_.Idx := fun a => a.elim0
theorem val_main_call4_v1_apply (i : S38016x4096.Idx) :
    val_main_call4_v1 (F := F) i = val_main_cst_11 (F := F) (idx_main_call4_v1 i) := by
  unfold val_main_call4_v1
  generalize val_main_cst_11 (F := F) = y
  exact broadcastInDim_apply _ bcast_S_S38016x4096 y i (idx_main_call4_v1 i) (fun a => a.elim0)

-- %22 = func.call @_where(…) (record main_call4) result 0: @_where's %2 = stablehlo.select %arg0, %0, %1 : tensor<38016x4096xi1>, tensor<38016x4096xbf16>
def val_main_v22 (x1 : (⟨S38016x4096, .i8⟩ : BufTy).Contents (Elt F)) : (⟨S38016x4096, .bf16⟩ : BufTy).Contents (Elt F) :=
  select (val_main_v17 (F := F) x1) (val_main_call4_v0 (F := F)) (val_main_call4_v1 (F := F))
theorem val_main_v22_apply (x1 : (⟨S38016x4096, .i8⟩ : BufTy).Contents (Elt F)) (i : S38016x4096.Idx) :
    val_main_v22 (F := F) x1 i = Scalar.select (val_main_v17 (F := F) x1 i) (val_main_call4_v0 (F := F) i) (val_main_call4_v1 (F := F) i) := rfl

-- %cst_12 = stablehlo.constant dense<3.800000e+01> : tensor<bf16>
def val_main_cst_12 : (⟨S_, .bf16⟩ : BufTy).Contents (Elt F) :=
  constant S_ .bf16 0x4218#16
theorem val_main_cst_12_apply (i : S_.Idx) :
    val_main_cst_12 (F := F) i = FloatOps.ofBits .bf16 0x4218#16 := rfl

-- %cst_13 = stablehlo.constant dense<2.500000e+01> : tensor<bf16>
def val_main_cst_13 : (⟨S_, .bf16⟩ : BufTy).Contents (Elt F) :=
  constant S_ .bf16 0x41C8#16
theorem val_main_cst_13_apply (i : S_.Idx) :
    val_main_cst_13 (F := F) i = FloatOps.ofBits .bf16 0x41C8#16 := rfl

-- @_where's %0 = stablehlo.broadcast_in_dim %arg1, dims = [] : (tensor<bf16>) -> tensor<38016x4096xbf16>, in %23 = func.call @_where(…) (record main_call5)
def val_main_call5_v0 : (⟨S38016x4096, .bf16⟩ : BufTy).Contents (Elt F) :=
  broadcastInDim S38016x4096 ![] bcast_S_S38016x4096 (val_main_cst_12 (F := F))
abbrev idx_main_call5_v0 (i : S38016x4096.Idx) : S_.Idx := fun a => a.elim0
theorem val_main_call5_v0_apply (i : S38016x4096.Idx) :
    val_main_call5_v0 (F := F) i = val_main_cst_12 (F := F) (idx_main_call5_v0 i) := by
  unfold val_main_call5_v0
  generalize val_main_cst_12 (F := F) = y
  exact broadcastInDim_apply _ bcast_S_S38016x4096 y i (idx_main_call5_v0 i) (fun a => a.elim0)

-- @_where's %1 = stablehlo.broadcast_in_dim %arg2, dims = [] : (tensor<bf16>) -> tensor<38016x4096xbf16>, in %23 = func.call @_where(…) (record main_call5)
def val_main_call5_v1 : (⟨S38016x4096, .bf16⟩ : BufTy).Contents (Elt F) :=
  broadcastInDim S38016x4096 ![] bcast_S_S38016x4096 (val_main_cst_13 (F := F))
abbrev idx_main_call5_v1 (i : S38016x4096.Idx) : S_.Idx := fun a => a.elim0
theorem val_main_call5_v1_apply (i : S38016x4096.Idx) :
    val_main_call5_v1 (F := F) i = val_main_cst_13 (F := F) (idx_main_call5_v1 i) := by
  unfold val_main_call5_v1
  generalize val_main_cst_13 (F := F) = y
  exact broadcastInDim_apply _ bcast_S_S38016x4096 y i (idx_main_call5_v1 i) (fun a => a.elim0)

-- %23 = func.call @_where(…) (record main_call5) result 0: @_where's %2 = stablehlo.select %arg0, %0, %1 : tensor<38016x4096xi1>, tensor<38016x4096xbf16>
def val_main_v23 (x1 : (⟨S38016x4096, .i8⟩ : BufTy).Contents (Elt F)) : (⟨S38016x4096, .bf16⟩ : BufTy).Contents (Elt F) :=
  select (val_main_v17 (F := F) x1) (val_main_call5_v0 (F := F)) (val_main_call5_v1 (F := F))
theorem val_main_v23_apply (x1 : (⟨S38016x4096, .i8⟩ : BufTy).Contents (Elt F)) (i : S38016x4096.Idx) :
    val_main_v23 (F := F) x1 i = Scalar.select (val_main_v17 (F := F) x1 i) (val_main_call5_v0 (F := F) i) (val_main_call5_v1 (F := F) i) := rfl

-- %cst_14 = stablehlo.constant dense<6.900000e+01> : tensor<bf16>
def val_main_cst_14 : (⟨S_, .bf16⟩ : BufTy).Contents (Elt F) :=
  constant S_ .bf16 0x428A#16
theorem val_main_cst_14_apply (i : S_.Idx) :
    val_main_cst_14 (F := F) i = FloatOps.ofBits .bf16 0x428A#16 := rfl

-- %cst_15 = stablehlo.constant dense<5.300000e+01> : tensor<bf16>
def val_main_cst_15 : (⟨S_, .bf16⟩ : BufTy).Contents (Elt F) :=
  constant S_ .bf16 0x4254#16
theorem val_main_cst_15_apply (i : S_.Idx) :
    val_main_cst_15 (F := F) i = FloatOps.ofBits .bf16 0x4254#16 := rfl

-- @_where's %0 = stablehlo.broadcast_in_dim %arg1, dims = [] : (tensor<bf16>) -> tensor<38016x4096xbf16>, in %24 = func.call @_where(…) (record main_call6)
def val_main_call6_v0 : (⟨S38016x4096, .bf16⟩ : BufTy).Contents (Elt F) :=
  broadcastInDim S38016x4096 ![] bcast_S_S38016x4096 (val_main_cst_14 (F := F))
abbrev idx_main_call6_v0 (i : S38016x4096.Idx) : S_.Idx := fun a => a.elim0
theorem val_main_call6_v0_apply (i : S38016x4096.Idx) :
    val_main_call6_v0 (F := F) i = val_main_cst_14 (F := F) (idx_main_call6_v0 i) := by
  unfold val_main_call6_v0
  generalize val_main_cst_14 (F := F) = y
  exact broadcastInDim_apply _ bcast_S_S38016x4096 y i (idx_main_call6_v0 i) (fun a => a.elim0)

-- @_where's %1 = stablehlo.broadcast_in_dim %arg2, dims = [] : (tensor<bf16>) -> tensor<38016x4096xbf16>, in %24 = func.call @_where(…) (record main_call6)
def val_main_call6_v1 : (⟨S38016x4096, .bf16⟩ : BufTy).Contents (Elt F) :=
  broadcastInDim S38016x4096 ![] bcast_S_S38016x4096 (val_main_cst_15 (F := F))
abbrev idx_main_call6_v1 (i : S38016x4096.Idx) : S_.Idx := fun a => a.elim0
theorem val_main_call6_v1_apply (i : S38016x4096.Idx) :
    val_main_call6_v1 (F := F) i = val_main_cst_15 (F := F) (idx_main_call6_v1 i) := by
  unfold val_main_call6_v1
  generalize val_main_cst_15 (F := F) = y
  exact broadcastInDim_apply _ bcast_S_S38016x4096 y i (idx_main_call6_v1 i) (fun a => a.elim0)

-- %24 = func.call @_where(…) (record main_call6) result 0: @_where's %2 = stablehlo.select %arg0, %0, %1 : tensor<38016x4096xi1>, tensor<38016x4096xbf16>
def val_main_v24 (x1 : (⟨S38016x4096, .i8⟩ : BufTy).Contents (Elt F)) : (⟨S38016x4096, .bf16⟩ : BufTy).Contents (Elt F) :=
  select (val_main_v17 (F := F) x1) (val_main_call6_v0 (F := F)) (val_main_call6_v1 (F := F))
theorem val_main_v24_apply (x1 : (⟨S38016x4096, .i8⟩ : BufTy).Contents (Elt F)) (i : S38016x4096.Idx) :
    val_main_v24 (F := F) x1 i = Scalar.select (val_main_v17 (F := F) x1 i) (val_main_call6_v0 (F := F) i) (val_main_call6_v1 (F := F) i) := rfl

-- %cst_16 = stablehlo.constant dense<1.130000e+02> : tensor<bf16>
def val_main_cst_16 : (⟨S_, .bf16⟩ : BufTy).Contents (Elt F) :=
  constant S_ .bf16 0x42E2#16
theorem val_main_cst_16_apply (i : S_.Idx) :
    val_main_cst_16 (F := F) i = FloatOps.ofBits .bf16 0x42E2#16 := rfl

-- %cst_17 = stablehlo.constant dense<8.900000e+01> : tensor<bf16>
def val_main_cst_17 : (⟨S_, .bf16⟩ : BufTy).Contents (Elt F) :=
  constant S_ .bf16 0x42B2#16
theorem val_main_cst_17_apply (i : S_.Idx) :
    val_main_cst_17 (F := F) i = FloatOps.ofBits .bf16 0x42B2#16 := rfl

-- @_where's %0 = stablehlo.broadcast_in_dim %arg1, dims = [] : (tensor<bf16>) -> tensor<38016x4096xbf16>, in %25 = func.call @_where(…) (record main_call7)
def val_main_call7_v0 : (⟨S38016x4096, .bf16⟩ : BufTy).Contents (Elt F) :=
  broadcastInDim S38016x4096 ![] bcast_S_S38016x4096 (val_main_cst_16 (F := F))
abbrev idx_main_call7_v0 (i : S38016x4096.Idx) : S_.Idx := fun a => a.elim0
theorem val_main_call7_v0_apply (i : S38016x4096.Idx) :
    val_main_call7_v0 (F := F) i = val_main_cst_16 (F := F) (idx_main_call7_v0 i) := by
  unfold val_main_call7_v0
  generalize val_main_cst_16 (F := F) = y
  exact broadcastInDim_apply _ bcast_S_S38016x4096 y i (idx_main_call7_v0 i) (fun a => a.elim0)

-- @_where's %1 = stablehlo.broadcast_in_dim %arg2, dims = [] : (tensor<bf16>) -> tensor<38016x4096xbf16>, in %25 = func.call @_where(…) (record main_call7)
def val_main_call7_v1 : (⟨S38016x4096, .bf16⟩ : BufTy).Contents (Elt F) :=
  broadcastInDim S38016x4096 ![] bcast_S_S38016x4096 (val_main_cst_17 (F := F))
abbrev idx_main_call7_v1 (i : S38016x4096.Idx) : S_.Idx := fun a => a.elim0
theorem val_main_call7_v1_apply (i : S38016x4096.Idx) :
    val_main_call7_v1 (F := F) i = val_main_cst_17 (F := F) (idx_main_call7_v1 i) := by
  unfold val_main_call7_v1
  generalize val_main_cst_17 (F := F) = y
  exact broadcastInDim_apply _ bcast_S_S38016x4096 y i (idx_main_call7_v1 i) (fun a => a.elim0)

-- %25 = func.call @_where(…) (record main_call7) result 0: @_where's %2 = stablehlo.select %arg0, %0, %1 : tensor<38016x4096xi1>, tensor<38016x4096xbf16>
def val_main_v25 (x1 : (⟨S38016x4096, .i8⟩ : BufTy).Contents (Elt F)) : (⟨S38016x4096, .bf16⟩ : BufTy).Contents (Elt F) :=
  select (val_main_v17 (F := F) x1) (val_main_call7_v0 (F := F)) (val_main_call7_v1 (F := F))
theorem val_main_v25_apply (x1 : (⟨S38016x4096, .i8⟩ : BufTy).Contents (Elt F)) (i : S38016x4096.Idx) :
    val_main_v25 (F := F) x1 i = Scalar.select (val_main_v17 (F := F) x1 i) (val_main_call7_v0 (F := F) i) (val_main_call7_v1 (F := F) i) := rfl

-- %c_18 = stablehlo.constant dense<1> : tensor<i32>
def val_main_c_18 : (⟨S_, .i32⟩ : BufTy).Contents (Elt F) :=
  constantI S_ 32 1#32
theorem val_main_c_18_apply (i : S_.Idx) :
    val_main_c_18 (F := F) i = 1#32 := rfl

-- %26 = stablehlo.broadcast_in_dim %c_18, dims = [] : (tensor<i32>) -> tensor<38016x4096xi32>
def val_main_v26 : (⟨S38016x4096, .i32⟩ : BufTy).Contents (Elt F) :=
  broadcastInDim S38016x4096 ![] bcast_S_S38016x4096 (val_main_c_18 (F := F))
abbrev idx_main_v26 (i : S38016x4096.Idx) : S_.Idx := fun a => a.elim0
theorem val_main_v26_apply (i : S38016x4096.Idx) :
    val_main_v26 (F := F) i = val_main_c_18 (F := F) (idx_main_v26 i) := by
  unfold val_main_v26
  generalize val_main_c_18 (F := F) = y
  exact broadcastInDim_apply _ bcast_S_S38016x4096 y i (idx_main_v26 i) (fun a => a.elim0)

-- %27 = stablehlo.shift_right_arithmetic %10, %26 : tensor<38016x4096xi32>
def val_main_v27 (x1 : (⟨S38016x4096, .i8⟩ : BufTy).Contents (Elt F)) : (⟨S38016x4096, .i32⟩ : BufTy).Contents (Elt F) :=
  Host.shrsi (val_main_v10 (F := F) x1) (val_main_v26 (F := F))
theorem val_main_v27_apply (x1 : (⟨S38016x4096, .i8⟩ : BufTy).Contents (Elt F)) (i : S38016x4096.Idx) :
    val_main_v27 (F := F) x1 i = IntOp.shrsi .host (val_main_v10 (F := F) x1 i) (val_main_v26 (F := F) i) := rfl

-- %c_19 = stablehlo.constant dense<1> : tensor<i32>
def val_main_c_19 : (⟨S_, .i32⟩ : BufTy).Contents (Elt F) :=
  constantI S_ 32 1#32
theorem val_main_c_19_apply (i : S_.Idx) :
    val_main_c_19 (F := F) i = 1#32 := rfl

-- %28 = stablehlo.broadcast_in_dim %c_19, dims = [] : (tensor<i32>) -> tensor<38016x4096xi32>
def val_main_v28 : (⟨S38016x4096, .i32⟩ : BufTy).Contents (Elt F) :=
  broadcastInDim S38016x4096 ![] bcast_S_S38016x4096 (val_main_c_19 (F := F))
abbrev idx_main_v28 (i : S38016x4096.Idx) : S_.Idx := fun a => a.elim0
theorem val_main_v28_apply (i : S38016x4096.Idx) :
    val_main_v28 (F := F) i = val_main_c_19 (F := F) (idx_main_v28 i) := by
  unfold val_main_v28
  generalize val_main_c_19 (F := F) = y
  exact broadcastInDim_apply _ bcast_S_S38016x4096 y i (idx_main_v28 i) (fun a => a.elim0)

-- %29 = stablehlo.and %27, %28 : tensor<38016x4096xi32>
def val_main_v29 (x1 : (⟨S38016x4096, .i8⟩ : BufTy).Contents (Elt F)) : (⟨S38016x4096, .i32⟩ : BufTy).Contents (Elt F) :=
  andi (val_main_v27 (F := F) x1) (val_main_v28 (F := F))
theorem val_main_v29_apply (x1 : (⟨S38016x4096, .i8⟩ : BufTy).Contents (Elt F)) (i : S38016x4096.Idx) :
    val_main_v29 (F := F) x1 i = IntOp.andi (val_main_v27 (F := F) x1 i) (val_main_v28 (F := F) i) := rfl

-- %c_20 = stablehlo.constant dense<0> : tensor<i32>
def val_main_c_20 : (⟨S_, .i32⟩ : BufTy).Contents (Elt F) :=
  constantI S_ 32 0#32
theorem val_main_c_20_apply (i : S_.Idx) :
    val_main_c_20 (F := F) i = 0#32 := rfl

-- %30 = stablehlo.broadcast_in_dim %c_20, dims = [] : (tensor<i32>) -> tensor<38016x4096xi32>
def val_main_v30 : (⟨S38016x4096, .i32⟩ : BufTy).Contents (Elt F) :=
  broadcastInDim S38016x4096 ![] bcast_S_S38016x4096 (val_main_c_20 (F := F))
abbrev idx_main_v30 (i : S38016x4096.Idx) : S_.Idx := fun a => a.elim0
theorem val_main_v30_apply (i : S38016x4096.Idx) :
    val_main_v30 (F := F) i = val_main_c_20 (F := F) (idx_main_v30 i) := by
  unfold val_main_v30
  generalize val_main_c_20 (F := F) = y
  exact broadcastInDim_apply _ bcast_S_S38016x4096 y i (idx_main_v30 i) (fun a => a.elim0)

-- %31 = stablehlo.compare NE, %29, %30, SIGNED : (tensor<38016x4096xi32>, tensor<38016x4096xi32>) -> tensor<38016x4096xi1>
def val_main_v31 (x1 : (⟨S38016x4096, .i8⟩ : BufTy).Contents (Elt F)) : (⟨S38016x4096, .i1⟩ : BufTy).Contents (Elt F) :=
  cmpi .ne (val_main_v29 (F := F) x1) (val_main_v30 (F := F))
theorem val_main_v31_apply (x1 : (⟨S38016x4096, .i8⟩ : BufTy).Contents (Elt F)) (i : S38016x4096.Idx) :
    val_main_v31 (F := F) x1 i = IntOp.cmpi .ne (val_main_v29 (F := F) x1 i) (val_main_v30 (F := F) i) := rfl

-- %32 = stablehlo.convert %31 : tensor<38016x4096xi1>
def val_main_v32 (x1 : (⟨S38016x4096, .i8⟩ : BufTy).Contents (Elt F)) : (⟨S38016x4096, .i1⟩ : BufTy).Contents (Elt F) :=
  id (val_main_v31 (F := F) x1)
theorem val_main_v32_apply (x1 : (⟨S38016x4096, .i8⟩ : BufTy).Contents (Elt F)) (i : S38016x4096.Idx) :
    val_main_v32 (F := F) x1 i = (val_main_v31 (F := F) x1 i) := rfl

-- %33 = func.call @_where_0(…) (record main_call8) result 0: @_where_0's %0 = stablehlo.select %arg0, %arg1, %arg2 : tensor<38016x4096xi1>, tensor<38016x4096xbf16>
def val_main_v33 (x1 : (⟨S38016x4096, .i8⟩ : BufTy).Contents (Elt F)) : (⟨S38016x4096, .bf16⟩ : BufTy).Contents (Elt F) :=
  select (val_main_v32 (F := F) x1) (val_main_v19 (F := F) x1) (val_main_v18 (F := F) x1)
theorem val_main_v33_apply (x1 : (⟨S38016x4096, .i8⟩ : BufTy).Contents (Elt F)) (i : S38016x4096.Idx) :
    val_main_v33 (F := F) x1 i = Scalar.select (val_main_v32 (F := F) x1 i) (val_main_v19 (F := F) x1 i) (val_main_v18 (F := F) x1 i) := rfl

-- %34 = func.call @_where_0(…) (record main_call9) result 0: @_where_0's %0 = stablehlo.select %arg0, %arg1, %arg2 : tensor<38016x4096xi1>, tensor<38016x4096xbf16>
def val_main_v34 (x1 : (⟨S38016x4096, .i8⟩ : BufTy).Contents (Elt F)) : (⟨S38016x4096, .bf16⟩ : BufTy).Contents (Elt F) :=
  select (val_main_v32 (F := F) x1) (val_main_v21 (F := F) x1) (val_main_v20 (F := F) x1)
theorem val_main_v34_apply (x1 : (⟨S38016x4096, .i8⟩ : BufTy).Contents (Elt F)) (i : S38016x4096.Idx) :
    val_main_v34 (F := F) x1 i = Scalar.select (val_main_v32 (F := F) x1 i) (val_main_v21 (F := F) x1 i) (val_main_v20 (F := F) x1 i) := rfl

-- %35 = func.call @_where_0(…) (record main_call10) result 0: @_where_0's %0 = stablehlo.select %arg0, %arg1, %arg2 : tensor<38016x4096xi1>, tensor<38016x4096xbf16>
def val_main_v35 (x1 : (⟨S38016x4096, .i8⟩ : BufTy).Contents (Elt F)) : (⟨S38016x4096, .bf16⟩ : BufTy).Contents (Elt F) :=
  select (val_main_v32 (F := F) x1) (val_main_v23 (F := F) x1) (val_main_v22 (F := F) x1)
theorem val_main_v35_apply (x1 : (⟨S38016x4096, .i8⟩ : BufTy).Contents (Elt F)) (i : S38016x4096.Idx) :
    val_main_v35 (F := F) x1 i = Scalar.select (val_main_v32 (F := F) x1 i) (val_main_v23 (F := F) x1 i) (val_main_v22 (F := F) x1 i) := rfl

-- %36 = func.call @_where_0(…) (record main_call11) result 0: @_where_0's %0 = stablehlo.select %arg0, %arg1, %arg2 : tensor<38016x4096xi1>, tensor<38016x4096xbf16>
def val_main_v36 (x1 : (⟨S38016x4096, .i8⟩ : BufTy).Contents (Elt F)) : (⟨S38016x4096, .bf16⟩ : BufTy).Contents (Elt F) :=
  select (val_main_v32 (F := F) x1) (val_main_v25 (F := F) x1) (val_main_v24 (F := F) x1)
theorem val_main_v36_apply (x1 : (⟨S38016x4096, .i8⟩ : BufTy).Contents (Elt F)) (i : S38016x4096.Idx) :
    val_main_v36 (F := F) x1 i = Scalar.select (val_main_v32 (F := F) x1 i) (val_main_v25 (F := F) x1 i) (val_main_v24 (F := F) x1 i) := rfl

-- %c_21 = stablehlo.constant dense<2> : tensor<i32>
def val_main_c_21 : (⟨S_, .i32⟩ : BufTy).Contents (Elt F) :=
  constantI S_ 32 2#32
theorem val_main_c_21_apply (i : S_.Idx) :
    val_main_c_21 (F := F) i = 2#32 := rfl

-- %37 = stablehlo.broadcast_in_dim %c_21, dims = [] : (tensor<i32>) -> tensor<38016x4096xi32>
def val_main_v37 : (⟨S38016x4096, .i32⟩ : BufTy).Contents (Elt F) :=
  broadcastInDim S38016x4096 ![] bcast_S_S38016x4096 (val_main_c_21 (F := F))
abbrev idx_main_v37 (i : S38016x4096.Idx) : S_.Idx := fun a => a.elim0
theorem val_main_v37_apply (i : S38016x4096.Idx) :
    val_main_v37 (F := F) i = val_main_c_21 (F := F) (idx_main_v37 i) := by
  unfold val_main_v37
  generalize val_main_c_21 (F := F) = y
  exact broadcastInDim_apply _ bcast_S_S38016x4096 y i (idx_main_v37 i) (fun a => a.elim0)

-- %38 = stablehlo.shift_right_arithmetic %10, %37 : tensor<38016x4096xi32>
def val_main_v38 (x1 : (⟨S38016x4096, .i8⟩ : BufTy).Contents (Elt F)) : (⟨S38016x4096, .i32⟩ : BufTy).Contents (Elt F) :=
  Host.shrsi (val_main_v10 (F := F) x1) (val_main_v37 (F := F))
theorem val_main_v38_apply (x1 : (⟨S38016x4096, .i8⟩ : BufTy).Contents (Elt F)) (i : S38016x4096.Idx) :
    val_main_v38 (F := F) x1 i = IntOp.shrsi .host (val_main_v10 (F := F) x1 i) (val_main_v37 (F := F) i) := rfl

-- %c_22 = stablehlo.constant dense<1> : tensor<i32>
def val_main_c_22 : (⟨S_, .i32⟩ : BufTy).Contents (Elt F) :=
  constantI S_ 32 1#32
theorem val_main_c_22_apply (i : S_.Idx) :
    val_main_c_22 (F := F) i = 1#32 := rfl

-- %39 = stablehlo.broadcast_in_dim %c_22, dims = [] : (tensor<i32>) -> tensor<38016x4096xi32>
def val_main_v39 : (⟨S38016x4096, .i32⟩ : BufTy).Contents (Elt F) :=
  broadcastInDim S38016x4096 ![] bcast_S_S38016x4096 (val_main_c_22 (F := F))
abbrev idx_main_v39 (i : S38016x4096.Idx) : S_.Idx := fun a => a.elim0
theorem val_main_v39_apply (i : S38016x4096.Idx) :
    val_main_v39 (F := F) i = val_main_c_22 (F := F) (idx_main_v39 i) := by
  unfold val_main_v39
  generalize val_main_c_22 (F := F) = y
  exact broadcastInDim_apply _ bcast_S_S38016x4096 y i (idx_main_v39 i) (fun a => a.elim0)

-- %40 = stablehlo.and %38, %39 : tensor<38016x4096xi32>
def val_main_v40 (x1 : (⟨S38016x4096, .i8⟩ : BufTy).Contents (Elt F)) : (⟨S38016x4096, .i32⟩ : BufTy).Contents (Elt F) :=
  andi (val_main_v38 (F := F) x1) (val_main_v39 (F := F))
theorem val_main_v40_apply (x1 : (⟨S38016x4096, .i8⟩ : BufTy).Contents (Elt F)) (i : S38016x4096.Idx) :
    val_main_v40 (F := F) x1 i = IntOp.andi (val_main_v38 (F := F) x1 i) (val_main_v39 (F := F) i) := rfl

-- %c_23 = stablehlo.constant dense<0> : tensor<i32>
def val_main_c_23 : (⟨S_, .i32⟩ : BufTy).Contents (Elt F) :=
  constantI S_ 32 0#32
theorem val_main_c_23_apply (i : S_.Idx) :
    val_main_c_23 (F := F) i = 0#32 := rfl

-- %41 = stablehlo.broadcast_in_dim %c_23, dims = [] : (tensor<i32>) -> tensor<38016x4096xi32>
def val_main_v41 : (⟨S38016x4096, .i32⟩ : BufTy).Contents (Elt F) :=
  broadcastInDim S38016x4096 ![] bcast_S_S38016x4096 (val_main_c_23 (F := F))
abbrev idx_main_v41 (i : S38016x4096.Idx) : S_.Idx := fun a => a.elim0
theorem val_main_v41_apply (i : S38016x4096.Idx) :
    val_main_v41 (F := F) i = val_main_c_23 (F := F) (idx_main_v41 i) := by
  unfold val_main_v41
  generalize val_main_c_23 (F := F) = y
  exact broadcastInDim_apply _ bcast_S_S38016x4096 y i (idx_main_v41 i) (fun a => a.elim0)

-- %42 = stablehlo.compare NE, %40, %41, SIGNED : (tensor<38016x4096xi32>, tensor<38016x4096xi32>) -> tensor<38016x4096xi1>
def val_main_v42 (x1 : (⟨S38016x4096, .i8⟩ : BufTy).Contents (Elt F)) : (⟨S38016x4096, .i1⟩ : BufTy).Contents (Elt F) :=
  cmpi .ne (val_main_v40 (F := F) x1) (val_main_v41 (F := F))
theorem val_main_v42_apply (x1 : (⟨S38016x4096, .i8⟩ : BufTy).Contents (Elt F)) (i : S38016x4096.Idx) :
    val_main_v42 (F := F) x1 i = IntOp.cmpi .ne (val_main_v40 (F := F) x1 i) (val_main_v41 (F := F) i) := rfl

-- %43 = stablehlo.convert %42 : tensor<38016x4096xi1>
def val_main_v43 (x1 : (⟨S38016x4096, .i8⟩ : BufTy).Contents (Elt F)) : (⟨S38016x4096, .i1⟩ : BufTy).Contents (Elt F) :=
  id (val_main_v42 (F := F) x1)
theorem val_main_v43_apply (x1 : (⟨S38016x4096, .i8⟩ : BufTy).Contents (Elt F)) (i : S38016x4096.Idx) :
    val_main_v43 (F := F) x1 i = (val_main_v42 (F := F) x1 i) := rfl

-- %44 = func.call @_where_0(…) (record main_call12) result 0: @_where_0's %0 = stablehlo.select %arg0, %arg1, %arg2 : tensor<38016x4096xi1>, tensor<38016x4096xbf16>
def val_main_v44 (x1 : (⟨S38016x4096, .i8⟩ : BufTy).Contents (Elt F)) : (⟨S38016x4096, .bf16⟩ : BufTy).Contents (Elt F) :=
  select (val_main_v43 (F := F) x1) (val_main_v34 (F := F) x1) (val_main_v33 (F := F) x1)
theorem val_main_v44_apply (x1 : (⟨S38016x4096, .i8⟩ : BufTy).Contents (Elt F)) (i : S38016x4096.Idx) :
    val_main_v44 (F := F) x1 i = Scalar.select (val_main_v43 (F := F) x1 i) (val_main_v34 (F := F) x1 i) (val_main_v33 (F := F) x1 i) := rfl

-- %45 = func.call @_where_0(…) (record main_call13) result 0: @_where_0's %0 = stablehlo.select %arg0, %arg1, %arg2 : tensor<38016x4096xi1>, tensor<38016x4096xbf16>
def val_main_v45 (x1 : (⟨S38016x4096, .i8⟩ : BufTy).Contents (Elt F)) : (⟨S38016x4096, .bf16⟩ : BufTy).Contents (Elt F) :=
  select (val_main_v43 (F := F) x1) (val_main_v36 (F := F) x1) (val_main_v35 (F := F) x1)
theorem val_main_v45_apply (x1 : (⟨S38016x4096, .i8⟩ : BufTy).Contents (Elt F)) (i : S38016x4096.Idx) :
    val_main_v45 (F := F) x1 i = Scalar.select (val_main_v43 (F := F) x1 i) (val_main_v36 (F := F) x1 i) (val_main_v35 (F := F) x1 i) := rfl

-- %c_24 = stablehlo.constant dense<3> : tensor<i32>
def val_main_c_24 : (⟨S_, .i32⟩ : BufTy).Contents (Elt F) :=
  constantI S_ 32 3#32
theorem val_main_c_24_apply (i : S_.Idx) :
    val_main_c_24 (F := F) i = 3#32 := rfl

-- %46 = stablehlo.broadcast_in_dim %c_24, dims = [] : (tensor<i32>) -> tensor<38016x4096xi32>
def val_main_v46 : (⟨S38016x4096, .i32⟩ : BufTy).Contents (Elt F) :=
  broadcastInDim S38016x4096 ![] bcast_S_S38016x4096 (val_main_c_24 (F := F))
abbrev idx_main_v46 (i : S38016x4096.Idx) : S_.Idx := fun a => a.elim0
theorem val_main_v46_apply (i : S38016x4096.Idx) :
    val_main_v46 (F := F) i = val_main_c_24 (F := F) (idx_main_v46 i) := by
  unfold val_main_v46
  generalize val_main_c_24 (F := F) = y
  exact broadcastInDim_apply _ bcast_S_S38016x4096 y i (idx_main_v46 i) (fun a => a.elim0)

-- %47 = stablehlo.shift_right_arithmetic %10, %46 : tensor<38016x4096xi32>
def val_main_v47 (x1 : (⟨S38016x4096, .i8⟩ : BufTy).Contents (Elt F)) : (⟨S38016x4096, .i32⟩ : BufTy).Contents (Elt F) :=
  Host.shrsi (val_main_v10 (F := F) x1) (val_main_v46 (F := F))
theorem val_main_v47_apply (x1 : (⟨S38016x4096, .i8⟩ : BufTy).Contents (Elt F)) (i : S38016x4096.Idx) :
    val_main_v47 (F := F) x1 i = IntOp.shrsi .host (val_main_v10 (F := F) x1 i) (val_main_v46 (F := F) i) := rfl

-- %c_25 = stablehlo.constant dense<1> : tensor<i32>
def val_main_c_25 : (⟨S_, .i32⟩ : BufTy).Contents (Elt F) :=
  constantI S_ 32 1#32
theorem val_main_c_25_apply (i : S_.Idx) :
    val_main_c_25 (F := F) i = 1#32 := rfl

-- %48 = stablehlo.broadcast_in_dim %c_25, dims = [] : (tensor<i32>) -> tensor<38016x4096xi32>
def val_main_v48 : (⟨S38016x4096, .i32⟩ : BufTy).Contents (Elt F) :=
  broadcastInDim S38016x4096 ![] bcast_S_S38016x4096 (val_main_c_25 (F := F))
abbrev idx_main_v48 (i : S38016x4096.Idx) : S_.Idx := fun a => a.elim0
theorem val_main_v48_apply (i : S38016x4096.Idx) :
    val_main_v48 (F := F) i = val_main_c_25 (F := F) (idx_main_v48 i) := by
  unfold val_main_v48
  generalize val_main_c_25 (F := F) = y
  exact broadcastInDim_apply _ bcast_S_S38016x4096 y i (idx_main_v48 i) (fun a => a.elim0)

-- %49 = stablehlo.and %47, %48 : tensor<38016x4096xi32>
def val_main_v49 (x1 : (⟨S38016x4096, .i8⟩ : BufTy).Contents (Elt F)) : (⟨S38016x4096, .i32⟩ : BufTy).Contents (Elt F) :=
  andi (val_main_v47 (F := F) x1) (val_main_v48 (F := F))
theorem val_main_v49_apply (x1 : (⟨S38016x4096, .i8⟩ : BufTy).Contents (Elt F)) (i : S38016x4096.Idx) :
    val_main_v49 (F := F) x1 i = IntOp.andi (val_main_v47 (F := F) x1 i) (val_main_v48 (F := F) i) := rfl

-- %c_26 = stablehlo.constant dense<0> : tensor<i32>
def val_main_c_26 : (⟨S_, .i32⟩ : BufTy).Contents (Elt F) :=
  constantI S_ 32 0#32
theorem val_main_c_26_apply (i : S_.Idx) :
    val_main_c_26 (F := F) i = 0#32 := rfl

-- %50 = stablehlo.broadcast_in_dim %c_26, dims = [] : (tensor<i32>) -> tensor<38016x4096xi32>
def val_main_v50 : (⟨S38016x4096, .i32⟩ : BufTy).Contents (Elt F) :=
  broadcastInDim S38016x4096 ![] bcast_S_S38016x4096 (val_main_c_26 (F := F))
abbrev idx_main_v50 (i : S38016x4096.Idx) : S_.Idx := fun a => a.elim0
theorem val_main_v50_apply (i : S38016x4096.Idx) :
    val_main_v50 (F := F) i = val_main_c_26 (F := F) (idx_main_v50 i) := by
  unfold val_main_v50
  generalize val_main_c_26 (F := F) = y
  exact broadcastInDim_apply _ bcast_S_S38016x4096 y i (idx_main_v50 i) (fun a => a.elim0)

-- %51 = stablehlo.compare NE, %49, %50, SIGNED : (tensor<38016x4096xi32>, tensor<38016x4096xi32>) -> tensor<38016x4096xi1>
def val_main_v51 (x1 : (⟨S38016x4096, .i8⟩ : BufTy).Contents (Elt F)) : (⟨S38016x4096, .i1⟩ : BufTy).Contents (Elt F) :=
  cmpi .ne (val_main_v49 (F := F) x1) (val_main_v50 (F := F))
theorem val_main_v51_apply (x1 : (⟨S38016x4096, .i8⟩ : BufTy).Contents (Elt F)) (i : S38016x4096.Idx) :
    val_main_v51 (F := F) x1 i = IntOp.cmpi .ne (val_main_v49 (F := F) x1 i) (val_main_v50 (F := F) i) := rfl

-- %52 = stablehlo.convert %51 : tensor<38016x4096xi1>
def val_main_v52 (x1 : (⟨S38016x4096, .i8⟩ : BufTy).Contents (Elt F)) : (⟨S38016x4096, .i1⟩ : BufTy).Contents (Elt F) :=
  id (val_main_v51 (F := F) x1)
theorem val_main_v52_apply (x1 : (⟨S38016x4096, .i8⟩ : BufTy).Contents (Elt F)) (i : S38016x4096.Idx) :
    val_main_v52 (F := F) x1 i = (val_main_v51 (F := F) x1 i) := rfl

-- %53 = func.call @_where_0(…) (record main_call14) result 0: @_where_0's %0 = stablehlo.select %arg0, %arg1, %arg2 : tensor<38016x4096xi1>, tensor<38016x4096xbf16>
def val_main_v53 (x1 : (⟨S38016x4096, .i8⟩ : BufTy).Contents (Elt F)) : (⟨S38016x4096, .bf16⟩ : BufTy).Contents (Elt F) :=
  select (val_main_v52 (F := F) x1) (val_main_v45 (F := F) x1) (val_main_v44 (F := F) x1)
theorem val_main_v53_apply (x1 : (⟨S38016x4096, .i8⟩ : BufTy).Contents (Elt F)) (i : S38016x4096.Idx) :
    val_main_v53 (F := F) x1 i = Scalar.select (val_main_v52 (F := F) x1 i) (val_main_v45 (F := F) x1 i) (val_main_v44 (F := F) x1 i) := rfl

-- %54 = stablehlo.multiply %53, %7 : tensor<38016x4096xbf16>
def val_main_v54 (x1 : (⟨S38016x4096, .i8⟩ : BufTy).Contents (Elt F)) (x2 : (⟨S38016x256, .bf16⟩ : BufTy).Contents (Elt F)) : (⟨S38016x4096, .bf16⟩ : BufTy).Contents (Elt F) :=
  mulf (val_main_v53 (F := F) x1) (val_main_v7 (F := F) x2)
theorem val_main_v54_apply (x1 : (⟨S38016x4096, .i8⟩ : BufTy).Contents (Elt F)) (x2 : (⟨S38016x256, .bf16⟩ : BufTy).Contents (Elt F)) (i : S38016x4096.Idx) :
    val_main_v54 (F := F) x1 x2 i = FloatOps.mulf (val_main_v53 (F := F) x1 i) (val_main_v7 (F := F) x2 i) := rfl

-- %c_27 = stablehlo.constant dense<4> : tensor<i32>
def val_main_c_27 : (⟨S_, .i32⟩ : BufTy).Contents (Elt F) :=
  constantI S_ 32 4#32
theorem val_main_c_27_apply (i : S_.Idx) :
    val_main_c_27 (F := F) i = 4#32 := rfl

-- %55 = stablehlo.broadcast_in_dim %c_27, dims = [] : (tensor<i32>) -> tensor<38016x4096xi32>
def val_main_v55 : (⟨S38016x4096, .i32⟩ : BufTy).Contents (Elt F) :=
  broadcastInDim S38016x4096 ![] bcast_S_S38016x4096 (val_main_c_27 (F := F))
abbrev idx_main_v55 (i : S38016x4096.Idx) : S_.Idx := fun a => a.elim0
theorem val_main_v55_apply (i : S38016x4096.Idx) :
    val_main_v55 (F := F) i = val_main_c_27 (F := F) (idx_main_v55 i) := by
  unfold val_main_v55
  generalize val_main_c_27 (F := F) = y
  exact broadcastInDim_apply _ bcast_S_S38016x4096 y i (idx_main_v55 i) (fun a => a.elim0)

-- %56 = stablehlo.shift_right_arithmetic %8, %55 : tensor<38016x4096xi32>
def val_main_v56 (x1 : (⟨S38016x4096, .i8⟩ : BufTy).Contents (Elt F)) : (⟨S38016x4096, .i32⟩ : BufTy).Contents (Elt F) :=
  Host.shrsi (val_main_v8 (F := F) x1) (val_main_v55 (F := F))
theorem val_main_v56_apply (x1 : (⟨S38016x4096, .i8⟩ : BufTy).Contents (Elt F)) (i : S38016x4096.Idx) :
    val_main_v56 (F := F) x1 i = IntOp.shrsi .host (val_main_v8 (F := F) x1 i) (val_main_v55 (F := F) i) := rfl

-- %c_28 = stablehlo.constant dense<0> : tensor<i32>
def val_main_c_28 : (⟨S_, .i32⟩ : BufTy).Contents (Elt F) :=
  constantI S_ 32 0#32
theorem val_main_c_28_apply (i : S_.Idx) :
    val_main_c_28 (F := F) i = 0#32 := rfl

-- %57 = stablehlo.broadcast_in_dim %c_28, dims = [] : (tensor<i32>) -> tensor<38016x4096xi32>
def val_main_v57 : (⟨S38016x4096, .i32⟩ : BufTy).Contents (Elt F) :=
  broadcastInDim S38016x4096 ![] bcast_S_S38016x4096 (val_main_c_28 (F := F))
abbrev idx_main_v57 (i : S38016x4096.Idx) : S_.Idx := fun a => a.elim0
theorem val_main_v57_apply (i : S38016x4096.Idx) :
    val_main_v57 (F := F) i = val_main_c_28 (F := F) (idx_main_v57 i) := by
  unfold val_main_v57
  generalize val_main_c_28 (F := F) = y
  exact broadcastInDim_apply _ bcast_S_S38016x4096 y i (idx_main_v57 i) (fun a => a.elim0)

-- %58 = stablehlo.shift_right_arithmetic %56, %57 : tensor<38016x4096xi32>
def val_main_v58 (x1 : (⟨S38016x4096, .i8⟩ : BufTy).Contents (Elt F)) : (⟨S38016x4096, .i32⟩ : BufTy).Contents (Elt F) :=
  Host.shrsi (val_main_v56 (F := F) x1) (val_main_v57 (F := F))
theorem val_main_v58_apply (x1 : (⟨S38016x4096, .i8⟩ : BufTy).Contents (Elt F)) (i : S38016x4096.Idx) :
    val_main_v58 (F := F) x1 i = IntOp.shrsi .host (val_main_v56 (F := F) x1 i) (val_main_v57 (F := F) i) := rfl

-- %c_29 = stablehlo.constant dense<1> : tensor<i32>
def val_main_c_29 : (⟨S_, .i32⟩ : BufTy).Contents (Elt F) :=
  constantI S_ 32 1#32
theorem val_main_c_29_apply (i : S_.Idx) :
    val_main_c_29 (F := F) i = 1#32 := rfl

-- %59 = stablehlo.broadcast_in_dim %c_29, dims = [] : (tensor<i32>) -> tensor<38016x4096xi32>
def val_main_v59 : (⟨S38016x4096, .i32⟩ : BufTy).Contents (Elt F) :=
  broadcastInDim S38016x4096 ![] bcast_S_S38016x4096 (val_main_c_29 (F := F))
abbrev idx_main_v59 (i : S38016x4096.Idx) : S_.Idx := fun a => a.elim0
theorem val_main_v59_apply (i : S38016x4096.Idx) :
    val_main_v59 (F := F) i = val_main_c_29 (F := F) (idx_main_v59 i) := by
  unfold val_main_v59
  generalize val_main_c_29 (F := F) = y
  exact broadcastInDim_apply _ bcast_S_S38016x4096 y i (idx_main_v59 i) (fun a => a.elim0)

-- %60 = stablehlo.and %58, %59 : tensor<38016x4096xi32>
def val_main_v60 (x1 : (⟨S38016x4096, .i8⟩ : BufTy).Contents (Elt F)) : (⟨S38016x4096, .i32⟩ : BufTy).Contents (Elt F) :=
  andi (val_main_v58 (F := F) x1) (val_main_v59 (F := F))
theorem val_main_v60_apply (x1 : (⟨S38016x4096, .i8⟩ : BufTy).Contents (Elt F)) (i : S38016x4096.Idx) :
    val_main_v60 (F := F) x1 i = IntOp.andi (val_main_v58 (F := F) x1 i) (val_main_v59 (F := F) i) := rfl

-- %c_30 = stablehlo.constant dense<0> : tensor<i32>
def val_main_c_30 : (⟨S_, .i32⟩ : BufTy).Contents (Elt F) :=
  constantI S_ 32 0#32
theorem val_main_c_30_apply (i : S_.Idx) :
    val_main_c_30 (F := F) i = 0#32 := rfl

-- %61 = stablehlo.broadcast_in_dim %c_30, dims = [] : (tensor<i32>) -> tensor<38016x4096xi32>
def val_main_v61 : (⟨S38016x4096, .i32⟩ : BufTy).Contents (Elt F) :=
  broadcastInDim S38016x4096 ![] bcast_S_S38016x4096 (val_main_c_30 (F := F))
abbrev idx_main_v61 (i : S38016x4096.Idx) : S_.Idx := fun a => a.elim0
theorem val_main_v61_apply (i : S38016x4096.Idx) :
    val_main_v61 (F := F) i = val_main_c_30 (F := F) (idx_main_v61 i) := by
  unfold val_main_v61
  generalize val_main_c_30 (F := F) = y
  exact broadcastInDim_apply _ bcast_S_S38016x4096 y i (idx_main_v61 i) (fun a => a.elim0)

-- %62 = stablehlo.compare NE, %60, %61, SIGNED : (tensor<38016x4096xi32>, tensor<38016x4096xi32>) -> tensor<38016x4096xi1>
def val_main_v62 (x1 : (⟨S38016x4096, .i8⟩ : BufTy).Contents (Elt F)) : (⟨S38016x4096, .i1⟩ : BufTy).Contents (Elt F) :=
  cmpi .ne (val_main_v60 (F := F) x1) (val_main_v61 (F := F))
theorem val_main_v62_apply (x1 : (⟨S38016x4096, .i8⟩ : BufTy).Contents (Elt F)) (i : S38016x4096.Idx) :
    val_main_v62 (F := F) x1 i = IntOp.cmpi .ne (val_main_v60 (F := F) x1 i) (val_main_v61 (F := F) i) := rfl

-- %63 = stablehlo.convert %62 : tensor<38016x4096xi1>
def val_main_v63 (x1 : (⟨S38016x4096, .i8⟩ : BufTy).Contents (Elt F)) : (⟨S38016x4096, .i1⟩ : BufTy).Contents (Elt F) :=
  id (val_main_v62 (F := F) x1)
theorem val_main_v63_apply (x1 : (⟨S38016x4096, .i8⟩ : BufTy).Contents (Elt F)) (i : S38016x4096.Idx) :
    val_main_v63 (F := F) x1 i = (val_main_v62 (F := F) x1 i) := rfl

-- %cst_31 = stablehlo.constant dense<-1.040000e+02> : tensor<bf16>
def val_main_cst_31 : (⟨S_, .bf16⟩ : BufTy).Contents (Elt F) :=
  constant S_ .bf16 0xC2D0#16
theorem val_main_cst_31_apply (i : S_.Idx) :
    val_main_cst_31 (F := F) i = FloatOps.ofBits .bf16 0xC2D0#16 := rfl

-- %cst_32 = stablehlo.constant dense<-1.270000e+02> : tensor<bf16>
def val_main_cst_32 : (⟨S_, .bf16⟩ : BufTy).Contents (Elt F) :=
  constant S_ .bf16 0xC2FE#16
theorem val_main_cst_32_apply (i : S_.Idx) :
    val_main_cst_32 (F := F) i = FloatOps.ofBits .bf16 0xC2FE#16 := rfl

-- @_where's %0 = stablehlo.broadcast_in_dim %arg1, dims = [] : (tensor<bf16>) -> tensor<38016x4096xbf16>, in %64 = func.call @_where(…) (record main_call15)
def val_main_call15_v0 : (⟨S38016x4096, .bf16⟩ : BufTy).Contents (Elt F) :=
  broadcastInDim S38016x4096 ![] bcast_S_S38016x4096 (val_main_cst_31 (F := F))
abbrev idx_main_call15_v0 (i : S38016x4096.Idx) : S_.Idx := fun a => a.elim0
theorem val_main_call15_v0_apply (i : S38016x4096.Idx) :
    val_main_call15_v0 (F := F) i = val_main_cst_31 (F := F) (idx_main_call15_v0 i) := by
  unfold val_main_call15_v0
  generalize val_main_cst_31 (F := F) = y
  exact broadcastInDim_apply _ bcast_S_S38016x4096 y i (idx_main_call15_v0 i) (fun a => a.elim0)

-- @_where's %1 = stablehlo.broadcast_in_dim %arg2, dims = [] : (tensor<bf16>) -> tensor<38016x4096xbf16>, in %64 = func.call @_where(…) (record main_call15)
def val_main_call15_v1 : (⟨S38016x4096, .bf16⟩ : BufTy).Contents (Elt F) :=
  broadcastInDim S38016x4096 ![] bcast_S_S38016x4096 (val_main_cst_32 (F := F))
abbrev idx_main_call15_v1 (i : S38016x4096.Idx) : S_.Idx := fun a => a.elim0
theorem val_main_call15_v1_apply (i : S38016x4096.Idx) :
    val_main_call15_v1 (F := F) i = val_main_cst_32 (F := F) (idx_main_call15_v1 i) := by
  unfold val_main_call15_v1
  generalize val_main_cst_32 (F := F) = y
  exact broadcastInDim_apply _ bcast_S_S38016x4096 y i (idx_main_call15_v1 i) (fun a => a.elim0)

-- %64 = func.call @_where(…) (record main_call15) result 0: @_where's %2 = stablehlo.select %arg0, %0, %1 : tensor<38016x4096xi1>, tensor<38016x4096xbf16>
def val_main_v64 (x1 : (⟨S38016x4096, .i8⟩ : BufTy).Contents (Elt F)) : (⟨S38016x4096, .bf16⟩ : BufTy).Contents (Elt F) :=
  select (val_main_v63 (F := F) x1) (val_main_call15_v0 (F := F)) (val_main_call15_v1 (F := F))
theorem val_main_v64_apply (x1 : (⟨S38016x4096, .i8⟩ : BufTy).Contents (Elt F)) (i : S38016x4096.Idx) :
    val_main_v64 (F := F) x1 i = Scalar.select (val_main_v63 (F := F) x1 i) (val_main_call15_v0 (F := F) i) (val_main_call15_v1 (F := F) i) := rfl

-- %cst_33 = stablehlo.constant dense<-6.500000e+01> : tensor<bf16>
def val_main_cst_33 : (⟨S_, .bf16⟩ : BufTy).Contents (Elt F) :=
  constant S_ .bf16 0xC282#16
theorem val_main_cst_33_apply (i : S_.Idx) :
    val_main_cst_33 (F := F) i = FloatOps.ofBits .bf16 0xC282#16 := rfl

-- %cst_34 = stablehlo.constant dense<-8.300000e+01> : tensor<bf16>
def val_main_cst_34 : (⟨S_, .bf16⟩ : BufTy).Contents (Elt F) :=
  constant S_ .bf16 0xC2A6#16
theorem val_main_cst_34_apply (i : S_.Idx) :
    val_main_cst_34 (F := F) i = FloatOps.ofBits .bf16 0xC2A6#16 := rfl

-- @_where's %0 = stablehlo.broadcast_in_dim %arg1, dims = [] : (tensor<bf16>) -> tensor<38016x4096xbf16>, in %65 = func.call @_where(…) (record main_call16)
def val_main_call16_v0 : (⟨S38016x4096, .bf16⟩ : BufTy).Contents (Elt F) :=
  broadcastInDim S38016x4096 ![] bcast_S_S38016x4096 (val_main_cst_33 (F := F))
abbrev idx_main_call16_v0 (i : S38016x4096.Idx) : S_.Idx := fun a => a.elim0
theorem val_main_call16_v0_apply (i : S38016x4096.Idx) :
    val_main_call16_v0 (F := F) i = val_main_cst_33 (F := F) (idx_main_call16_v0 i) := by
  unfold val_main_call16_v0
  generalize val_main_cst_33 (F := F) = y
  exact broadcastInDim_apply _ bcast_S_S38016x4096 y i (idx_main_call16_v0 i) (fun a => a.elim0)

-- @_where's %1 = stablehlo.broadcast_in_dim %arg2, dims = [] : (tensor<bf16>) -> tensor<38016x4096xbf16>, in %65 = func.call @_where(…) (record main_call16)
def val_main_call16_v1 : (⟨S38016x4096, .bf16⟩ : BufTy).Contents (Elt F) :=
  broadcastInDim S38016x4096 ![] bcast_S_S38016x4096 (val_main_cst_34 (F := F))
abbrev idx_main_call16_v1 (i : S38016x4096.Idx) : S_.Idx := fun a => a.elim0
theorem val_main_call16_v1_apply (i : S38016x4096.Idx) :
    val_main_call16_v1 (F := F) i = val_main_cst_34 (F := F) (idx_main_call16_v1 i) := by
  unfold val_main_call16_v1
  generalize val_main_cst_34 (F := F) = y
  exact broadcastInDim_apply _ bcast_S_S38016x4096 y i (idx_main_call16_v1 i) (fun a => a.elim0)

-- %65 = func.call @_where(…) (record main_call16) result 0: @_where's %2 = stablehlo.select %arg0, %0, %1 : tensor<38016x4096xi1>, tensor<38016x4096xbf16>
def val_main_v65 (x1 : (⟨S38016x4096, .i8⟩ : BufTy).Contents (Elt F)) : (⟨S38016x4096, .bf16⟩ : BufTy).Contents (Elt F) :=
  select (val_main_v63 (F := F) x1) (val_main_call16_v0 (F := F)) (val_main_call16_v1 (F := F))
theorem val_main_v65_apply (x1 : (⟨S38016x4096, .i8⟩ : BufTy).Contents (Elt F)) (i : S38016x4096.Idx) :
    val_main_v65 (F := F) x1 i = Scalar.select (val_main_v63 (F := F) x1 i) (val_main_call16_v0 (F := F) i) (val_main_call16_v1 (F := F) i) := rfl

-- %cst_35 = stablehlo.constant dense<-3.500000e+01> : tensor<bf16>
def val_main_cst_35 : (⟨S_, .bf16⟩ : BufTy).Contents (Elt F) :=
  constant S_ .bf16 0xC20C#16
theorem val_main_cst_35_apply (i : S_.Idx) :
    val_main_cst_35 (F := F) i = FloatOps.ofBits .bf16 0xC20C#16 := rfl

-- %cst_36 = stablehlo.constant dense<-4.900000e+01> : tensor<bf16>
def val_main_cst_36 : (⟨S_, .bf16⟩ : BufTy).Contents (Elt F) :=
  constant S_ .bf16 0xC244#16
theorem val_main_cst_36_apply (i : S_.Idx) :
    val_main_cst_36 (F := F) i = FloatOps.ofBits .bf16 0xC244#16 := rfl

-- @_where's %0 = stablehlo.broadcast_in_dim %arg1, dims = [] : (tensor<bf16>) -> tensor<38016x4096xbf16>, in %66 = func.call @_where(…) (record main_call17)
def val_main_call17_v0 : (⟨S38016x4096, .bf16⟩ : BufTy).Contents (Elt F) :=
  broadcastInDim S38016x4096 ![] bcast_S_S38016x4096 (val_main_cst_35 (F := F))
abbrev idx_main_call17_v0 (i : S38016x4096.Idx) : S_.Idx := fun a => a.elim0
theorem val_main_call17_v0_apply (i : S38016x4096.Idx) :
    val_main_call17_v0 (F := F) i = val_main_cst_35 (F := F) (idx_main_call17_v0 i) := by
  unfold val_main_call17_v0
  generalize val_main_cst_35 (F := F) = y
  exact broadcastInDim_apply _ bcast_S_S38016x4096 y i (idx_main_call17_v0 i) (fun a => a.elim0)

-- @_where's %1 = stablehlo.broadcast_in_dim %arg2, dims = [] : (tensor<bf16>) -> tensor<38016x4096xbf16>, in %66 = func.call @_where(…) (record main_call17)
def val_main_call17_v1 : (⟨S38016x4096, .bf16⟩ : BufTy).Contents (Elt F) :=
  broadcastInDim S38016x4096 ![] bcast_S_S38016x4096 (val_main_cst_36 (F := F))
abbrev idx_main_call17_v1 (i : S38016x4096.Idx) : S_.Idx := fun a => a.elim0
theorem val_main_call17_v1_apply (i : S38016x4096.Idx) :
    val_main_call17_v1 (F := F) i = val_main_cst_36 (F := F) (idx_main_call17_v1 i) := by
  unfold val_main_call17_v1
  generalize val_main_cst_36 (F := F) = y
  exact broadcastInDim_apply _ bcast_S_S38016x4096 y i (idx_main_call17_v1 i) (fun a => a.elim0)

-- %66 = func.call @_where(…) (record main_call17) result 0: @_where's %2 = stablehlo.select %arg0, %0, %1 : tensor<38016x4096xi1>, tensor<38016x4096xbf16>
def val_main_v66 (x1 : (⟨S38016x4096, .i8⟩ : BufTy).Contents (Elt F)) : (⟨S38016x4096, .bf16⟩ : BufTy).Contents (Elt F) :=
  select (val_main_v63 (F := F) x1) (val_main_call17_v0 (F := F)) (val_main_call17_v1 (F := F))
theorem val_main_v66_apply (x1 : (⟨S38016x4096, .i8⟩ : BufTy).Contents (Elt F)) (i : S38016x4096.Idx) :
    val_main_v66 (F := F) x1 i = Scalar.select (val_main_v63 (F := F) x1 i) (val_main_call17_v0 (F := F) i) (val_main_call17_v1 (F := F) i) := rfl

-- %cst_37 = stablehlo.constant dense<-1.000000e+01> : tensor<bf16>
def val_main_cst_37 : (⟨S_, .bf16⟩ : BufTy).Contents (Elt F) :=
  constant S_ .bf16 0xC120#16
theorem val_main_cst_37_apply (i : S_.Idx) :
    val_main_cst_37 (F := F) i = FloatOps.ofBits .bf16 0xC120#16 := rfl

-- %cst_38 = stablehlo.constant dense<-2.200000e+01> : tensor<bf16>
def val_main_cst_38 : (⟨S_, .bf16⟩ : BufTy).Contents (Elt F) :=
  constant S_ .bf16 0xC1B0#16
theorem val_main_cst_38_apply (i : S_.Idx) :
    val_main_cst_38 (F := F) i = FloatOps.ofBits .bf16 0xC1B0#16 := rfl

-- @_where's %0 = stablehlo.broadcast_in_dim %arg1, dims = [] : (tensor<bf16>) -> tensor<38016x4096xbf16>, in %67 = func.call @_where(…) (record main_call18)
def val_main_call18_v0 : (⟨S38016x4096, .bf16⟩ : BufTy).Contents (Elt F) :=
  broadcastInDim S38016x4096 ![] bcast_S_S38016x4096 (val_main_cst_37 (F := F))
abbrev idx_main_call18_v0 (i : S38016x4096.Idx) : S_.Idx := fun a => a.elim0
theorem val_main_call18_v0_apply (i : S38016x4096.Idx) :
    val_main_call18_v0 (F := F) i = val_main_cst_37 (F := F) (idx_main_call18_v0 i) := by
  unfold val_main_call18_v0
  generalize val_main_cst_37 (F := F) = y
  exact broadcastInDim_apply _ bcast_S_S38016x4096 y i (idx_main_call18_v0 i) (fun a => a.elim0)

-- @_where's %1 = stablehlo.broadcast_in_dim %arg2, dims = [] : (tensor<bf16>) -> tensor<38016x4096xbf16>, in %67 = func.call @_where(…) (record main_call18)
def val_main_call18_v1 : (⟨S38016x4096, .bf16⟩ : BufTy).Contents (Elt F) :=
  broadcastInDim S38016x4096 ![] bcast_S_S38016x4096 (val_main_cst_38 (F := F))
abbrev idx_main_call18_v1 (i : S38016x4096.Idx) : S_.Idx := fun a => a.elim0
theorem val_main_call18_v1_apply (i : S38016x4096.Idx) :
    val_main_call18_v1 (F := F) i = val_main_cst_38 (F := F) (idx_main_call18_v1 i) := by
  unfold val_main_call18_v1
  generalize val_main_cst_38 (F := F) = y
  exact broadcastInDim_apply _ bcast_S_S38016x4096 y i (idx_main_call18_v1 i) (fun a => a.elim0)

-- %67 = func.call @_where(…) (record main_call18) result 0: @_where's %2 = stablehlo.select %arg0, %0, %1 : tensor<38016x4096xi1>, tensor<38016x4096xbf16>
def val_main_v67 (x1 : (⟨S38016x4096, .i8⟩ : BufTy).Contents (Elt F)) : (⟨S38016x4096, .bf16⟩ : BufTy).Contents (Elt F) :=
  select (val_main_v63 (F := F) x1) (val_main_call18_v0 (F := F)) (val_main_call18_v1 (F := F))
theorem val_main_v67_apply (x1 : (⟨S38016x4096, .i8⟩ : BufTy).Contents (Elt F)) (i : S38016x4096.Idx) :
    val_main_v67 (F := F) x1 i = Scalar.select (val_main_v63 (F := F) x1 i) (val_main_call18_v0 (F := F) i) (val_main_call18_v1 (F := F) i) := rfl

-- %cst_39 = stablehlo.constant dense<1.300000e+01> : tensor<bf16>
def val_main_cst_39 : (⟨S_, .bf16⟩ : BufTy).Contents (Elt F) :=
  constant S_ .bf16 0x4150#16
theorem val_main_cst_39_apply (i : S_.Idx) :
    val_main_cst_39 (F := F) i = FloatOps.ofBits .bf16 0x4150#16 := rfl

-- %cst_40 = stablehlo.constant dense<1.000000e+00> : tensor<bf16>
def val_main_cst_40 : (⟨S_, .bf16⟩ : BufTy).Contents (Elt F) :=
  constant S_ .bf16 0x3F80#16
theorem val_main_cst_40_apply (i : S_.Idx) :
    val_main_cst_40 (F := F) i = FloatOps.ofBits .bf16 0x3F80#16 := rfl

-- @_where's %0 = stablehlo.broadcast_in_dim %arg1, dims = [] : (tensor<bf16>) -> tensor<38016x4096xbf16>, in %68 = func.call @_where(…) (record main_call19)
def val_main_call19_v0 : (⟨S38016x4096, .bf16⟩ : BufTy).Contents (Elt F) :=
  broadcastInDim S38016x4096 ![] bcast_S_S38016x4096 (val_main_cst_39 (F := F))
abbrev idx_main_call19_v0 (i : S38016x4096.Idx) : S_.Idx := fun a => a.elim0
theorem val_main_call19_v0_apply (i : S38016x4096.Idx) :
    val_main_call19_v0 (F := F) i = val_main_cst_39 (F := F) (idx_main_call19_v0 i) := by
  unfold val_main_call19_v0
  generalize val_main_cst_39 (F := F) = y
  exact broadcastInDim_apply _ bcast_S_S38016x4096 y i (idx_main_call19_v0 i) (fun a => a.elim0)

-- @_where's %1 = stablehlo.broadcast_in_dim %arg2, dims = [] : (tensor<bf16>) -> tensor<38016x4096xbf16>, in %68 = func.call @_where(…) (record main_call19)
def val_main_call19_v1 : (⟨S38016x4096, .bf16⟩ : BufTy).Contents (Elt F) :=
  broadcastInDim S38016x4096 ![] bcast_S_S38016x4096 (val_main_cst_40 (F := F))
abbrev idx_main_call19_v1 (i : S38016x4096.Idx) : S_.Idx := fun a => a.elim0
theorem val_main_call19_v1_apply (i : S38016x4096.Idx) :
    val_main_call19_v1 (F := F) i = val_main_cst_40 (F := F) (idx_main_call19_v1 i) := by
  unfold val_main_call19_v1
  generalize val_main_cst_40 (F := F) = y
  exact broadcastInDim_apply _ bcast_S_S38016x4096 y i (idx_main_call19_v1 i) (fun a => a.elim0)

-- %68 = func.call @_where(…) (record main_call19) result 0: @_where's %2 = stablehlo.select %arg0, %0, %1 : tensor<38016x4096xi1>, tensor<38016x4096xbf16>
def val_main_v68 (x1 : (⟨S38016x4096, .i8⟩ : BufTy).Contents (Elt F)) : (⟨S38016x4096, .bf16⟩ : BufTy).Contents (Elt F) :=
  select (val_main_v63 (F := F) x1) (val_main_call19_v0 (F := F)) (val_main_call19_v1 (F := F))
theorem val_main_v68_apply (x1 : (⟨S38016x4096, .i8⟩ : BufTy).Contents (Elt F)) (i : S38016x4096.Idx) :
    val_main_v68 (F := F) x1 i = Scalar.select (val_main_v63 (F := F) x1 i) (val_main_call19_v0 (F := F) i) (val_main_call19_v1 (F := F) i) := rfl

-- %cst_41 = stablehlo.constant dense<3.800000e+01> : tensor<bf16>
def val_main_cst_41 : (⟨S_, .bf16⟩ : BufTy).Contents (Elt F) :=
  constant S_ .bf16 0x4218#16
theorem val_main_cst_41_apply (i : S_.Idx) :
    val_main_cst_41 (F := F) i = FloatOps.ofBits .bf16 0x4218#16 := rfl

-- %cst_42 = stablehlo.constant dense<2.500000e+01> : tensor<bf16>
def val_main_cst_42 : (⟨S_, .bf16⟩ : BufTy).Contents (Elt F) :=
  constant S_ .bf16 0x41C8#16
theorem val_main_cst_42_apply (i : S_.Idx) :
    val_main_cst_42 (F := F) i = FloatOps.ofBits .bf16 0x41C8#16 := rfl

-- @_where's %0 = stablehlo.broadcast_in_dim %arg1, dims = [] : (tensor<bf16>) -> tensor<38016x4096xbf16>, in %69 = func.call @_where(…) (record main_call20)
def val_main_call20_v0 : (⟨S38016x4096, .bf16⟩ : BufTy).Contents (Elt F) :=
  broadcastInDim S38016x4096 ![] bcast_S_S38016x4096 (val_main_cst_41 (F := F))
abbrev idx_main_call20_v0 (i : S38016x4096.Idx) : S_.Idx := fun a => a.elim0
theorem val_main_call20_v0_apply (i : S38016x4096.Idx) :
    val_main_call20_v0 (F := F) i = val_main_cst_41 (F := F) (idx_main_call20_v0 i) := by
  unfold val_main_call20_v0
  generalize val_main_cst_41 (F := F) = y
  exact broadcastInDim_apply _ bcast_S_S38016x4096 y i (idx_main_call20_v0 i) (fun a => a.elim0)

-- @_where's %1 = stablehlo.broadcast_in_dim %arg2, dims = [] : (tensor<bf16>) -> tensor<38016x4096xbf16>, in %69 = func.call @_where(…) (record main_call20)
def val_main_call20_v1 : (⟨S38016x4096, .bf16⟩ : BufTy).Contents (Elt F) :=
  broadcastInDim S38016x4096 ![] bcast_S_S38016x4096 (val_main_cst_42 (F := F))
abbrev idx_main_call20_v1 (i : S38016x4096.Idx) : S_.Idx := fun a => a.elim0
theorem val_main_call20_v1_apply (i : S38016x4096.Idx) :
    val_main_call20_v1 (F := F) i = val_main_cst_42 (F := F) (idx_main_call20_v1 i) := by
  unfold val_main_call20_v1
  generalize val_main_cst_42 (F := F) = y
  exact broadcastInDim_apply _ bcast_S_S38016x4096 y i (idx_main_call20_v1 i) (fun a => a.elim0)

-- %69 = func.call @_where(…) (record main_call20) result 0: @_where's %2 = stablehlo.select %arg0, %0, %1 : tensor<38016x4096xi1>, tensor<38016x4096xbf16>
def val_main_v69 (x1 : (⟨S38016x4096, .i8⟩ : BufTy).Contents (Elt F)) : (⟨S38016x4096, .bf16⟩ : BufTy).Contents (Elt F) :=
  select (val_main_v63 (F := F) x1) (val_main_call20_v0 (F := F)) (val_main_call20_v1 (F := F))
theorem val_main_v69_apply (x1 : (⟨S38016x4096, .i8⟩ : BufTy).Contents (Elt F)) (i : S38016x4096.Idx) :
    val_main_v69 (F := F) x1 i = Scalar.select (val_main_v63 (F := F) x1 i) (val_main_call20_v0 (F := F) i) (val_main_call20_v1 (F := F) i) := rfl

-- %cst_43 = stablehlo.constant dense<6.900000e+01> : tensor<bf16>
def val_main_cst_43 : (⟨S_, .bf16⟩ : BufTy).Contents (Elt F) :=
  constant S_ .bf16 0x428A#16
theorem val_main_cst_43_apply (i : S_.Idx) :
    val_main_cst_43 (F := F) i = FloatOps.ofBits .bf16 0x428A#16 := rfl

-- %cst_44 = stablehlo.constant dense<5.300000e+01> : tensor<bf16>
def val_main_cst_44 : (⟨S_, .bf16⟩ : BufTy).Contents (Elt F) :=
  constant S_ .bf16 0x4254#16
theorem val_main_cst_44_apply (i : S_.Idx) :
    val_main_cst_44 (F := F) i = FloatOps.ofBits .bf16 0x4254#16 := rfl

-- @_where's %0 = stablehlo.broadcast_in_dim %arg1, dims = [] : (tensor<bf16>) -> tensor<38016x4096xbf16>, in %70 = func.call @_where(…) (record main_call21)
def val_main_call21_v0 : (⟨S38016x4096, .bf16⟩ : BufTy).Contents (Elt F) :=
  broadcastInDim S38016x4096 ![] bcast_S_S38016x4096 (val_main_cst_43 (F := F))
abbrev idx_main_call21_v0 (i : S38016x4096.Idx) : S_.Idx := fun a => a.elim0
theorem val_main_call21_v0_apply (i : S38016x4096.Idx) :
    val_main_call21_v0 (F := F) i = val_main_cst_43 (F := F) (idx_main_call21_v0 i) := by
  unfold val_main_call21_v0
  generalize val_main_cst_43 (F := F) = y
  exact broadcastInDim_apply _ bcast_S_S38016x4096 y i (idx_main_call21_v0 i) (fun a => a.elim0)

-- @_where's %1 = stablehlo.broadcast_in_dim %arg2, dims = [] : (tensor<bf16>) -> tensor<38016x4096xbf16>, in %70 = func.call @_where(…) (record main_call21)
def val_main_call21_v1 : (⟨S38016x4096, .bf16⟩ : BufTy).Contents (Elt F) :=
  broadcastInDim S38016x4096 ![] bcast_S_S38016x4096 (val_main_cst_44 (F := F))
abbrev idx_main_call21_v1 (i : S38016x4096.Idx) : S_.Idx := fun a => a.elim0
theorem val_main_call21_v1_apply (i : S38016x4096.Idx) :
    val_main_call21_v1 (F := F) i = val_main_cst_44 (F := F) (idx_main_call21_v1 i) := by
  unfold val_main_call21_v1
  generalize val_main_cst_44 (F := F) = y
  exact broadcastInDim_apply _ bcast_S_S38016x4096 y i (idx_main_call21_v1 i) (fun a => a.elim0)

-- %70 = func.call @_where(…) (record main_call21) result 0: @_where's %2 = stablehlo.select %arg0, %0, %1 : tensor<38016x4096xi1>, tensor<38016x4096xbf16>
def val_main_v70 (x1 : (⟨S38016x4096, .i8⟩ : BufTy).Contents (Elt F)) : (⟨S38016x4096, .bf16⟩ : BufTy).Contents (Elt F) :=
  select (val_main_v63 (F := F) x1) (val_main_call21_v0 (F := F)) (val_main_call21_v1 (F := F))
theorem val_main_v70_apply (x1 : (⟨S38016x4096, .i8⟩ : BufTy).Contents (Elt F)) (i : S38016x4096.Idx) :
    val_main_v70 (F := F) x1 i = Scalar.select (val_main_v63 (F := F) x1 i) (val_main_call21_v0 (F := F) i) (val_main_call21_v1 (F := F) i) := rfl

-- %cst_45 = stablehlo.constant dense<1.130000e+02> : tensor<bf16>
def val_main_cst_45 : (⟨S_, .bf16⟩ : BufTy).Contents (Elt F) :=
  constant S_ .bf16 0x42E2#16
theorem val_main_cst_45_apply (i : S_.Idx) :
    val_main_cst_45 (F := F) i = FloatOps.ofBits .bf16 0x42E2#16 := rfl

-- %cst_46 = stablehlo.constant dense<8.900000e+01> : tensor<bf16>
def val_main_cst_46 : (⟨S_, .bf16⟩ : BufTy).Contents (Elt F) :=
  constant S_ .bf16 0x42B2#16
theorem val_main_cst_46_apply (i : S_.Idx) :
    val_main_cst_46 (F := F) i = FloatOps.ofBits .bf16 0x42B2#16 := rfl

-- @_where's %0 = stablehlo.broadcast_in_dim %arg1, dims = [] : (tensor<bf16>) -> tensor<38016x4096xbf16>, in %71 = func.call @_where(…) (record main_call22)
def val_main_call22_v0 : (⟨S38016x4096, .bf16⟩ : BufTy).Contents (Elt F) :=
  broadcastInDim S38016x4096 ![] bcast_S_S38016x4096 (val_main_cst_45 (F := F))
abbrev idx_main_call22_v0 (i : S38016x4096.Idx) : S_.Idx := fun a => a.elim0
theorem val_main_call22_v0_apply (i : S38016x4096.Idx) :
    val_main_call22_v0 (F := F) i = val_main_cst_45 (F := F) (idx_main_call22_v0 i) := by
  unfold val_main_call22_v0
  generalize val_main_cst_45 (F := F) = y
  exact broadcastInDim_apply _ bcast_S_S38016x4096 y i (idx_main_call22_v0 i) (fun a => a.elim0)

-- @_where's %1 = stablehlo.broadcast_in_dim %arg2, dims = [] : (tensor<bf16>) -> tensor<38016x4096xbf16>, in %71 = func.call @_where(…) (record main_call22)
def val_main_call22_v1 : (⟨S38016x4096, .bf16⟩ : BufTy).Contents (Elt F) :=
  broadcastInDim S38016x4096 ![] bcast_S_S38016x4096 (val_main_cst_46 (F := F))
abbrev idx_main_call22_v1 (i : S38016x4096.Idx) : S_.Idx := fun a => a.elim0
theorem val_main_call22_v1_apply (i : S38016x4096.Idx) :
    val_main_call22_v1 (F := F) i = val_main_cst_46 (F := F) (idx_main_call22_v1 i) := by
  unfold val_main_call22_v1
  generalize val_main_cst_46 (F := F) = y
  exact broadcastInDim_apply _ bcast_S_S38016x4096 y i (idx_main_call22_v1 i) (fun a => a.elim0)

-- %71 = func.call @_where(…) (record main_call22) result 0: @_where's %2 = stablehlo.select %arg0, %0, %1 : tensor<38016x4096xi1>, tensor<38016x4096xbf16>
def val_main_v71 (x1 : (⟨S38016x4096, .i8⟩ : BufTy).Contents (Elt F)) : (⟨S38016x4096, .bf16⟩ : BufTy).Contents (Elt F) :=
  select (val_main_v63 (F := F) x1) (val_main_call22_v0 (F := F)) (val_main_call22_v1 (F := F))
theorem val_main_v71_apply (x1 : (⟨S38016x4096, .i8⟩ : BufTy).Contents (Elt F)) (i : S38016x4096.Idx) :
    val_main_v71 (F := F) x1 i = Scalar.select (val_main_v63 (F := F) x1 i) (val_main_call22_v0 (F := F) i) (val_main_call22_v1 (F := F) i) := rfl

-- %c_47 = stablehlo.constant dense<1> : tensor<i32>
def val_main_c_47 : (⟨S_, .i32⟩ : BufTy).Contents (Elt F) :=
  constantI S_ 32 1#32
theorem val_main_c_47_apply (i : S_.Idx) :
    val_main_c_47 (F := F) i = 1#32 := rfl

-- %72 = stablehlo.broadcast_in_dim %c_47, dims = [] : (tensor<i32>) -> tensor<38016x4096xi32>
def val_main_v72 : (⟨S38016x4096, .i32⟩ : BufTy).Contents (Elt F) :=
  broadcastInDim S38016x4096 ![] bcast_S_S38016x4096 (val_main_c_47 (F := F))
abbrev idx_main_v72 (i : S38016x4096.Idx) : S_.Idx := fun a => a.elim0
theorem val_main_v72_apply (i : S38016x4096.Idx) :
    val_main_v72 (F := F) i = val_main_c_47 (F := F) (idx_main_v72 i) := by
  unfold val_main_v72
  generalize val_main_c_47 (F := F) = y
  exact broadcastInDim_apply _ bcast_S_S38016x4096 y i (idx_main_v72 i) (fun a => a.elim0)

-- %73 = stablehlo.shift_right_arithmetic %56, %72 : tensor<38016x4096xi32>
def val_main_v73 (x1 : (⟨S38016x4096, .i8⟩ : BufTy).Contents (Elt F)) : (⟨S38016x4096, .i32⟩ : BufTy).Contents (Elt F) :=
  Host.shrsi (val_main_v56 (F := F) x1) (val_main_v72 (F := F))
theorem val_main_v73_apply (x1 : (⟨S38016x4096, .i8⟩ : BufTy).Contents (Elt F)) (i : S38016x4096.Idx) :
    val_main_v73 (F := F) x1 i = IntOp.shrsi .host (val_main_v56 (F := F) x1 i) (val_main_v72 (F := F) i) := rfl

-- %c_48 = stablehlo.constant dense<1> : tensor<i32>
def val_main_c_48 : (⟨S_, .i32⟩ : BufTy).Contents (Elt F) :=
  constantI S_ 32 1#32
theorem val_main_c_48_apply (i : S_.Idx) :
    val_main_c_48 (F := F) i = 1#32 := rfl

-- %74 = stablehlo.broadcast_in_dim %c_48, dims = [] : (tensor<i32>) -> tensor<38016x4096xi32>
def val_main_v74 : (⟨S38016x4096, .i32⟩ : BufTy).Contents (Elt F) :=
  broadcastInDim S38016x4096 ![] bcast_S_S38016x4096 (val_main_c_48 (F := F))
abbrev idx_main_v74 (i : S38016x4096.Idx) : S_.Idx := fun a => a.elim0
theorem val_main_v74_apply (i : S38016x4096.Idx) :
    val_main_v74 (F := F) i = val_main_c_48 (F := F) (idx_main_v74 i) := by
  unfold val_main_v74
  generalize val_main_c_48 (F := F) = y
  exact broadcastInDim_apply _ bcast_S_S38016x4096 y i (idx_main_v74 i) (fun a => a.elim0)

-- %75 = stablehlo.and %73, %74 : tensor<38016x4096xi32>
def val_main_v75 (x1 : (⟨S38016x4096, .i8⟩ : BufTy).Contents (Elt F)) : (⟨S38016x4096, .i32⟩ : BufTy).Contents (Elt F) :=
  andi (val_main_v73 (F := F) x1) (val_main_v74 (F := F))
theorem val_main_v75_apply (x1 : (⟨S38016x4096, .i8⟩ : BufTy).Contents (Elt F)) (i : S38016x4096.Idx) :
    val_main_v75 (F := F) x1 i = IntOp.andi (val_main_v73 (F := F) x1 i) (val_main_v74 (F := F) i) := rfl

-- %c_49 = stablehlo.constant dense<0> : tensor<i32>
def val_main_c_49 : (⟨S_, .i32⟩ : BufTy).Contents (Elt F) :=
  constantI S_ 32 0#32
theorem val_main_c_49_apply (i : S_.Idx) :
    val_main_c_49 (F := F) i = 0#32 := rfl

-- %76 = stablehlo.broadcast_in_dim %c_49, dims = [] : (tensor<i32>) -> tensor<38016x4096xi32>
def val_main_v76 : (⟨S38016x4096, .i32⟩ : BufTy).Contents (Elt F) :=
  broadcastInDim S38016x4096 ![] bcast_S_S38016x4096 (val_main_c_49 (F := F))
abbrev idx_main_v76 (i : S38016x4096.Idx) : S_.Idx := fun a => a.elim0
theorem val_main_v76_apply (i : S38016x4096.Idx) :
    val_main_v76 (F := F) i = val_main_c_49 (F := F) (idx_main_v76 i) := by
  unfold val_main_v76
  generalize val_main_c_49 (F := F) = y
  exact broadcastInDim_apply _ bcast_S_S38016x4096 y i (idx_main_v76 i) (fun a => a.elim0)

-- %77 = stablehlo.compare NE, %75, %76, SIGNED : (tensor<38016x4096xi32>, tensor<38016x4096xi32>) -> tensor<38016x4096xi1>
def val_main_v77 (x1 : (⟨S38016x4096, .i8⟩ : BufTy).Contents (Elt F)) : (⟨S38016x4096, .i1⟩ : BufTy).Contents (Elt F) :=
  cmpi .ne (val_main_v75 (F := F) x1) (val_main_v76 (F := F))
theorem val_main_v77_apply (x1 : (⟨S38016x4096, .i8⟩ : BufTy).Contents (Elt F)) (i : S38016x4096.Idx) :
    val_main_v77 (F := F) x1 i = IntOp.cmpi .ne (val_main_v75 (F := F) x1 i) (val_main_v76 (F := F) i) := rfl

-- %78 = stablehlo.convert %77 : tensor<38016x4096xi1>
def val_main_v78 (x1 : (⟨S38016x4096, .i8⟩ : BufTy).Contents (Elt F)) : (⟨S38016x4096, .i1⟩ : BufTy).Contents (Elt F) :=
  id (val_main_v77 (F := F) x1)
theorem val_main_v78_apply (x1 : (⟨S38016x4096, .i8⟩ : BufTy).Contents (Elt F)) (i : S38016x4096.Idx) :
    val_main_v78 (F := F) x1 i = (val_main_v77 (F := F) x1 i) := rfl

-- %79 = func.call @_where_0(…) (record main_call23) result 0: @_where_0's %0 = stablehlo.select %arg0, %arg1, %arg2 : tensor<38016x4096xi1>, tensor<38016x4096xbf16>
def val_main_v79 (x1 : (⟨S38016x4096, .i8⟩ : BufTy).Contents (Elt F)) : (⟨S38016x4096, .bf16⟩ : BufTy).Contents (Elt F) :=
  select (val_main_v78 (F := F) x1) (val_main_v65 (F := F) x1) (val_main_v64 (F := F) x1)
theorem val_main_v79_apply (x1 : (⟨S38016x4096, .i8⟩ : BufTy).Contents (Elt F)) (i : S38016x4096.Idx) :
    val_main_v79 (F := F) x1 i = Scalar.select (val_main_v78 (F := F) x1 i) (val_main_v65 (F := F) x1 i) (val_main_v64 (F := F) x1 i) := rfl

-- %80 = func.call @_where_0(…) (record main_call24) result 0: @_where_0's %0 = stablehlo.select %arg0, %arg1, %arg2 : tensor<38016x4096xi1>, tensor<38016x4096xbf16>
def val_main_v80 (x1 : (⟨S38016x4096, .i8⟩ : BufTy).Contents (Elt F)) : (⟨S38016x4096, .bf16⟩ : BufTy).Contents (Elt F) :=
  select (val_main_v78 (F := F) x1) (val_main_v67 (F := F) x1) (val_main_v66 (F := F) x1)
theorem val_main_v80_apply (x1 : (⟨S38016x4096, .i8⟩ : BufTy).Contents (Elt F)) (i : S38016x4096.Idx) :
    val_main_v80 (F := F) x1 i = Scalar.select (val_main_v78 (F := F) x1 i) (val_main_v67 (F := F) x1 i) (val_main_v66 (F := F) x1 i) := rfl

-- %81 = func.call @_where_0(…) (record main_call25) result 0: @_where_0's %0 = stablehlo.select %arg0, %arg1, %arg2 : tensor<38016x4096xi1>, tensor<38016x4096xbf16>
def val_main_v81 (x1 : (⟨S38016x4096, .i8⟩ : BufTy).Contents (Elt F)) : (⟨S38016x4096, .bf16⟩ : BufTy).Contents (Elt F) :=
  select (val_main_v78 (F := F) x1) (val_main_v69 (F := F) x1) (val_main_v68 (F := F) x1)
theorem val_main_v81_apply (x1 : (⟨S38016x4096, .i8⟩ : BufTy).Contents (Elt F)) (i : S38016x4096.Idx) :
    val_main_v81 (F := F) x1 i = Scalar.select (val_main_v78 (F := F) x1 i) (val_main_v69 (F := F) x1 i) (val_main_v68 (F := F) x1 i) := rfl

-- %82 = func.call @_where_0(…) (record main_call26) result 0: @_where_0's %0 = stablehlo.select %arg0, %arg1, %arg2 : tensor<38016x4096xi1>, tensor<38016x4096xbf16>
def val_main_v82 (x1 : (⟨S38016x4096, .i8⟩ : BufTy).Contents (Elt F)) : (⟨S38016x4096, .bf16⟩ : BufTy).Contents (Elt F) :=
  select (val_main_v78 (F := F) x1) (val_main_v71 (F := F) x1) (val_main_v70 (F := F) x1)
theorem val_main_v82_apply (x1 : (⟨S38016x4096, .i8⟩ : BufTy).Contents (Elt F)) (i : S38016x4096.Idx) :
    val_main_v82 (F := F) x1 i = Scalar.select (val_main_v78 (F := F) x1 i) (val_main_v71 (F := F) x1 i) (val_main_v70 (F := F) x1 i) := rfl

-- %c_50 = stablehlo.constant dense<2> : tensor<i32>
def val_main_c_50 : (⟨S_, .i32⟩ : BufTy).Contents (Elt F) :=
  constantI S_ 32 2#32
theorem val_main_c_50_apply (i : S_.Idx) :
    val_main_c_50 (F := F) i = 2#32 := rfl

-- %83 = stablehlo.broadcast_in_dim %c_50, dims = [] : (tensor<i32>) -> tensor<38016x4096xi32>
def val_main_v83 : (⟨S38016x4096, .i32⟩ : BufTy).Contents (Elt F) :=
  broadcastInDim S38016x4096 ![] bcast_S_S38016x4096 (val_main_c_50 (F := F))
abbrev idx_main_v83 (i : S38016x4096.Idx) : S_.Idx := fun a => a.elim0
theorem val_main_v83_apply (i : S38016x4096.Idx) :
    val_main_v83 (F := F) i = val_main_c_50 (F := F) (idx_main_v83 i) := by
  unfold val_main_v83
  generalize val_main_c_50 (F := F) = y
  exact broadcastInDim_apply _ bcast_S_S38016x4096 y i (idx_main_v83 i) (fun a => a.elim0)

-- %84 = stablehlo.shift_right_arithmetic %56, %83 : tensor<38016x4096xi32>
def val_main_v84 (x1 : (⟨S38016x4096, .i8⟩ : BufTy).Contents (Elt F)) : (⟨S38016x4096, .i32⟩ : BufTy).Contents (Elt F) :=
  Host.shrsi (val_main_v56 (F := F) x1) (val_main_v83 (F := F))
theorem val_main_v84_apply (x1 : (⟨S38016x4096, .i8⟩ : BufTy).Contents (Elt F)) (i : S38016x4096.Idx) :
    val_main_v84 (F := F) x1 i = IntOp.shrsi .host (val_main_v56 (F := F) x1 i) (val_main_v83 (F := F) i) := rfl

-- %c_51 = stablehlo.constant dense<1> : tensor<i32>
def val_main_c_51 : (⟨S_, .i32⟩ : BufTy).Contents (Elt F) :=
  constantI S_ 32 1#32
theorem val_main_c_51_apply (i : S_.Idx) :
    val_main_c_51 (F := F) i = 1#32 := rfl

-- %85 = stablehlo.broadcast_in_dim %c_51, dims = [] : (tensor<i32>) -> tensor<38016x4096xi32>
def val_main_v85 : (⟨S38016x4096, .i32⟩ : BufTy).Contents (Elt F) :=
  broadcastInDim S38016x4096 ![] bcast_S_S38016x4096 (val_main_c_51 (F := F))
abbrev idx_main_v85 (i : S38016x4096.Idx) : S_.Idx := fun a => a.elim0
theorem val_main_v85_apply (i : S38016x4096.Idx) :
    val_main_v85 (F := F) i = val_main_c_51 (F := F) (idx_main_v85 i) := by
  unfold val_main_v85
  generalize val_main_c_51 (F := F) = y
  exact broadcastInDim_apply _ bcast_S_S38016x4096 y i (idx_main_v85 i) (fun a => a.elim0)

-- %86 = stablehlo.and %84, %85 : tensor<38016x4096xi32>
def val_main_v86 (x1 : (⟨S38016x4096, .i8⟩ : BufTy).Contents (Elt F)) : (⟨S38016x4096, .i32⟩ : BufTy).Contents (Elt F) :=
  andi (val_main_v84 (F := F) x1) (val_main_v85 (F := F))
theorem val_main_v86_apply (x1 : (⟨S38016x4096, .i8⟩ : BufTy).Contents (Elt F)) (i : S38016x4096.Idx) :
    val_main_v86 (F := F) x1 i = IntOp.andi (val_main_v84 (F := F) x1 i) (val_main_v85 (F := F) i) := rfl

-- %c_52 = stablehlo.constant dense<0> : tensor<i32>
def val_main_c_52 : (⟨S_, .i32⟩ : BufTy).Contents (Elt F) :=
  constantI S_ 32 0#32
theorem val_main_c_52_apply (i : S_.Idx) :
    val_main_c_52 (F := F) i = 0#32 := rfl

-- %87 = stablehlo.broadcast_in_dim %c_52, dims = [] : (tensor<i32>) -> tensor<38016x4096xi32>
def val_main_v87 : (⟨S38016x4096, .i32⟩ : BufTy).Contents (Elt F) :=
  broadcastInDim S38016x4096 ![] bcast_S_S38016x4096 (val_main_c_52 (F := F))
abbrev idx_main_v87 (i : S38016x4096.Idx) : S_.Idx := fun a => a.elim0
theorem val_main_v87_apply (i : S38016x4096.Idx) :
    val_main_v87 (F := F) i = val_main_c_52 (F := F) (idx_main_v87 i) := by
  unfold val_main_v87
  generalize val_main_c_52 (F := F) = y
  exact broadcastInDim_apply _ bcast_S_S38016x4096 y i (idx_main_v87 i) (fun a => a.elim0)

-- %88 = stablehlo.compare NE, %86, %87, SIGNED : (tensor<38016x4096xi32>, tensor<38016x4096xi32>) -> tensor<38016x4096xi1>
def val_main_v88 (x1 : (⟨S38016x4096, .i8⟩ : BufTy).Contents (Elt F)) : (⟨S38016x4096, .i1⟩ : BufTy).Contents (Elt F) :=
  cmpi .ne (val_main_v86 (F := F) x1) (val_main_v87 (F := F))
theorem val_main_v88_apply (x1 : (⟨S38016x4096, .i8⟩ : BufTy).Contents (Elt F)) (i : S38016x4096.Idx) :
    val_main_v88 (F := F) x1 i = IntOp.cmpi .ne (val_main_v86 (F := F) x1 i) (val_main_v87 (F := F) i) := rfl

-- %89 = stablehlo.convert %88 : tensor<38016x4096xi1>
def val_main_v89 (x1 : (⟨S38016x4096, .i8⟩ : BufTy).Contents (Elt F)) : (⟨S38016x4096, .i1⟩ : BufTy).Contents (Elt F) :=
  id (val_main_v88 (F := F) x1)
theorem val_main_v89_apply (x1 : (⟨S38016x4096, .i8⟩ : BufTy).Contents (Elt F)) (i : S38016x4096.Idx) :
    val_main_v89 (F := F) x1 i = (val_main_v88 (F := F) x1 i) := rfl

-- %90 = func.call @_where_0(…) (record main_call27) result 0: @_where_0's %0 = stablehlo.select %arg0, %arg1, %arg2 : tensor<38016x4096xi1>, tensor<38016x4096xbf16>
def val_main_v90 (x1 : (⟨S38016x4096, .i8⟩ : BufTy).Contents (Elt F)) : (⟨S38016x4096, .bf16⟩ : BufTy).Contents (Elt F) :=
  select (val_main_v89 (F := F) x1) (val_main_v80 (F := F) x1) (val_main_v79 (F := F) x1)
theorem val_main_v90_apply (x1 : (⟨S38016x4096, .i8⟩ : BufTy).Contents (Elt F)) (i : S38016x4096.Idx) :
    val_main_v90 (F := F) x1 i = Scalar.select (val_main_v89 (F := F) x1 i) (val_main_v80 (F := F) x1 i) (val_main_v79 (F := F) x1 i) := rfl

-- %91 = func.call @_where_0(…) (record main_call28) result 0: @_where_0's %0 = stablehlo.select %arg0, %arg1, %arg2 : tensor<38016x4096xi1>, tensor<38016x4096xbf16>
def val_main_v91 (x1 : (⟨S38016x4096, .i8⟩ : BufTy).Contents (Elt F)) : (⟨S38016x4096, .bf16⟩ : BufTy).Contents (Elt F) :=
  select (val_main_v89 (F := F) x1) (val_main_v82 (F := F) x1) (val_main_v81 (F := F) x1)
theorem val_main_v91_apply (x1 : (⟨S38016x4096, .i8⟩ : BufTy).Contents (Elt F)) (i : S38016x4096.Idx) :
    val_main_v91 (F := F) x1 i = Scalar.select (val_main_v89 (F := F) x1 i) (val_main_v82 (F := F) x1 i) (val_main_v81 (F := F) x1 i) := rfl

-- %c_53 = stablehlo.constant dense<3> : tensor<i32>
def val_main_c_53 : (⟨S_, .i32⟩ : BufTy).Contents (Elt F) :=
  constantI S_ 32 3#32
theorem val_main_c_53_apply (i : S_.Idx) :
    val_main_c_53 (F := F) i = 3#32 := rfl

-- %92 = stablehlo.broadcast_in_dim %c_53, dims = [] : (tensor<i32>) -> tensor<38016x4096xi32>
def val_main_v92 : (⟨S38016x4096, .i32⟩ : BufTy).Contents (Elt F) :=
  broadcastInDim S38016x4096 ![] bcast_S_S38016x4096 (val_main_c_53 (F := F))
abbrev idx_main_v92 (i : S38016x4096.Idx) : S_.Idx := fun a => a.elim0
theorem val_main_v92_apply (i : S38016x4096.Idx) :
    val_main_v92 (F := F) i = val_main_c_53 (F := F) (idx_main_v92 i) := by
  unfold val_main_v92
  generalize val_main_c_53 (F := F) = y
  exact broadcastInDim_apply _ bcast_S_S38016x4096 y i (idx_main_v92 i) (fun a => a.elim0)

-- %93 = stablehlo.shift_right_arithmetic %56, %92 : tensor<38016x4096xi32>
def val_main_v93 (x1 : (⟨S38016x4096, .i8⟩ : BufTy).Contents (Elt F)) : (⟨S38016x4096, .i32⟩ : BufTy).Contents (Elt F) :=
  Host.shrsi (val_main_v56 (F := F) x1) (val_main_v92 (F := F))
theorem val_main_v93_apply (x1 : (⟨S38016x4096, .i8⟩ : BufTy).Contents (Elt F)) (i : S38016x4096.Idx) :
    val_main_v93 (F := F) x1 i = IntOp.shrsi .host (val_main_v56 (F := F) x1 i) (val_main_v92 (F := F) i) := rfl

-- %c_54 = stablehlo.constant dense<1> : tensor<i32>
def val_main_c_54 : (⟨S_, .i32⟩ : BufTy).Contents (Elt F) :=
  constantI S_ 32 1#32
theorem val_main_c_54_apply (i : S_.Idx) :
    val_main_c_54 (F := F) i = 1#32 := rfl

-- %94 = stablehlo.broadcast_in_dim %c_54, dims = [] : (tensor<i32>) -> tensor<38016x4096xi32>
def val_main_v94 : (⟨S38016x4096, .i32⟩ : BufTy).Contents (Elt F) :=
  broadcastInDim S38016x4096 ![] bcast_S_S38016x4096 (val_main_c_54 (F := F))
abbrev idx_main_v94 (i : S38016x4096.Idx) : S_.Idx := fun a => a.elim0
theorem val_main_v94_apply (i : S38016x4096.Idx) :
    val_main_v94 (F := F) i = val_main_c_54 (F := F) (idx_main_v94 i) := by
  unfold val_main_v94
  generalize val_main_c_54 (F := F) = y
  exact broadcastInDim_apply _ bcast_S_S38016x4096 y i (idx_main_v94 i) (fun a => a.elim0)

-- %95 = stablehlo.and %93, %94 : tensor<38016x4096xi32>
def val_main_v95 (x1 : (⟨S38016x4096, .i8⟩ : BufTy).Contents (Elt F)) : (⟨S38016x4096, .i32⟩ : BufTy).Contents (Elt F) :=
  andi (val_main_v93 (F := F) x1) (val_main_v94 (F := F))
theorem val_main_v95_apply (x1 : (⟨S38016x4096, .i8⟩ : BufTy).Contents (Elt F)) (i : S38016x4096.Idx) :
    val_main_v95 (F := F) x1 i = IntOp.andi (val_main_v93 (F := F) x1 i) (val_main_v94 (F := F) i) := rfl

-- %c_55 = stablehlo.constant dense<0> : tensor<i32>
def val_main_c_55 : (⟨S_, .i32⟩ : BufTy).Contents (Elt F) :=
  constantI S_ 32 0#32
theorem val_main_c_55_apply (i : S_.Idx) :
    val_main_c_55 (F := F) i = 0#32 := rfl

-- %96 = stablehlo.broadcast_in_dim %c_55, dims = [] : (tensor<i32>) -> tensor<38016x4096xi32>
def val_main_v96 : (⟨S38016x4096, .i32⟩ : BufTy).Contents (Elt F) :=
  broadcastInDim S38016x4096 ![] bcast_S_S38016x4096 (val_main_c_55 (F := F))
abbrev idx_main_v96 (i : S38016x4096.Idx) : S_.Idx := fun a => a.elim0
theorem val_main_v96_apply (i : S38016x4096.Idx) :
    val_main_v96 (F := F) i = val_main_c_55 (F := F) (idx_main_v96 i) := by
  unfold val_main_v96
  generalize val_main_c_55 (F := F) = y
  exact broadcastInDim_apply _ bcast_S_S38016x4096 y i (idx_main_v96 i) (fun a => a.elim0)

-- %97 = stablehlo.compare NE, %95, %96, SIGNED : (tensor<38016x4096xi32>, tensor<38016x4096xi32>) -> tensor<38016x4096xi1>
def val_main_v97 (x1 : (⟨S38016x4096, .i8⟩ : BufTy).Contents (Elt F)) : (⟨S38016x4096, .i1⟩ : BufTy).Contents (Elt F) :=
  cmpi .ne (val_main_v95 (F := F) x1) (val_main_v96 (F := F))
theorem val_main_v97_apply (x1 : (⟨S38016x4096, .i8⟩ : BufTy).Contents (Elt F)) (i : S38016x4096.Idx) :
    val_main_v97 (F := F) x1 i = IntOp.cmpi .ne (val_main_v95 (F := F) x1 i) (val_main_v96 (F := F) i) := rfl

-- %98 = stablehlo.convert %97 : tensor<38016x4096xi1>
def val_main_v98 (x1 : (⟨S38016x4096, .i8⟩ : BufTy).Contents (Elt F)) : (⟨S38016x4096, .i1⟩ : BufTy).Contents (Elt F) :=
  id (val_main_v97 (F := F) x1)
theorem val_main_v98_apply (x1 : (⟨S38016x4096, .i8⟩ : BufTy).Contents (Elt F)) (i : S38016x4096.Idx) :
    val_main_v98 (F := F) x1 i = (val_main_v97 (F := F) x1 i) := rfl

-- %99 = func.call @_where_0(…) (record main_call29) result 0: @_where_0's %0 = stablehlo.select %arg0, %arg1, %arg2 : tensor<38016x4096xi1>, tensor<38016x4096xbf16>
def val_main_v99 (x1 : (⟨S38016x4096, .i8⟩ : BufTy).Contents (Elt F)) : (⟨S38016x4096, .bf16⟩ : BufTy).Contents (Elt F) :=
  select (val_main_v98 (F := F) x1) (val_main_v91 (F := F) x1) (val_main_v90 (F := F) x1)
theorem val_main_v99_apply (x1 : (⟨S38016x4096, .i8⟩ : BufTy).Contents (Elt F)) (i : S38016x4096.Idx) :
    val_main_v99 (F := F) x1 i = Scalar.select (val_main_v98 (F := F) x1 i) (val_main_v91 (F := F) x1 i) (val_main_v90 (F := F) x1 i) := rfl

-- %100 = stablehlo.multiply %99, %7 : tensor<38016x4096xbf16>
def val_main_v100 (x1 : (⟨S38016x4096, .i8⟩ : BufTy).Contents (Elt F)) (x2 : (⟨S38016x256, .bf16⟩ : BufTy).Contents (Elt F)) : (⟨S38016x4096, .bf16⟩ : BufTy).Contents (Elt F) :=
  mulf (val_main_v99 (F := F) x1) (val_main_v7 (F := F) x2)
theorem val_main_v100_apply (x1 : (⟨S38016x4096, .i8⟩ : BufTy).Contents (Elt F)) (x2 : (⟨S38016x256, .bf16⟩ : BufTy).Contents (Elt F)) (i : S38016x4096.Idx) :
    val_main_v100 (F := F) x1 x2 i = FloatOps.mulf (val_main_v99 (F := F) x1 i) (val_main_v7 (F := F) x2 i) := rfl

-- %101 = stablehlo.dot_general %2, %54, contracting_dims = [1] x [1], precision = [DEFAULT, DEFAULT] : (tensor<64x4096xbf16>, tensor<38016x4096xbf16>) -> tensor<64x38016xf32>
def val_main_v101 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x38016, .f32⟩ : BufTy).Contents (Elt F) :=
  Host.dotGeneral dot_S64x4096_S38016x4096_S64x38016_1_1_0_0_n_n none (val_main_v2 (F := F) x0) (val_main_v54 (F := F) x1 x2)
theorem lhs_main_v101_0 (i : S64x38016.Idx) (q : dot_S64x4096_S38016x4096_S64x38016_1_1_0_0_n_n.contr.Idx) :
    (dot_S64x4096_S38016x4096_S64x38016_1_1_0_0_n_n.lhsIdx i q 0).val = (i 0).val := by
  unfold DotDims.lhsIdx
  rw [dif_neg (show ¬(0 : Fin S64x4096.rank) ∈ dot_S64x4096_S38016x4096_S64x38016_1_1_0_0_n_n.lhsBatch by decide), dif_pos (show (0 : Fin S64x4096.rank) ∈ dot_S64x4096_S38016x4096_S64x38016_1_1_0_0_n_n.lhsNonContracting by decide)]
  rfl
theorem lhs_main_v101_1 (i : S64x38016.Idx) (q : dot_S64x4096_S38016x4096_S64x38016_1_1_0_0_n_n.contr.Idx) :
    (dot_S64x4096_S38016x4096_S64x38016_1_1_0_0_n_n.lhsIdx i q 1).val = (q ⟨0, by decide⟩).val :=
  dot_S64x4096_S38016x4096_S64x38016_1_1_0_0_n_n.lhsIdx_val_of_single rfl i q
theorem rhs_main_v101_0 (i : S64x38016.Idx) (q : dot_S64x4096_S38016x4096_S64x38016_1_1_0_0_n_n.contr.Idx) :
    (dot_S64x4096_S38016x4096_S64x38016_1_1_0_0_n_n.rhsIdx i q 0).val = (i 1).val := by
  unfold DotDims.rhsIdx
  rw [dif_neg (show ¬(0 : Fin S38016x4096.rank) ∈ dot_S64x4096_S38016x4096_S64x38016_1_1_0_0_n_n.rhsBatch by decide), dif_pos (show (0 : Fin S38016x4096.rank) ∈ dot_S64x4096_S38016x4096_S64x38016_1_1_0_0_n_n.rhsNonContracting by decide)]
  rfl
theorem rhs_main_v101_1 (i : S64x38016.Idx) (q : dot_S64x4096_S38016x4096_S64x38016_1_1_0_0_n_n.contr.Idx) :
    (dot_S64x4096_S38016x4096_S64x38016_1_1_0_0_n_n.rhsIdx i q 1).val = (q ⟨0, by decide⟩).val :=
  dot_S64x4096_S38016x4096_S64x38016_1_1_0_0_n_n.rhsIdx_val_of_single rfl i q
abbrev lidx_main_v101 (i : S64x38016.Idx) (k : Fin 4096) : S64x4096.Idx := fun a => match a with
  | ⟨0, _⟩ => ⟨(i 0).val, (i 0).isLt⟩
  | ⟨1, _⟩ => ⟨k.val, k.isLt⟩
abbrev ridx_main_v101 (i : S64x38016.Idx) (k : Fin 4096) : S38016x4096.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v101_apply (x0 : (⟨S64x1x8192, .bf16⟩ : BufTy).Contents (Elt Ideal)) (x1 : (⟨S38016x4096, .i8⟩ : BufTy).Contents (Elt Ideal)) (x2 : (⟨S38016x256, .bf16⟩ : BufTy).Contents (Elt Ideal)) (i : S64x38016.Idx) :
    val_main_v101 (F := Ideal) x0 x1 x2 i = ∑ k : Fin 4096, (val_main_v2 (F := Ideal) x0) (lidx_main_v101 i k) * (val_main_v54 (F := Ideal) x1 x2) (ridx_main_v101 i k) := by
  unfold val_main_v101
  generalize val_main_v2 (F := Ideal) x0 = y0
  generalize val_main_v54 (F := Ideal) x1 x2 = y1
  simp only [Host.dotGeneral]
  rw [Ideal.dotGeneral_apply, ← Equiv.sum_comp (ValueIdx.contrEquiv1 dot_S64x4096_S38016x4096_S64x38016_1_1_0_0_n_n 4096 rfl rfl).symm]
  refine Finset.sum_congr rfl fun k _ => ?_
  have hk := ValueIdx.contrEquiv1_symm_val dot_S64x4096_S38016x4096_S64x38016_1_1_0_0_n_n 4096 rfl rfl k
  have el : dot_S64x4096_S38016x4096_S64x38016_1_1_0_0_n_n.lhsIdx i ((ValueIdx.contrEquiv1 dot_S64x4096_S38016x4096_S64x38016_1_1_0_0_n_n 4096 rfl rfl).symm k) = lidx_main_v101 i k := funext fun a => Fin.ext (by
    match a with
    | ⟨0, _⟩ => exact lhs_main_v101_0 _ _
    | ⟨1, _⟩ => exact (lhs_main_v101_1 _ _).trans hk)
  have er : dot_S64x4096_S38016x4096_S64x38016_1_1_0_0_n_n.rhsIdx i ((ValueIdx.contrEquiv1 dot_S64x4096_S38016x4096_S64x38016_1_1_0_0_n_n 4096 rfl rfl).symm k) = ridx_main_v101 i k := funext fun a => Fin.ext (by
    match a with
    | ⟨0, _⟩ => exact rhs_main_v101_0 _ _
    | ⟨1, _⟩ => exact (rhs_main_v101_1 _ _).trans hk)
  rw [el, er]

-- %102 = stablehlo.dot_general %4, %100, contracting_dims = [1] x [1], precision = [DEFAULT, DEFAULT] : (tensor<64x4096xbf16>, tensor<38016x4096xbf16>) -> tensor<64x38016xf32>
def val_main_v102 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x38016, .f32⟩ : BufTy).Contents (Elt F) :=
  Host.dotGeneral dot_S64x4096_S38016x4096_S64x38016_1_1_0_0_n_n none (val_main_v4 (F := F) x0) (val_main_v100 (F := F) x1 x2)
theorem lhs_main_v102_0 (i : S64x38016.Idx) (q : dot_S64x4096_S38016x4096_S64x38016_1_1_0_0_n_n.contr.Idx) :
    (dot_S64x4096_S38016x4096_S64x38016_1_1_0_0_n_n.lhsIdx i q 0).val = (i 0).val := by
  unfold DotDims.lhsIdx
  rw [dif_neg (show ¬(0 : Fin S64x4096.rank) ∈ dot_S64x4096_S38016x4096_S64x38016_1_1_0_0_n_n.lhsBatch by decide), dif_pos (show (0 : Fin S64x4096.rank) ∈ dot_S64x4096_S38016x4096_S64x38016_1_1_0_0_n_n.lhsNonContracting by decide)]
  rfl
theorem lhs_main_v102_1 (i : S64x38016.Idx) (q : dot_S64x4096_S38016x4096_S64x38016_1_1_0_0_n_n.contr.Idx) :
    (dot_S64x4096_S38016x4096_S64x38016_1_1_0_0_n_n.lhsIdx i q 1).val = (q ⟨0, by decide⟩).val :=
  dot_S64x4096_S38016x4096_S64x38016_1_1_0_0_n_n.lhsIdx_val_of_single rfl i q
theorem rhs_main_v102_0 (i : S64x38016.Idx) (q : dot_S64x4096_S38016x4096_S64x38016_1_1_0_0_n_n.contr.Idx) :
    (dot_S64x4096_S38016x4096_S64x38016_1_1_0_0_n_n.rhsIdx i q 0).val = (i 1).val := by
  unfold DotDims.rhsIdx
  rw [dif_neg (show ¬(0 : Fin S38016x4096.rank) ∈ dot_S64x4096_S38016x4096_S64x38016_1_1_0_0_n_n.rhsBatch by decide), dif_pos (show (0 : Fin S38016x4096.rank) ∈ dot_S64x4096_S38016x4096_S64x38016_1_1_0_0_n_n.rhsNonContracting by decide)]
  rfl
theorem rhs_main_v102_1 (i : S64x38016.Idx) (q : dot_S64x4096_S38016x4096_S64x38016_1_1_0_0_n_n.contr.Idx) :
    (dot_S64x4096_S38016x4096_S64x38016_1_1_0_0_n_n.rhsIdx i q 1).val = (q ⟨0, by decide⟩).val :=
  dot_S64x4096_S38016x4096_S64x38016_1_1_0_0_n_n.rhsIdx_val_of_single rfl i q
abbrev lidx_main_v102 (i : S64x38016.Idx) (k : Fin 4096) : S64x4096.Idx := fun a => match a with
  | ⟨0, _⟩ => ⟨(i 0).val, (i 0).isLt⟩
  | ⟨1, _⟩ => ⟨k.val, k.isLt⟩
abbrev ridx_main_v102 (i : S64x38016.Idx) (k : Fin 4096) : S38016x4096.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v102_apply (x0 : (⟨S64x1x8192, .bf16⟩ : BufTy).Contents (Elt Ideal)) (x1 : (⟨S38016x4096, .i8⟩ : BufTy).Contents (Elt Ideal)) (x2 : (⟨S38016x256, .bf16⟩ : BufTy).Contents (Elt Ideal)) (i : S64x38016.Idx) :
    val_main_v102 (F := Ideal) x0 x1 x2 i = ∑ k : Fin 4096, (val_main_v4 (F := Ideal) x0) (lidx_main_v102 i k) * (val_main_v100 (F := Ideal) x1 x2) (ridx_main_v102 i k) := by
  unfold val_main_v102
  generalize val_main_v4 (F := Ideal) x0 = y0
  generalize val_main_v100 (F := Ideal) x1 x2 = y1
  simp only [Host.dotGeneral]
  rw [Ideal.dotGeneral_apply, ← Equiv.sum_comp (ValueIdx.contrEquiv1 dot_S64x4096_S38016x4096_S64x38016_1_1_0_0_n_n 4096 rfl rfl).symm]
  refine Finset.sum_congr rfl fun k _ => ?_
  have hk := ValueIdx.contrEquiv1_symm_val dot_S64x4096_S38016x4096_S64x38016_1_1_0_0_n_n 4096 rfl rfl k
  have el : dot_S64x4096_S38016x4096_S64x38016_1_1_0_0_n_n.lhsIdx i ((ValueIdx.contrEquiv1 dot_S64x4096_S38016x4096_S64x38016_1_1_0_0_n_n 4096 rfl rfl).symm k) = lidx_main_v102 i k := funext fun a => Fin.ext (by
    match a with
    | ⟨0, _⟩ => exact lhs_main_v102_0 _ _
    | ⟨1, _⟩ => exact (lhs_main_v102_1 _ _).trans hk)
  have er : dot_S64x4096_S38016x4096_S64x38016_1_1_0_0_n_n.rhsIdx i ((ValueIdx.contrEquiv1 dot_S64x4096_S38016x4096_S64x38016_1_1_0_0_n_n 4096 rfl rfl).symm k) = ridx_main_v102 i k := funext fun a => Fin.ext (by
    match a with
    | ⟨0, _⟩ => exact rhs_main_v102_0 _ _
    | ⟨1, _⟩ => exact (rhs_main_v102_1 _ _).trans hk)
  rw [el, er]

-- %103 = stablehlo.add %101, %102 : tensor<64x38016xf32>
def val_main_v103 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x38016, .f32⟩ : BufTy).Contents (Elt F) :=
  addf (val_main_v101 (F := F) x0 x1 x2) (val_main_v102 (F := F) x0 x1 x2)
theorem val_main_v103_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x38016.Idx) :
    val_main_v103 (F := F) x0 x1 x2 i = FloatOps.addf (val_main_v101 (F := F) x0 x1 x2 i) (val_main_v102 (F := F) x0 x1 x2 i) := rfl

-- %cst_56 = stablehlo.constant dense<0xFF800000> : tensor<f32>
def val_main_cst_56 : (⟨S_, .f32⟩ : BufTy).Contents (Elt F) :=
  constant S_ .f32 0xFF800000#32
theorem val_main_cst_56_apply (i : S_.Idx) :
    val_main_cst_56 (F := F) i = FloatOps.ofBits .f32 0xFF800000#32 := rfl

-- %104 = stablehlo.reduce(%103 init: %cst_56) applies stablehlo.maximum across dimensions = [1] : (tensor<64x38016xf32>, tensor<f32>) -> tensor<64xf32> {
def val_main_v104 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64, .f32⟩ : BufTy).Contents (Elt F) :=
  Host.reduce FloatOps.maximumf (val_main_v103 (F := F) x0 x1 x2) (val_main_cst_56 (F := F)) reducesTo_S64x38016_S64_d1 h_S_

-- @argmax's %0 = stablehlo.iota dim = 1 : tensor<64x38016xi32>, in %105 = func.call @argmax(…) (record main_call30)
def val_main_call30_v0 : (⟨S64x38016, .i32⟩ : BufTy).Contents (Elt F) :=
  iotaInDim S64x38016 32 1
theorem val_main_call30_v0_apply (i : S64x38016.Idx) :
    val_main_call30_v0 (F := F) i = BitVec.ofNat 32 (i 1).val := rfl

-- @argmax's %cst = stablehlo.constant dense<0xFF800000> : tensor<f32>, in %105 = func.call @argmax(…) (record main_call30)
def val_main_call30_cst : (⟨S_, .f32⟩ : BufTy).Contents (Elt F) :=
  constant S_ .f32 0xFF800000#32
theorem val_main_call30_cst_apply (i : S_.Idx) :
    val_main_call30_cst (F := F) i = FloatOps.ofBits .f32 0xFF800000#32 := rfl

-- @argmax's %c = stablehlo.constant dense<0> : tensor<i32>, in %105 = func.call @argmax(…) (record main_call30)
def val_main_call30_c : (⟨S_, .i32⟩ : BufTy).Contents (Elt F) :=
  constantI S_ 32 0#32
theorem val_main_call30_c_apply (i : S_.Idx) :
    val_main_call30_c (F := F) i = 0#32 := rfl

-- @argmax's %1:2 = stablehlo.reduce(%arg0 init: %cst), (%0 init: %c) across dimensions = [1] : (tensor<64x38016xf32>, tensor<64x38016xi32>, tensor<f32>, tensor<i32>) -> (tensor<64xf32>, tensor<64xi32>) reducer(%arg1: tensor<f32>, %arg3: tensor<f32>) (%arg2: tensor<i32>, %arg4: tensor<i32>) {, in %105 = func.call @argmax(…) (record main_call30)
def val_main_call30_v1_0 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64, .f32⟩ : BufTy).Contents (Elt F) :=
  (fun j => (Host.argReduce reducer_argmax_f32_i32 (val_main_v103 (F := F) x0 x1 x2) (val_main_call30_v0 (F := F)) (val_main_call30_cst (F := F)) (val_main_call30_c (F := F)) reducesTo_S64x38016_S64_d1 h_S_ j).1)

-- %105 = func.call @argmax(…) (record main_call30) result 0: @argmax's %1:2 = stablehlo.reduce(%arg0 init: %cst), (%0 init: %c) across dimensions = [1] : (tensor<64x38016xf32>, tensor<64x38016xi32>, tensor<f32>, tensor<i32>) -> (tensor<64xf32>, tensor<64xi32>) reducer(%arg1: tensor<f32>, %arg3: tensor<f32>) (%arg2: tensor<i32>, %arg4: tensor<i32>) {
def val_main_v105 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64, .i32⟩ : BufTy).Contents (Elt F) :=
  (fun j => (Host.argReduce reducer_argmax_f32_i32 (val_main_v103 (F := F) x0 x1 x2) (val_main_call30_v0 (F := F)) (val_main_call30_cst (F := F)) (val_main_call30_c (F := F)) reducesTo_S64x38016_S64_d1 h_S_ j).2)

-- %106 = stablehlo.iota dim = 1 : tensor<64x38016xi32>
def val_main_v106 : (⟨S64x38016, .i32⟩ : BufTy).Contents (Elt F) :=
  iotaInDim S64x38016 32 1
theorem val_main_v106_apply (i : S64x38016.Idx) :
    val_main_v106 (F := F) i = BitVec.ofNat 32 (i 1).val := rfl

-- %107 = stablehlo.broadcast_in_dim %105, dims = [0] : (tensor<64xi32>) -> tensor<64x1xi32>
def val_main_v107 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x1, .i32⟩ : BufTy).Contents (Elt F) :=
  broadcastInDim S64x1 ![0] bcast_S64_S64x1_0 (val_main_v105 (F := F) x0 x1 x2)
abbrev idx_main_v107 (i : S64x1.Idx) : S64.Idx := fun a => match a with
  | ⟨0, _⟩ => ⟨(i 0).val, (i 0).isLt⟩
theorem val_main_v107_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x1.Idx) :
    val_main_v107 (F := F) x0 x1 x2 i = val_main_v105 (F := F) x0 x1 x2 (idx_main_v107 i) := by
  unfold val_main_v107
  generalize val_main_v105 (F := F) x0 x1 x2 = y
  exact broadcastInDim_apply _ bcast_S64_S64x1_0 y i (idx_main_v107 i) (fun a => match a with
    | ⟨0, _⟩ => by show (i 0).val = if (64 : Nat) = 1 then 0 else (i 0).val; rw [if_neg (by decide)])

-- %108 = stablehlo.broadcast_in_dim %107, dims = [0, 1] : (tensor<64x1xi32>) -> tensor<64x38016xi32>
def val_main_v108 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x38016, .i32⟩ : BufTy).Contents (Elt F) :=
  broadcastInDim S64x38016 ![0, 1] bcast_S64x1_S64x38016_0_1 (val_main_v107 (F := F) x0 x1 x2)
abbrev idx_main_v108 (i : S64x38016.Idx) : S64x1.Idx := fun a => match a with
  | ⟨0, _⟩ => ⟨(i 0).val, (i 0).isLt⟩
  | ⟨1, _⟩ => ⟨0, Nat.one_pos⟩
theorem val_main_v108_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x38016.Idx) :
    val_main_v108 (F := F) x0 x1 x2 i = val_main_v107 (F := F) x0 x1 x2 (idx_main_v108 i) := by
  unfold val_main_v108
  generalize val_main_v107 (F := F) x0 x1 x2 = y
  exact broadcastInDim_apply _ bcast_S64x1_S64x38016_0_1 y i (idx_main_v108 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

-- %109 = stablehlo.compare EQ, %106, %108, SIGNED : (tensor<64x38016xi32>, tensor<64x38016xi32>) -> tensor<64x38016xi1>
def val_main_v109 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x38016, .i1⟩ : BufTy).Contents (Elt F) :=
  cmpi .eq (val_main_v106 (F := F)) (val_main_v108 (F := F) x0 x1 x2)
theorem val_main_v109_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x38016.Idx) :
    val_main_v109 (F := F) x0 x1 x2 i = IntOp.cmpi .eq (val_main_v106 (F := F) i) (val_main_v108 (F := F) x0 x1 x2 i) := rfl

-- %cst_57 = stablehlo.constant dense<0xFF800000> : tensor<f32>
def val_main_cst_57 : (⟨S_, .f32⟩ : BufTy).Contents (Elt F) :=
  constant S_ .f32 0xFF800000#32
theorem val_main_cst_57_apply (i : S_.Idx) :
    val_main_cst_57 (F := F) i = FloatOps.ofBits .f32 0xFF800000#32 := rfl

-- @_where_1's %0 = stablehlo.convert %arg1 : tensor<f32>, in %110 = func.call @_where_1(…) (record main_call31)
def val_main_call31_v0 : (⟨S_, .f32⟩ : BufTy).Contents (Elt F) :=
  id (val_main_cst_57 (F := F))
theorem val_main_call31_v0_apply (i : S_.Idx) :
    val_main_call31_v0 (F := F) i = (val_main_cst_57 (F := F) i) := rfl

-- @_where_1's %1 = stablehlo.broadcast_in_dim %0, dims = [] : (tensor<f32>) -> tensor<64x38016xf32>, in %110 = func.call @_where_1(…) (record main_call31)
def val_main_call31_v1 : (⟨S64x38016, .f32⟩ : BufTy).Contents (Elt F) :=
  broadcastInDim S64x38016 ![] bcast_S_S64x38016 (val_main_call31_v0 (F := F))
abbrev idx_main_call31_v1 (i : S64x38016.Idx) : S_.Idx := fun a => a.elim0
theorem val_main_call31_v1_apply (i : S64x38016.Idx) :
    val_main_call31_v1 (F := F) i = val_main_call31_v0 (F := F) (idx_main_call31_v1 i) := by
  unfold val_main_call31_v1
  generalize val_main_call31_v0 (F := F) = y
  exact broadcastInDim_apply _ bcast_S_S64x38016 y i (idx_main_call31_v1 i) (fun a => a.elim0)

-- %110 = func.call @_where_1(…) (record main_call31) result 0: @_where_1's %2 = stablehlo.select %arg0, %1, %arg2 : tensor<64x38016xi1>, tensor<64x38016xf32>
def val_main_v110 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x38016, .f32⟩ : BufTy).Contents (Elt F) :=
  select (val_main_v109 (F := F) x0 x1 x2) (val_main_call31_v1 (F := F)) (val_main_v103 (F := F) x0 x1 x2)
theorem val_main_v110_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x38016.Idx) :
    val_main_v110 (F := F) x0 x1 x2 i = Scalar.select (val_main_v109 (F := F) x0 x1 x2 i) (val_main_call31_v1 (F := F) i) (val_main_v103 (F := F) x0 x1 x2 i) := rfl

-- %cst_58 = stablehlo.constant dense<0xFF800000> : tensor<f32>
def val_main_cst_58 : (⟨S_, .f32⟩ : BufTy).Contents (Elt F) :=
  constant S_ .f32 0xFF800000#32
theorem val_main_cst_58_apply (i : S_.Idx) :
    val_main_cst_58 (F := F) i = FloatOps.ofBits .f32 0xFF800000#32 := rfl

-- %111 = stablehlo.reduce(%110 init: %cst_58) applies stablehlo.maximum across dimensions = [1] : (tensor<64x38016xf32>, tensor<f32>) -> tensor<64xf32> {
def val_main_v111 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64, .f32⟩ : BufTy).Contents (Elt F) :=
  Host.reduce FloatOps.maximumf (val_main_v110 (F := F) x0 x1 x2) (val_main_cst_58 (F := F)) reducesTo_S64x38016_S64_d1 h_S_

-- %112 = stablehlo.subtract %104, %111 : tensor<64xf32>
def val_main_v112 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64, .f32⟩ : BufTy).Contents (Elt F) :=
  subf (val_main_v104 (F := F) x0 x1 x2) (val_main_v111 (F := F) x0 x1 x2)
theorem val_main_v112_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64.Idx) :
    val_main_v112 (F := F) x0 x1 x2 i = FloatOps.subf (val_main_v104 (F := F) x0 x1 x2 i) (val_main_v111 (F := F) x0 x1 x2 i) := rfl

-- %113 = stablehlo.reshape %105 : (tensor<64xi32>) -> tensor<64x1xi32>
def val_main_v113 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x1, .i32⟩ : BufTy).Contents (Elt F) :=
  shapeCast _ (val_main_v105 (F := F) x0 x1 x2) shapeCasts_S64_S64x1
set_option backward.proofsInPublic true in
abbrev idx_main_v113 (i : S64x1.Idx) : S64.Idx := fun a => match a with
  | ⟨0, _⟩ => ⟨(i 0).val * 1 + (i 1).val, by have h0 : (i 0).val < 64 := (i 0).isLt; have h1 : (i 1).val < 1 := (i 1).isLt; show (i 0).val * 1 + (i 1).val < 64; omega⟩
theorem val_main_v113_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x1.Idx) :
    val_main_v113 (F := F) x0 x1 x2 i = val_main_v105 (F := F) x0 x1 x2 (idx_main_v113 i) := by
  unfold val_main_v113
  generalize val_main_v105 (F := F) x0 x1 x2 = y
  exact shapeCast_apply y shapeCasts_S64_S64x1 i (idx_main_v113 i)
    (by rewrite [Shape.rowMajor_val_one, Shape.rowMajor_val_two]; have h0 : (i 0).val < 64 := (i 0).isLt; have h1 : (i 1).val < 1 := (i 1).isLt; show (i 0).val * 1 + (i 1).val = (i 0).val * 1 + (i 1).val; omega)

-- %114 = stablehlo.reshape %112 : (tensor<64xf32>) -> tensor<64x1xf32>
def val_main_v114 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x1, .f32⟩ : BufTy).Contents (Elt F) :=
  shapeCast _ (val_main_v112 (F := F) x0 x1 x2) shapeCasts_S64_S64x1
set_option backward.proofsInPublic true in
abbrev idx_main_v114 (i : S64x1.Idx) : S64.Idx := fun a => match a with
  | ⟨0, _⟩ => ⟨(i 0).val * 1 + (i 1).val, by have h0 : (i 0).val < 64 := (i 0).isLt; have h1 : (i 1).val < 1 := (i 1).isLt; show (i 0).val * 1 + (i 1).val < 64; omega⟩
theorem val_main_v114_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x1.Idx) :
    val_main_v114 (F := F) x0 x1 x2 i = val_main_v112 (F := F) x0 x1 x2 (idx_main_v114 i) := by
  unfold val_main_v114
  generalize val_main_v112 (F := F) x0 x1 x2 = y
  exact shapeCast_apply y shapeCasts_S64_S64x1 i (idx_main_v114 i)
    (by rewrite [Shape.rowMajor_val_one, Shape.rowMajor_val_two]; have h0 : (i 0).val < 64 := (i 0).isLt; have h1 : (i 1).val < 1 := (i 1).isLt; show (i 0).val * 1 + (i 1).val = (i 0).val * 1 + (i 1).val; omega)

-- %115 = stablehlo.reshape %104 : (tensor<64xf32>) -> tensor<64x1xf32>
def val_main_v115 (x0 : (⟨S64x1x8192, .bf16⟩ : BufTy).Contents (Elt F)) (x1 : (⟨S38016x4096, .i8⟩ : BufTy).Contents (Elt F)) (x2 : (⟨S38016x256, .bf16⟩ : BufTy).Contents (Elt F)) : (⟨S64x1, .f32⟩ : BufTy).Contents (Elt F) :=
  shapeCast _ (val_main_v104 (F := F) x0 x1 x2) shapeCasts_S64_S64x1
set_option backward.proofsInPublic true in
abbrev idx_main_v115 (i : S64x1.Idx) : S64.Idx := fun a => match a with
  | ⟨0, _⟩ => ⟨(i 0).val * 1 + (i 1).val, by have h0 : (i 0).val < 64 := (i 0).isLt; have h1 : (i 1).val < 1 := (i 1).isLt; show (i 0).val * 1 + (i 1).val < 64; omega⟩
theorem val_main_v115_apply (x0 : (⟨S64x1x8192, .bf16⟩ : BufTy).Contents (Elt F)) (x1 : (⟨S38016x4096, .i8⟩ : BufTy).Contents (Elt F)) (x2 : (⟨S38016x256, .bf16⟩ : BufTy).Contents (Elt F)) (i : S64x1.Idx) :
    val_main_v115 (F := F) x0 x1 x2 i = val_main_v104 (F := F) x0 x1 x2 (idx_main_v115 i) := by
  unfold val_main_v115
  generalize val_main_v104 (F := F) x0 x1 x2 = y
  exact shapeCast_apply y shapeCasts_S64_S64x1 i (idx_main_v115 i)
    (by rewrite [Shape.rowMajor_val_one, Shape.rowMajor_val_two]; have h0 : (i 0).val < 64 := (i 0).isLt; have h1 : (i 1).val < 1 := (i 1).isLt; show (i 0).val * 1 + (i 1).val = (i 0).val * 1 + (i 1).val; omega)

/-- The term the Run module states for `main_v113` over any contents `V0` is the stage. -/
theorem val_main_v113_eq (V0 : Valuation τ sig (Elt F)) :
    shapeCast _ (Cert.ReferenceIdeal.Value.res_main_v105 V0) shapeCasts_S64_S64x1
      = val_main_v113 (F := F) (V0 (Proc.devRef .tc main_arg0)) (V0 (Proc.devRef .tc main_arg1)) (V0 (Proc.devRef .tc main_arg2)) := rfl

/-- The term the Run module states for `main_v114` over any contents `V0` is the stage. -/
theorem val_main_v114_eq (V0 : Valuation τ sig (Elt F)) :
    shapeCast _ (subf (Cert.ReferenceIdeal.Value.res_main_v104 V0) (Host.reduce FloatOps.maximumf (select (cmpi .eq (iotaInDim S64x38016 32 1) (broadcastInDim S64x38016 ![0, 1] bcast_S64x1_S64x38016_0_1 (broadcastInDim S64x1 ![0] bcast_S64_S64x1_0 (Cert.ReferenceIdeal.Value.res_main_v105 V0)))) (broadcastInDim S64x38016 ![] bcast_S_S64x38016 (id (constant S_ .f32 0xFF800000#32))) (Cert.ReferenceIdeal.Value.res_main_v103 V0)) (constant S_ .f32 0xFF800000#32) reducesTo_S64x38016_S64_d1 h_S_)) shapeCasts_S64_S64x1
      = val_main_v114 (F := F) (V0 (Proc.devRef .tc main_arg0)) (V0 (Proc.devRef .tc main_arg1)) (V0 (Proc.devRef .tc main_arg2)) := rfl

/-- The term the Run module states for `main_v115` over any contents `V0` is the stage. -/
theorem val_main_v115_eq (V0 : Valuation τ sig (Elt F)) :
    shapeCast _ (Cert.ReferenceIdeal.Value.res_main_v104 V0) shapeCasts_S64_S64x1
      = val_main_v115 (F := F) (V0 (Proc.devRef .tc main_arg0)) (V0 (Proc.devRef .tc main_arg1)) (V0 (Proc.devRef .tc main_arg2)) := rfl

end Cert.ReferenceIdeal.Read

end
-- ==== Proof.K.KernelFrame.lean ====
/-
  The frame of `Kernel`: the region's one body run at a symbolic grid point, nothing named of what any window holds and nothing of
  the five scratch buffers (each owned at some contents between points). The three argument arrays end as they began: two are staged
  inputs, one is no window's array.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref's elements on core `c`, owned at some contents. -/
abbrev anyAt (c : Dev nD) {sp : Space} {S : Shape} {e : EltTy} (M : Memref sig .tc sp S e) : sProp 𝕄 :=
  iprop(∃ X, owns (c : Thread nD τ) M fullShare X)

/-- The kernel's triple, for any continuation: from every operand owned at some contents, the kernel runs to its return at any grid
    point, handing every operand back at some contents. -/
theorem kernelRun (c : Dev nD) (i : grid0.Coords)
    (arg1 : Memref sig .tc .vmem S32x128 .i8) (harg1 : arg1.IsWhole) (arg2 : Memref sig .tc .vmem S64x8192 .bf16) (harg2 : arg2.IsWhole)
    (arg3 : Memref sig .tc .vmem S512x4096 .i8) (harg3 : arg3.IsWhole) (arg4 : Memref sig .tc .vmem S512x256 .bf16) (harg4 : arg4.IsWhole)
    (arg5 : Memref sig .tc .vmem S64x1 .i32) (harg5 : arg5.IsWhole) (arg6 : Memref sig .tc .vmem S64x1 .f32) (harg6 : arg6.IsWhole)
    (arg7 : Memref sig .tc .vmem S64x1 .f32) (harg7 : arg7.IsWhole)
    (arg8 : Memref sig .tc .vmem S4x128x128 .i32) (harg8 : arg8.IsWhole) (arg9 : Memref sig .tc .vmem S4x128x128 .i32) (harg9 : arg9.IsWhole)
    (arg10 : Memref sig .tc .vmem S64x128 .f32) (harg10 : arg10.IsWhole) (arg11 : Memref sig .tc .vmem S64x128 .i32) (harg11 : arg11.IsWhole)
    (arg12 : Memref sig .tc .vmem S64x128 .f32) (harg12 : arg12.IsWhole) (K : PUnit → sProp 𝕄) :
    iprop(anyAt c arg1 ∗ anyAt c arg2 ∗ anyAt c arg3 ∗ anyAt c arg4 ∗ anyAt c arg5 ∗ anyAt c arg6 ∗ anyAt c arg7
        ∗ anyAt c arg8 ∗ anyAt c arg9 ∗ anyAt c arg10 ∗ anyAt c arg11 ∗ anyAt c arg12
        ∗ (iprop(anyAt c arg1 ∗ anyAt c arg2 ∗ anyAt c arg3 ∗ anyAt c arg4 ∗ anyAt c arg5 ∗ anyAt c arg6 ∗ anyAt c arg7
            ∗ anyAt c arg8 ∗ anyAt c arg9 ∗ anyAt c arg10 ∗ anyAt c arg11 ∗ anyAt c arg12) -∗ K ⟨⟩))
      ⊢ wp frame (wpE (defs₀ (F := F)) Variants.none c none) Set.univ
          (cc0_iq4nl_head (F := F) i arg1 harg1 arg2 harg2 arg3 harg3 arg4 harg4 arg5 harg5 arg6 harg6 arg7 harg7 arg8 harg8 arg9 harg9
            arg10 harg10 arg11 harg11 arg12 harg12) K := by
  simp only [cc0_iq4nl_head_eq_skeleton]; unfold cc0_iq4nl_head_skel
  unfold anyAt owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, Hk⟩
  sl_exec
  all_goals
    sl_step
    iapply Hk
    isplitl [H1]; · (iexists _, _; isplitr; swap; · iexact H1); ipureintro; rfl
    isplitl [H2]; · (iexists _, _; isplitr; swap; · iexact H2); ipureintro; rfl
    isplitl [H3]; · (iexists _, _; isplitr; swap; · iexact H3); ipureintro; rfl
    isplitl [H4]; · (iexists _, _; isplitr; swap; · iexact H4); ipureintro; rfl
    isplitl [H5]; · (iexists _, _; isplitr; swap; · iexact H5); ipureintro; rfl
    isplitl [H6]; · (iexists _, _; isplitr; swap; · iexact H6); ipureintro; rfl
    isplitl [H7]; · (iexists _, _; isplitr; swap; · iexact H7); ipureintro; rfl
    isplitl [H8]; · (iexists _, _; isplitr; swap; · iexact H8); ipureintro; rfl
    isplitl [H9]; · (iexists _, _; isplitr; swap; · iexact H9); ipureintro; rfl
    isplitl [H10]; · (iexists _, _; isplitr; swap; · iexact H10); ipureintro; rfl
    isplitl [H11]; · (iexists _, _; isplitr; swap; · iexact H11); ipureintro; rfl
    (iexists _, _; isplitr; swap; · iexact H12); ipureintro; rfl

/-! ## The proof data and the body obligation -/

/-- Every window forgotten: nothing here reads what a staging buffer holds. -/
def forgets0 : Fin 7 → Bool := fun _ => true

/-- The proof data on core `c`: the arrays as the region finds them; what the body leaves in the windows unnamed; between points the
    scratch buffers and the generator register at some contents; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between points, conjunct by conjunct. -/
theorem PhiA0_eq (c : Dev nD) :
    (Pipeline.ΦA spec0 c : sProp 𝕄)
      = iprop((anyAt c (Memref.whole cc0_scratch0) ∗ anyAt c (Memref.whole cc0_scratch1) ∗ anyAt c (Memref.whole cc0_scratch2)
          ∗ anyAt c (Memref.whole cc0_scratch3) ∗ anyAt c (Memref.whole cc0_scratch4)) ∗ (∃ r, prngReg c r)) := by
  unfold Pipeline.ΦA
  rw [scopedRest0_eq]; simp only [anyAt, owns_whole]; try rfl

/-- What the body is called with at point `t`, and what it returns. -/
def bodyAny (c : Dev nD) (t : Fin cfg0.N) (s : Fin (cfg0.N + 1)) : sProp 𝕄 :=
  iprop((dats m 0 c).Φ s ∗ (dats m 0 c).owesAt () s
    ∗ anyAt c (st0_0 t) ∗ anyAt c (st0_1 t) ∗ anyAt c (st0_2 t) ∗ anyAt c (st0_3 t) ∗ anyAt c (st0_4 t) ∗ anyAt c (st0_5 t) ∗ anyAt c (st0_6 t))

/-- The body at point `t`: the invariant opened, `kernelRun`, the invariant closed. -/
theorem sound_body (c : Dev nD) (t : Fin cfg0.N) :
    bodyAny m c t t.castSucc ⊢ wp frame (wpE (defs₀ (F := F)) Variants.none c none) Set.univ (bodyAt0 t) (fun _ => bodyAny m c t t.succ) := by
  unfold bodyAny bodyAt0
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA0_eq]
  iintro ⟨⟨⟨S0, S1, S2, S3, S4⟩, Hg⟩, HO, W0, W1, W2, W3, W4, W5, W6⟩
  iapply (kernelRun c (grid0.coords t) (st0_0 t) _ (st0_1 t) _ (st0_2 t) _ (st0_3 t) _ (st0_4 t) _ (st0_5 t) _ (st0_6 t) _
    (Memref.whole cc0_scratch0) _ (Memref.whole cc0_scratch1) _ (Memref.whole cc0_scratch2) _ (Memref.whole cc0_scratch3) _ (Memref.whole cc0_scratch4) _ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [S0]; · iexact S0
  isplitl [S1]; · iexact S1
  isplitl [S2]; · iexact S2
  isplitl [S3]; · iexact S3
  isplitl [S4]; · iexact S4
  iintro ⟨W0, W1, W2, W3, W4, W5, W6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  iexact W6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- At any value instance `F`, from any memory with zero counters: every weakly fair execution terminates, every staged array holds
    contents the proof data allow, every unscoped buffer that is no window's array what the region found there, and every semaphore
    counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the argument arrays end as they began, every semaphore counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (h.1.arr_in c 2 rfl).trans (V_main_arg1 m c),
      (h.1.arr_in c 3 rfl).trans (V_main_arg2 m c)⟩, h.2⟩) (run_main m ρ)

end Cert.Kernel.Hand

end
-- ==== Proof.K.KernelIdealFrame.lean ====
/-
  The frame of `KernelIdeal`: the region's one body run at a symbolic grid point, nothing named of what any window holds and nothing of
  the five scratch buffers (each owned at some contents between points). The three argument arrays end as they began: two are staged
  inputs, one is no window's array.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref's elements on core `c`, owned at some contents. -/
abbrev anyAt (c : Dev nD) {sp : Space} {S : Shape} {e : EltTy} (M : Memref sig .tc sp S e) : sProp 𝕄 :=
  iprop(∃ X, owns (c : Thread nD τ) M fullShare X)

/-- The kernel's triple, for any continuation: from every operand owned at some contents, the kernel runs to its return at any grid
    point, handing every operand back at some contents. -/
theorem kernelRun (c : Dev nD) (i : grid0.Coords)
    (arg1 : Memref sig .tc .vmem S32x128 .i8) (harg1 : arg1.IsWhole) (arg2 : Memref sig .tc .vmem S64x8192 .bf16) (harg2 : arg2.IsWhole)
    (arg3 : Memref sig .tc .vmem S512x4096 .i8) (harg3 : arg3.IsWhole) (arg4 : Memref sig .tc .vmem S512x256 .bf16) (harg4 : arg4.IsWhole)
    (arg5 : Memref sig .tc .vmem S64x1 .i32) (harg5 : arg5.IsWhole) (arg6 : Memref sig .tc .vmem S64x1 .f32) (harg6 : arg6.IsWhole)
    (arg7 : Memref sig .tc .vmem S64x1 .f32) (harg7 : arg7.IsWhole)
    (arg8 : Memref sig .tc .vmem S4x128x2x128 .bf16) (harg8 : arg8.IsWhole) (arg9 : Memref sig .tc .vmem S4x128x2x128 .bf16) (harg9 : arg9.IsWhole)
    (arg10 : Memref sig .tc .vmem S64x128 .f32) (harg10 : arg10.IsWhole) (arg11 : Memref sig .tc .vmem S64x128 .i32) (harg11 : arg11.IsWhole)
    (arg12 : Memref sig .tc .vmem S64x128 .f32) (harg12 : arg12.IsWhole) (K : PUnit → sProp 𝕄) :
    iprop(anyAt c arg1 ∗ anyAt c arg2 ∗ anyAt c arg3 ∗ anyAt c arg4 ∗ anyAt c arg5 ∗ anyAt c arg6 ∗ anyAt c arg7
        ∗ anyAt c arg8 ∗ anyAt c arg9 ∗ anyAt c arg10 ∗ anyAt c arg11 ∗ anyAt c arg12
        ∗ (iprop(anyAt c arg1 ∗ anyAt c arg2 ∗ anyAt c arg3 ∗ anyAt c arg4 ∗ anyAt c arg5 ∗ anyAt c arg6 ∗ anyAt c arg7
            ∗ anyAt c arg8 ∗ anyAt c arg9 ∗ anyAt c arg10 ∗ anyAt c arg11 ∗ anyAt c arg12) -∗ K ⟨⟩))
      ⊢ wp frame (wpE (defs₀ (F := F)) Variants.none c none) Set.univ
          (cc0_iq4nl_head (F := F) i arg1 harg1 arg2 harg2 arg3 harg3 arg4 harg4 arg5 harg5 arg6 harg6 arg7 harg7 arg8 harg8 arg9 harg9
            arg10 harg10 arg11 harg11 arg12 harg12) K := by
  simp only [cc0_iq4nl_head_eq_skeleton]; unfold cc0_iq4nl_head_skel
  unfold anyAt owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, Hk⟩
  sl_exec
  all_goals
    sl_step
    iapply Hk
    isplitl [H1]; · (iexists _, _; isplitr; swap; · iexact H1); ipureintro; rfl
    isplitl [H2]; · (iexists _, _; isplitr; swap; · iexact H2); ipureintro; rfl
    isplitl [H3]; · (iexists _, _; isplitr; swap; · iexact H3); ipureintro; rfl
    isplitl [H4]; · (iexists _, _; isplitr; swap; · iexact H4); ipureintro; rfl
    isplitl [H5]; · (iexists _, _; isplitr; swap; · iexact H5); ipureintro; rfl
    isplitl [H6]; · (iexists _, _; isplitr; swap; · iexact H6); ipureintro; rfl
    isplitl [H7]; · (iexists _, _; isplitr; swap; · iexact H7); ipureintro; rfl
    isplitl [H8]; · (iexists _, _; isplitr; swap; · iexact H8); ipureintro; rfl
    isplitl [H9]; · (iexists _, _; isplitr; swap; · iexact H9); ipureintro; rfl
    isplitl [H10]; · (iexists _, _; isplitr; swap; · iexact H10); ipureintro; rfl
    isplitl [H11]; · (iexists _, _; isplitr; swap; · iexact H11); ipureintro; rfl
    (iexists _, _; isplitr; swap; · iexact H12); ipureintro; rfl

/-! ## The proof data and the body obligation -/

/-- Every window forgotten: nothing here reads what a staging buffer holds. -/
def forgets0 : Fin 7 → Bool := fun _ => true

/-- The proof data on core `c`: the arrays as the region finds them; what the body leaves in the windows unnamed; between points the
    scratch buffers and the generator register at some contents; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between points, conjunct by conjunct. -/
theorem PhiA0_eq (c : Dev nD) :
    (Pipeline.ΦA spec0 c : sProp 𝕄)
      = iprop((anyAt c (Memref.whole cc0_scratch0) ∗ anyAt c (Memref.whole cc0_scratch1) ∗ anyAt c (Memref.whole cc0_scratch2)
          ∗ anyAt c (Memref.whole cc0_scratch3) ∗ anyAt c (Memref.whole cc0_scratch4)) ∗ (∃ r, prngReg c r)) := by
  unfold Pipeline.ΦA
  rw [scopedRest0_eq]; simp only [anyAt, owns_whole]; try rfl

/-- What the body is called with at point `t`, and what it returns. -/
def bodyAny (c : Dev nD) (t : Fin cfg0.N) (s : Fin (cfg0.N + 1)) : sProp 𝕄 :=
  iprop((dats m 0 c).Φ s ∗ (dats m 0 c).owesAt () s
    ∗ anyAt c (st0_0 t) ∗ anyAt c (st0_1 t) ∗ anyAt c (st0_2 t) ∗ anyAt c (st0_3 t) ∗ anyAt c (st0_4 t) ∗ anyAt c (st0_5 t) ∗ anyAt c (st0_6 t))

/-- The body at point `t`: the invariant opened, `kernelRun`, the invariant closed. -/
theorem sound_body (c : Dev nD) (t : Fin cfg0.N) :
    bodyAny m c t t.castSucc ⊢ wp frame (wpE (defs₀ (F := F)) Variants.none c none) Set.univ (bodyAt0 t) (fun _ => bodyAny m c t t.succ) := by
  unfold bodyAny bodyAt0
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA0_eq]
  iintro ⟨⟨⟨S0, S1, S2, S3, S4⟩, Hg⟩, HO, W0, W1, W2, W3, W4, W5, W6⟩
  iapply (kernelRun c (grid0.coords t) (st0_0 t) _ (st0_1 t) _ (st0_2 t) _ (st0_3 t) _ (st0_4 t) _ (st0_5 t) _ (st0_6 t) _
    (Memref.whole cc0_scratch0) _ (Memref.whole cc0_scratch1) _ (Memref.whole cc0_scratch2) _ (Memref.whole cc0_scratch3) _ (Memref.whole cc0_scratch4) _ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [S0]; · iexact S0
  isplitl [S1]; · iexact S1
  isplitl [S2]; · iexact S2
  isplitl [S3]; · iexact S3
  isplitl [S4]; · iexact S4
  iintro ⟨W0, W1, W2, W3, W4, W5, W6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  iexact W6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- At any value instance `F`, from any memory with zero counters: every weakly fair execution terminates, every staged array holds
    contents the proof data allow, every unscoped buffer that is no window's array what the region found there, and every semaphore
    counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the argument arrays end as they began, every semaphore counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (h.1.arr_in c 2 rfl).trans (V_main_arg1 m c),
      (h.1.arr_in c 3 rfl).trans (V_main_arg2 m c)⟩, h.2⟩) (run_main m ρ)

end Cert.KernelIdeal.Hand

end
-- ==== Proof.E.RefTop.lean ====
module

public import proofs.«01_k».proof.Proof.R.Read
public import Idealize.ShloMosaic.Lib.Pointwise

/-!
What the reference's max and argmax say of one row: the argmax is the least place of the largest (`argmax_spec`), and the max is the
supremum (`max_spec`).
-/

open Cert.ReferenceIdeal Cert.ReferenceIdeal.Gen Idealize.ShloMosaic Idealize.ShloMosaic.StableHlo

@[expose] public section

noncomputable section

namespace Cert.ReferenceIdeal.Top

/-- `p` loses to `q`: a lesser value, or the same value at no smaller place. -/
def Loses (p q : EReal × BitVec 32) : Prop := p.1 < q.1 ∨ (p.1 = q.1 ∧ q.2.toInt ≤ p.2.toInt)

theorem Loses.trans {p q r : EReal × BitVec 32} (h : Loses p q) (h' : Loses q r) : Loses p r := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

theorem Loses.refl (p : EReal × BitVec 32) : Loses p p := Or.inr ⟨rfl, le_rfl⟩

/-- The reducer returns one of its two pairs, and neither beats it. -/
theorem reducer_spec (a b : EReal × BitVec 32) : (reducer_argmax_f32_i32 (F := Ideal) a b = a ∨ reducer_argmax_f32_i32 (F := Ideal) a b = b)
    ∧ Loses a (reducer_argmax_f32_i32 (F := Ideal) a b) ∧ Loses b (reducer_argmax_f32_i32 (F := Ideal) a b) := by
  have e : reducer_argmax_f32_i32 (F := Ideal) a b = (if b.1 < a.1 then a.1 else b.1, if b.1 < a.1 ∨ (a.1 = b.1 ∧ a.2.toInt < b.2.toInt) then a.2 else b.2) := by
    unfold reducer_argmax_f32_i32
    simp only [Ideal.cmpf_def, Ideal.cmp, IntOp.cmpi, IntOp.ori, IntOp.andi, Scalar.select, BitVec.slt]
    by_cases h1 : b.1 < a.1 <;> by_cases h2 : a.1 = b.1 <;> by_cases h3 : a.2.toInt < b.2.toInt <;> simp [h1, h2, h3]
  rw [e]
  rcases lt_trichotomy b.1 a.1 with h | h | h
  · simp only [h, true_or, if_true]
    exact ⟨trivial, Loses.refl a, Or.inl h⟩
  · have hn : ¬ b.1 < a.1 := by rw [h]; exact lt_irrefl _
    by_cases k : a.2.toInt < b.2.toInt
    · simp only [hn, h.symm, k, and_self, or_true, if_true, if_false, lt_irrefl]
      refine ⟨Or.inl (Prod.ext h rfl), Or.inr ⟨h.symm, le_rfl⟩, Or.inr ⟨rfl, k.le⟩⟩
    · simp only [hn, k, and_false, or_false, if_false]
      exact ⟨Or.inr trivial, Or.inr ⟨h.symm, not_lt.mp k⟩, Loses.refl b⟩
  · have hn : ¬ b.1 < a.1 := not_lt.mpr h.le
    simp only [hn, h.ne, false_and, or_false, if_false]
    exact ⟨Or.inr trivial, Or.inl h, Loses.refl b⟩

/-- A fold of the reducer is the start or a member, and nothing met beats it. -/
theorem foldl_spec (l : List (EReal × BitVec 32)) : ∀ b : EReal × BitVec 32, (l.foldl (reducer_argmax_f32_i32 (F := Ideal)) b = b ∨ l.foldl (reducer_argmax_f32_i32 (F := Ideal)) b ∈ l)
    ∧ Loses b (l.foldl (reducer_argmax_f32_i32 (F := Ideal)) b) ∧ ∀ p ∈ l, Loses p (l.foldl (reducer_argmax_f32_i32 (F := Ideal)) b) := by
  induction l with
  | nil => exact fun b => ⟨Or.inl rfl, Loses.refl b, fun p h => absurd h List.not_mem_nil⟩
  | cons a l ih =>
    intro b
    obtain ⟨h1, h2, h3⟩ := ih (reducer_argmax_f32_i32 (F := Ideal) b a)
    obtain ⟨g1, g2, g3⟩ := reducer_spec b a
    rw [List.foldl_cons]
    refine ⟨?_, g2.trans h2, fun p hp => ?_⟩
    · rcases h1 with e | e
      · rw [e]
        rcases g1 with e' | e'
        · exact Or.inl e'
        · exact Or.inr (by rw [e']; exact List.mem_cons_self)
      · exact Or.inr (List.mem_cons_of_mem _ e)
    · rcases List.mem_cons.mp hp with e | e
      · rw [e]; exact g3.trans h2
      · exact h3 p e

theorem negInf_bits : Ideal.ofBits .f32 0xFF800000#32 = (⊥ : EReal) := by
  simp [Ideal.ofBits, Ideal.ieee]

/-- The argmax's word: the least place of the row that attains the row's largest. -/
theorem argmax_spec (x : S64x38016.Idx → EReal) (r : Fin 64) : ∃ v0 : Fin 38016,
    (Host.argReduce (F := Ideal) (φ := .f32) reducer_argmax_f32_i32 x (iotaInDim S64x38016 32 1) (constant S_ .f32 0xFF800000#32) (constantI S_ 32 0#32) reducesTo_S64x38016_S64_d1 h_S_ (ix1 r)).2
      = BitVec.ofNat 32 v0.val
    ∧ (∀ v : Fin 38016, x (ix2 r v) ≤ x (ix2 r v0)) ∧ ∀ v : Fin 38016, v < v0 → x (ix2 r v) < x (ix2 r v0) := by
  rw [Ideal.argReduce_eq_reduce2, Host.reduce2_eq_foldl_fiber]
  have hm : ∀ p : EReal × BitVec 32, p ∈ Host.argReduceFiber x (iotaInDim S64x38016 32 1) reducesTo_S64x38016_S64_d1 (ix1 r)
      ↔ ∃ v : Fin 38016, p = (x (ix2 r v), BitVec.ofNat 32 v.val) := fun p => by
    unfold Host.argReduceFiber
    simp only [List.mem_map, List.mem_filter, List.mem_finRange, true_and, decide_eq_true_eq]
    constructor
    · rintro ⟨n, hn, rfl⟩
      obtain ⟨k, hk⟩ := (Shape.ReducesTo.fiber_r2_a1 reducesTo_S64x38016_S64_d1 (ix1 r) _).mp hn
      exact ⟨k, by rw [← hk]; rfl⟩
    · rintro ⟨v, rfl⟩
      refine ⟨S64x38016.rowMajor (ix2 r v), ?_, ?_⟩
      · rw [Equiv.symm_apply_apply]
        exact (Shape.ReducesTo.fiber_r2_a1 reducesTo_S64x38016_S64_d1 (ix1 r) _).mpr ⟨v, rfl⟩
      · rw [Equiv.symm_apply_apply]; rfl
  obtain ⟨h1, h2, h3⟩ := foldl_spec (Host.argReduceFiber x (iotaInDim S64x38016 32 1) reducesTo_S64x38016_S64_d1 (ix1 r)) (⊥, 0#32)
  have e0 : ((constant (F := Ideal) S_ .f32 0xFF800000#32 : S_.Idx → EReal) (Shape.Idx.first h_S_), (constantI S_ 32 0#32 : S_.Idx → BitVec 32) (Shape.Idx.first h_S_)) = ((⊥ : EReal), 0#32) :=
    Prod.ext negInf_bits rfl
  have hi : ∀ v : Fin 38016, (BitVec.ofNat 32 v.val).toInt = (v.val : Int) := fun v => by
    have := v.isLt
    rw [BitVec.toInt_eq_toNat_of_lt (by rw [BitVec.toNat_ofNat]; omega), BitVec.toNat_ofNat, Nat.mod_eq_of_lt (by omega)]
  show ∃ v0 : Fin 38016, (List.foldl (reducer_argmax_f32_i32 (F := Ideal)) ((constant (F := Ideal) S_ .f32 0xFF800000#32 : S_.Idx → EReal) (Shape.Idx.first h_S_), (constantI S_ 32 0#32 : S_.Idx → BitVec 32) (Shape.Idx.first h_S_)) _).2 = _ ∧ _
  rw [e0]
  generalize (Host.argReduceFiber x (iotaInDim S64x38016 32 1) reducesTo_S64x38016_S64_d1 (ix1 r)).foldl (reducer_argmax_f32_i32 (F := Ideal)) (⊥, 0#32) = q at h1 h2 h3
  have h4 : ∀ v : Fin 38016, Loses (x (ix2 r v), BitVec.ofNat 32 v.val) q := fun v => h3 _ ((hm _).mpr ⟨v, rfl⟩)
  obtain ⟨v0, ev, ex⟩ : ∃ v0 : Fin 38016, q.2 = BitVec.ofNat 32 v0.val ∧ x (ix2 r v0) = q.1 := by
    rcases h1 with e | e
    · refine ⟨⟨0, by decide⟩, by rw [e], ?_⟩
      have := h4 ⟨0, by decide⟩
      rw [e] at this ⊢
      rcases this with c | c
      · exact absurd c not_lt_bot
      · exact c.1
    · obtain ⟨v, rfl⟩ := (hm q).mp e
      exact ⟨v, rfl, rfl⟩
  refine ⟨v0, ev, fun v => ?_, fun v hv => ?_⟩
  · rw [ex]
    rcases h4 v with c | c
    · exact c.le
    · exact c.1.le
  · rw [ex]
    rcases h4 v with c | c
    · exact c
    · have := c.2
      rw [ev] at this
      simp only [hi] at this
      exact absurd hv (by rw [not_lt, Fin.le_def]; omega)

/-- The reference's max along a row. -/
theorem max_spec (x : S64x38016.Idx → EReal) (r : Fin 64) (z : EReal) :
    Host.reduce (FloatOps.maximumf (F := Ideal) (φ := .f32)) x (constant (F := Ideal) S_ .f32 0xFF800000#32) reducesTo_S64x38016_S64_d1 h_S_ (ix1 r) ≤ z
      ↔ ∀ v : Fin 38016, x (ix2 r v) ≤ z := by
  have e : Host.reduce (FloatOps.maximumf (F := Ideal) (φ := .f32)) x (constant (F := Ideal) S_ .f32 0xFF800000#32) reducesTo_S64x38016_S64_d1 h_S_ (ix1 r)
      = (Finset.univ : Finset (Fin 38016)).fold max (⊥ : EReal) fun v => x (ix2 r v) :=
    (Host.reduce_eq_fold (max : EReal → EReal → EReal) x (constant (F := Ideal) S_ .f32 0xFF800000#32) reducesTo_S64x38016_S64_d1 h_S_ (ix1 r)).trans
      ((Shape.ReducesTo.fold_fiber_r2_a1 reducesTo_S64x38016_S64_d1 (ix1 r) max _ x).trans
        (by rw [show (constant (F := Ideal) S_ .f32 0xFF800000#32 : S_.Idx → EReal) (Shape.Idx.first h_S_) = ⊥ from negInf_bits]; rfl))
  rw [e, Finset.fold_max_le]
  simp

end Cert.ReferenceIdeal.Top

end
-- ==== Proof.V.Tile.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

/-- The first 32 packed rows of a transposed 128 by 128 block of packed bytes, as 32-bit words. -/
def quad0 (w : Vec F S128x128 .i8) : IVec S8x128 32 :=
  bitcast S8x128 32 (extractStridedSlice S32x128 ![0, 0] (transpose S128x128 [1, 0] w transposes_S128x128_p1_0_S128x128) slices_S128x128_o0_0_S32x128) bitcasts_S32x128_w8_S8x128_w32

/-- The packed rows 32 to 63 of a transposed block of packed bytes, as 32-bit words. -/
def quad1 (w : Vec F S128x128 .i8) : IVec S8x128 32 :=
  bitcast S8x128 32 (extractStridedSlice S32x128 ![32, 0] (transpose S128x128 [1, 0] w transposes_S128x128_p1_0_S128x128) slices_S128x128_o32_0_S32x128) bitcasts_S32x128_w8_S8x128_w32

/-- The packed rows 64 to 95 of a transposed block of packed bytes, as 32-bit words. -/
def quad2 (w : Vec F S128x128 .i8) : IVec S8x128 32 :=
  bitcast S8x128 32 (extractStridedSlice S32x128 ![64, 0] (transpose S128x128 [1, 0] w transposes_S128x128_p1_0_S128x128) slices_S128x128_o64_0_S32x128) bitcasts_S32x128_w8_S8x128_w32

/-- The packed rows 96 to 127 of a transposed block of packed bytes, as 32-bit words. -/
def quad3 (w : Vec F S128x128 .i8) : IVec S8x128 32 :=
  bitcast S8x128 32 (extractStridedSlice S32x128 ![96, 0] (transpose S128x128 [1, 0] w transposes_S128x128_p1_0_S128x128) slices_S128x128_o96_0_S32x128) bitcasts_S32x128_w8_S8x128_w32

/-- The low nibbles of the bytes of a block of words. -/
def nibLo (x : IVec S8x128 32) : IVec S32x128 8 :=
  bitcast S32x128 8 (andi x (broadcast S8x128 252645135#32)) bitcasts_S8x128_w32_S32x128_w8

/-- The high nibbles of the bytes of a block of words. -/
def nibHi (x : IVec S8x128 32) : IVec S32x128 8 :=
  bitcast S32x128 8 (andi (shrui x (broadcast S8x128 4#32)) (broadcast S8x128 252645135#32)) bitcasts_S8x128_w32_S32x128_w8

/-- The codes looked up in the table and read as floats. -/
def dec (tab : IVec S32x128 8) (x : IVec S32x128 8) : FVec F S32x128 .bf16 :=
  sitofp .bf16 (dynamicGather 0 tab (shapeCast S32x128 (shapeCast S32x128x1 (extsi 32 x natLt_8_32) shapeCasts_S32x128_S32x128x1) shapeCasts_S32x128x1_S32x128))

/-- The first sixteen decoded rows, each scaled by the scale words. -/
def piece0 (v : FVec F S32x128 .bf16) (raw : Vec F S1x1x2x128 .bf16) : FVec F S16x128 .bf16 :=
  mulf (extractStridedSlice S16x128 ![0, 0] v slices_S32x128_o0_0_S16x128) (k0_pay11 raw)

/-- The last sixteen decoded rows, each scaled by the scale words. -/
def piece1 (v : FVec F S32x128 .bf16) (raw : Vec F S1x1x2x128 .bf16) : FVec F S16x128 .bf16 :=
  mulf (extractStridedSlice S16x128 ![16, 0] v slices_S32x128_o16_0_S16x128) (k0_pay11 raw)

/-- One decoded and scaled 256 by 128 block of weights: sixteen pieces stacked along the rows. -/
def column (tab : IVec S32x128 8) (w : Vec F S128x128 .i8) (e0 e1 e2 e3 o0 o1 o2 o3 : Vec F S1x1x2x128 .bf16) : FVec F S256x128 .bf16 :=
  concatenate S256x128 0 [⟨S16x128, piece0 (dec tab (nibLo (quad0 w))) (e0)⟩, ⟨S16x128, piece0 (dec tab (nibHi (quad0 w))) (e0)⟩, ⟨S16x128, piece1 (dec tab (nibLo (quad0 w))) (o0)⟩, ⟨S16x128, piece1 (dec tab (nibHi (quad0 w))) (o0)⟩, ⟨S16x128, piece0 (dec tab (nibLo (quad1 w))) (e1)⟩, ⟨S16x128, piece0 (dec tab (nibHi (quad1 w))) (e1)⟩, ⟨S16x128, piece1 (dec tab (nibLo (quad1 w))) (o1)⟩, ⟨S16x128, piece1 (dec tab (nibHi (quad1 w))) (o1)⟩, ⟨S16x128, piece0 (dec tab (nibLo (quad2 w))) (e2)⟩, ⟨S16x128, piece0 (dec tab (nibHi (quad2 w))) (e2)⟩, ⟨S16x128, piece1 (dec tab (nibLo (quad2 w))) (o2)⟩, ⟨S16x128, piece1 (dec tab (nibHi (quad2 w))) (o2)⟩, ⟨S16x128, piece0 (dec tab (nibLo (quad3 w))) (e3)⟩, ⟨S16x128, piece0 (dec tab (nibHi (quad3 w))) (e3)⟩, ⟨S16x128, piece1 (dec tab (nibLo (quad3 w))) (o3)⟩, ⟨S16x128, piece1 (dec tab (nibHi (quad3 w))) (o3)⟩] concatenates_S16x128_S16x128_S16x128_S16x128_S16x128_S16x128_S16x128_S16x128_S16x128_S16x128_S16x128_S16x128_S16x128_S16x128_S16x128_S16x128_S256x128_d0

/-- One trip of the first loop adds to the accumulator the product of the activations with two decoded blocks of weights side by side. -/
theorem trip_t1 (𝒱 : Variants) (c : Dev nD) (bd : Option 𝒱.V) (i : grid0.Coords) (arg1 : Memref sig .tc .vmem S32x128 .i8) (harg1 : arg1.IsWhole) (arg2 : Memref sig .tc .vmem S64x8192 .bf16) (harg2 : arg2.IsWhole) (arg3 : Memref sig .tc .vmem S512x4096 .i8) (harg3 : arg3.IsWhole) (arg4 : Memref sig .tc .vmem S512x256 .bf16) (harg4 : arg4.IsWhole) (arg5 : Memref sig .tc .vmem S64x1 .i32) (harg5 : arg5.IsWhole) (arg6 : Memref sig .tc .vmem S64x1 .f32) (harg6 : arg6.IsWhole) (arg7 : Memref sig .tc .vmem S64x1 .f32) (harg7 : arg7.IsWhole) (arg8 : Memref sig .tc .vmem S4x128x2x128 .bf16) (harg8 : arg8.IsWhole) (arg9 : Memref sig .tc .vmem S4x128x2x128 .bf16) (harg9 : arg9.IsWhole) (arg10 : Memref sig .tc .vmem S64x128 .f32) (harg10 : arg10.IsWhole) (arg11 : Memref sig .tc .vmem S64x128 .i32) (harg11 : arg11.IsWhole) (arg12 : Memref sig .tc .vmem S64x128 .f32) (harg12 : arg12.IsWhole) (arg0 : BitVec 32) (v138_hi : FVec F S64x128 .bf16) (v156 : IVec S32x128 8) (X_arg2 : BufTy.Contents (Elt F) arg2.view.ty) (X_arg3 : BufTy.Contents (Elt F) arg3.view.ty) (X_arg8 : BufTy.Contents (Elt F) arg8.view.ty) (X_arg9 : BufTy.Contents (Elt F) arg9.view.ty) (k : Fin k0_t1_loop.trips) (acc : FVec F S64x256 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg0 v138_hi v156 X_arg2 X_arg3 X_arg8 X_arg9 k acc =
      k0_pay190 acc
        (column v156 (View.readAt (Elt F) arg3.view (Rect.unit (s := S512x4096) (k0_off1 k) S128x128.size (k0_off1_inb k)).toLoadRect X_arg3) (View.readAt (Elt F) arg8.view (Rect.unit (s := S4x128x2x128) (k0_off2 k 0#32) S1x1x2x128.size (k0_off2_inb k 0)).toLoadRect X_arg8) (View.readAt (Elt F) arg8.view (Rect.unit (s := S4x128x2x128) (k0_off2 k 1#32) S1x1x2x128.size (k0_off2_inb k 1)).toLoadRect X_arg8) (View.readAt (Elt F) arg8.view (Rect.unit (s := S4x128x2x128) (k0_off2 k 2#32) S1x1x2x128.size (k0_off2_inb k 2)).toLoadRect X_arg8) (View.readAt (Elt F) arg8.view (Rect.unit (s := S4x128x2x128) (k0_off2 k 3#32) S1x1x2x128.size (k0_off2_inb k 3)).toLoadRect X_arg8) (View.readAt (Elt F) arg9.view (Rect.unit (s := S4x128x2x128) (k0_off2 k 0#32) S1x1x2x128.size (k0_off2_inb k 0)).toLoadRect X_arg9) (View.readAt (Elt F) arg9.view (Rect.unit (s := S4x128x2x128) (k0_off2 k 1#32) S1x1x2x128.size (k0_off2_inb k 1)).toLoadRect X_arg9) (View.readAt (Elt F) arg9.view (Rect.unit (s := S4x128x2x128) (k0_off2 k 2#32) S1x1x2x128.size (k0_off2_inb k 2)).toLoadRect X_arg9) (View.readAt (Elt F) arg9.view (Rect.unit (s := S4x128x2x128) (k0_off2 k 3#32) S1x1x2x128.size (k0_off2_inb k 3)).toLoadRect X_arg9))
        (column v156 (View.readAt (Elt F) arg3.view (Rect.unit (s := S512x4096) (k0_off3 k) S128x128.size (k0_off3_inb k)).toLoadRect X_arg3) (View.readAt (Elt F) arg8.view (Rect.unit (s := S4x128x2x128) (k0_off4 k 0#32) S1x1x2x128.size (k0_off4_inb k 0)).toLoadRect X_arg8) (View.readAt (Elt F) arg8.view (Rect.unit (s := S4x128x2x128) (k0_off4 k 1#32) S1x1x2x128.size (k0_off4_inb k 1)).toLoadRect X_arg8) (View.readAt (Elt F) arg8.view (Rect.unit (s := S4x128x2x128) (k0_off4 k 2#32) S1x1x2x128.size (k0_off4_inb k 2)).toLoadRect X_arg8) (View.readAt (Elt F) arg8.view (Rect.unit (s := S4x128x2x128) (k0_off4 k 3#32) S1x1x2x128.size (k0_off4_inb k 3)).toLoadRect X_arg8) (View.readAt (Elt F) arg9.view (Rect.unit (s := S4x128x2x128) (k0_off4 k 0#32) S1x1x2x128.size (k0_off4_inb k 0)).toLoadRect X_arg9) (View.readAt (Elt F) arg9.view (Rect.unit (s := S4x128x2x128) (k0_off4 k 1#32) S1x1x2x128.size (k0_off4_inb k 1)).toLoadRect X_arg9) (View.readAt (Elt F) arg9.view (Rect.unit (s := S4x128x2x128) (k0_off4 k 2#32) S1x1x2x128.size (k0_off4_inb k 2)).toLoadRect X_arg9) (View.readAt (Elt F) arg9.view (Rect.unit (s := S4x128x2x128) (k0_off4 k 3#32) S1x1x2x128.size (k0_off4_inb k 3)).toLoadRect X_arg9))
        (View.readAt (Elt F) arg2.view (Rect.unit (s := S64x8192) (k0_off5 k) S64x256.size (k0_off5_inb k)).toLoadRect X_arg2) := by
  unfold tripR_k0_t1 trip_k0_t1
  rfl

/-- One trip of the second loop adds to the accumulator the product of the activations with two decoded blocks of weights side by side. -/
theorem trip_t2 (𝒱 : Variants) (c : Dev nD) (bd : Option 𝒱.V) (i : grid0.Coords) (arg1 : Memref sig .tc .vmem S32x128 .i8) (harg1 : arg1.IsWhole) (arg2 : Memref sig .tc .vmem S64x8192 .bf16) (harg2 : arg2.IsWhole) (arg3 : Memref sig .tc .vmem S512x4096 .i8) (harg3 : arg3.IsWhole) (arg4 : Memref sig .tc .vmem S512x256 .bf16) (harg4 : arg4.IsWhole) (arg5 : Memref sig .tc .vmem S64x1 .i32) (harg5 : arg5.IsWhole) (arg6 : Memref sig .tc .vmem S64x1 .f32) (harg6 : arg6.IsWhole) (arg7 : Memref sig .tc .vmem S64x1 .f32) (harg7 : arg7.IsWhole) (arg8 : Memref sig .tc .vmem S4x128x2x128 .bf16) (harg8 : arg8.IsWhole) (arg9 : Memref sig .tc .vmem S4x128x2x128 .bf16) (harg9 : arg9.IsWhole) (arg10 : Memref sig .tc .vmem S64x128 .f32) (harg10 : arg10.IsWhole) (arg11 : Memref sig .tc .vmem S64x128 .i32) (harg11 : arg11.IsWhole) (arg12 : Memref sig .tc .vmem S64x128 .f32) (harg12 : arg12.IsWhole) (arg0 : BitVec 32) (v156 : IVec S32x128 8) (v172 : FVec F S64x128 .f32) (v174 : IVec S64x128 32) (v175 : FVec F S64x128 .f32) (v178 : BitVec 32) (v179 : BitVec 1) (v180 : FVec F S64x128 .f32) (X_arg2 : BufTy.Contents (Elt F) arg2.view.ty) (X_arg3 : BufTy.Contents (Elt F) arg3.view.ty) (X_arg8 : BufTy.Contents (Elt F) arg8.view.ty) (X_arg9 : BufTy.Contents (Elt F) arg9.view.ty) (k : Fin k0_t2_loop.trips) (acc : FVec F S64x256 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg0 v156 v172 v174 v175 v178 v179 v180 X_arg2 X_arg3 X_arg8 X_arg9 k acc =
      k0_pay200 acc
        (column v156 (View.readAt (Elt F) arg3.view (Rect.unit (s := S512x4096) (k0_off6 k) S128x128.size (k0_off6_inb k)).toLoadRect X_arg3) (View.readAt (Elt F) arg8.view (Rect.unit (s := S4x128x2x128) (k0_off7 k 0#32) S1x1x2x128.size (k0_off7_inb k 0)).toLoadRect X_arg8) (View.readAt (Elt F) arg8.view (Rect.unit (s := S4x128x2x128) (k0_off7 k 1#32) S1x1x2x128.size (k0_off7_inb k 1)).toLoadRect X_arg8) (View.readAt (Elt F) arg8.view (Rect.unit (s := S4x128x2x128) (k0_off7 k 2#32) S1x1x2x128.size (k0_off7_inb k 2)).toLoadRect X_arg8) (View.readAt (Elt F) arg8.view (Rect.unit (s := S4x128x2x128) (k0_off7 k 3#32) S1x1x2x128.size (k0_off7_inb k 3)).toLoadRect X_arg8) (View.readAt (Elt F) arg9.view (Rect.unit (s := S4x128x2x128) (k0_off7 k 0#32) S1x1x2x128.size (k0_off7_inb k 0)).toLoadRect X_arg9) (View.readAt (Elt F) arg9.view (Rect.unit (s := S4x128x2x128) (k0_off7 k 1#32) S1x1x2x128.size (k0_off7_inb k 1)).toLoadRect X_arg9) (View.readAt (Elt F) arg9.view (Rect.unit (s := S4x128x2x128) (k0_off7 k 2#32) S1x1x2x128.size (k0_off7_inb k 2)).toLoadRect X_arg9) (View.readAt (Elt F) arg9.view (Rect.unit (s := S4x128x2x128) (k0_off7 k 3#32) S1x1x2x128.size (k0_off7_inb k 3)).toLoadRect X_arg9))
        (column v156 (View.readAt (Elt F) arg3.view (Rect.unit (s := S512x4096) (k0_off8 k) S128x128.size (k0_off8_inb k)).toLoadRect X_arg3) (View.readAt (Elt F) arg8.view (Rect.unit (s := S4x128x2x128) (k0_off9 k 0#32) S1x1x2x128.size (k0_off9_inb k 0)).toLoadRect X_arg8) (View.readAt (Elt F) arg8.view (Rect.unit (s := S4x128x2x128) (k0_off9 k 1#32) S1x1x2x128.size (k0_off9_inb k 1)).toLoadRect X_arg8) (View.readAt (Elt F) arg8.view (Rect.unit (s := S4x128x2x128) (k0_off9 k 2#32) S1x1x2x128.size (k0_off9_inb k 2)).toLoadRect X_arg8) (View.readAt (Elt F) arg8.view (Rect.unit (s := S4x128x2x128) (k0_off9 k 3#32) S1x1x2x128.size (k0_off9_inb k 3)).toLoadRect X_arg8) (View.readAt (Elt F) arg9.view (Rect.unit (s := S4x128x2x128) (k0_off9 k 0#32) S1x1x2x128.size (k0_off9_inb k 0)).toLoadRect X_arg9) (View.readAt (Elt F) arg9.view (Rect.unit (s := S4x128x2x128) (k0_off9 k 1#32) S1x1x2x128.size (k0_off9_inb k 1)).toLoadRect X_arg9) (View.readAt (Elt F) arg9.view (Rect.unit (s := S4x128x2x128) (k0_off9 k 2#32) S1x1x2x128.size (k0_off9_inb k 2)).toLoadRect X_arg9) (View.readAt (Elt F) arg9.view (Rect.unit (s := S4x128x2x128) (k0_off9 k 3#32) S1x1x2x128.size (k0_off9_inb k 3)).toLoadRect X_arg9))
        (View.readAt (Elt F) arg2.view (Rect.unit (s := S64x8192) (k0_off10 k) S64x256.size (k0_off10_inb k)).toLoadRect X_arg2) := by
  unfold tripR_k0_t2 trip_k0_t2
  rfl

end Cert.KernelIdeal.Hand
-- ==== Proof.V.Entry.lean ====
module

public import proofs.«01_k».proof.Proof.V.Tile
public import Idealize.ShloMosaic.Lib.Pointwise
public import Idealize.ShloMosaic.Lib.BitcastFour
public import Idealize.ShloMosaic.Lib.Pipeline.Value
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic
open scoped BigOperators

/-- One bit of a word made of four packed bytes is a bit of one of the bytes. -/
theorem word_bit (y : IVec S32x128 8) (h : S32x128.Bitcasts 8 S8x128 32) (a : Fin 8) (l : Fin 128) (q : Nat) (hq : q < 32) (p : Fin 32)
    (hp : p.val = 4 * a.val + q / 8) :
    (bitcast S8x128 32 y h (ix2 a l)).getLsbD q = (y (ix2 p l)).getLsbD (q % 8) := by
  rw [ix2_eq_valueIdx, ix2_eq_valueIdx]
  exact bitcast_8_32_getLsbD_ix2 y h a l q hq p hp

/-- The low nibbles of words made of packed bytes are the low four bits of those bytes. -/
theorem nibLo_bitcast (y : IVec S32x128 8) (h : S32x128.Bitcasts 8 S8x128 32) (p : Fin 32) (l : Fin 128) :
    nibLo (bitcast S8x128 32 y h) (ix2 p l) = y (ix2 p l) &&& 15#8 := by
  unfold nibLo
  apply BitVec.eq_of_getLsbD_eq
  intro q hq
  rw [bitcast_getLsbD _ _ _ q hq (by decide)]
  have hrow : Shape.row S32x128 (ix2 p l) = p.val := rfl
  have hsrc : ∀ hp, (bitcasts_S8x128_w32_S32x128_w8).srcIdx (ix2 p l) ((Shape.row S32x128 (ix2 p l) * 8 + q) / 32) hp
      = ix2 (⟨p.val / 4, by omega⟩ : Fin 8) l := by
    intro hp
    funext c
    match c with
    | ⟨0, _⟩ => exact Fin.ext (((bitcasts_S8x128_w32_S32x128_w8).srcIdx_row _ _ hp ⟨0, Nat.zero_lt_two⟩ rfl).trans (by rw [hrow]; simp; omega))
    | ⟨1, _⟩ => exact Fin.ext ((bitcasts_S8x128_w32_S32x128_w8).srcIdx_other _ _ hp ⟨1, Nat.one_lt_two⟩ (by show ¬ 1 + 2 = 2; omega))
  rw [hsrc]
  have hm : (Shape.row S32x128 (ix2 p l) * 8 + q) % 32 = 8 * (p.val % 4) + q := by rw [hrow]; omega
  rw [hm]
  show (bitcast S8x128 32 y h (ix2 _ l) &&& 252645135#32).getLsbD _ = _
  rw [BitVec.getLsbD_and, BitVec.getLsbD_and,
    word_bit y h ⟨p.val / 4, by omega⟩ l (8 * (p.val % 4) + q) (by omega) p (by simp; omega)]
  have e2 : (8 * (p.val % 4) + q) % 8 = q := by omega
  rw [e2]
  congr 1
  have : p.val % 4 < 4 := Nat.mod_lt _ (by decide)
  generalize p.val % 4 = n at *
  interval_cases n <;> interval_cases q <;> rfl

/-- The high nibbles of words made of packed bytes are the high four bits of those bytes. -/
theorem nibHi_bitcast (y : IVec S32x128 8) (h : S32x128.Bitcasts 8 S8x128 32) (p : Fin 32) (l : Fin 128) :
    nibHi (bitcast S8x128 32 y h) (ix2 p l) = y (ix2 p l) >>> 4 := by
  unfold nibHi
  apply BitVec.eq_of_getLsbD_eq
  intro q hq
  rw [bitcast_getLsbD _ _ _ q hq (by decide)]
  have hrow : Shape.row S32x128 (ix2 p l) = p.val := rfl
  have hsrc : ∀ hp, (bitcasts_S8x128_w32_S32x128_w8).srcIdx (ix2 p l) ((Shape.row S32x128 (ix2 p l) * 8 + q) / 32) hp
      = ix2 (⟨p.val / 4, by omega⟩ : Fin 8) l := by
    intro hp
    funext c
    match c with
    | ⟨0, _⟩ => exact Fin.ext (((bitcasts_S8x128_w32_S32x128_w8).srcIdx_row _ _ hp ⟨0, Nat.zero_lt_two⟩ rfl).trans (by rw [hrow]; simp; omega))
    | ⟨1, _⟩ => exact Fin.ext ((bitcasts_S8x128_w32_S32x128_w8).srcIdx_other _ _ hp ⟨1, Nat.one_lt_two⟩ (by show ¬ 1 + 2 = 2; omega))
  rw [hsrc]
  have hm : (Shape.row S32x128 (ix2 p l) * 8 + q) % 32 = 8 * (p.val % 4) + q := by rw [hrow]; omega
  rw [hm]
  show ((bitcast S8x128 32 y h (ix2 _ l) >>> 4) &&& 252645135#32).getLsbD _ = _
  rw [BitVec.getLsbD_and, BitVec.getLsbD_ushiftRight, BitVec.getLsbD_ushiftRight]
  by_cases h4 : q < 4
  · rw [word_bit y h ⟨p.val / 4, by omega⟩ l (4 + (8 * (p.val % 4) + q)) (by omega) p (by simp; omega)]
    have e2 : (4 + (8 * (p.val % 4) + q)) % 8 = 4 + q := by omega
    rw [e2]
    have : (252645135#32 : BitVec 32).getLsbD (8 * (p.val % 4) + q) = true := by
      have : p.val % 4 < 4 := Nat.mod_lt _ (by decide)
      generalize p.val % 4 = n at *
      interval_cases n <;> interval_cases q <;> rfl
    rw [this, Bool.and_true]
  · have : (252645135#32 : BitVec 32).getLsbD (8 * (p.val % 4) + q) = false := by
      have : p.val % 4 < 4 := Nat.mod_lt _ (by decide)
      generalize p.val % 4 = n at *
      interval_cases n <;> interval_cases q <;> first | rfl | omega
    rw [this, Bool.and_false, BitVec.getLsbD_of_ge _ _ (by omega)]

/-- The byte of a block that lies under row `r` of the transposed block. -/
theorem quad_row (w : Vec Ideal S128x128 .i8) (o : Nat) (h : S128x128.Slices ![o, 0] S32x128) (p : Fin 32) (l : Fin 128) (r : Fin 128) (hr : r.val = o + p.val) :
    extractStridedSlice S32x128 ![o, 0] (transpose S128x128 [1, 0] w transposes_S128x128_p1_0_S128x128) h (ix2 p l) = w (ix2 l r) := by
  rw [extractStridedSlice_apply _ _ _ _ (ix2 r l) (fun a => by
    match a with
    | ⟨0, _⟩ => exact hr
    | ⟨1, _⟩ => exact (Nat.zero_add _).symm)]
  exact transpose_apply _ _ _ _ (ix2 l r) (fun b => by
    match b with
    | ⟨0, _⟩ => rfl
    | ⟨1, _⟩ => rfl)

/-- The decoded float of a code below sixteen is the table's entry at that code. -/
theorem dec_apply (tab x : IVec S32x128 8) (p : Fin 32) (l : Fin 128) (n : Fin 32) (hn : ((x (ix2 p l)).signExtend 32).toNat % 32 = n.val) :
    dec (F := Ideal) tab x (ix2 p l) = (((tab (ix2 n l)).toInt : ℝ) : EReal) := by
  unfold dec
  pointwise
  have e : (⟨((x (ix2 p l)).signExtend 32).toNat % 32, Nat.mod_lt _ (by decide)⟩ : Fin 32) = n := Fin.ext hn
  rw [e]
  rfl

/-- The scale rows of one pair of words, read at a row and lane. -/
theorem scale_apply (raw : Vec Ideal S1x1x2x128 .bf16) (r : Fin 16) (l : Fin 128) :
    k0_pay11 (F := Ideal) raw (ix2 r l) = raw (ix4 (0 : Fin 1) (0 : Fin 1) (⟨r.val % 2, by omega⟩ : Fin 2) l) := by
  unfold k0_pay11
  pointwise
  simp only [dite_eq_ite, ite_self]
  rcases Nat.mod_two_eq_zero_or_one r.val with h | h
  · rw [if_pos h]; congr 1; simp [h]
  · rw [if_neg (by omega)]; congr 1; simp [h]

/-- The table row a packed byte names: by its low four bits (`hi = false`) or its high four bits. -/
def nibRow (hi : Bool) (b : BitVec 8) : Fin 32 :=
  ⟨if hi then b.toNat / 16 else b.toNat % 16, by have := b.isLt; split <;> omega⟩

theorem code_lo (b : BitVec 8) : ((b &&& 15#8).signExtend 32).toNat % 32 = (nibRow false b).val := by
  have h : (b &&& 15#8).toNat = b.toNat % 16 := by
    rw [BitVec.toNat_and]; exact Nat.and_two_pow_sub_one_eq_mod _ 4
  have hm : (b &&& 15#8).msb = false := by
    rw [BitVec.msb_eq_false_iff_two_mul_lt, h]; omega
  rw [BitVec.signExtend_eq_setWidth_of_msb_false hm, BitVec.toNat_setWidth, h]
  show _ = b.toNat % 16
  omega

theorem code_hi (b : BitVec 8) : ((b >>> 4).signExtend 32).toNat % 32 = (nibRow true b).val := by
  have hb := b.isLt
  have h : (b >>> 4).toNat = b.toNat / 16 := by
    rw [BitVec.toNat_ushiftRight, Nat.shiftRight_eq_div_pow]
  have hm : (b >>> 4).msb = false := by
    rw [BitVec.msb_eq_false_iff_two_mul_lt, h]; omega
  rw [BitVec.signExtend_eq_setWidth_of_msb_false hm, BitVec.toNat_setWidth, h]
  show _ = b.toNat / 16
  omega

/-- A decoded low nibble of a block: the table at the row its byte names. -/
theorem dec_lo (tab : IVec S32x128 8) (w : Vec Ideal S128x128 .i8) (o : Nat) (h : S128x128.Slices ![o, 0] S32x128) (p : Fin 32) (l : Fin 128) (r : Fin 128) (hr : r.val = o + p.val) :
    dec (F := Ideal) tab (nibLo (bitcast S8x128 32 (extractStridedSlice S32x128 ![o, 0] (transpose S128x128 [1, 0] w transposes_S128x128_p1_0_S128x128) h) bitcasts_S32x128_w8_S8x128_w32)) (ix2 p l)
      = (((tab (ix2 (nibRow false (w (ix2 l r))) l)).toInt : ℝ) : EReal) :=
  dec_apply _ _ _ _ _ (by rw [nibLo_bitcast, quad_row w o h p l r hr]; exact code_lo _)

/-- A decoded high nibble of a block: the table at the row its byte names. -/
theorem dec_hi (tab : IVec S32x128 8) (w : Vec Ideal S128x128 .i8) (o : Nat) (h : S128x128.Slices ![o, 0] S32x128) (p : Fin 32) (l : Fin 128) (r : Fin 128) (hr : r.val = o + p.val) :
    dec (F := Ideal) tab (nibHi (bitcast S8x128 32 (extractStridedSlice S32x128 ![o, 0] (transpose S128x128 [1, 0] w transposes_S128x128_p1_0_S128x128) h) bitcasts_S32x128_w8_S8x128_w32)) (ix2 p l)
      = (((tab (ix2 (nibRow true (w (ix2 l r))) l)).toInt : ℝ) : EReal) :=
  dec_apply _ _ _ _ _ (by rw [nibHi_bitcast, quad_row w o h p l r hr]; exact code_hi _)

theorem piece0_apply (v : FVec Ideal S32x128 .bf16) (raw : Vec Ideal S1x1x2x128 .bf16) (r : Fin 16) (l : Fin 128) :
    piece0 v raw (ix2 r l) = v (ix2 (⟨r.val, by omega⟩ : Fin 32) l) * raw (ix4 (0 : Fin 1) (0 : Fin 1) (⟨r.val % 2, by omega⟩ : Fin 2) l) := by
  rw [← scale_apply raw r l]
  show _ * _ = _
  congr 1
  exact extractStridedSlice_apply _ _ _ _ _ (fun a => by
    match a with
    | ⟨0, _⟩ => exact (Nat.zero_add _).symm
    | ⟨1, _⟩ => exact (Nat.zero_add _).symm)

theorem piece1_apply (v : FVec Ideal S32x128 .bf16) (raw : Vec Ideal S1x1x2x128 .bf16) (r : Fin 16) (l : Fin 128) :
    piece1 v raw (ix2 r l) = v (ix2 (⟨16 + r.val, by omega⟩ : Fin 32) l) * raw (ix4 (0 : Fin 1) (0 : Fin 1) (⟨r.val % 2, by omega⟩ : Fin 2) l) := by
  rw [← scale_apply raw r l]
  show _ * _ = _
  congr 1
  exact extractStridedSlice_apply _ _ _ _ _ (fun a => by
    match a with
    | ⟨0, _⟩ => rfl
    | ⟨1, _⟩ => exact (Nat.zero_add _).symm)

/-- Sixteen stacked pieces of sixteen rows, read at a row. -/
theorem concat16 {α : Type} (f : Fin 16 → S16x128.Idx → α)
    (h : Shape.Concatenates ((List.ofFn fun n : Fin 16 => (⟨S16x128, f n⟩ : (s : Shape) × (s.Idx → α))).map (·.1)) S256x128 0)
    (d : Fin 256) (l : Fin 128) (p r : Fin 16) (hd : d.val = p.val * 16 + r.val) :
    concatenate S256x128 0 (List.ofFn fun n : Fin 16 => (⟨S16x128, f n⟩ : (s : Shape) × (s.Idx → α))) h (ix2 d l) = f p (ix2 r l) :=
  concatenate_ofFn_apply 0 f h rfl 16 rfl (ix2 d l) p (by show d.val / 16 = _; omega) (ix2 r l) (by show r.val = d.val % 16; omega)
    (fun b hb => by
      match b with
      | ⟨0, _⟩ => exact absurd rfl hb
      | ⟨1, _⟩ => rfl)

/-- One entry of a decoded block of weights: the table entry its nibble names, times the scale of its group. -/
theorem column_apply (tab : IVec S32x128 8) (w : Vec Ideal S128x128 .i8) (e o : Fin 4 → Vec Ideal S1x1x2x128 .bf16) (l : Fin 128) (d : Fin 256)
    (q : Fin 4) (j hi : Bool) (r : Fin 16) (hd : d.val = q.val * 64 + j.toNat * 32 + hi.toNat * 16 + r.val) :
    column (F := Ideal) tab w (e 0) (e 1) (e 2) (e 3) (o 0) (o 1) (o 2) (o 3) (ix2 d l)
      = (((tab (ix2 (nibRow hi (w (ix2 l (⟨q.val * 32 + j.toNat * 16 + r.val, by have := Bool.toNat_lt j; omega⟩ : Fin 128)))) l)).toInt : ℝ) : EReal)
        * (if j then o q else e q) (ix4 (0 : Fin 1) (0 : Fin 1) (⟨r.val % 2, by omega⟩ : Fin 2) l) := by
  have hj := Bool.toNat_lt j
  have hh := Bool.toNat_lt hi
  refine (concat16 ![piece0 (dec tab (nibLo (quad0 w))) (e 0), piece0 (dec tab (nibHi (quad0 w))) (e 0), piece1 (dec tab (nibLo (quad0 w))) (o 0), piece1 (dec tab (nibHi (quad0 w))) (o 0), piece0 (dec tab (nibLo (quad1 w))) (e 1), piece0 (dec tab (nibHi (quad1 w))) (e 1), piece1 (dec tab (nibLo (quad1 w))) (o 1), piece1 (dec tab (nibHi (quad1 w))) (o 1), piece0 (dec tab (nibLo (quad2 w))) (e 2), piece0 (dec tab (nibHi (quad2 w))) (e 2), piece1 (dec tab (nibLo (quad2 w))) (o 2), piece1 (dec tab (nibHi (quad2 w))) (o 2), piece0 (dec tab (nibLo (quad3 w))) (e 3), piece0 (dec tab (nibHi (quad3 w))) (e 3), piece1 (dec tab (nibLo (quad3 w))) (o 3), piece1 (dec tab (nibHi (quad3 w))) (o 3)] _ d l ⟨q.val * 4 + j.toNat * 2 + hi.toNat, by omega⟩ r (by show _ = (q.val * 4 + j.toNat * 2 + hi.toNat) * 16 + r.val; omega)).trans ?_
  cases j <;> cases hi <;> fin_cases q
  · exact (piece0_apply _ _ r l).trans (congrArg (· * _) (dec_lo tab w 0 _ _ l _ (by simp; try omega)))
  · exact (piece0_apply _ _ r l).trans (congrArg (· * _) (dec_lo tab w 32 _ _ l _ (by simp; try omega)))
  · exact (piece0_apply _ _ r l).trans (congrArg (· * _) (dec_lo tab w 64 _ _ l _ (by simp; try omega)))
  · exact (piece0_apply _ _ r l).trans (congrArg (· * _) (dec_lo tab w 96 _ _ l _ (by simp; try omega)))
  · exact (piece0_apply _ _ r l).trans (congrArg (· * _) (dec_hi tab w 0 _ _ l _ (by simp; try omega)))
  · exact (piece0_apply _ _ r l).trans (congrArg (· * _) (dec_hi tab w 32 _ _ l _ (by simp; try omega)))
  · exact (piece0_apply _ _ r l).trans (congrArg (· * _) (dec_hi tab w 64 _ _ l _ (by simp; try omega)))
  · exact (piece0_apply _ _ r l).trans (congrArg (· * _) (dec_hi tab w 96 _ _ l _ (by simp; try omega)))
  · exact (piece1_apply _ _ r l).trans (congrArg (· * _) (dec_lo tab w 0 _ _ l _ (by simp; try omega)))
  · exact (piece1_apply _ _ r l).trans (congrArg (· * _) (dec_lo tab w 32 _ _ l _ (by simp; try omega)))
  · exact (piece1_apply _ _ r l).trans (congrArg (· * _) (dec_lo tab w 64 _ _ l _ (by simp; try omega)))
  · exact (piece1_apply _ _ r l).trans (congrArg (· * _) (dec_lo tab w 96 _ _ l _ (by simp; try omega)))
  · exact (piece1_apply _ _ r l).trans (congrArg (· * _) (dec_hi tab w 0 _ _ l _ (by simp; try omega)))
  · exact (piece1_apply _ _ r l).trans (congrArg (· * _) (dec_hi tab w 32 _ _ l _ (by simp; try omega)))
  · exact (piece1_apply _ _ r l).trans (congrArg (· * _) (dec_hi tab w 64 _ _ l _ (by simp; try omega)))
  · exact (piece1_apply _ _ r l).trans (congrArg (· * _) (dec_hi tab w 96 _ _ l _ (by simp; try omega)))

/-- One trip's sum: the accumulator and the product of a 64 by 256 tile of activations with the two decoded blocks side by side. -/
theorem pay190_apply (acc : FVec Ideal S64x256 .f32) (c0 c1 : FVec Ideal S256x128 .bf16) (x : Vec Ideal S64x256 .bf16) (r : Fin 64) (n : Bool) (l : Fin 128)
    (col : Fin 256) (hcol : col.val = n.toNat * 128 + l.val) :
    k0_pay190 (F := Ideal) acc c0 c1 x (ix2 r col) = acc (ix2 r col) + ∑ d : Fin 256, x (ix2 r d) * (if n then c1 else c0) (ix2 d l) := by
  have hn := Bool.toNat_lt n
  unfold k0_pay190
  pointwise
  refine congrArg _ (Finset.sum_congr rfl fun d _ => congrArg _ ?_)
  cases n
  · have : col.val < 128 := by rw [hcol]; simp
    rw [dif_pos this]
    show c0 (ix2 d _) = c0 (ix2 d l)
    exact congrArg (fun z => c0 (ix2 d z)) (Fin.ext (by show col.val = l.val; simp [hcol]))
  · have : ¬ col.val < 128 := by rw [hcol]; simp
    rw [dif_neg this]
    show c1 (ix2 d _) = c1 (ix2 d l)
    exact congrArg (fun z => c1 (ix2 d z)) (Fin.ext (by show col.val - 128 = l.val; simp [hcol]))

/-- The same of the second loop's trip. -/
theorem pay200_apply (acc : FVec Ideal S64x256 .f32) (c0 c1 : FVec Ideal S256x128 .bf16) (x : Vec Ideal S64x256 .bf16) (r : Fin 64) (n : Bool) (l : Fin 128)
    (col : Fin 256) (hcol : col.val = n.toNat * 128 + l.val) :
    k0_pay200 (F := Ideal) acc c0 c1 x (ix2 r col) = acc (ix2 r col) + ∑ d : Fin 256, x (ix2 r d) * (if n then c1 else c0) (ix2 d l) :=
  pay190_apply acc c0 c1 x r n l col hcol

end Cert.KernelIdeal.Hand
-- ==== Proof.E.RefDecode.lean ====
module

public import proofs.«01_k».proof.Proof.R.Read
public import proofs.«01_k».proof.Proof.V.Entry

/-!
The reference's decoding by four rounds of selects reads the table at the code: at a byte, the low nibble's weight (`val53_apply`) and the
high nibble's (`val99_apply`).
-/

open Cert.ReferenceIdeal Cert.ReferenceIdeal.Gen Cert.ReferenceIdeal.Read Idealize.ShloMosaic

@[expose] public section

noncomputable section

namespace Cert.ReferenceIdeal.Decode

open Cert.KernelIdeal.Hand (nibRow)

/-- Bit `k` of a code. -/
def bit (q k : BitVec 32) : BitVec 1 := IntOp.cmpi .ne (IntOp.andi (IntOp.shrsi .host q k) 1#32) 0#32

/-- The table's sixteen values as bf16 words. -/
def word : Fin 16 → BitVec 16 := ![0xC2FE#16, 0xC2D0#16, 0xC2A6#16, 0xC282#16, 0xC244#16, 0xC20C#16, 0xC1B0#16, 0xC120#16,
  0x3F80#16, 0x4150#16, 0x41C8#16, 0x4218#16, 0x4254#16, 0x428A#16, 0x42B2#16, 0x42E2#16]

/-- A value of the table. -/
def tv (k : Fin 16) : EReal := Ideal.ofBits .bf16 (word k)

/-- The four rounds of selects. -/
def tree (q : BitVec 32) : EReal :=
  Scalar.select (bit q 3#32)
    (Scalar.select (bit q 2#32)
      (Scalar.select (bit q 1#32) (Scalar.select (bit q 0#32) (tv 15) (tv 14)) (Scalar.select (bit q 0#32) (tv 13) (tv 12)))
      (Scalar.select (bit q 1#32) (Scalar.select (bit q 0#32) (tv 11) (tv 10)) (Scalar.select (bit q 0#32) (tv 9) (tv 8))))
    (Scalar.select (bit q 2#32)
      (Scalar.select (bit q 1#32) (Scalar.select (bit q 0#32) (tv 7) (tv 6)) (Scalar.select (bit q 0#32) (tv 5) (tv 4)))
      (Scalar.select (bit q 1#32) (Scalar.select (bit q 0#32) (tv 3) (tv 2)) (Scalar.select (bit q 0#32) (tv 1) (tv 0))))

theorem bits (n : Fin 16) : (bit (BitVec.ofNat 32 n.val) 0#32 = BitVec.ofBool (n.val.testBit 0)) ∧ (bit (BitVec.ofNat 32 n.val) 1#32 = BitVec.ofBool (n.val.testBit 1))
    ∧ (bit (BitVec.ofNat 32 n.val) 2#32 = BitVec.ofBool (n.val.testBit 2)) ∧ (bit (BitVec.ofNat 32 n.val) 3#32 = BitVec.ofBool (n.val.testBit 3)) := by
  revert n; decide +kernel

theorem select_true {α : Type} (x y : α) : Scalar.select (BitVec.ofBool true) x y = x := rfl
theorem select_false {α : Type} (x y : α) : Scalar.select (BitVec.ofBool false) x y = y := rfl

/-- The selects read the table at the code. -/
theorem tree_eq (n : Fin 16) : tree (BitVec.ofNat 32 n.val) = tv n := by
  obtain ⟨h0, h1, h2, h3⟩ := bits n
  unfold tree
  rw [h0, h1, h2, h3]
  fin_cases n <;> rfl

/-- The table's values are the kernel's int8 values. -/
theorem tv_eq (n : Fin 16) : tv n = (((Cert.KernelIdeal.lit0 (⟨n.val, by omega⟩ : Fin 32)).toInt : ℝ) : EReal) := by
  unfold tv
  fin_cases n <;> (simp [word, Ideal.ofBits, Ideal.ieee, Cert.KernelIdeal.lit0]; norm_num; rw [← EReal.coe_mul]; norm_num)

/-- The low nibble as the reference cuts it. -/
theorem code_lo (b : BitVec 8) : IntOp.andi (b.setWidth 32) 15#32 = BitVec.ofNat 32 (nibRow false b).val := by
  have : ∀ n : Fin 256, IntOp.andi ((BitVec.ofNat 8 n.val).setWidth 32) 15#32 = BitVec.ofNat 32 (nibRow false (BitVec.ofNat 8 n.val)).val := by decide +kernel
  have h := this ⟨b.toNat, b.isLt⟩
  simpa only [BitVec.ofNat_toNat, BitVec.setWidth_eq] using h

/-- The high nibble as the reference cuts it. -/
theorem code_hi (b : BitVec 8) : IntOp.shrsi .host (b.setWidth 32) 4#32 = BitVec.ofNat 32 (nibRow true b).val := by
  have : ∀ n : Fin 256, IntOp.shrsi .host ((BitVec.ofNat 8 n.val).setWidth 32) 4#32 = BitVec.ofNat 32 (nibRow true (BitVec.ofNat 8 n.val)).val := by decide +kernel
  have h := this ⟨b.toNat, b.isLt⟩
  simpa only [BitVec.ofNat_toNat, BitVec.setWidth_eq] using h

theorem nib_lt (hi : Bool) (b : BitVec 8) : (nibRow hi b).val < 16 := by
  have := b.isLt
  unfold nibRow
  show (if hi then b.toNat / 16 else b.toNat % 16) < 16
  split <;> omega

theorem tree_nib (hi : Bool) (b : BitVec 8) : tree (BitVec.ofNat 32 (nibRow hi b).val) = (((Cert.KernelIdeal.lit0 (nibRow hi b)).toInt : ℝ) : EReal) :=
  (tree_eq ⟨(nibRow hi b).val, nib_lt hi b⟩).trans (tv_eq _)

theorem val53_tree (x1 : S38016x4096.Idx → BitVec 8) (i : S38016x4096.Idx) :
    val_main_v53 (F := Ideal) x1 i = tree (IntOp.andi ((x1 i).setWidth 32) 15#32) := rfl

theorem val99_tree (x1 : S38016x4096.Idx → BitVec 8) (i : S38016x4096.Idx) :
    val_main_v99 (F := Ideal) x1 i = tree (IntOp.shrsi .host ((x1 i).setWidth 32) 4#32) := rfl

/-- The reference's low codes decoded. -/
theorem val53_apply (x1 : S38016x4096.Idx → BitVec 8) (i : S38016x4096.Idx) :
    val_main_v53 (F := Ideal) x1 i = (((Cert.KernelIdeal.lit0 (nibRow false (x1 i))).toInt : ℝ) : EReal) := by
  rw [val53_tree, code_lo, tree_nib]

/-- The reference's high codes decoded. -/
theorem val99_apply (x1 : S38016x4096.Idx → BitVec 8) (i : S38016x4096.Idx) :
    val_main_v99 (F := Ideal) x1 i = (((Cert.KernelIdeal.lit0 (nibRow true (x1 i))).toInt : ℝ) : EReal) := by
  rw [val99_tree, code_hi, tree_nib]

end Cert.ReferenceIdeal.Decode

end
-- ==== Proof.V.Half.lean ====
module

public import proofs.«01_k».proof.Proof.V.Entry
public import Idealize.ShloMosaic.Lib.Pointwise
public import Idealize.ShloMosaic.Lib.BitcastFour
public import Idealize.ShloMosaic.Lib.Pipeline.Value
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic
open scoped BigOperators

/-- The weight at column `D` of one row: the table entry its nibble names times its group's scale. The row's packed bytes are
    `w`, sixteen for each group of thirty-two columns; the low nibbles are the group's first sixteen columns, the high nibbles its
    last sixteen. -/
def wt (T : Fin 32 → BitVec 8) (w : Fin 4096 → BitVec 8) (s : Fin 256 → EReal) (D : Fin 8192) : EReal :=
  (((T (nibRow (decide (D.val / 16 % 2 = 1)) (w ⟨D.val / 32 * 16 + D.val % 16, by omega⟩))).toInt : ℝ) : EReal) * s ⟨D.val / 32, by omega⟩

/-- The logit of one row of activations against one row of weights. -/
def logit (T : Fin 32 → BitVec 8) (x : Fin 8192 → EReal) (w : Fin 4096 → BitVec 8) (s : Fin 256 → EReal) : EReal :=
  ∑ D : Fin 8192, x D * wt T w s D

theorem readAt_ix2 {κ : Kind} {sp : Space} {e : EltTy} {A B n0 n1 : Nat} (v : View sig κ sp ⟨2, ![A, B]⟩ e) (f : v.ty.Contents (Elt Ideal))
    (off : Fin 2 → Nat) (inb : ∀ a : Fin 2, off a + (![n0, n1] : Fin 2 → Nat) a ≤ (⟨2, ![A, B]⟩ : Shape).size a) (a : Fin n0) (b : Fin n1) (a' : Fin A) (b' : Fin B)
    (ha : a'.val = off 0 + a.val) (hb : b'.val = off 1 + b.val) :
    v.readAt (Elt Ideal) (Rect.unit (s := ⟨2, ![A, B]⟩) off ![n0, n1] inb).toLoadRect f (ix2 a b) = v.read (Elt Ideal) f (ix2 a' b') :=
  congrArg (v.read (Elt Ideal) f) (funext fun c => Fin.ext (by
    match c with
    | ⟨0, _⟩ => show off 0 + 1 * a.val = a'.val; omega
    | ⟨1, _⟩ => show off 1 + 1 * b.val = b'.val; omega))

theorem readAt_ix4 {κ : Kind} {sp : Space} {e : EltTy} {A B C D n0 n1 n2 n3 : Nat} (v : View sig κ sp ⟨4, ![A, B, C, D]⟩ e) (f : v.ty.Contents (Elt Ideal))
    (off : Fin 4 → Nat) (inb : ∀ a : Fin 4, off a + (![n0, n1, n2, n3] : Fin 4 → Nat) a ≤ (⟨4, ![A, B, C, D]⟩ : Shape).size a)
    (a : Fin n0) (b : Fin n1) (c : Fin n2) (d : Fin n3) (a' : Fin A) (b' : Fin B) (c' : Fin C) (d' : Fin D)
    (ha : a'.val = off 0 + a.val) (hb : b'.val = off 1 + b.val) (hc : c'.val = off 2 + c.val) (hd : d'.val = off 3 + d.val) :
    v.readAt (Elt Ideal) (Rect.unit (s := ⟨4, ![A, B, C, D]⟩) off ![n0, n1, n2, n3] inb).toLoadRect f (ix4 a b c d) = v.read (Elt Ideal) f (ix4 a' b' c' d') :=
  congrArg (v.read (Elt Ideal) f) (funext fun x => Fin.ext (by
    match x with
    | ⟨0, _⟩ => show off 0 + 1 * a.val = a'.val; omega
    | ⟨1, _⟩ => show off 1 + 1 * b.val = b'.val; omega
    | ⟨2, _⟩ => show off 2 + 1 * c.val = c'.val; omega
    | ⟨3, _⟩ => show off 3 + 1 * d.val = d'.val; omega))

/-- A decoded block of weights whose bytes and scales are those of tile `k` of some rows holds those rows' weights. -/
theorem column_wt (T : Fin 32 → BitVec 8) (tab : IVec S32x128 8) (htab : ∀ n l, tab (ix2 n l) = T n)
    (w : Fin 128 → Fin 4096 → BitVec 8) (s : Fin 128 → Fin 256 → EReal) (k : Nat) (hk : k < 32)
    (w0 : Vec Ideal S128x128 .i8) (hw : ∀ (l : Fin 128) (c : Fin 128), w0 (ix2 l c) = w l ⟨128 * k + c.val, by omega⟩)
    (e o : Fin 4 → Vec Ideal S1x1x2x128 .bf16)
    (he : ∀ (q : Fin 4) (par : Fin 2) (l : Fin 128), e q (ix4 (0 : Fin 1) (0 : Fin 1) par l) = s l ⟨2 * (4 * k + q.val), by omega⟩)
    (ho : ∀ (q : Fin 4) (par : Fin 2) (l : Fin 128), o q (ix4 (0 : Fin 1) (0 : Fin 1) par l) = s l ⟨2 * (4 * k + q.val) + 1, by omega⟩)
    (d : Fin 256) (l : Fin 128) :
    column (F := Ideal) tab w0 (e 0) (e 1) (e 2) (e 3) (o 0) (o 1) (o 2) (o 3) (ix2 d l) = wt T (w l) (s l) ⟨k * 256 + d.val, by omega⟩ := by
  have hd := d.isLt
  have hjv : (decide (d.val / 32 % 2 = 1)).toNat = d.val / 32 % 2 := by
    rcases Nat.mod_two_eq_zero_or_one (d.val / 32) with h | h <;> rw [h] <;> rfl
  have hhv : (decide (d.val / 16 % 2 = 1)).toNat = d.val / 16 % 2 := by
    rcases Nat.mod_two_eq_zero_or_one (d.val / 16) with h | h <;> rw [h] <;> rfl
  rw [column_apply tab w0 e o l d ⟨d.val / 64, by omega⟩ (decide (d.val / 32 % 2 = 1)) (decide (d.val / 16 % 2 = 1)) ⟨d.val % 16, by omega⟩
    (by rw [hjv, hhv]; show _ = d.val / 64 * 64 + _ + _ + d.val % 16; omega)]
  rw [htab, hw]
  unfold wt
  have e1 : decide ((k * 256 + d.val) / 16 % 2 = 1) = decide (d.val / 16 % 2 = 1) := by
    congr 1; exact propext (by omega)
  have e2 : (⟨(k * 256 + d.val) / 32 * 16 + (k * 256 + d.val) % 16, by omega⟩ : Fin 4096)
      = ⟨128 * k + (d.val / 64 * 32 + (decide (d.val / 32 % 2 = 1)).toNat * 16 + d.val % 16), by rw [hjv]; omega⟩ := by
    apply Fin.ext; simp only [hjv]; omega
  show _ = (((T (nibRow (decide ((k * 256 + d.val) / 16 % 2 = 1)) (w l ⟨(k * 256 + d.val) / 32 * 16 + (k * 256 + d.val) % 16, _⟩))).toInt : ℝ) : EReal) * s l ⟨(k * 256 + d.val) / 32, _⟩
  rw [e1, e2]
  congr 1
  rcases Nat.mod_two_eq_zero_or_one (d.val / 32) with h | h
  · rw [h, if_neg (by decide), he]
    congr 1; apply Fin.ext; show 2 * (4 * k + d.val / 64) = (k * 256 + d.val) / 32; omega
  · rw [h, if_pos (by decide), ho]
    congr 1; apply Fin.ext; show 2 * (4 * k + d.val / 64) + 1 = (k * 256 + d.val) / 32; omega

theorem trips_t1 : k0_t1_loop.trips = 32 := by decide +kernel
theorem trips_t2 : k0_t2_loop.trips = 32 := by decide +kernel

/-- A running sum that adds tile `k`'s share at every step ends at the whole sum. -/
theorem tiles_sum (st : Nat → EReal) (f : Fin 8192 → EReal)
    (h : ∀ k (hk : k < 32), st (k + 1) = st k + ∑ d : Fin 256, f ⟨k * 256 + d.val, by omega⟩) :
    st 32 = st 0 + ∑ D : Fin 8192, f D := by
  have key : ∀ n (hn : n ≤ 32), st n = st 0 + ∑ k : Fin n, ∑ d : Fin 256, f ⟨k.val * 256 + d.val, by omega⟩ := by
    intro n
    induction n with
    | zero => intro _; simp
    | succ n ih =>
      intro hn
      rw [h n (by omega), ih (by omega), Fin.sum_univ_castSucc (n := n), add_assoc]
      rfl
  rw [key 32 le_rfl, Fin.sum_univ_tiles 32 256 (by norm_num) f]

/-- The first loop's accumulator after its last trip, at a row of activations and a lane of one of its two blocks of weight rows: what it
    started from and the logit of that row. -/
theorem half1 (𝒱 : Variants) (c : Dev nD) (bd : Option 𝒱.V) (i : grid0.Coords) (arg1 : Memref sig .tc .vmem S32x128 .i8) (harg1 : arg1.IsWhole) (arg2 : Memref sig .tc .vmem S64x8192 .bf16) (harg2 : arg2.IsWhole) (arg3 : Memref sig .tc .vmem S512x4096 .i8) (harg3 : arg3.IsWhole) (arg4 : Memref sig .tc .vmem S512x256 .bf16) (harg4 : arg4.IsWhole) (arg5 : Memref sig .tc .vmem S64x1 .i32) (harg5 : arg5.IsWhole) (arg6 : Memref sig .tc .vmem S64x1 .f32) (harg6 : arg6.IsWhole) (arg7 : Memref sig .tc .vmem S64x1 .f32) (harg7 : arg7.IsWhole) (arg8 : Memref sig .tc .vmem S4x128x2x128 .bf16) (harg8 : arg8.IsWhole) (arg9 : Memref sig .tc .vmem S4x128x2x128 .bf16) (harg9 : arg9.IsWhole) (arg10 : Memref sig .tc .vmem S64x128 .f32) (harg10 : arg10.IsWhole) (arg11 : Memref sig .tc .vmem S64x128 .i32) (harg11 : arg11.IsWhole) (arg12 : Memref sig .tc .vmem S64x128 .f32) (harg12 : arg12.IsWhole) (arg0 : BitVec 32) (v138_hi : FVec Ideal S64x128 .bf16) (v156 : IVec S32x128 8) (X_arg2 : BufTy.Contents (Elt Ideal) arg2.view.ty) (X_arg3 : BufTy.Contents (Elt Ideal) arg3.view.ty) (X_arg8 : BufTy.Contents (Elt Ideal) arg8.view.ty) (X_arg9 : BufTy.Contents (Elt Ideal) arg9.view.ty) (init : FVec Ideal S64x256 .f32)
    (T : Fin 32 → BitVec 8) (htab : ∀ n l, v156 (ix2 n l) = T n) (S : S512x256.Idx → EReal)
    (h8 : ∀ (vb : Fin 4) (p : Fin 128) (par : Fin 2) (l : Fin 128) (row : Fin 512), row.val = 128 * vb.val + l.val → arg8.view.read (Elt Ideal) X_arg8 (ix4 vb p par l) = S (ix2 row (⟨2 * p.val, by omega⟩ : Fin 256)))
    (h9 : ∀ (vb : Fin 4) (p : Fin 128) (par : Fin 2) (l : Fin 128) (row : Fin 512), row.val = 128 * vb.val + l.val → arg9.view.read (Elt Ideal) X_arg9 (ix4 vb p par l) = S (ix2 row (⟨2 * p.val + 1, by omega⟩ : Fin 256)))
    (r : Fin 64) (n : Bool) (l : Fin 128) (col : Fin 256) (hcol : col.val = n.toNat * 128 + l.val) (row : Fin 512) (hrow : row.val = 0 + n.toNat * 128 + l.val) :
    st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v138_hi v156 X_arg2 X_arg3 X_arg8 X_arg9 init (Scf.trips k0_t1_loop.lb k0_t1_loop.ub k0_t1_loop.st) (ix2 r col)
      = init (ix2 r col) + logit T (fun D => arg2.view.read (Elt Ideal) X_arg2 (ix2 r D)) (fun cc => arg3.view.read (Elt Ideal) X_arg3 (ix2 row cc)) (fun g => S (ix2 row g)) := by
  have ht : Scf.trips k0_t1_loop.lb k0_t1_loop.ub k0_t1_loop.st = 32 := trips_t1
  rw [ht]
  refine tiles_sum (fun k => st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v138_hi v156 X_arg2 X_arg3 X_arg8 X_arg9 init k (ix2 r col)) _ fun k hk => ?_
  have hk' : k < k0_t1_loop.trips := by rw [trips_t1]; exact hk
  show st_k0_t1 (F := Ideal) 𝒱 c bd i arg1 harg1 arg2 harg2 arg3 harg3 arg4 harg4 arg5 harg5 arg6 harg6 arg7 harg7 arg8 harg8 arg9 harg9 arg10 harg10 arg11 harg11 arg12 harg12 arg0 v138_hi v156 X_arg2 X_arg3 X_arg8 X_arg9 init ((⟨k, hk'⟩ : Fin k0_t1_loop.trips).val + 1) (ix2 r col) = _
  rw [st_k0_t1_succ, trip_t1, pay190_apply _ _ _ _ r n l col hcol]
  refine congrArg _ (Finset.sum_congr rfl fun d _ => ?_)
  congr 1
  · exact readAt_ix2 arg2.view X_arg2 _ _ r d r _ (by rw [k0_off5_eq]; show r.val = 0 + r.val; omega) (by rw [k0_off5_eq]; show k * 256 + d.val = 256 * k + d.val; omega)
  · cases n
    · have hb : 0 + l.val < 512 := Nat.lt_of_lt_of_le (Nat.add_lt_add_left l.isLt _) (by decide)
      have er : row = ⟨0 + l.val, hb⟩ := Fin.ext (by rw [hrow]; simp)
      rw [er]
      exact column_wt T v156 htab (fun l c => arg3.view.read (Elt Ideal) X_arg3 (ix2 (⟨0 + l.val, by omega⟩ : Fin 512) c)) (fun l g => S (ix2 (⟨0 + l.val, by omega⟩ : Fin 512) g)) k hk
          _ (fun l c => readAt_ix2 arg3.view X_arg3 _ _ l c _ _ (by rw [k0_off1_eq]; rfl) (by rw [k0_off1_eq]; rfl))
          (fun q => View.readAt (Elt Ideal) arg8.view (Rect.unit (s := S4x128x2x128) (k0_off2 ⟨k, hk'⟩ (BitVec.ofNat 32 q.val)) S1x1x2x128.size (k0_off2_inb ⟨k, hk'⟩ q)).toLoadRect X_arg8)
          (fun q => View.readAt (Elt Ideal) arg9.view (Rect.unit (s := S4x128x2x128) (k0_off2 ⟨k, hk'⟩ (BitVec.ofNat 32 q.val)) S1x1x2x128.size (k0_off2_inb ⟨k, hk'⟩ q)).toLoadRect X_arg9)
          (fun q par l => (readAt_ix4 arg8.view X_arg8 _ _ (0 : Fin 1) (0 : Fin 1) par l 0 ⟨4 * k + q.val, by omega⟩ par l (by rw [k0_off2_eq]; rfl) (by rw [k0_off2_eq]; rfl) (by rw [k0_off2_eq]; show par.val = 0 + par.val; omega) (by rw [k0_off2_eq]; show l.val = 0 + l.val; omega)).trans (h8 _ _ _ _ _ rfl))
          (fun q par l => (readAt_ix4 arg9.view X_arg9 _ _ (0 : Fin 1) (0 : Fin 1) par l 0 ⟨4 * k + q.val, by omega⟩ par l (by rw [k0_off2_eq]; rfl) (by rw [k0_off2_eq]; rfl) (by rw [k0_off2_eq]; show par.val = 0 + par.val; omega) (by rw [k0_off2_eq]; show l.val = 0 + l.val; omega)).trans (h9 _ _ _ _ _ rfl))
          d l
    · have hb : 128 + l.val < 512 := Nat.lt_of_lt_of_le (Nat.add_lt_add_left l.isLt _) (by decide)
      have er : row = ⟨128 + l.val, hb⟩ := Fin.ext (by rw [hrow]; simp)
      rw [er]
      exact column_wt T v156 htab (fun l c => arg3.view.read (Elt Ideal) X_arg3 (ix2 (⟨128 + l.val, by omega⟩ : Fin 512) c)) (fun l g => S (ix2 (⟨128 + l.val, by omega⟩ : Fin 512) g)) k hk
          _ (fun l c => readAt_ix2 arg3.view X_arg3 _ _ l c _ _ (by rw [k0_off3_eq]; rfl) (by rw [k0_off3_eq]; rfl))
          (fun q => View.readAt (Elt Ideal) arg8.view (Rect.unit (s := S4x128x2x128) (k0_off4 ⟨k, hk'⟩ (BitVec.ofNat 32 q.val)) S1x1x2x128.size (k0_off4_inb ⟨k, hk'⟩ q)).toLoadRect X_arg8)
          (fun q => View.readAt (Elt Ideal) arg9.view (Rect.unit (s := S4x128x2x128) (k0_off4 ⟨k, hk'⟩ (BitVec.ofNat 32 q.val)) S1x1x2x128.size (k0_off4_inb ⟨k, hk'⟩ q)).toLoadRect X_arg9)
          (fun q par l => (readAt_ix4 arg8.view X_arg8 _ _ (0 : Fin 1) (0 : Fin 1) par l 1 ⟨4 * k + q.val, by omega⟩ par l (by rw [k0_off4_eq]; rfl) (by rw [k0_off4_eq]; rfl) (by rw [k0_off4_eq]; show par.val = 0 + par.val; omega) (by rw [k0_off4_eq]; show l.val = 0 + l.val; omega)).trans (h8 _ _ _ _ _ rfl))
          (fun q par l => (readAt_ix4 arg9.view X_arg9 _ _ (0 : Fin 1) (0 : Fin 1) par l 1 ⟨4 * k + q.val, by omega⟩ par l (by rw [k0_off4_eq]; rfl) (by rw [k0_off4_eq]; rfl) (by rw [k0_off4_eq]; show par.val = 0 + par.val; omega) (by rw [k0_off4_eq]; show l.val = 0 + l.val; omega)).trans (h9 _ _ _ _ _ rfl))
          d l

/-- The second loop's accumulator after its last trip, at a row of activations and a lane of one of its two blocks of weight rows: what it
    started from and the logit of that row. -/
theorem half2 (𝒱 : Variants) (c : Dev nD) (bd : Option 𝒱.V) (i : grid0.Coords) (arg1 : Memref sig .tc .vmem S32x128 .i8) (harg1 : arg1.IsWhole) (arg2 : Memref sig .tc .vmem S64x8192 .bf16) (harg2 : arg2.IsWhole) (arg3 : Memref sig .tc .vmem S512x4096 .i8) (harg3 : arg3.IsWhole) (arg4 : Memref sig .tc .vmem S512x256 .bf16) (harg4 : arg4.IsWhole) (arg5 : Memref sig .tc .vmem S64x1 .i32) (harg5 : arg5.IsWhole) (arg6 : Memref sig .tc .vmem S64x1 .f32) (harg6 : arg6.IsWhole) (arg7 : Memref sig .tc .vmem S64x1 .f32) (harg7 : arg7.IsWhole) (arg8 : Memref sig .tc .vmem S4x128x2x128 .bf16) (harg8 : arg8.IsWhole) (arg9 : Memref sig .tc .vmem S4x128x2x128 .bf16) (harg9 : arg9.IsWhole) (arg10 : Memref sig .tc .vmem S64x128 .f32) (harg10 : arg10.IsWhole) (arg11 : Memref sig .tc .vmem S64x128 .i32) (harg11 : arg11.IsWhole) (arg12 : Memref sig .tc .vmem S64x128 .f32) (harg12 : arg12.IsWhole) (arg0 : BitVec 32) (v156 : IVec S32x128 8) (v172 : FVec Ideal S64x128 .f32) (v174 : IVec S64x128 32) (v175 : FVec Ideal S64x128 .f32) (v178 : BitVec 32) (v179 : BitVec 1) (v180 : FVec Ideal S64x128 .f32) (X_arg2 : BufTy.Contents (Elt Ideal) arg2.view.ty) (X_arg3 : BufTy.Contents (Elt Ideal) arg3.view.ty) (X_arg8 : BufTy.Contents (Elt Ideal) arg8.view.ty) (X_arg9 : BufTy.Contents (Elt Ideal) arg9.view.ty) (init : FVec Ideal S64x256 .f32)
    (T : Fin 32 → BitVec 8) (htab : ∀ n l, v156 (ix2 n l) = T n) (S : S512x256.Idx → EReal)
    (h8 : ∀ (vb : Fin 4) (p : Fin 128) (par : Fin 2) (l : Fin 128) (row : Fin 512), row.val = 128 * vb.val + l.val → arg8.view.read (Elt Ideal) X_arg8 (ix4 vb p par l) = S (ix2 row (⟨2 * p.val, by omega⟩ : Fin 256)))
    (h9 : ∀ (vb : Fin 4) (p : Fin 128) (par : Fin 2) (l : Fin 128) (row : Fin 512), row.val = 128 * vb.val + l.val → arg9.view.read (Elt Ideal) X_arg9 (ix4 vb p par l) = S (ix2 row (⟨2 * p.val + 1, by omega⟩ : Fin 256)))
    (r : Fin 64) (n : Bool) (l : Fin 128) (col : Fin 256) (hcol : col.val = n.toNat * 128 + l.val) (row : Fin 512) (hrow : row.val = 256 + n.toNat * 128 + l.val) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v156 v172 v174 v175 v178 v179 v180 X_arg2 X_arg3 X_arg8 X_arg9 init (Scf.trips k0_t2_loop.lb k0_t2_loop.ub k0_t2_loop.st) (ix2 r col)
      = init (ix2 r col) + logit T (fun D => arg2.view.read (Elt Ideal) X_arg2 (ix2 r D)) (fun cc => arg3.view.read (Elt Ideal) X_arg3 (ix2 row cc)) (fun g => S (ix2 row g)) := by
  have ht : Scf.trips k0_t2_loop.lb k0_t2_loop.ub k0_t2_loop.st = 32 := trips_t2
  rw [ht]
  refine tiles_sum (fun k => st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v156 v172 v174 v175 v178 v179 v180 X_arg2 X_arg3 X_arg8 X_arg9 init k (ix2 r col)) _ fun k hk => ?_
  have hk' : k < k0_t2_loop.trips := by rw [trips_t2]; exact hk
  show st_k0_t2 (F := Ideal) 𝒱 c bd i arg1 harg1 arg2 harg2 arg3 harg3 arg4 harg4 arg5 harg5 arg6 harg6 arg7 harg7 arg8 harg8 arg9 harg9 arg10 harg10 arg11 harg11 arg12 harg12 arg0 v156 v172 v174 v175 v178 v179 v180 X_arg2 X_arg3 X_arg8 X_arg9 init ((⟨k, hk'⟩ : Fin k0_t2_loop.trips).val + 1) (ix2 r col) = _
  rw [st_k0_t2_succ, trip_t2, pay200_apply _ _ _ _ r n l col hcol]
  refine congrArg _ (Finset.sum_congr rfl fun d _ => ?_)
  congr 1
  · exact readAt_ix2 arg2.view X_arg2 _ _ r d r _ (by rw [k0_off10_eq]; show r.val = 0 + r.val; omega) (by rw [k0_off10_eq]; show k * 256 + d.val = 256 * k + d.val; omega)
  · cases n
    · have hb : 256 + l.val < 512 := Nat.lt_of_lt_of_le (Nat.add_lt_add_left l.isLt _) (by decide)
      have er : row = ⟨256 + l.val, hb⟩ := Fin.ext (by rw [hrow]; simp)
      rw [er]
      exact column_wt T v156 htab (fun l c => arg3.view.read (Elt Ideal) X_arg3 (ix2 (⟨256 + l.val, by omega⟩ : Fin 512) c)) (fun l g => S (ix2 (⟨256 + l.val, by omega⟩ : Fin 512) g)) k hk
          _ (fun l c => readAt_ix2 arg3.view X_arg3 _ _ l c _ _ (by rw [k0_off6_eq]; rfl) (by rw [k0_off6_eq]; rfl))
          (fun q => View.readAt (Elt Ideal) arg8.view (Rect.unit (s := S4x128x2x128) (k0_off7 ⟨k, hk'⟩ (BitVec.ofNat 32 q.val)) S1x1x2x128.size (k0_off7_inb ⟨k, hk'⟩ q)).toLoadRect X_arg8)
          (fun q => View.readAt (Elt Ideal) arg9.view (Rect.unit (s := S4x128x2x128) (k0_off7 ⟨k, hk'⟩ (BitVec.ofNat 32 q.val)) S1x1x2x128.size (k0_off7_inb ⟨k, hk'⟩ q)).toLoadRect X_arg9)
          (fun q par l => (readAt_ix4 arg8.view X_arg8 _ _ (0 : Fin 1) (0 : Fin 1) par l 2 ⟨4 * k + q.val, by omega⟩ par l (by rw [k0_off7_eq]; rfl) (by rw [k0_off7_eq]; rfl) (by rw [k0_off7_eq]; show par.val = 0 + par.val; omega) (by rw [k0_off7_eq]; show l.val = 0 + l.val; omega)).trans (h8 _ _ _ _ _ rfl))
          (fun q par l => (readAt_ix4 arg9.view X_arg9 _ _ (0 : Fin 1) (0 : Fin 1) par l 2 ⟨4 * k + q.val, by omega⟩ par l (by rw [k0_off7_eq]; rfl) (by rw [k0_off7_eq]; rfl) (by rw [k0_off7_eq]; show par.val = 0 + par.val; omega) (by rw [k0_off7_eq]; show l.val = 0 + l.val; omega)).trans (h9 _ _ _ _ _ rfl))
          d l
    · have hb : 384 + l.val < 512 := Nat.lt_of_lt_of_le (Nat.add_lt_add_left l.isLt _) (by decide)
      have er : row = ⟨384 + l.val, hb⟩ := Fin.ext (by rw [hrow]; simp)
      rw [er]
      exact column_wt T v156 htab (fun l c => arg3.view.read (Elt Ideal) X_arg3 (ix2 (⟨384 + l.val, by omega⟩ : Fin 512) c)) (fun l g => S (ix2 (⟨384 + l.val, by omega⟩ : Fin 512) g)) k hk
          _ (fun l c => readAt_ix2 arg3.view X_arg3 _ _ l c _ _ (by rw [k0_off8_eq]; rfl) (by rw [k0_off8_eq]; rfl))
          (fun q => View.readAt (Elt Ideal) arg8.view (Rect.unit (s := S4x128x2x128) (k0_off9 ⟨k, hk'⟩ (BitVec.ofNat 32 q.val)) S1x1x2x128.size (k0_off9_inb ⟨k, hk'⟩ q)).toLoadRect X_arg8)
          (fun q => View.readAt (Elt Ideal) arg9.view (Rect.unit (s := S4x128x2x128) (k0_off9 ⟨k, hk'⟩ (BitVec.ofNat 32 q.val)) S1x1x2x128.size (k0_off9_inb ⟨k, hk'⟩ q)).toLoadRect X_arg9)
          (fun q par l => (readAt_ix4 arg8.view X_arg8 _ _ (0 : Fin 1) (0 : Fin 1) par l 3 ⟨4 * k + q.val, by omega⟩ par l (by rw [k0_off9_eq]; rfl) (by rw [k0_off9_eq]; rfl) (by rw [k0_off9_eq]; show par.val = 0 + par.val; omega) (by rw [k0_off9_eq]; show l.val = 0 + l.val; omega)).trans (h8 _ _ _ _ _ rfl))
          (fun q par l => (readAt_ix4 arg9.view X_arg9 _ _ (0 : Fin 1) (0 : Fin 1) par l 3 ⟨4 * k + q.val, by omega⟩ par l (by rw [k0_off9_eq]; rfl) (by rw [k0_off9_eq]; rfl) (by rw [k0_off9_eq]; show par.val = 0 + par.val; omega) (by rw [k0_off9_eq]; show l.val = 0 + l.val; omega)).trans (h9 _ _ _ _ _ rfl))
          d l

end Cert.KernelIdeal.Hand
-- ==== Proof.E.RefLogit.lean ====
module

public import proofs.«01_k».proof.Proof.E.RefDecode
public import proofs.«01_k».proof.Proof.V.Half

/-!
The reference's logit at a token and a vocabulary row, its two half sums over the group halves, is the one sum over the 8192 columns that
the kernel's logit is (`val103_apply`).
-/

open Cert.ReferenceIdeal Cert.ReferenceIdeal.Gen Cert.ReferenceIdeal.Read Idealize.ShloMosaic
open scoped BigOperators

@[expose] public section

noncomputable section

namespace Cert.ReferenceIdeal.Decode

open Cert.KernelIdeal.Hand (nibRow wt logit)

variable (x0 : S64x1x8192.Idx → EReal) (x1 : S38016x4096.Idx → BitVec 8) (x2 : S38016x256.Idx → EReal)

/-- The column of 8192 that byte `k`'s low (`false`) or high (`true`) nibble is the weight of. -/
def col (k : Fin 4096) (hi : Bool) : Fin 8192 := ⟨k.val / 16 * 32 + hi.toNat * 16 + k.val % 16, by
  have := k.isLt
  have : hi.toNat ≤ 1 := Bool.toNat_le hi
  omega⟩

/-- The columns are the bytes' nibbles. -/
def cols : Fin 4096 × Bool ≃ Fin 8192 where
  toFun p := col p.1 p.2
  invFun D := (⟨D.val / 32 * 16 + D.val % 16, by omega⟩, decide (D.val / 16 % 2 = 1))
  left_inv := fun ⟨k, hi⟩ => by
    have := k.isLt
    unfold col
    refine Prod.ext (Fin.ext ?_) ?_
    · cases hi <;> simp only [Bool.toNat_false, Bool.toNat_true] <;> omega
    · cases hi
      · exact decide_eq_false (by simp only [Bool.toNat_false]; omega)
      · exact decide_eq_true (by simp only [Bool.toNat_true]; omega)
  right_inv := fun D => Fin.ext (by
    have := D.isLt
    have h : (decide (D.val / 16 % 2 = 1)).toNat = D.val / 16 % 2 := by
      rcases Nat.mod_two_eq_zero_or_one (D.val / 16) with h | h <;> rw [h] <;> rfl
    show (D.val / 32 * 16 + D.val % 16) / 16 * 32 + (decide (D.val / 16 % 2 = 1)).toNat * 16 + (D.val / 32 * 16 + D.val % 16) % 16 = D.val
    rw [h]
    omega)

/-- The activations of the groups' first halves. -/
theorem val2_apply (r : Fin 64) (k : Fin 4096) : val_main_v2 (F := Ideal) x0 (ix2 r k) = x0 (ix3 r (0 : Fin 1) (col k false)) := by
  rw [val_main_v2_apply, val_main_v1_apply, val_main_v0_apply]
  have := r.isLt
  have := k.isLt
  refine congrArg x0 (funext fun a => Fin.ext ?_)
  match a with
  | ⟨0, _⟩ =>
    show (((r.val * 4096 + k.val) / 4096 * 256 + (r.val * 4096 + k.val) / 16 % 256) * 32 + (r.val * 4096 + k.val) % 16) / 8192 = r.val
    omega
  | ⟨1, _⟩ => rfl
  | ⟨2, _⟩ =>
    show (((r.val * 4096 + k.val) / 4096 * 256 + (r.val * 4096 + k.val) / 16 % 256) * 32 + (r.val * 4096 + k.val) % 16) % 8192 = k.val / 16 * 32 + 0 * 16 + k.val % 16
    omega

/-- The activations of the groups' last halves. -/
theorem val4_apply (r : Fin 64) (k : Fin 4096) : val_main_v4 (F := Ideal) x0 (ix2 r k) = x0 (ix3 r (0 : Fin 1) (col k true)) := by
  rw [val_main_v4_apply, val_main_v3_apply, val_main_v0_apply]
  have := r.isLt
  have := k.isLt
  refine congrArg x0 (funext fun a => Fin.ext ?_)
  match a with
  | ⟨0, _⟩ =>
    show (((r.val * 4096 + k.val) / 4096 * 256 + (r.val * 4096 + k.val) / 16 % 256) * 32 + (16 + (r.val * 4096 + k.val) % 16)) / 8192 = r.val
    omega
  | ⟨1, _⟩ => rfl
  | ⟨2, _⟩ =>
    show (((r.val * 4096 + k.val) / 4096 * 256 + (r.val * 4096 + k.val) / 16 % 256) * 32 + (16 + (r.val * 4096 + k.val) % 16)) % 8192 = k.val / 16 * 32 + 1 * 16 + k.val % 16
    omega

/-- The scales repeated along the bytes. -/
theorem val7_apply (v : Fin 38016) (k : Fin 4096) : val_main_v7 (F := Ideal) x2 (ix2 v k) = x2 (ix2 v (⟨k.val / 16, by omega⟩ : Fin 256)) := by
  rw [val_main_v7_apply, val_main_v6_apply, val_main_v5_apply]
  have := v.isLt
  have := k.isLt
  refine congrArg x2 (funext fun a => Fin.ext ?_)
  match a with
  | ⟨0, _⟩ => show (v.val * 4096 + k.val) / 4096 = v.val; omega
  | ⟨1, _⟩ => show (v.val * 4096 + k.val) / 16 % 256 = k.val / 16; omega

/-- The kernel's weight at a byte's nibble. -/
theorem wt_col (T : Fin 32 → BitVec 8) (w : Fin 4096 → BitVec 8) (s : Fin 256 → EReal) (k : Fin 4096) (hi : Bool) :
    wt T w s (col k hi) = (((T (nibRow hi (w k))).toInt : ℝ) : EReal) * s ⟨k.val / 16, by omega⟩ := by
  have h := cols.left_inv (k, hi)
  have h1 : (⟨(col k hi).val / 32 * 16 + (col k hi).val % 16, by omega⟩ : Fin 4096) = k := congrArg Prod.fst h
  have h2 : decide ((col k hi).val / 16 % 2 = 1) = hi := congrArg Prod.snd h
  have h3 : (⟨(col k hi).val / 32, by omega⟩ : Fin 256) = ⟨k.val / 16, by omega⟩ := Fin.ext (by
    have : hi.toNat ≤ 1 := Bool.toNat_le hi
    show (k.val / 16 * 32 + hi.toNat * 16 + k.val % 16) / 32 = k.val / 16
    omega)
  unfold wt
  rw [h1, h2, h3]

/-- The reference's logits are the kernel's. -/
theorem val103_apply (r : Fin 64) (v : Fin 38016) : val_main_v103 (F := Ideal) x0 x1 x2 (ix2 r v)
    = logit Cert.KernelIdeal.lit0 (fun D => x0 (ix3 r (0 : Fin 1) D)) (fun cc => x1 (ix2 v cc)) (fun g => x2 (ix2 v g)) := by
  have l1 : ∀ k, lidx_main_v101 (ix2 r v) k = ix2 r k := fun k => funext fun a => match a with
    | ⟨0, _⟩ => rfl
    | ⟨1, _⟩ => rfl
  have r1 : ∀ k, ridx_main_v101 (ix2 r v) k = ix2 v k := fun k => funext fun a => match a with
    | ⟨0, _⟩ => rfl
    | ⟨1, _⟩ => rfl
  have l2 : ∀ k, lidx_main_v102 (ix2 r v) k = ix2 r k := fun k => funext fun a => match a with
    | ⟨0, _⟩ => rfl
    | ⟨1, _⟩ => rfl
  have r2 : ∀ k, ridx_main_v102 (ix2 r v) k = ix2 v k := fun k => funext fun a => match a with
    | ⟨0, _⟩ => rfl
    | ⟨1, _⟩ => rfl
  have e1 : val_main_v101 (F := Ideal) x0 x1 x2 (ix2 r v)
      = ∑ k : Fin 4096, x0 (ix3 r (0 : Fin 1) (col k false)) * wt Cert.KernelIdeal.lit0 (fun cc => x1 (ix2 v cc)) (fun g => x2 (ix2 v g)) (col k false) := by
    rw [val_main_v101_apply]
    refine Finset.sum_congr rfl fun k _ => ?_
    rw [l1, r1, val2_apply, wt_col, val_main_v54_apply, val53_apply, val7_apply]
    rfl
  have e2 : val_main_v102 (F := Ideal) x0 x1 x2 (ix2 r v)
      = ∑ k : Fin 4096, x0 (ix3 r (0 : Fin 1) (col k true)) * wt Cert.KernelIdeal.lit0 (fun cc => x1 (ix2 v cc)) (fun g => x2 (ix2 v g)) (col k true) := by
    rw [val_main_v102_apply]
    refine Finset.sum_congr rfl fun k _ => ?_
    rw [l2, r2, val4_apply, wt_col, val_main_v100_apply, val99_apply, val7_apply]
    rfl
  rw [val_main_v103_apply, e1, e2]
  unfold logit
  rw [← cols.sum_comp, Fintype.sum_prod_type]
  simp only [Fintype.sum_bool]
  rw [Finset.sum_add_distrib]
  exact add_comm _ _

end Cert.ReferenceIdeal.Decode

end
-- ==== Proof.V.Steps.lean ====
module

public import proofs.«01_k».proof.Proof.V.Half

@[expose] public section

noncomputable section

namespace Cert.KernelIdeal.Hand

open Cert.KernelIdeal Cert.KernelIdeal.Gen
open Idealize.ShloMosaic
open scoped BigOperators

/-- What the kernel carries for one row of activations and one lane: the largest logit met, the block it was met in, and the
    largest of the others. -/
structure Run where
  m : EReal
  i : BitVec 32
  s : EReal

/-- One more block's logit met. -/
def Run.step (b : BitVec 32) (v : EReal) (q : Run) : Run := ⟨max q.m v, if q.m < v then b else q.i, max q.s (min v q.m)⟩

/-- A logit of block `B`, or minus infinity when there is no such block. -/
def msk (B : Nat) (v : EReal) : EReal := if B < 297 then v else ⊥

/-- The four blocks of point `n`, met in order. -/
def Run.four (n : Nat) (v : Fin 4 → EReal) (q : Run) : Run :=
  (((q.step (BitVec.ofNat 32 (4 * n)) (msk (4 * n) (v 0))).step (BitVec.ofNat 32 (4 * n + 1)) (msk (4 * n + 1) (v 1))).step
    (BitVec.ofNat 32 (4 * n + 2)) (msk (4 * n + 2) (v 2))).step (BitVec.ofNat 32 (4 * n + 3)) (msk (4 * n + 3) (v 3))

theorem negInf : (Scalar.ofBits .f32 0xFF800000#32 : Ideal .f32) = (⊥ : EReal) := by
  show Ideal.ofBits .f32 0xFF800000#32 = ⊥
  simp [Ideal.ofBits, Ideal.ieee]

theorem negInf' : Ideal.ofBits .f32 4286578688#32 = (⊥ : EReal) := negInf

theorem run_ext {a a' : EReal} {b b' : BitVec 32} {c c' : EReal} (h : a = a') (h' : b = b') (h'' : c = c') : Run.mk a b c = Run.mk a' b' c' := by
  rw [h, h', h'']

theorem select_ogt {α : Type} (a b : EReal) (x y : α) : Scalar.select (Ideal.cmp .ogt a b) x y = if b < a then x else y := by
  unfold Scalar.select Ideal.cmp
  by_cases h : b < a <;> simp [h]

theorem select_block (b : BitVec 32) (B : Nat) (hb : b = BitVec.ofNat 32 B) (hB : B < 300) (v : EReal) :
    Scalar.select (Scalar.cmpi .slt b 297#32) v ⊥ = msk B v := by
  subst hb
  unfold Scalar.select msk
  have : (Scalar.cmpi .slt (BitVec.ofNat 32 B) 297#32 = 1#1) ↔ B < 297 := by
    have := (by decide : ∀ B : Fin 300, (Scalar.cmpi .slt (BitVec.ofNat 32 B.val) 297#32 = 1#1) ↔ B.val < 297)
    exact this ⟨B, hB⟩
  by_cases h : B < 297
  · rw [if_pos h]; exact if_pos (this.2 h)
  · rw [if_neg h]; exact if_neg (fun e => h (this.1 e))

/-- The running maximum, its block and the runner-up after the four blocks of a point. -/
theorem four_apply (n : Nat) (hn : n < 75) (M S2 : Vec Ideal S64x128 .f32) (I : Vec Ideal S64x128 .i32) (A B : FVec Ideal S64x256 .f32)
    (r : Fin 64) (l : Fin 128) (arg0 v178 : BitVec 32) (v179 : BitVec 1) (h0 : arg0 = BitVec.ofNat 32 n)
    (h178 : v178 = Scalar.addi (Scalar.addi (Scalar.muli arg0 4#32) 0#32) 1#32) (h179 : v179 = Scalar.cmpi .slt v178 297#32)
    (v : Fin 4 → EReal) (hv0 : A (ix2 r (⟨l.val, by omega⟩ : Fin 256)) = v 0) (hv1 : A (ix2 r (⟨128 + l.val, by omega⟩ : Fin 256)) = v 1)
    (hv2 : B (ix2 r (⟨l.val, by omega⟩ : Fin 256)) = v 2) (hv3 : B (ix2 r (⟨128 + l.val, by omega⟩ : Fin 256)) = v 3) :
    Run.mk (k0_pay206 (F := Ideal) arg0 (k0_pay194 arg0 M A) v179 (k0_pay195 A) B (ix2 r l))
      (k0_pay1 (k0_pay205 (F := Ideal) arg0 (k0_pay193 arg0 M I A) (k0_pay194 arg0 M A) v178 v179 (k0_pay195 A) B) (ix2 r l))
      (k0_pay2 (F := Ideal) (k0_pay204 (F := Ideal) arg0 (k0_pay192 arg0 M S2 A) (k0_pay194 arg0 M A) v179 (k0_pay195 A) B) (ix2 r l))
    = (Run.mk (M (ix2 r l)) (I (ix2 r l)) (S2 (ix2 r l))).four n v := by
  have e0 : Scalar.addi (Scalar.addi (Scalar.muli arg0 4#32) 0#32) 0#32 = BitVec.ofNat 32 (4 * n) := by
    subst h0; have := (by decide : ∀ n : Fin 75, Scalar.addi (Scalar.addi (Scalar.muli (BitVec.ofNat 32 n.val) 4#32) 0#32) 0#32 = BitVec.ofNat 32 (4 * n.val)); exact this ⟨n, hn⟩
  have e1 : v178 = BitVec.ofNat 32 (4 * n + 1) := by
    subst h0; rw [h178]; have := (by decide : ∀ n : Fin 75, Scalar.addi (Scalar.addi (Scalar.muli (BitVec.ofNat 32 n.val) 4#32) 0#32) 1#32 = BitVec.ofNat 32 (4 * n.val + 1)); exact this ⟨n, hn⟩
  have e2 : Scalar.addi (Scalar.addi (Scalar.muli arg0 4#32) 2#32) 0#32 = BitVec.ofNat 32 (4 * n + 2) := by
    subst h0; have := (by decide : ∀ n : Fin 75, Scalar.addi (Scalar.addi (Scalar.muli (BitVec.ofNat 32 n.val) 4#32) 2#32) 0#32 = BitVec.ofNat 32 (4 * n.val + 2)); exact this ⟨n, hn⟩
  have e3 : Scalar.addi (Scalar.addi (Scalar.muli arg0 4#32) 2#32) 1#32 = BitVec.ofNat 32 (4 * n + 3) := by
    subst h0; have := (by decide : ∀ n : Fin 75, Scalar.addi (Scalar.addi (Scalar.muli (BitVec.ofNat 32 n.val) 4#32) 2#32) 1#32 = BitVec.ofNat 32 (4 * n.val + 3)); exact this ⟨n, hn⟩
  have m0 : k0_pay191 (F := Ideal) arg0 A (ix2 r l) = msk (4 * n) (v 0) := by
    unfold k0_pay191
    rw [e0, ← hv0]
    pointwise
    rw [negInf']; exact select_block _ (4 * n) rfl (by omega) _
  have m1 : k0_pay196 (F := Ideal) v179 (k0_pay195 A) (ix2 r l) = msk (4 * n + 1) (v 1) := by
    unfold k0_pay196 k0_pay195
    rw [h179, e1, ← hv1]
    pointwise
    rw [negInf']; exact select_block _ (4 * n + 1) rfl (by omega) _
  have m2 : k0_pay201 (F := Ideal) arg0 B (ix2 r l) = msk (4 * n + 2) (v 2) := by
    unfold k0_pay201
    rw [e2, ← hv2]
    pointwise
    rw [negInf']; exact select_block _ (4 * n + 2) rfl (by omega) _
  have m3 : k0_pay203 (F := Ideal) arg0 B (ix2 r l) = msk (4 * n + 3) (v 3) := by
    unfold k0_pay203
    rw [e3, ← hv3]
    pointwise
    rw [negInf']; exact select_block _ (4 * n + 3) rfl (by omega) _
  unfold Run.four
  rw [← m0, ← m1, ← m2, ← m3]
  unfold k0_pay206 k0_pay205 k0_pay204 k0_pay194 k0_pay193 k0_pay192 k0_pay202 k0_pay197 k0_pay1 k0_pay2
  generalize k0_pay191 (F := Ideal) arg0 A = P0
  generalize k0_pay196 (F := Ideal) v179 (k0_pay195 A) = P1
  generalize k0_pay201 (F := Ideal) arg0 B = P2
  generalize k0_pay203 (F := Ideal) arg0 B = P3
  unfold Run.step
  refine run_ext ?_ ?_ ?_
  · pointwise
  · pointwise
    simp only [select_ogt, e0, e1, e2, e3]
  · pointwise

end Cert.KernelIdeal.Hand

end
-- ==== Proof.V.Scratch.lean ====
module

public import proofs.«01_k».proof.Proof.V.Steps

@[expose] public section

noncomputable section

namespace Cert.KernelIdeal.Hand

open Cert.KernelIdeal Cert.KernelIdeal.Gen
open Idealize.ShloMosaic
open scoped BigOperators

/-- A tile's even scale columns laid out a group a row, each row twice: entry `(p, par, l)` is row `l`, column `2p`. -/
theorem tile_even (x : Vec Ideal S128x128 .bf16) (p : Fin 64) (par : Fin 2) (l : Fin 128) :
    k0_pay153 (F := Ideal) x (ix4 (0 : Fin 1) p par l) = x (ix2 l (⟨2 * p.val, by omega⟩ : Fin 128)) := by
  unfold k0_pay153 k0_pay152
  pointwise
  simp only [dite_eq_ite, ite_self]

/-- The same of the odd columns. -/
theorem tile_odd (x : Vec Ideal S128x128 .bf16) (p : Fin 64) (par : Fin 2) (l : Fin 128) :
    k0_pay154 (F := Ideal) x (ix4 (0 : Fin 1) p par l) = x (ix2 l (⟨2 * p.val + 1, by omega⟩ : Fin 128)) := by
  unfold k0_pay154 k0_pay152
  pointwise
  simp only [dite_eq_ite, ite_self]

/-- The scales a scratch buffer is filled with: entry `(vb, p, par, l)` is row `128 vb + l`, column `2p + k`. -/
def spread (k : Fin 2) (d : S512x256.Idx → EReal) : S4x128x2x128.Idx → EReal := fun y =>
  d (ix2 (⟨128 * (y 0).val + (y 3).val, by have h0 : (y 0).val < 4 := (y 0).isLt; have h3 : (y 3).val < 128 := (y 3).isLt; omega⟩ : Fin 512)
    (⟨2 * (y 1).val + k.val, by have h1 : (y 1).val < 128 := (y 1).isLt; omega⟩ : Fin 256))

theorem idx4_eq (x : S1x64x2x128.Idx) : ∃ (p : Fin 64) (par : Fin 2) (l : Fin 128), x = ix4 (0 : Fin 1) p par l :=
  ⟨x 1, x 2, x 3, funext fun a => Fin.ext (by
    match a with
    | ⟨0, _⟩ => show (x 0).val = 0; have h : (x 0).val < 1 := (x 0).isLt; omega
    | ⟨1, _⟩ => rfl
    | ⟨2, _⟩ => rfl
    | ⟨3, _⟩ => rfl)⟩

/-- One tile's write agrees with the whole filling. -/
theorem piece_even {κ : Kind} {sp : Space} (v : View sig κ sp S512x256 .bf16) (f : v.ty.Contents (Elt Ideal)) (vb gb : Nat)
    (inb4 : ∀ a : Fin 2, (![128 * vb, 128 * gb] : Fin 2 → Nat) a + S128x128.size a ≤ S512x256.size a)
    (inb8 : ∀ a : Fin 4, (![vb, 64 * gb, 0, 0] : Fin 4 → Nat) a + S1x64x2x128.size a ≤ S4x128x2x128.size a) (x : S1x64x2x128.Idx) :
    k0_pay153 (F := Ideal) (View.readAt (Elt Ideal) v (Rect.unit (s := S512x256) ![128 * vb, 128 * gb] S128x128.size inb4).toLoadRect f) x
      = spread 0 (v.read (Elt Ideal) f) ((Rect.unit (s := S4x128x2x128) ![vb, 64 * gb, 0, 0] S1x64x2x128.size inb8).emb x) := by
  have h0 : vb + 1 ≤ 4 := inb8 0
  have h1 : 64 * gb + 64 ≤ 128 := inb8 1
  obtain ⟨p, par, l, rfl⟩ := idx4_eq x
  rw [tile_even]
  refine (readAt_ix2 v f _ inb4 l _ (⟨128 * vb + l.val, by omega⟩ : Fin 512) (⟨128 * gb + (2 * p.val), by omega⟩ : Fin 256) rfl rfl).trans ?_
  unfold spread
  refine congrArg (v.read (Elt Ideal) f) (congrArg₂ ix2 (Fin.ext ?_) (Fin.ext ?_))
  · show 128 * vb + l.val = 128 * (vb + 1 * 0) + (0 + 1 * l.val); omega
  · show 128 * gb + (2 * p.val) = 2 * (64 * gb + 1 * p.val) + 0; omega

/-- The eight writes that fill the scratch buffer, last first. -/
def evenPieces {F : FTy → Type} {κ : Kind} {sp : Space} (v : View sig κ sp S512x256 .bf16) (f : v.ty.Contents (Elt F)) : List (View.Piece (Elt F) S4x128x2x128 .bf16) :=
  [⟨Rect.unit (s := S4x128x2x128) ![3, 64, 0, 0] S1x64x2x128.size inb_S4x128x2x128_S1x64x2x128_3_64_0_0, k0_pay153 (View.readAt (Elt F) v (Rect.unit (s := S512x256) ![384, 128] S128x128.size inb_S512x256_S128x128_384_128).toLoadRect f)⟩,
    ⟨Rect.unit (s := S4x128x2x128) ![3, 0, 0, 0] S1x64x2x128.size inb_S4x128x2x128_S1x64x2x128_3_0_0_0, k0_pay153 (View.readAt (Elt F) v (Rect.unit (s := S512x256) ![384, 0] S128x128.size inb_S512x256_S128x128_384_0).toLoadRect f)⟩,
    ⟨Rect.unit (s := S4x128x2x128) ![2, 64, 0, 0] S1x64x2x128.size inb_S4x128x2x128_S1x64x2x128_2_64_0_0, k0_pay153 (View.readAt (Elt F) v (Rect.unit (s := S512x256) ![256, 128] S128x128.size inb_S512x256_S128x128_256_128).toLoadRect f)⟩,
    ⟨Rect.unit (s := S4x128x2x128) ![2, 0, 0, 0] S1x64x2x128.size inb_S4x128x2x128_S1x64x2x128_2_0_0_0, k0_pay153 (View.readAt (Elt F) v (Rect.unit (s := S512x256) ![256, 0] S128x128.size inb_S512x256_S128x128_256_0).toLoadRect f)⟩,
    ⟨Rect.unit (s := S4x128x2x128) ![1, 64, 0, 0] S1x64x2x128.size inb_S4x128x2x128_S1x64x2x128_1_64_0_0, k0_pay153 (View.readAt (Elt F) v (Rect.unit (s := S512x256) ![128, 128] S128x128.size inb_S512x256_S128x128_128_128).toLoadRect f)⟩,
    ⟨Rect.unit (s := S4x128x2x128) ![1, 0, 0, 0] S1x64x2x128.size inb_S4x128x2x128_S1x64x2x128_1_0_0_0, k0_pay153 (View.readAt (Elt F) v (Rect.unit (s := S512x256) ![128, 0] S128x128.size inb_S512x256_S128x128_128_0).toLoadRect f)⟩,
    ⟨Rect.unit (s := S4x128x2x128) ![0, 64, 0, 0] S1x64x2x128.size inb_S4x128x2x128_S1x64x2x128_0_64_0_0, k0_pay153 (View.readAt (Elt F) v (Rect.unit (s := S512x256) ![0, 128] S128x128.size inb_S512x256_S128x128_0_128).toLoadRect f)⟩,
    ⟨Rect.unit (s := S4x128x2x128) ![0, 0, 0, 0] S1x64x2x128.size inb_S4x128x2x128_S1x64x2x128_0_0_0_0, k0_pay153 (View.readAt (Elt F) v (Rect.unit (s := S512x256) ![0, 0] S128x128.size inb_S512x256_S128x128_0_0).toLoadRect f)⟩]

theorem even_filled {κ κ' : Kind} {sp sp' : Space} (v : View sig κ sp S512x256 .bf16) (f : v.ty.Contents (Elt Ideal)) (w : View sig κ' sp' S4x128x2x128 .bf16) :
    w.read (Elt Ideal) (w.writes (Elt Ideal) w.junk (evenPieces (F := Ideal) v f)) = spread 0 (v.read (Elt Ideal) f) := by
  rw [View.read_writes_junk_eq_canon]
  funext y
  refine View.canon_apply_of_pieces (Val := Elt Ideal) (e := .bf16) (spread 0 (v.read (Elt Ideal) f)) _ ?_ y ?_
  · intro q hq
    unfold evenPieces at hq
    simp only [List.mem_cons, List.not_mem_nil, or_false] at hq
    rcases hq with rfl | rfl | rfl | rfl | rfl | rfl | rfl | rfl
    · exact fun x => piece_even v f 3 1 inb_S512x256_S128x128_384_128 inb_S4x128x2x128_S1x64x2x128_3_64_0_0 x
    · exact fun x => piece_even v f 3 0 inb_S512x256_S128x128_384_0 inb_S4x128x2x128_S1x64x2x128_3_0_0_0 x
    · exact fun x => piece_even v f 2 1 inb_S512x256_S128x128_256_128 inb_S4x128x2x128_S1x64x2x128_2_64_0_0 x
    · exact fun x => piece_even v f 2 0 inb_S512x256_S128x128_256_0 inb_S4x128x2x128_S1x64x2x128_2_0_0_0 x
    · exact fun x => piece_even v f 1 1 inb_S512x256_S128x128_128_128 inb_S4x128x2x128_S1x64x2x128_1_64_0_0 x
    · exact fun x => piece_even v f 1 0 inb_S512x256_S128x128_128_0 inb_S4x128x2x128_S1x64x2x128_1_0_0_0 x
    · exact fun x => piece_even v f 0 1 inb_S512x256_S128x128_0_128 inb_S4x128x2x128_S1x64x2x128_0_64_0_0 x
    · exact fun x => piece_even v f 0 0 inb_S512x256_S128x128_0_0 inb_S4x128x2x128_S1x64x2x128_0_0_0_0 x
  · have hc : ∀ vb gb : Nat, ∀ inb8 : ∀ a : Fin 4, (![vb, 64 * gb, 0, 0] : Fin 4 → Nat) a + S1x64x2x128.size a ≤ S4x128x2x128.size a,
        (y 0).val = vb → (y 1).val / 64 = gb → y ∈ (Rect.unit (s := S4x128x2x128) ![vb, 64 * gb, 0, 0] S1x64x2x128.size inb8).set := by
      intro vb gb inb8 h0 h1
      rw [Rect.mem_set_unit]
      intro a
      have h2 : (y 2).val < 2 := (y 2).isLt
      have h3 : (y 3).val < 128 := (y 3).isLt
      match a with
      | ⟨0, _⟩ => exact ⟨by show vb ≤ (y 0).val; omega, by show (y 0).val < vb + 1; omega⟩
      | ⟨1, _⟩ => exact ⟨by show 64 * gb ≤ (y 1).val; omega, by show (y 1).val < 64 * gb + 64; omega⟩
      | ⟨2, _⟩ => exact ⟨by show 0 ≤ (y 2).val; omega, by show (y 2).val < 0 + 2; omega⟩
      | ⟨3, _⟩ => exact ⟨by show 0 ≤ (y 3).val; omega, by show (y 3).val < 0 + 128; omega⟩
    have h0 : (y 0).val < 4 := (y 0).isLt
    have h1 : (y 1).val < 128 := (y 1).isLt
    unfold evenPieces
    simp only [List.exists_mem_cons_iff, List.not_mem_nil, false_and, exists_false, or_false]
    have : (y 0).val = 0 ∨ (y 0).val = 1 ∨ (y 0).val = 2 ∨ (y 0).val = 3 := by omega
    have : (y 1).val / 64 = 0 ∨ (y 1).val / 64 = 1 := by omega
    rcases ‹(y 0).val = 0 ∨ _› with e | e | e | e <;> rcases this with e' | e'
    · exact .inr (.inr (.inr (.inr (.inr (.inr (.inr (hc 0 0 inb_S4x128x2x128_S1x64x2x128_0_0_0_0 e e')))))))
    · exact .inr (.inr (.inr (.inr (.inr (.inr (.inl (hc 0 1 inb_S4x128x2x128_S1x64x2x128_0_64_0_0 e e')))))))
    · exact .inr (.inr (.inr (.inr (.inr (.inl (hc 1 0 inb_S4x128x2x128_S1x64x2x128_1_0_0_0 e e'))))))
    · exact .inr (.inr (.inr (.inr (.inl (hc 1 1 inb_S4x128x2x128_S1x64x2x128_1_64_0_0 e e')))))
    · exact .inr (.inr (.inr (.inl (hc 2 0 inb_S4x128x2x128_S1x64x2x128_2_0_0_0 e e'))))
    · exact .inr (.inr (.inl (hc 2 1 inb_S4x128x2x128_S1x64x2x128_2_64_0_0 e e')))
    · exact .inr (.inl (hc 3 0 inb_S4x128x2x128_S1x64x2x128_3_0_0_0 e e'))
    · exact .inl (hc 3 1 inb_S4x128x2x128_S1x64x2x128_3_64_0_0 e e')

/-- One tile's write agrees with the whole filling. -/
theorem piece_odd {κ : Kind} {sp : Space} (v : View sig κ sp S512x256 .bf16) (f : v.ty.Contents (Elt Ideal)) (vb gb : Nat)
    (inb4 : ∀ a : Fin 2, (![128 * vb, 128 * gb] : Fin 2 → Nat) a + S128x128.size a ≤ S512x256.size a)
    (inb8 : ∀ a : Fin 4, (![vb, 64 * gb, 0, 0] : Fin 4 → Nat) a + S1x64x2x128.size a ≤ S4x128x2x128.size a) (x : S1x64x2x128.Idx) :
    k0_pay154 (F := Ideal) (View.readAt (Elt Ideal) v (Rect.unit (s := S512x256) ![128 * vb, 128 * gb] S128x128.size inb4).toLoadRect f) x
      = spread 1 (v.read (Elt Ideal) f) ((Rect.unit (s := S4x128x2x128) ![vb, 64 * gb, 0, 0] S1x64x2x128.size inb8).emb x) := by
  have h0 : vb + 1 ≤ 4 := inb8 0
  have h1 : 64 * gb + 64 ≤ 128 := inb8 1
  obtain ⟨p, par, l, rfl⟩ := idx4_eq x
  rw [tile_odd]
  refine (readAt_ix2 v f _ inb4 l _ (⟨128 * vb + l.val, by omega⟩ : Fin 512) (⟨128 * gb + (2 * p.val + 1), by omega⟩ : Fin 256) rfl rfl).trans ?_
  unfold spread
  refine congrArg (v.read (Elt Ideal) f) (congrArg₂ ix2 (Fin.ext ?_) (Fin.ext ?_))
  · show 128 * vb + l.val = 128 * (vb + 1 * 0) + (0 + 1 * l.val); omega
  · show 128 * gb + (2 * p.val + 1) = 2 * (64 * gb + 1 * p.val) + 1; omega

/-- The eight writes that fill the scratch buffer, last first. -/
def oddPieces {F : FTy → Type} {κ : Kind} {sp : Space} (v : View sig κ sp S512x256 .bf16) (f : v.ty.Contents (Elt F)) : List (View.Piece (Elt F) S4x128x2x128 .bf16) :=
  [⟨Rect.unit (s := S4x128x2x128) ![3, 64, 0, 0] S1x64x2x128.size inb_S4x128x2x128_S1x64x2x128_3_64_0_0, k0_pay154 (View.readAt (Elt F) v (Rect.unit (s := S512x256) ![384, 128] S128x128.size inb_S512x256_S128x128_384_128).toLoadRect f)⟩,
    ⟨Rect.unit (s := S4x128x2x128) ![3, 0, 0, 0] S1x64x2x128.size inb_S4x128x2x128_S1x64x2x128_3_0_0_0, k0_pay154 (View.readAt (Elt F) v (Rect.unit (s := S512x256) ![384, 0] S128x128.size inb_S512x256_S128x128_384_0).toLoadRect f)⟩,
    ⟨Rect.unit (s := S4x128x2x128) ![2, 64, 0, 0] S1x64x2x128.size inb_S4x128x2x128_S1x64x2x128_2_64_0_0, k0_pay154 (View.readAt (Elt F) v (Rect.unit (s := S512x256) ![256, 128] S128x128.size inb_S512x256_S128x128_256_128).toLoadRect f)⟩,
    ⟨Rect.unit (s := S4x128x2x128) ![2, 0, 0, 0] S1x64x2x128.size inb_S4x128x2x128_S1x64x2x128_2_0_0_0, k0_pay154 (View.readAt (Elt F) v (Rect.unit (s := S512x256) ![256, 0] S128x128.size inb_S512x256_S128x128_256_0).toLoadRect f)⟩,
    ⟨Rect.unit (s := S4x128x2x128) ![1, 64, 0, 0] S1x64x2x128.size inb_S4x128x2x128_S1x64x2x128_1_64_0_0, k0_pay154 (View.readAt (Elt F) v (Rect.unit (s := S512x256) ![128, 128] S128x128.size inb_S512x256_S128x128_128_128).toLoadRect f)⟩,
    ⟨Rect.unit (s := S4x128x2x128) ![1, 0, 0, 0] S1x64x2x128.size inb_S4x128x2x128_S1x64x2x128_1_0_0_0, k0_pay154 (View.readAt (Elt F) v (Rect.unit (s := S512x256) ![128, 0] S128x128.size inb_S512x256_S128x128_128_0).toLoadRect f)⟩,
    ⟨Rect.unit (s := S4x128x2x128) ![0, 64, 0, 0] S1x64x2x128.size inb_S4x128x2x128_S1x64x2x128_0_64_0_0, k0_pay154 (View.readAt (Elt F) v (Rect.unit (s := S512x256) ![0, 128] S128x128.size inb_S512x256_S128x128_0_128).toLoadRect f)⟩,
    ⟨Rect.unit (s := S4x128x2x128) ![0, 0, 0, 0] S1x64x2x128.size inb_S4x128x2x128_S1x64x2x128_0_0_0_0, k0_pay154 (View.readAt (Elt F) v (Rect.unit (s := S512x256) ![0, 0] S128x128.size inb_S512x256_S128x128_0_0).toLoadRect f)⟩]

theorem odd_filled {κ κ' : Kind} {sp sp' : Space} (v : View sig κ sp S512x256 .bf16) (f : v.ty.Contents (Elt Ideal)) (w : View sig κ' sp' S4x128x2x128 .bf16) :
    w.read (Elt Ideal) (w.writes (Elt Ideal) w.junk (oddPieces (F := Ideal) v f)) = spread 1 (v.read (Elt Ideal) f) := by
  rw [View.read_writes_junk_eq_canon]
  funext y
  refine View.canon_apply_of_pieces (Val := Elt Ideal) (e := .bf16) (spread 1 (v.read (Elt Ideal) f)) _ ?_ y ?_
  · intro q hq
    unfold oddPieces at hq
    simp only [List.mem_cons, List.not_mem_nil, or_false] at hq
    rcases hq with rfl | rfl | rfl | rfl | rfl | rfl | rfl | rfl
    · exact fun x => piece_odd v f 3 1 inb_S512x256_S128x128_384_128 inb_S4x128x2x128_S1x64x2x128_3_64_0_0 x
    · exact fun x => piece_odd v f 3 0 inb_S512x256_S128x128_384_0 inb_S4x128x2x128_S1x64x2x128_3_0_0_0 x
    · exact fun x => piece_odd v f 2 1 inb_S512x256_S128x128_256_128 inb_S4x128x2x128_S1x64x2x128_2_64_0_0 x
    · exact fun x => piece_odd v f 2 0 inb_S512x256_S128x128_256_0 inb_S4x128x2x128_S1x64x2x128_2_0_0_0 x
    · exact fun x => piece_odd v f 1 1 inb_S512x256_S128x128_128_128 inb_S4x128x2x128_S1x64x2x128_1_64_0_0 x
    · exact fun x => piece_odd v f 1 0 inb_S512x256_S128x128_128_0 inb_S4x128x2x128_S1x64x2x128_1_0_0_0 x
    · exact fun x => piece_odd v f 0 1 inb_S512x256_S128x128_0_128 inb_S4x128x2x128_S1x64x2x128_0_64_0_0 x
    · exact fun x => piece_odd v f 0 0 inb_S512x256_S128x128_0_0 inb_S4x128x2x128_S1x64x2x128_0_0_0_0 x
  · have hc : ∀ vb gb : Nat, ∀ inb8 : ∀ a : Fin 4, (![vb, 64 * gb, 0, 0] : Fin 4 → Nat) a + S1x64x2x128.size a ≤ S4x128x2x128.size a,
        (y 0).val = vb → (y 1).val / 64 = gb → y ∈ (Rect.unit (s := S4x128x2x128) ![vb, 64 * gb, 0, 0] S1x64x2x128.size inb8).set := by
      intro vb gb inb8 h0 h1
      rw [Rect.mem_set_unit]
      intro a
      have h2 : (y 2).val < 2 := (y 2).isLt
      have h3 : (y 3).val < 128 := (y 3).isLt
      match a with
      | ⟨0, _⟩ => exact ⟨by show vb ≤ (y 0).val; omega, by show (y 0).val < vb + 1; omega⟩
      | ⟨1, _⟩ => exact ⟨by show 64 * gb ≤ (y 1).val; omega, by show (y 1).val < 64 * gb + 64; omega⟩
      | ⟨2, _⟩ => exact ⟨by show 0 ≤ (y 2).val; omega, by show (y 2).val < 0 + 2; omega⟩
      | ⟨3, _⟩ => exact ⟨by show 0 ≤ (y 3).val; omega, by show (y 3).val < 0 + 128; omega⟩
    have h0 : (y 0).val < 4 := (y 0).isLt
    have h1 : (y 1).val < 128 := (y 1).isLt
    unfold oddPieces
    simp only [List.exists_mem_cons_iff, List.not_mem_nil, false_and, exists_false, or_false]
    have : (y 0).val = 0 ∨ (y 0).val = 1 ∨ (y 0).val = 2 ∨ (y 0).val = 3 := by omega
    have : (y 1).val / 64 = 0 ∨ (y 1).val / 64 = 1 := by omega
    rcases ‹(y 0).val = 0 ∨ _› with e | e | e | e <;> rcases this with e' | e'
    · exact .inr (.inr (.inr (.inr (.inr (.inr (.inr (hc 0 0 inb_S4x128x2x128_S1x64x2x128_0_0_0_0 e e')))))))
    · exact .inr (.inr (.inr (.inr (.inr (.inr (.inl (hc 0 1 inb_S4x128x2x128_S1x64x2x128_0_64_0_0 e e')))))))
    · exact .inr (.inr (.inr (.inr (.inr (.inl (hc 1 0 inb_S4x128x2x128_S1x64x2x128_1_0_0_0 e e'))))))
    · exact .inr (.inr (.inr (.inr (.inl (hc 1 1 inb_S4x128x2x128_S1x64x2x128_1_64_0_0 e e')))))
    · exact .inr (.inr (.inr (.inl (hc 2 0 inb_S4x128x2x128_S1x64x2x128_2_0_0_0 e e'))))
    · exact .inr (.inr (.inl (hc 2 1 inb_S4x128x2x128_S1x64x2x128_2_64_0_0 e e')))
    · exact .inr (.inl (hc 3 0 inb_S4x128x2x128_S1x64x2x128_3_0_0_0 e e'))
    · exact .inl (hc 3 1 inb_S4x128x2x128_S1x64x2x128_3_64_0_0 e e')

end Cert.KernelIdeal.Hand

end
-- ==== Proof.V.BodyRun.lean ====
module

public import proofs.«01_k».proof.Proof.V.Scratch
public import proofs.«01_k».proof.Proof.K.KernelIdealFrame
public import Idealize.ShloMosaic.Lib.VecWindow
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- What a point of the grid leaves of the three running buffers, from what it finds in them and in its operands: lane by lane, the
    four blocks' logits met in order, from nothing at the first point. -/
def Advances (n : Nat) (d1 : S32x128.Idx → BitVec 8) (d2 : S64x8192.Idx → EReal) (d3 : S512x4096.Idx → BitVec 8) (d4 : S512x256.Idx → EReal)
    (m0 : S64x128.Idx → EReal) (i0 : S64x128.Idx → BitVec 32) (s0 : S64x128.Idx → EReal)
    (m1 : S64x128.Idx → EReal) (i1 : S64x128.Idx → BitVec 32) (s1 : S64x128.Idx → EReal) : Prop :=
  ∀ T : Fin 32 → BitVec 8, (∀ a l, d1 (ix2 a l) = T a) → ∀ (r : Fin 64) (l : Fin 128),
    Run.mk (m1 (ix2 r l)) (i1 (ix2 r l)) (s1 (ix2 r l))
      = (if n = 0 then Run.mk ⊥ 0#32 ⊥ else Run.mk (m0 (ix2 r l)) (i0 (ix2 r l)) (s0 (ix2 r l))).four n
          (fun k => logit T (fun D => d2 (ix2 r D)) (fun cc => d3 (ix2 (⟨128 * k.val + l.val, by omega⟩ : Fin 512) cc))
            (fun g => d4 (ix2 (⟨128 * k.val + l.val, by omega⟩ : Fin 512) g)))

/-- The kernel's triple with values: the operands keep what they hold, the running buffers advance, and at the last point the three
    results are the ones its closing formulas make of the running buffers. -/
theorem kernelRunV (c : Dev nD) (i : grid0.Coords) (hi : (i 0).val < 75)
    (arg1 : Memref sig .tc .vmem S32x128 .i8) (harg1 : arg1.IsWhole) (arg2 : Memref sig .tc .vmem S64x8192 .bf16) (harg2 : arg2.IsWhole)
    (arg3 : Memref sig .tc .vmem S512x4096 .i8) (harg3 : arg3.IsWhole) (arg4 : Memref sig .tc .vmem S512x256 .bf16) (harg4 : arg4.IsWhole)
    (arg5 : Memref sig .tc .vmem S64x1 .i32) (harg5 : arg5.IsWhole) (arg6 : Memref sig .tc .vmem S64x1 .f32) (harg6 : arg6.IsWhole)
    (arg7 : Memref sig .tc .vmem S64x1 .f32) (harg7 : arg7.IsWhole)
    (arg8 : Memref sig .tc .vmem S4x128x2x128 .bf16) (harg8 : arg8.IsWhole) (arg9 : Memref sig .tc .vmem S4x128x2x128 .bf16) (harg9 : arg9.IsWhole)
    (arg10 : Memref sig .tc .vmem S64x128 .f32) (harg10 : arg10.IsWhole) (arg11 : Memref sig .tc .vmem S64x128 .i32) (harg11 : arg11.IsWhole)
    (arg12 : Memref sig .tc .vmem S64x128 .f32) (harg12 : arg12.IsWhole)
    (d1 : S32x128.Idx → BitVec 8) (d2 : S64x8192.Idx → EReal) (d3 : S512x4096.Idx → BitVec 8) (d4 : S512x256.Idx → EReal)
    (m0 : S64x128.Idx → EReal) (i0 : S64x128.Idx → BitVec 32) (s0 : S64x128.Idx → EReal) (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4 ∗ anyAt c arg5 ∗ anyAt c arg6 ∗ anyAt c arg7
        ∗ anyAt c arg8 ∗ anyAt c arg9 ∗ owns (c : Thread nD τ) arg10 fullShare m0 ∗ owns (c : Thread nD τ) arg11 fullShare i0
        ∗ owns (c : Thread nD τ) arg12 fullShare s0
        ∗ (iprop(∃ (m1 : S64x128.Idx → EReal) (i1 : S64x128.Idx → BitVec 32) (s1 : S64x128.Idx → EReal)
              (o5 : S64x1.Idx → BitVec 32) (o6 o7 : S64x1.Idx → EReal),
            ⌜Advances (i 0).val d1 d2 d3 d4 m0 i0 s0 m1 i1 s1 ∧ (k0_cond2 i = 1#1 →
              o5 = k0_pay5 (F := Ideal) m1 i1 ∧ o6 = k0_pay6 (F := Ideal) m1 s1 i1 ∧ o7 = k0_pay4 (F := Ideal) m1)⌝
            ∗ owns (c : Thread nD τ) arg1 fullShare d1 ∗ owns (c : Thread nD τ) arg2 fullShare d2 ∗ owns (c : Thread nD τ) arg3 fullShare d3
            ∗ owns (c : Thread nD τ) arg4 fullShare d4 ∗ owns (c : Thread nD τ) arg5 fullShare o5 ∗ owns (c : Thread nD τ) arg6 fullShare o6
            ∗ owns (c : Thread nD τ) arg7 fullShare o7
            ∗ anyAt c arg8 ∗ anyAt c arg9 ∗ owns (c : Thread nD τ) arg10 fullShare m1 ∗ owns (c : Thread nD τ) arg11 fullShare i1
            ∗ owns (c : Thread nD τ) arg12 fullShare s1) -∗ K ⟨⟩))
      ⊢ wp frame (wpE (defs₀ (F := Ideal)) Variants.none c none) Set.univ
          (cc0_iq4nl_head (F := Ideal) i arg1 harg1 arg2 harg2 arg3 harg3 arg4 harg4 arg5 harg5 arg6 harg6 arg7 harg7 arg8 harg8 arg9 harg9
            arg10 harg10 arg11 harg11 arg12 harg12) K := by
  simp only [cc0_iq4nl_head_eq_skeleton]; unfold cc0_iq4nl_head_skel
  unfold anyAt owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩,
    ⟨%d8, %f8, -, H8⟩, ⟨%d9, %f9, -, H9⟩, ⟨%f10, %e10, H10⟩, ⟨%f11, %e11, H11⟩, ⟨%f12, %e12, H12⟩, Hk⟩
  sl_exec
  sl_step
  iapply Hk
  have E8 : kernelRunV.sl.H8_8 c arg4 f4 = evenPieces (F := Ideal) arg4.view f4 := rfl
  have E9 : kernelRunV.sl.H9_8 c arg4 f4 = oddPieces (F := Ideal) arg4.view f4 := rfl
  iexists _, _, _, _, _, _
  isplitr; swap
  · isplitl [H1]; · (iexists _; isplitr; swap; · iexact H1); ipureintro; exact e1
    isplitl [H2]; · (iexists _; isplitr; swap; · iexact H2); ipureintro; exact e2
    isplitl [H3]; · (iexists _; isplitr; swap; · iexact H3); ipureintro; exact e3
    isplitl [H4]; · (iexists _; isplitr; swap; · iexact H4); ipureintro; exact e4
    isplitl [H5]; · (iexists _; isplitr; swap; · iexact H5); ipureintro; rfl
    isplitl [H6]; · (iexists _; isplitr; swap; · iexact H6); ipureintro; rfl
    isplitl [H7]; · (iexists _; isplitr; swap; · iexact H7); ipureintro; rfl
    isplitl [H8]; · (iexists _, _; isplitr; swap; · iexact H8); ipureintro; rfl
    isplitl [H9]; · (iexists _, _; isplitr; swap; · iexact H9); ipureintro; rfl
    isplitl [H10]; · (iexists _; isplitr; swap; · iexact H10); ipureintro; rfl
    isplitl [H11]; · (iexists _; isplitr; swap; · iexact H11); ipureintro; rfl
    (iexists _; isplitr; swap; · iexact H12); ipureintro; rfl
  ipureintro
  have R10 : ∀ g, arg10.view.read (Elt Ideal) (arg10.view.writes (Elt Ideal) g (kernelRunV.sl.H10_1 c i arg1 harg1 arg2 harg2 arg3 harg3 arg4 harg4 arg5 harg5 arg6 harg6 arg7 harg7 arg8 harg8 arg9 harg9 arg10 harg10 arg11 harg11 arg12 harg12 f1 f2 f3 f4 f10 f11 f12)) = kernelRunV.sl.v230 c i arg1 harg1 arg2 harg2 arg3 harg3 arg4 harg4 arg5 harg5 arg6 harg6 arg7 harg7 arg8 harg8 arg9 harg9 arg10 harg10 arg11 harg11 arg12 harg12 f1 f2 f3 f4 f10 f11 f12 := by
    intro g
    unfold kernelRunV.sl.v230 kernelRunV.sl.H10_1
    rw [View.read_writes_full, View.readCov_full]
  have R11 : ∀ g, arg11.view.read (Elt Ideal) (arg11.view.writes (Elt Ideal) g (kernelRunV.sl.H11_1 c i arg1 harg1 arg2 harg2 arg3 harg3 arg4 harg4 arg5 harg5 arg6 harg6 arg7 harg7 arg8 harg8 arg9 harg9 arg10 harg10 arg11 harg11 arg12 harg12 f1 f2 f3 f4 f10 f11 f12)) = kernelRunV.sl.v232 c i arg1 harg1 arg2 harg2 arg3 harg3 arg4 harg4 arg5 harg5 arg6 harg6 arg7 harg7 arg8 harg8 arg9 harg9 arg10 harg10 arg11 harg11 arg12 harg12 f1 f2 f3 f4 f10 f11 f12 := by
    intro g
    unfold kernelRunV.sl.v232 kernelRunV.sl.H11_1
    rw [View.read_writes_full, View.readCov_full]
  have R12 : ∀ g, arg12.view.read (Elt Ideal) (arg12.view.writes (Elt Ideal) g (kernelRunV.sl.H12_1 c i arg1 harg1 arg2 harg2 arg3 harg3 arg4 harg4 arg5 harg5 arg6 harg6 arg7 harg7 arg8 harg8 arg9 harg9 arg10 harg10 arg11 harg11 arg12 harg12 f1 f2 f3 f4 f10 f11 f12)) = kernelRunV.sl.v231 c i arg1 harg1 arg2 harg2 arg3 harg3 arg4 harg4 arg5 harg5 arg6 harg6 arg7 harg7 arg8 harg8 arg9 harg9 arg10 harg10 arg11 harg11 arg12 harg12 f1 f2 f3 f4 f10 f11 f12 := by
    intro g
    unfold kernelRunV.sl.v231 kernelRunV.sl.H12_1
    rw [View.read_writes_full, View.readCov_full]
  rw [R10, R11, R12]
  refine ⟨?_, fun hc => ⟨?_, ?_, ?_⟩⟩
  · subst e1 e2 e3 e4 e10 e11 e12
    intro T hT r l
    unfold kernelRunV.sl.v230 kernelRunV.sl.v231 kernelRunV.sl.v232 kernelRunV.sl.H10_1 kernelRunV.sl.H11_1 kernelRunV.sl.H12_1
    rw [View.readCov_full, View.readCov_full, View.readCov_full]
    have h8 : ∀ (vb : Fin 4) (p : Fin 128) (par : Fin 2) (l : Fin 128) (row : Fin 512), row.val = 128 * vb.val + l.val →
        arg8.view.read (Elt Ideal) (arg8.view.writes (Elt Ideal) arg8.view.junk (kernelRunV.sl.H8_8 c arg4 f4)) (ix4 vb p par l)
          = arg4.view.read (Elt Ideal) f4 (ix2 row (⟨2 * p.val, by omega⟩ : Fin 256)) := by
      intro vb p par l row hr
      rw [E8, even_filled]
      unfold spread
      exact congrArg (arg4.view.read (Elt Ideal) f4) (congrArg₂ ix2 (Fin.ext hr.symm) (Fin.ext rfl))
    have h9 : ∀ (vb : Fin 4) (p : Fin 128) (par : Fin 2) (l : Fin 128) (row : Fin 512), row.val = 128 * vb.val + l.val →
        arg9.view.read (Elt Ideal) (arg9.view.writes (Elt Ideal) arg9.view.junk (kernelRunV.sl.H9_8 c arg4 f4)) (ix4 vb p par l)
          = arg4.view.read (Elt Ideal) f4 (ix2 row (⟨2 * p.val + 1, by omega⟩ : Fin 256)) := by
      intro vb p par l row hr
      rw [E9, odd_filled]
      unfold spread
      exact congrArg (arg4.view.read (Elt Ideal) f4) (congrArg₂ ix2 (Fin.ext hr.symm) (Fin.ext rfl))
    have htab : ∀ n l, kernelRunV.sl.v156 c arg1 f1 (ix2 n l) = T n := by
      intro n l
      unfold kernelRunV.sl.v156
      rw [View.readAt_full]
      refine Eq.trans ?_ (hT n l)
      pointwise
    have hz : ∀ y, (Scalar.ofBits .f32 0x00000000#32 : Ideal .f32) + y = (y : EReal) := fun y => by
      rw [show (Scalar.ofBits .f32 0x00000000#32 : Ideal .f32) = (0 : EReal) from by show Ideal.ofBits .f32 0x00000000#32 = 0; simp [Ideal.ofBits, Ideal.ieee]]; exact zero_add y
    refine (four_apply (i 0).val hi _ _ _ _ _ r l _ _ _ rfl rfl rfl
      (fun k => logit T (fun D => arg2.view.read (Elt Ideal) f2 (ix2 r D)) (fun cc => arg3.view.read (Elt Ideal) f3 (ix2 (⟨128 * k.val + l.val, by omega⟩ : Fin 512) cc))
            (fun g => arg4.view.read (Elt Ideal) f4 (ix2 (⟨128 * k.val + l.val, by omega⟩ : Fin 512) g))) ?_ ?_ ?_ ?_).trans ?_
    · refine (half1 Variants.none c none i arg1 harg1 arg2 harg2 arg3 harg3 arg4 harg4 arg5 harg5 arg6 harg6 arg7 harg7 arg8 harg8 arg9 harg9 arg10 harg10 arg11 harg11 arg12 harg12 _ _ _ _ _ _ _ _ T htab _ h8 h9 r false l _ (by simp) ⟨128 * 0 + l.val, by omega⟩ (by simp)).trans ?_
      exact hz _
    · refine (half1 Variants.none c none i arg1 harg1 arg2 harg2 arg3 harg3 arg4 harg4 arg5 harg5 arg6 harg6 arg7 harg7 arg8 harg8 arg9 harg9 arg10 harg10 arg11 harg11 arg12 harg12 _ _ _ _ _ _ _ _ T htab _ h8 h9 r true l _ (by simp) ⟨128 * 1 + l.val, by omega⟩ (by simp)).trans ?_
      exact hz _
    · refine (half2 Variants.none c none i arg1 harg1 arg2 harg2 arg3 harg3 arg4 harg4 arg5 harg5 arg6 harg6 arg7 harg7 arg8 harg8 arg9 harg9 arg10 harg10 arg11 harg11 arg12 harg12 _ _ _ _ _ _ _ _ _ _ _ _ _ T htab _ h8 h9 r false l _ (by simp) ⟨128 * 2 + l.val, by omega⟩ (by simp)).trans ?_
      exact hz _
    · refine (half2 Variants.none c none i arg1 harg1 arg2 harg2 arg3 harg3 arg4 harg4 arg5 harg5 arg6 harg6 arg7 harg7 arg8 harg8 arg9 harg9 arg10 harg10 arg11 harg11 arg12 harg12 _ _ _ _ _ _ _ _ _ _ _ _ _ T htab _ h8 h9 r true l _ (by simp) ⟨128 * 3 + l.val, by omega⟩ (by simp)).trans ?_
      exact hz _
    · refine congrArg (Run.four (i 0).val _) ?_
      unfold kernelRunV.sl.v157 kernelRunV.sl.v158 kernelRunV.sl.v159
      rw [View.readAt_full, View.readAt_full, View.readAt_full]
      have hv2 : (kernelRunV.sl.v2 i = 1#1) ↔ (i 0).val = 0 := by
        have := (by decide : ∀ n : Fin 75, (Scalar.cmpi .ne (Scalar.extui (Scalar.cmpi .eq (BitVec.ofNat 32 n.val) 0#32) : BitVec 32) 0#32 = 1#1) ↔ n.val = 0)
        exact this ⟨(i 0).val, hi⟩
      by_cases h0 : (i 0).val = 0
      · have hv := hv2.2 h0
        rw [if_pos h0, dif_pos hv, dif_pos hv, dif_pos hv, View.read_writes_full, View.read_writes_full, View.read_writes_full]
        unfold k0_pay149 k0_pay150 k0_pay151
        refine run_ext ?_ ?_ ?_
        · pointwise; exact negInf
        · pointwise
        · pointwise; exact negInf
      · have hv := fun h => h0 (hv2.1 h)
        rw [if_neg h0, dif_neg hv, dif_neg hv, dif_neg hv]
  · rw [dif_pos hc, View.read_writes_full]
  · rw [dif_pos hc, View.read_writes_full]
  · rw [dif_pos hc, View.read_writes_full]

end Cert.KernelIdeal.Hand

end
-- ==== Proof.V.Region.lean ====
module

public import proofs.«01_k».proof.Proof.V.BodyRun
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

local notation "𝕄" => MT nD τ sig Unit (Elt Ideal) ℕ (UR sig nD τ) ℕ

variable (m : (ℓ : Loc nD τ sig) → Buf (Elt Ideal) ℓ) (ρ : Dev nD → PrngReg)

/-! ## What the grid computes, lane by lane -/

/-- What is carried after `n` points from the values `L` of the blocks. -/
def runs (L : Nat → EReal) : Nat → Run
  | 0 => ⟨⊥, 0#32, ⊥⟩
  | n + 1 => (runs L n).four n fun k => L (4 * n + k.val)

/-- Only blocks that there are count. -/
theorem four_congr (n : Nat) (q : Run) (v v' : Fin 4 → EReal) (h : ∀ k : Fin 4, 4 * n + k.val < 297 → v k = v' k) : q.four n v = q.four n v' := by
  have h0 : msk (4 * n) (v 0) = msk (4 * n) (v' 0) := by
    unfold msk; by_cases e : 4 * n < 297
    · rw [if_pos e, if_pos e]; exact h 0 e
    · rw [if_neg e, if_neg e]
  have h1 : msk (4 * n + 1) (v 1) = msk (4 * n + 1) (v' 1) := by
    unfold msk; by_cases e : 4 * n + 1 < 297
    · rw [if_pos e, if_pos e]; exact h 1 e
    · rw [if_neg e, if_neg e]
  have h2 : msk (4 * n + 2) (v 2) = msk (4 * n + 2) (v' 2) := by
    unfold msk; by_cases e : 4 * n + 2 < 297
    · rw [if_pos e, if_pos e]; exact h 2 e
    · rw [if_neg e, if_neg e]
  have h3 : msk (4 * n + 3) (v 3) = msk (4 * n + 3) (v' 3) := by
    unfold msk; by_cases e : 4 * n + 3 < 297
    · rw [if_pos e, if_pos e]; exact h 3 e
    · rw [if_neg e, if_neg e]
  unfold Run.four
  rw [h0, h1, h2, h3]

/-- The logit of row `r` of the activations against row `v` of the weights, minus infinity past the last row. -/
def Lg (T : Fin 32 → BitVec 8) (x : S64x8192.Idx → EReal) (w : S38016x4096.Idx → BitVec 8) (s : S38016x256.Idx → EReal) (r : Fin 64) (v : Nat) : EReal :=
  if h : v < 38016 then logit T (fun D => x (ix2 r D)) (fun cc => w (ix2 (⟨v, h⟩ : Fin 38016) cc)) (fun g => s (ix2 (⟨v, h⟩ : Fin 38016) g)) else ⊥

/-- The weights and scales as the region finds them, and the logits they make at lane `l`, block by block. -/
def Lv (T : Fin 32 → BitVec 8) (c : Dev nD) (r : Fin 64) (l : Fin 128) (b : Nat) : EReal :=
  Lg T (V m c main_v4) (V m c main_arg1) (V m c main_arg2) r (128 * b + l.val)

/-- The three running buffers after the last point. -/
def finM (T : Fin 32 → BitVec 8) (c : Dev nD) : S64x128.Idx → EReal := fun y => (runs (Lv m T c (y 0) (y 1)) 75).m
def finI (T : Fin 32 → BitVec 8) (c : Dev nD) : S64x128.Idx → BitVec 32 := fun y => (runs (Lv m T c (y 0) (y 1)) 75).i
def finS (T : Fin 32 → BitVec 8) (c : Dev nD) : S64x128.Idx → EReal := fun y => (runs (Lv m T c (y 0) (y 1)) 75).s

/-! ## What the windows hold -/

theorem coords_val (t : Fin cfg0.N) : (grid0.coords t 0).val = t.val := by
  have := (by decide +kernel : ∀ t : Fin grid0.N, (grid0.coords t 0).val = t.val)
  exact this t

theorem cond2_last (t : Fin cfg0.N) (h : t.val = 74) : k0_cond2 (grid0.coords t) = 1#1 := by
  have := (by decide +kernel : ∀ t : Fin grid0.N, t.val = 74 → k0_cond2 (grid0.coords t) = 1#1)
  exact this t h

theorem iblk0_apply (c : Dev nD) (t : Fin cfg0.N) (a : Fin 32) (b : Fin 128) :
    iblk m c 0 t (ix2 a b : S32x128.Idx) = V m c main_v3 (ix2 a b : S32x128.Idx) := by
  refine congrArg (V m c main_v3) (funext fun k => Fin.ext ?_)
  match k with
  | ⟨0, _⟩ => exact (Rect.emb_apply _ _ _).trans (by show 0 * 32 + 1 * a.val = a.val; omega)
  | ⟨1, _⟩ => exact (Rect.emb_apply _ _ _).trans (by show 0 * 128 + 1 * b.val = b.val; omega)

theorem iblk1_apply (c : Dev nD) (t : Fin cfg0.N) (a : Fin 64) (b : Fin 8192) :
    iblk m c 1 t (ix2 a b : S64x8192.Idx) = V m c main_v4 (ix2 a b : S64x8192.Idx) := by
  refine congrArg (V m c main_v4) (funext fun k => Fin.ext ?_)
  match k with
  | ⟨0, _⟩ => exact (Rect.emb_apply _ _ _).trans (by show 0 * 64 + 1 * a.val = a.val; omega)
  | ⟨1, _⟩ => exact (Rect.emb_apply _ _ _).trans (by show 0 * 8192 + 1 * b.val = b.val; omega)

theorem idx2 (t : Fin cfg0.N) : cc0_transform_2 (grid0.coords t) = ![t.val, 0] := by
  have := (by decide +kernel : ∀ t : Fin grid0.N, cc0_transform_2 (grid0.coords t) = ![t.val, 0])
  exact this t

theorem idx3 (t : Fin cfg0.N) : cc0_transform_3 (grid0.coords t) = ![t.val, 0] := by
  have := (by decide +kernel : ∀ t : Fin grid0.N, cc0_transform_3 (grid0.coords t) = ![t.val, 0])
  exact this t

theorem extent_gt (ix k d j : Nat) (hj : j < k) (h : ix * k + j < d) : j < (Pipeline.Clip.of ix k d).extent k := by
  unfold Pipeline.Clip.of
  split
  · exact hj
  · show j < d - ix * k; omega

theorem zero_block (k j : Nat) (h : j < k) : 0 * k + j < k := by rw [Nat.zero_mul, Nat.zero_add]; exact h
theorem zero_block' (k j : Nat) : 0 * k + 1 * j = j := by rw [Nat.zero_mul, Nat.zero_add, Nat.one_mul]

/-- What window 2 finds at point `t` is the array's rows from `512 t` on, those that there are. -/
theorem fill2_apply (c : Dev nD) (t : Fin cfg0.N) (d : S512x4096.Idx → BitVec 8) (row : Fin 512) (cc : Fin 4096) (h : 512 * t.val + row.val < 38016) :
    win0_2.fill (grid0.coords t) d (iblk m c 2 t) (ix2 row cc : S512x4096.Idx)
      = V m c main_arg1 (ix2 (⟨512 * t.val + row.val, h⟩ : Fin 38016) cc : S38016x4096.Idx) := by
  have hm : win0_2.moved (grid0.coords t) (ix2 row cc : S512x4096.Idx) = true := (win0_2.moved_iff (grid0.coords t) _).mpr fun a => by
    refine extent_gt (cc0_transform_2 (grid0.coords t) a) (S512x4096.size a) (S38016x4096.size a) _ ((ix2 row cc : S512x4096.Idx) a).isLt ?_
    rw [idx2 t]
    match a with
    | ⟨0, _⟩ => show t.val * 512 + row.val < 38016; omega
    | ⟨1, _⟩ => exact zero_block 4096 cc.val cc.isLt
  unfold Pipeline.Window.fill
  rw [dif_pos hm]
  refine congrArg (V m c main_arg1) (funext fun k => Fin.ext ?_)
  match k with
  | ⟨0, _⟩ =>
    refine (Rect.emb_apply _ _ _).trans ?_
    show cc0_transform_2 (grid0.coords t) 0 * 512 + 1 * row.val = 512 * t.val + row.val
    rw [idx2 t]; show t.val * 512 + 1 * row.val = _; omega
  | ⟨1, _⟩ =>
    refine (Rect.emb_apply _ _ _).trans ?_
    show cc0_transform_2 (grid0.coords t) 1 * 4096 + 1 * cc.val = cc.val
    rw [idx2 t]; exact zero_block' 4096 cc.val

/-- What window 3 finds at point `t` is the array's rows from `512 t` on, those that there are. -/
theorem fill3_apply (c : Dev nD) (t : Fin cfg0.N) (d : S512x256.Idx → EReal) (row : Fin 512) (cc : Fin 256) (h : 512 * t.val + row.val < 38016) :
    win0_3.fill (grid0.coords t) d (iblk m c 3 t) (ix2 row cc : S512x256.Idx)
      = V m c main_arg2 (ix2 (⟨512 * t.val + row.val, h⟩ : Fin 38016) cc : S38016x256.Idx) := by
  have hm : win0_3.moved (grid0.coords t) (ix2 row cc : S512x256.Idx) = true := (win0_3.moved_iff (grid0.coords t) _).mpr fun a => by
    refine extent_gt (cc0_transform_3 (grid0.coords t) a) (S512x256.size a) (S38016x256.size a) _ ((ix2 row cc : S512x256.Idx) a).isLt ?_
    rw [idx3 t]
    match a with
    | ⟨0, _⟩ => show t.val * 512 + row.val < 38016; omega
    | ⟨1, _⟩ => exact zero_block 256 cc.val cc.isLt
  unfold Pipeline.Window.fill
  rw [dif_pos hm]
  refine congrArg (V m c main_arg2) (funext fun k => Fin.ext ?_)
  match k with
  | ⟨0, _⟩ =>
    refine (Rect.emb_apply _ _ _).trans ?_
    show cc0_transform_3 (grid0.coords t) 0 * 512 + 1 * row.val = 512 * t.val + row.val
    rw [idx3 t]; show t.val * 512 + 1 * row.val = _; omega
  | ⟨1, _⟩ =>
    refine (Rect.emb_apply _ _ _).trans ?_
    show cc0_transform_3 (grid0.coords t) 1 * 256 + 1 * cc.val = cc.val
    rw [idx3 t]; exact zero_block' 256 cc.val

/-! ## The proof data -/

/-- The windows whose contents are constrained, not named: the two that may overhang the array, and the three results. -/
def marked : Fin 7 → Bool := fun | 0 => false | 1 => false | 2 => true | 3 => true | 4 => true | 5 => true | 6 => true | ⟨_ + 7, h⟩ => absurd h (Nat.not_lt.2 (Nat.le_add_left _ _))

/-- What the body leaves in a result's buffer at the last point: what the closing formulas make of the final running buffers. -/
def leaves (T : Fin 32 → BitVec 8) (c : Dev nD) : (w : Fin 7) → Fin cfg0.N → ((cfg0.win w).block.Idx → Elt Ideal (cfg0.win w).elt) → Prop
  | 0 => fun _ _ => True
  | 1 => fun _ _ => True
  | 2 => fun _ _ => True
  | 3 => fun _ _ => True
  | 4 => fun t X => t.val = 74 → X = k0_pay5 (F := Ideal) (finM m T c) (finI m T c)
  | 5 => fun t X => t.val = 74 → X = k0_pay6 (F := Ideal) (finM m T c) (finS m T c) (finI m T c)
  | 6 => fun t X => t.val = 74 → X = k0_pay4 (F := Ideal) (finM m T c)
  | ⟨_ + 7, h⟩ => absurd h (Nat.not_lt.2 (Nat.le_add_left _ _))

/-- The running buffers before point `n`: anything at the first, what the grid computed so far at the others. -/
def Carried (T : Fin 32 → BitVec 8) (c : Dev nD) (n : Nat) (M : S64x128.Idx → EReal) (I : S64x128.Idx → BitVec 32) (S : S64x128.Idx → EReal) : Prop :=
  n ≠ 0 → ∀ (r : Fin 64) (l : Fin 128), Run.mk (M (ix2 r l)) (I (ix2 r l)) (S (ix2 r l)) = runs (Lv m T c r l) n

/-- The invariant between points. -/
def PhiV (T : Fin 32 → BitVec 8) (c : Dev nD) (n : Nat) : sProp 𝕄 :=
  iprop((anyAt c (Memref.whole cc0_scratch0) ∗ anyAt c (Memref.whole cc0_scratch1)
    ∗ ∃ (M : S64x128.Idx → EReal) (I : S64x128.Idx → BitVec 32) (S : S64x128.Idx → EReal), ⌜Carried m T c n M I S⌝
      ∗ owns (c : Thread nD τ) (Memref.whole cc0_scratch2) fullShare M ∗ owns (c : Thread nD τ) (Memref.whole cc0_scratch3) fullShare I
      ∗ owns (c : Thread nD τ) (Memref.whole cc0_scratch4) fullShare S) ∗ (∃ r, prngReg c r))

/-- The proof data on core `c`: the table and the activations named, the rest constrained. -/
def datV (T : Fin 32 → BitVec 8) (c : Dev nD) : Dat τ (Elt Ideal) Unit ℕ (UR sig nD τ) ℕ cfg0 c where
  A w := V m c (Pipeline.arrRef spec0 w)
  after
    | 0 => fun t => iblk m c 0 t
    | 1 => fun t => iblk m c 1 t
    | 2 => fun t => Pipeline.Dat.unnamed (cfg := cfg0) 2 t
    | 3 => fun t => Pipeline.Dat.unnamed (cfg := cfg0) 3 t
    | 4 => fun t => Pipeline.Dat.unnamed (cfg := cfg0) 4 t
    | 5 => fun t => Pipeline.Dat.unnamed (cfg := cfg0) 5 t
    | 6 => fun t => Pipeline.Dat.unnamed (cfg := cfg0) 6 t
    | ⟨_ + 7, h⟩ => absurd h (Nat.not_lt.2 (Nat.le_add_left _ _))
  Φ t := PhiV m T c t.val
  q _ := fullShare
  owed _ := 0

theorem datV_A (T : Fin 32 → BitVec 8) (c : Dev nD) (w : Fin cfg0.W) : (datV m T c).A w = V m c (Pipeline.arrRef spec0 w) := by dsimp only [datV]

/-- What the invariant says of a point, from what it said of the one before and what the body did there. -/
theorem carried_succ (T : Fin 32 → BitVec 8) (c : Dev nD) (hT : ∀ a l, V m c main_v3 (ix2 a l : S32x128.Idx) = T a) (t : Fin cfg0.N)
    (d2 : S512x4096.Idx → BitVec 8) (d3 : S512x256.Idx → EReal)
    (M : S64x128.Idx → EReal) (I : S64x128.Idx → BitVec 32) (S : S64x128.Idx → EReal) (M' : S64x128.Idx → EReal) (I' : S64x128.Idx → BitVec 32) (S' : S64x128.Idx → EReal)
    (h : Carried m T c t.val M I S)
    (ha : Advances (grid0.coords t 0).val (iblk m c 0 t) (iblk m c 1 t) (win0_2.fill (grid0.coords t) d2 (iblk m c 2 t))
      (win0_3.fill (grid0.coords t) d3 (iblk m c 3 t)) M I S M' I' S') : Carried m T c (t.val + 1) M' I' S' := fun _ r l => by
  rw [ha T (fun a l => (iblk0_apply m c t a l).trans (hT a l)) r l, coords_val]
  have e : (if t.val = 0 then Run.mk ⊥ 0#32 ⊥ else Run.mk (M (ix2 r l)) (I (ix2 r l)) (S (ix2 r l))) = runs (Lv m T c r l) t.val := by
    by_cases h0 : t.val = 0
    · rw [if_pos h0, h0]; rfl
    · rw [if_neg h0]; exact h h0 r l
  rw [e]
  refine four_congr _ _ _ _ fun k hk => ?_
  have hv : 128 * (4 * t.val + k.val) + l.val < 38016 := by have := l.isLt; omega
  unfold Lv Lg
  rw [dif_pos hv]
  have hr : 512 * t.val + (128 * k.val + l.val) < 38016 := by omega
  have he : (⟨512 * t.val + (128 * k.val + l.val), hr⟩ : Fin 38016) = ⟨128 * (4 * t.val + k.val) + l.val, hv⟩ := Fin.ext (by show 512 * t.val + (128 * k.val + l.val) = 128 * (4 * t.val + k.val) + l.val; omega)
  rw [show (fun D => iblk m c 1 t (ix2 r D : S64x8192.Idx)) = fun D => V m c main_v4 (ix2 r D : S64x8192.Idx) from funext fun D => iblk1_apply m c t r D]
  rw [show (fun cc => win0_2.fill (grid0.coords t) d2 (iblk m c 2 t) (ix2 (⟨128 * k.val + l.val, by omega⟩ : Fin 512) cc : S512x4096.Idx))
      = fun cc => V m c main_arg1 (ix2 (⟨128 * (4 * t.val + k.val) + l.val, hv⟩ : Fin 38016) cc : S38016x4096.Idx) from
    funext fun cc => (fill2_apply m c t d2 _ cc hr).trans (congrArg (fun z => V m c main_arg1 (ix2 z cc : S38016x4096.Idx)) he)]
  rw [show (fun cc => win0_3.fill (grid0.coords t) d3 (iblk m c 3 t) (ix2 (⟨128 * k.val + l.val, by omega⟩ : Fin 512) cc : S512x256.Idx))
      = fun cc => V m c main_arg2 (ix2 (⟨128 * (4 * t.val + k.val) + l.val, hv⟩ : Fin 38016) cc : S38016x256.Idx) from
    funext fun cc => (fill3_apply m c t d3 _ cc hr).trans (congrArg (fun z => V m c main_arg2 (ix2 z cc : S38016x256.Idx)) he)]

/-- After the last point the running buffers are the final ones. -/
theorem carried_last (T : Fin 32 → BitVec 8) (c : Dev nD) (M : S64x128.Idx → EReal) (I : S64x128.Idx → BitVec 32) (S : S64x128.Idx → EReal)
    (h : Carried m T c 75 M I S) : M = finM m T c ∧ I = finI m T c ∧ S = finS m T c := by
  have h' := h (by decide)
  refine ⟨funext fun y => ?_, funext fun y => ?_, funext fun y => ?_⟩
  · have := congrArg Run.m (h' (y 0) (y 1)); rw [← eq_ix2 y] at this; exact this
  · have := congrArg Run.i (h' (y 0) (y 1)); rw [← eq_ix2 y] at this; exact this
  · have := congrArg Run.s (h' (y 0) (y 1)); rw [← eq_ix2 y] at this; exact this

/-! ## The body obligation -/

/-- What the body is called with at point `t`. -/
def bodyPreV (T : Fin 32 → BitVec 8) (c : Dev nD) (t : Fin cfg0.N) : sProp 𝕄 :=
  iprop(PhiV m T c t.val ∗ (datV m T c).owesAt () t.castSucc
    ∗ (∃ d, owns (c : Thread nD τ) (st0_0 t) fullShare ((datV m T c).before 0 t d)) ∗ (∃ d, owns (c : Thread nD τ) (st0_1 t) fullShare ((datV m T c).before 1 t d))
    ∗ (∃ Y, ⌜((datV m T c).toRRel marked (leaves m T c)).Finds 2 t Y⌝ ∗ owns (c : Thread nD τ) (st0_2 t) fullShare Y)
    ∗ (∃ Y, ⌜((datV m T c).toRRel marked (leaves m T c)).Finds 3 t Y⌝ ∗ owns (c : Thread nD τ) (st0_3 t) fullShare Y)
    ∗ (∃ Y, ⌜((datV m T c).toRRel marked (leaves m T c)).Finds 4 t Y⌝ ∗ owns (c : Thread nD τ) (st0_4 t) fullShare Y)
    ∗ (∃ Y, ⌜((datV m T c).toRRel marked (leaves m T c)).Finds 5 t Y⌝ ∗ owns (c : Thread nD τ) (st0_5 t) fullShare Y)
    ∗ (∃ Y, ⌜((datV m T c).toRRel marked (leaves m T c)).Finds 6 t Y⌝ ∗ owns (c : Thread nD τ) (st0_6 t) fullShare Y))

/-- What it returns. -/
def bodyPostV (T : Fin 32 → BitVec 8) (c : Dev nD) (t : Fin cfg0.N) : sProp 𝕄 :=
  iprop(PhiV m T c (t.val + 1) ∗ (datV m T c).owesAt () t.succ
    ∗ owns (c : Thread nD τ) (st0_0 t) fullShare (iblk m c 0 t) ∗ owns (c : Thread nD τ) (st0_1 t) fullShare (iblk m c 1 t)
    ∗ (∃ X, ⌜leaves m T c 2 t X⌝ ∗ owns (c : Thread nD τ) (st0_2 t) fullShare X)
    ∗ (∃ X, ⌜leaves m T c 3 t X⌝ ∗ owns (c : Thread nD τ) (st0_3 t) fullShare X)
    ∗ (∃ X, ⌜leaves m T c 4 t X⌝ ∗ owns (c : Thread nD τ) (st0_4 t) fullShare X)
    ∗ (∃ X, ⌜leaves m T c 5 t X⌝ ∗ owns (c : Thread nD τ) (st0_5 t) fullShare X)
    ∗ (∃ X, ⌜leaves m T c 6 t X⌝ ∗ owns (c : Thread nD τ) (st0_6 t) fullShare X))

theorem finds2 (T : Fin 32 → BitVec 8) (c : Dev nD) (t : Fin cfg0.N) (Y : S512x4096.Idx → BitVec 8)
    (h : ((datV m T c).toRRel marked (leaves m T c)).Finds 2 t Y) : ∃ d : S512x4096.Idx → BitVec 8, Y = win0_2.fill (grid0.coords t) d (iblk m c 2 t) :=
  (((datV m T c).toRRel marked (leaves m T c)).finds_of_fetch (fetch0_2 t) Y).mp h

theorem finds3 (T : Fin 32 → BitVec 8) (c : Dev nD) (t : Fin cfg0.N) (Y : S512x256.Idx → EReal)
    (h : ((datV m T c).toRRel marked (leaves m T c)).Finds 3 t Y) : ∃ d : S512x256.Idx → EReal, Y = win0_3.fill (grid0.coords t) d (iblk m c 3 t) :=
  (((datV m T c).toRRel marked (leaves m T c)).finds_of_fetch (fetch0_3 t) Y).mp h

/-- The body at point `t`: the invariant opened, `kernelRunV`, the invariant closed one point on. -/
theorem sound_bodyV (T : Fin 32 → BitVec 8) (c : Dev nD) (hT : ∀ a l, V m c main_v3 (ix2 a l : S32x128.Idx) = T a) (t : Fin cfg0.N) :
    bodyPreV m T c t ⊢ wp frame (wpE (defs₀ (F := Ideal)) Variants.none c none) Set.univ (bodyAt0 t) (fun _ => bodyPostV m T c t) := by
  unfold bodyPreV bodyPostV bodyAt0 PhiV
  rw [show (datV m T c).owesAt () t.succ = (datV m T c).owesAt () t.castSucc from rfl]
  iintro ⟨⟨⟨S0, S1, ⟨%M, %I, %S, %hC, S2, S3, S4⟩⟩, Hg⟩, HO, ⟨%e0, W0⟩, ⟨%e1, W1⟩, ⟨%Y2, %h2, W2⟩, ⟨%Y3, %h3, W3⟩, ⟨%Y4, -, W4⟩, ⟨%Y5, -, W5⟩, ⟨%Y6, -, W6⟩⟩
  obtain ⟨d2, rfl⟩ := finds2 m T c t Y2 h2
  obtain ⟨d3, rfl⟩ := finds3 m T c t Y3 h3
  rw [before0_0_of m (datV m T c) rfl (fun _ => rfl) t e0, before0_1_of m (datV m T c) rfl (fun _ => rfl) t e1]
  iapply (kernelRunV c (grid0.coords t) (by rw [coords_val]; exact t.isLt.trans_eq N_0) (st0_0 t) _ (st0_1 t) _ (st0_2 t) _ (st0_3 t) _ (st0_4 t) _ (st0_5 t) _ (st0_6 t) _
    (Memref.whole cc0_scratch0) _ (Memref.whole cc0_scratch1) _ (Memref.whole cc0_scratch2) _ (Memref.whole cc0_scratch3) _ (Memref.whole cc0_scratch4) _
    (iblk m c 0 t) (iblk m c 1 t) (win0_2.fill (grid0.coords t) d2 (iblk m c 2 t)) (win0_3.fill (grid0.coords t) d3 (iblk m c 3 t)) M I S _)
  isplitl [W0]; · iexact W0
  isplitl [W1]; · iexact W1
  isplitl [W2]; · iexact W2
  isplitl [W3]; · iexact W3
  isplitl [W4]; · iexists Y4; iexact W4
  isplitl [W5]; · iexists Y5; iexact W5
  isplitl [W6]; · iexists Y6; iexact W6
  isplitl [S0]; · iexact S0
  isplitl [S1]; · iexact S1
  isplitl [S2]; · iexact S2
  isplitl [S3]; · iexact S3
  isplitl [S4]; · iexact S4
  iintro ⟨%M', %I', %S', %o5, %o6, %o7, %hA, W0, W1, W2, W3, W4, W5, W6, S0, S1, S2, S3, S4⟩
  have hC' := carried_succ m T c hT t d2 d3 M I S M' I' S' hC hA.1
  have hL : t.val = 74 → o5 = k0_pay5 (F := Ideal) (finM m T c) (finI m T c) ∧ o6 = k0_pay6 (F := Ideal) (finM m T c) (finS m T c) (finI m T c)
      ∧ o7 = k0_pay4 (F := Ideal) (finM m T c) := fun h => by
    rw [h] at hC'
    obtain ⟨rfl, rfl, rfl⟩ := carried_last m T c M' I' S' hC'
    exact hA.2 (cond2_last t h)
  isplitl [S0 S1 S2 S3 S4 Hg]
  · isplitl [S0 S1 S2 S3 S4]
    · isplitl [S0]; · iexact S0
      isplitl [S1]; · iexact S1
      iexists M', I', S'
      isplitr
      · ipureintro; exact hC'
      isplitl [S2]; · iexact S2
      isplitl [S3]; · iexact S3
      iexact S4
    iexact Hg
  isplitl [HO]; · iexact HO
  isplitl [W0]; · iexact W0
  isplitl [W1]; · iexact W1
  isplitl [W2]
  · iexists (win0_2.fill (grid0.coords t) d2 (iblk m c 2 t)); isplitr
    · ipureintro; exact trivial
    · iexact W2
  isplitl [W3]
  · iexists (win0_3.fill (grid0.coords t) d3 (iblk m c 3 t)); isplitr
    · ipureintro; exact trivial
    · iexact W3
  isplitl [W4]
  · iexists o5; isplitr
    · ipureintro; exact fun h => (hL h).1
    · iexact W4
  isplitl [W5]
  · iexists o6; isplitr
    · ipureintro; exact fun h => (hL h).2.1
    · iexact W5
  iexists o7; isplitr
  · ipureintro; exact fun h => (hL h).2.2
  · iexact W6

/-- The library's body obligation at these data. -/
theorem body_obligationV (T : Fin 32 → BitVec 8) (c : Dev nD) (hT : ∀ a l, V m c main_v3 (ix2 a l : S32x128.Idx) = T a) :
    BodyObligationRel (datV m T c) (defs₀ (F := Ideal)) Variants.none () Set.univ marked (leaves m T c) := fun t => by
  rw [bigSep_W0, bigSep_W0, defs₀_row]
  exact triple_restated (sound_bodyV m T c hT t) rfl .rfl fun _ => .rfl

end Cert.KernelIdeal.Hand

end
-- ==== Proof.V.TopTwo.lean ====
module

public import proofs.«01_k».proof.Proof.V.Region
public import Idealize.ShloMosaic.Lib.Pointwise

/-!
The largest value of a row, the least place that attains it, and the largest of the others: what the three are (`IsTop2`), that they are
determined by the row (`IsTop2.unique`), what a running top-2 holds after its blocks (`Held`), and that the running top-2s of 128 lanes
combine to the three of the whole row (`combine`). The value at a place is an extended real; past the row it is −∞.
-/

open Idealize.ShloMosaic

@[expose] public section

namespace Cert.KernelIdeal.Hand

/-- `top` is the supremum of `f`, `tok` the least place where `f` attains it (below 2^31), and `sec` the supremum of `f` over the other places. -/
def IsTop2 (f : Nat → EReal) (top : EReal) (tok : BitVec 32) (sec : EReal) : Prop :=
  ∃ v0 : Nat, v0 < 2147483648 ∧ tok = BitVec.ofNat 32 v0 ∧ f v0 = top ∧ (∀ z, top ≤ z ↔ ∀ v, f v ≤ z) ∧ (∀ v, v < v0 → f v < top)
    ∧ (∀ z, sec ≤ z ↔ ∀ v, v ≠ v0 → f v ≤ z)

/-- A row has one largest value, one least place of it, and one largest of the others. -/
theorem IsTop2.unique {f : Nat → EReal} {t t' s s' : EReal} {k k' : BitVec 32} (h : IsTop2 f t k s) (h' : IsTop2 f t' k' s') :
    t = t' ∧ k = k' ∧ s = s' := by
  obtain ⟨v, _, rfl, e, ht, hl, hs⟩ := h
  obtain ⟨v', _, rfl, e', ht', hl', hs'⟩ := h'
  have et : t = t' := le_antisymm ((ht t').mpr ((ht' t').mp le_rfl)) ((ht' t).mpr ((ht t).mp le_rfl))
  subst et
  have ev : v = v' := by
    rcases lt_trichotomy v v' with c | c | c
    · exact absurd (hl' v c) (by rw [e]; exact lt_irrefl t)
    · exact c
    · exact absurd (hl v' c) (by rw [e']; exact lt_irrefl t)
  subst ev
  exact ⟨rfl, rfl, le_antisymm ((hs s').mpr ((hs' s').mp le_rfl)) ((hs' s).mpr ((hs s).mp le_rfl))⟩

/-- What a running top-2 holds after `B` values of `L`: the supremum, the least place that attains it (0 when that is −∞), and the supremum
    over the other places. -/
def Held (L : Nat → EReal) (B : Nat) (q : Run) : Prop :=
  ∃ b0 : Nat, q.i = BitVec.ofNat 32 b0 ∧ (q.m = ⊥ → b0 = 0) ∧ (q.m ≠ ⊥ → b0 < B ∧ L b0 = q.m) ∧ (∀ b, b < b0 → L b < q.m)
    ∧ (∀ z, q.m ≤ z ↔ ∀ b, b < B → L b ≤ z) ∧ (∀ z, q.s ≤ z ↔ ∀ b, b < B → b ≠ b0 → L b ≤ z)

theorem held_zero (L : Nat → EReal) : Held L 0 ⟨⊥, 0#32, ⊥⟩ :=
  ⟨0, rfl, fun _ => rfl, fun h => absurd rfl h, fun _ h => absurd h (Nat.not_lt_zero _), fun z => ⟨fun _ _ h => absurd h (Nat.not_lt_zero _), fun _ => bot_le⟩,
    fun z => ⟨fun _ _ h => absurd h (Nat.not_lt_zero _), fun _ => bot_le⟩⟩

/-- One more value keeps it. -/
theorem Held.step {L : Nat → EReal} {B : Nat} {q : Run} (h : Held L B q) : Held L (B + 1) (Run.step (BitVec.ofNat 32 B) (L B) q) := by
  obtain ⟨b0, ei, h0, ha, hl, hm, hs⟩ := h
  have sm : q.s ≤ q.m := (hs q.m).mpr fun b hb _ => (hm q.m).mp le_rfl b hb
  have hmax : ∀ z, max q.m (L B) ≤ z ↔ ∀ b, b < B + 1 → L b ≤ z := fun z => by
    rw [max_le_iff, hm z]
    constructor
    · rintro ⟨h1, h2⟩ b hb
      rcases Nat.lt_succ_iff_lt_or_eq.mp hb with c | c
      · exact h1 b c
      · exact c ▸ h2
    · exact fun h => ⟨fun b hb => h b (Nat.lt_succ_of_lt hb), h B (Nat.lt_succ_self B)⟩
  by_cases c : q.m < L B
  · refine ⟨B, if_pos c, fun hb => ?_, fun _ => ⟨Nat.lt_succ_self B, (max_eq_right c.le).symm⟩, fun b hb => ?_, hmax, fun z => ?_⟩
    · exact absurd (show max q.m (L B) = ⊥ from hb) (by rw [max_eq_right c.le]; exact ne_bot_of_gt c)
    · exact lt_of_le_of_lt ((hm q.m).mp le_rfl b hb) (lt_of_lt_of_le c (le_max_right _ _))
    · show max q.s (min (L B) q.m) ≤ z ↔ _
      rw [min_eq_right c.le, max_eq_right sm, hm z]
      constructor
      · intro h b hb hne
        exact h b (by omega)
      · intro h b hb
        exact h b (by omega) (by omega)
  · have c' : L B ≤ q.m := not_lt.mp c
    have em : max q.m (L B) = q.m := max_eq_left c'
    refine ⟨b0, (if_neg c).trans ei, fun hb => h0 (em.symm.trans hb), fun hb => ?_, fun b hb => ?_, hmax, fun z => ?_⟩
    · have := ha (fun e => hb (em.trans e))
      exact ⟨by omega, this.2.trans em.symm⟩
    · show L b < max q.m (L B)
      rw [em]; exact hl b hb
    · show max q.s (min (L B) q.m) ≤ z ↔ _
      rw [min_eq_left c', max_le_iff, hs z]
      constructor
      · rintro ⟨h1, h2⟩ b hb hne
        rcases Nat.lt_succ_iff_lt_or_eq.mp hb with d | d
        · exact h1 b d hne
        · exact d ▸ h2
      · intro h
        refine ⟨fun b hb hne => h b (by omega) hne, ?_⟩
        by_cases d : B = b0
        · have : q.m = ⊥ := by
            by_contra hne
            exact absurd (ha hne).1 (by omega)
          exact (c'.trans this.le).trans bot_le
        · exact h B (by omega) d

theorem msk_past (L : Nat → EReal) (hL : ∀ b, 297 ≤ b → L b = ⊥) (b : Nat) : msk b (L b) = L b := by
  unfold msk
  split
  · rfl
  · next h => exact (hL b (not_lt.mp h)).symm

/-- Four more values keep it. -/
theorem Held.four {L : Nat → EReal} (hL : ∀ b, 297 ≤ b → L b = ⊥) {n : Nat} {q : Run} (h : Held L (4 * n) q) :
    Held L (4 * (n + 1)) (q.four n fun k => L (4 * n + k.val)) := by
  have h4 := h.step.step.step.step
  unfold Run.four
  simp only [Fin.val_zero, Fin.val_one, Fin.val_two, Nat.add_zero, show ((3 : Fin 4) : Nat) = 3 from rfl, msk_past L hL]
  exact h4

/-- After `n` steps of four blocks the running top-2 is that of `4 n` values. -/
theorem held_runs {L : Nat → EReal} (hL : ∀ b, 297 ≤ b → L b = ⊥) : ∀ n, Held L (4 * n) (runs L n)
  | 0 => held_zero L
  | n + 1 => (held_runs hL n).four hL

/-- The least of a finite set of words by the signed order: it is the start or one of them, and no more than each. -/
theorem fold_minsi {ι : Type} [DecidableEq ι] (b : BitVec 32) (f : ι → BitVec 32) (S : Finset ι) :
    (S.fold IntOp.minsi b f = b ∨ ∃ x ∈ S, S.fold IntOp.minsi b f = f x) ∧ (S.fold IntOp.minsi b f).toInt ≤ b.toInt
      ∧ ∀ x ∈ S, (S.fold IntOp.minsi b f).toInt ≤ (f x).toInt := by
  induction S using Finset.induction with
  | empty => exact ⟨Or.inl rfl, le_rfl, fun x hx => absurd hx (Finset.notMem_empty x)⟩
  | insert a S ha ih =>
    rw [Finset.fold_insert ha]
    obtain ⟨h1, h2, h3⟩ := ih
    generalize S.fold IntOp.minsi b f = r at h1 h2 h3
    unfold IntOp.minsi
    by_cases c : (f a).slt r
    · rw [if_pos c]
      have c' : (f a).toInt < r.toInt := by simpa [BitVec.slt] using c
      refine ⟨Or.inr ⟨a, Finset.mem_insert_self a S, rfl⟩, by omega, fun x hx => ?_⟩
      rcases Finset.mem_insert.mp hx with e | e
      · rw [e]
      · have := h3 x e; omega
    · rw [if_neg c]
      have c' : r.toInt ≤ (f a).toInt := by simpa [BitVec.slt] using c
      refine ⟨?_, h2, fun x hx => ?_⟩
      · rcases h1 with e | ⟨x, hx, e⟩
        · exact Or.inl e
        · exact Or.inr ⟨x, Finset.mem_insert_of_mem hx, e⟩
      · rcases Finset.mem_insert.mp hx with e | e
        · rw [e]; exact c'
        · exact h3 x e

/-- The word of lane `l` whose running top-2 stands at block `b`: its place in the row. -/
theorem place_word (b l : Nat) : BitVec.ofNat 32 b * 128#32 + BitVec.ofNat 32 l = BitVec.ofNat 32 (128 * b + l) := by
  rw [Nat.mul_comm, show (128#32) = BitVec.ofNat 32 128 from rfl, ← BitVec.ofNat_mul, ← BitVec.ofNat_add]

theorem toInt_place (v : Nat) (h : v < 2147483648) : (BitVec.ofNat 32 v).toInt = v := by
  rw [BitVec.toInt_eq_toNat_of_lt (by rw [BitVec.toNat_ofNat]; omega), BitVec.toNat_ofNat, Nat.mod_eq_of_lt (by omega)]

/-- The running top-2s of 128 lanes, lane `l` over the places `128 b + l`, combine to the three of the whole row: the largest of the lanes'
    largest; the least place among the lanes that attain it; and the largest of what is left when the winning lane gives its second instead. -/
theorem combine (f : Nat → EReal) (hf : ∀ v, 38016 ≤ v → f v = ⊥) (m s : Fin 128 → EReal) (i : Fin 128 → BitVec 32)
    (h : ∀ l : Fin 128, Held (fun b => f (128 * b + l.val)) 300 ⟨m l, i l, s l⟩) (top sec : EReal) (tok : BitVec 32)
    (ht : top = (Finset.univ : Finset (Fin 128)).fold max ⊥ m)
    (hk : tok = (Finset.univ : Finset (Fin 128)).fold IntOp.minsi 2147483647#32
      fun l => if m l = top then i l * 128#32 + BitVec.ofNat 32 l.val else 2147483647#32)
    (hs : sec = (Finset.univ : Finset (Fin 128)).fold max ⊥ fun l => if i l * 128#32 + BitVec.ofNat 32 l.val = tok then s l else m l) :
    IsTop2 f top tok sec := by
  choose b0 ei h0 ha hl hm hsec using h
  simp only at ei h0 ha hl hm hsec
  have hb0 : ∀ l, b0 l < 297 := fun l => by
    by_cases c : m l = ⊥
    · rw [h0 l c]; decide
    · have := (ha l c).2
      by_contra hge
      exact c (this ▸ hf _ (by omega))
  have hat : ∀ l, f (128 * b0 l + l.val) = m l := fun l => by
    by_cases c : m l = ⊥
    · have := (hm l ⊥).mp c.le (b0 l) (by have := hb0 l; omega)
      rw [c]; exact le_bot_iff.mp this
    · exact (ha l c).2
  have htop : ∀ z, top ≤ z ↔ ∀ l, m l ≤ z := fun z => by
    rw [ht, Finset.fold_max_le]; simp
  have place : ∀ l, i l * 128#32 + BitVec.ofNat 32 l.val = BitVec.ofNat 32 (128 * b0 l + l.val) := fun l => by rw [ei l, place_word]
  simp only [place] at hk hs
  have hall : ∀ v, f v ≤ m ⟨v % 128, Nat.mod_lt _ (by decide)⟩ := fun v => by
    by_cases c : v < 38016
    · have := (hm ⟨v % 128, Nat.mod_lt _ (by decide)⟩ _).mp le_rfl (v / 128) (by omega)
      simpa only [Nat.div_add_mod] using this
    · rw [hf v (not_lt.mp c)]; exact bot_le
  have hmle : ∀ l, m l ≤ top := (htop top).mp le_rfl
  obtain ⟨l1, hl1⟩ : ∃ l, m l = top := by
    obtain ⟨l, _, e⟩ := Finset.exists_max_image (Finset.univ : Finset (Fin 128)) m ⟨0, Finset.mem_univ _⟩
    exact ⟨l, le_antisymm (hmle l) ((htop _).mpr fun k => e k (Finset.mem_univ k))⟩
  obtain ⟨f1, f2, f3⟩ := fold_minsi 2147483647#32 (fun l => if m l = top then BitVec.ofNat 32 (128 * b0 l + l.val) else 2147483647#32) (Finset.univ : Finset (Fin 128))
  rw [← hk] at f1 f2 f3
  have hsmall : ∀ l : Fin 128, 128 * b0 l + l.val < 38016 := fun l => by have := hb0 l; have := l.isLt; omega
  have hti : ∀ l, (BitVec.ofNat 32 (128 * b0 l + l.val)).toInt = ((128 * b0 l + l.val : Nat) : Int) := fun l => toInt_place _ (by have := hsmall l; omega)
  have g3 : ∀ l, m l = top → tok.toInt ≤ ((128 * b0 l + l.val : Nat) : Int) := fun l e => by
    have := f3 l (Finset.mem_univ l)
    rwa [if_pos e, hti] at this
  have hlt : tok ≠ 2147483647#32 := fun e => by
    have := g3 l1 hl1
    have := hsmall l1
    rw [e, show (2147483647#32).toInt = 2147483647 from rfl] at *
    omega
  obtain ⟨l0, hl0, etok⟩ : ∃ l, m l = top ∧ tok = BitVec.ofNat 32 (128 * b0 l + l.val) := by
    rcases f1 with e | ⟨l, _, e⟩
    · exact absurd e hlt
    · by_cases c : m l = top
      · exact ⟨l, c, by rwa [if_pos c] at e⟩
      · exact absurd (by rwa [if_neg c] at e) hlt
  have hv0 := hsmall l0
  have inj : ∀ l, BitVec.ofNat 32 (128 * b0 l + l.val) = tok ↔ l = l0 := fun l => by
    constructor
    · intro e
      have e2 := congrArg BitVec.toInt (e.trans etok)
      rw [hti, hti] at e2
      have := l.isLt
      have := l0.isLt
      exact Fin.ext (by omega)
    · rintro rfl; exact etok.symm
  refine ⟨128 * b0 l0 + l0.val, by omega, etok, (hat l0).trans hl0, fun z => ?_, fun v hv => ?_, fun z => ?_⟩
  · rw [htop z]
    exact ⟨fun h v => (hall v).trans (h _), fun h l => hat l ▸ h _⟩
  · refine lt_of_le_of_ne ((hall v).trans (hmle _)) fun e => ?_
    have em : m ⟨v % 128, Nat.mod_lt _ (by decide)⟩ = top := le_antisymm (hmle _) (e ▸ hall v)
    have g := g3 _ em
    rw [etok, hti] at g
    have hx := hl ⟨v % 128, Nat.mod_lt _ (by decide)⟩ (v / 128) (by
      simp only at g
      omega)
    simp only [Nat.div_add_mod] at hx
    rw [em, e] at hx
    exact lt_irrefl _ hx
  · have hsl : sec ≤ z ↔ ∀ l, (if l = l0 then s l else m l) ≤ z := by
      rw [hs, Finset.fold_max_le]
      simp only [inj, bot_le, true_and, Finset.mem_univ, true_implies]
    rw [hsl]
    constructor
    · intro h v hne
      by_cases cv : v < 38016
      · have hv := h ⟨v % 128, Nat.mod_lt _ (by decide)⟩
        by_cases c : (⟨v % 128, Nat.mod_lt _ (by decide)⟩ : Fin 128) = l0
        · rw [if_pos c] at hv
          have e0 : v % 128 = l0.val := congrArg Fin.val c
          have := (hsec _ z).mp hv (v / 128) (by omega) (fun e => hne (by rw [← c]; simp only; rw [← e]; omega))
          simpa only [Nat.div_add_mod] using this
        · rw [if_neg c] at hv
          exact (hall v).trans hv
      · rw [hf v (not_lt.mp cv)]; exact bot_le
    · intro h l
      by_cases c : l = l0
      · rw [if_pos c]
        subst c
        exact (hsec l z).mpr fun b _ hb => h _ (by omega)
      · rw [if_neg c, ← hat l]
        refine h _ fun e => c (Fin.ext ?_)
        have := l.isLt
        have := l0.isLt
        omega

end Cert.KernelIdeal.Hand

end
-- ==== Proof.V.Final.lean ====
module

public import proofs.«01_k».proof.Proof.V.TopTwo
public import Idealize.ShloMosaic.Lib.Pointwise

/-!
What the last grid point leaves, a token at a time: its three results are the largest of the token's logits, the least vocabulary row that
attains it, and its lead over the largest of the others (`final_top2`).
-/

open Cert.KernelIdeal Cert.KernelIdeal.Gen Idealize.ShloMosaic

@[expose] public section

namespace Cert.KernelIdeal.Hand

variable (v : Vec Ideal S64x128 .f32) (s : Vec Ideal S64x128 .f32) (i : Vec Ideal S64x128 .i32) (r : Fin 64)

/-- A lane's place in the row, as a word. -/
theorem pay3_apply (l : Fin 128) : k0_pay3 (F := Ideal) i (ix2 r l) = i (ix2 r l) * 128#32 + BitVec.ofNat 32 l.val := by
  unfold k0_pay3
  pointwise
  try rfl

/-- The stored top: the largest over the lanes. -/
theorem pay4_apply : k0_pay4 (F := Ideal) v (ix2 r (0 : Fin 1)) = (Finset.univ : Finset (Fin 128)).fold max ⊥ fun l => v (ix2 r l) := by
  unfold k0_pay4
  pointwise
  rw [negInf']

/-- The stored token: the least place among the lanes that attain the top. -/
theorem pay5_apply : k0_pay5 (F := Ideal) v i (ix2 r (0 : Fin 1)) = (Finset.univ : Finset (Fin 128)).fold IntOp.minsi 2147483647#32
    fun l => if v (ix2 r l) = k0_pay4 (F := Ideal) v (ix2 r (0 : Fin 1)) then i (ix2 r l) * 128#32 + BitVec.ofNat 32 l.val else 2147483647#32 := by
  unfold k0_pay5
  generalize k0_pay4 (F := Ideal) v = t
  have h3 := pay3_apply i r
  generalize k0_pay3 (F := Ideal) i = p at h3
  pointwise
  simp only [h3]

/-- A select on equal words. -/
theorem select_eq {α : Type} (a b : BitVec 32) (x y : α) : Scalar.select (IntOp.cmpi .eq a b) x y = if a = b then x else y := by
  unfold Scalar.select IntOp.cmpi
  by_cases h : a = b
  · simp [h]
  · rw [beq_false_of_ne h, if_neg h]
    rfl

/-- The stored margin: the top less the largest of what is left when the winning lane gives its second. -/
theorem pay6_apply : k0_pay6 (F := Ideal) v s i (ix2 r (0 : Fin 1)) = k0_pay4 (F := Ideal) v (ix2 r (0 : Fin 1))
    - (Finset.univ : Finset (Fin 128)).fold max ⊥ fun l =>
      if i (ix2 r l) * 128#32 + BitVec.ofNat 32 l.val = k0_pay5 (F := Ideal) v i (ix2 r (0 : Fin 1)) then s (ix2 r l) else v (ix2 r l) := by
  unfold k0_pay6
  generalize k0_pay4 (F := Ideal) v = t
  generalize k0_pay5 (F := Ideal) v i = k
  have h3 := pay3_apply i r
  generalize k0_pay3 (F := Ideal) i = p at h3
  pointwise
  simp only [h3, negInf', select_eq]

/-- The last grid point's three results for a token, when lane `l`'s running buffers hold the running top-2 of the places `128 b + l`. -/
theorem final_top2 (f : Nat → EReal) (hf : ∀ p, 38016 ≤ p → f p = ⊥)
    (h : ∀ l : Fin 128, Held (fun b => f (128 * b + l.val)) 300 ⟨v (ix2 r l), i (ix2 r l), s (ix2 r l)⟩) :
    ∃ sec : EReal, IsTop2 f (k0_pay4 (F := Ideal) v (ix2 r (0 : Fin 1))) (k0_pay5 (F := Ideal) v i (ix2 r (0 : Fin 1))) sec
      ∧ k0_pay6 (F := Ideal) v s i (ix2 r (0 : Fin 1)) = k0_pay4 (F := Ideal) v (ix2 r (0 : Fin 1)) - sec :=
  ⟨_, combine f hf (fun l => v (ix2 r l)) (fun l => s (ix2 r l)) (fun l => i (ix2 r l)) h _ _ _ (pay4_apply v r) (pay5_apply v i r) rfl, pay6_apply v s i r⟩

end Cert.KernelIdeal.Hand

end
-- ==== Proof.V.Launch.lean ====
module

public import proofs.«01_k».proof.Proof.V.Region
public import Idealize.ShloMosaic.Lib.StableHlo.RunRead
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

local notation "𝕄" => MT nD τ sig Unit (Elt Ideal) ℕ (UR sig nD τ) ℕ

variable (m : (ℓ : Loc nD τ sig) → Buf (Elt Ideal) ℓ) (ρ : Dev nD → PrngReg)

/-! ## What the host leaves for the region -/

/-- The table broadcast over the lanes. -/
theorem V_table (c : Dev nD) (a : Fin 32) (l : Fin 128) : V m c main_v3 (ix2 a l : S32x128.Idx) = lit0 a := by
  have e : V m c main_v3 = shapeCast S32x128 (broadcastInDim S1x32x128x1 ![0, 1, 2, 3] bcast_S1x32x1x1_S1x32x128x1_0_1_2_3
      (shapeCast S1x32x1x1 (broadcastInDim S32x1 ![0] bcast_S32_S32x1_0 (fun i => lit0 (S32.rowMajor i))) shapeCasts_S32x1_S1x32x1x1)) shapeCasts_S1x32x128x1_S32x128 := by
    show StableHlo.after hostOps0 _ (Proc.devRef .tc main_v3) = _
    after_results
    rfl
  rw [e]
  pointwise
  exact congrArg lit0 (Fin.ext ((Shape.rowMajor_val_one _).trans rfl))

theorem acts_pos (r D k : Nat) : (r * 1 + 0) * k + D = r * k + D := by rw [Nat.mul_one, Nat.add_zero]

/-- The activations, their middle axis of size one dropped. -/
theorem V_acts (c : Dev nD) (r : Fin 64) (D : Fin 8192) : V m c main_v4 (ix2 r D : S64x8192.Idx) = m ((c : Thread nD τ).loc main_arg0) (ix3 r (0 : Fin 1) D : S64x1x8192.Idx) := by
  have e : V m c main_v4 = shapeCast S64x8192 (m ((c : Thread nD τ).loc main_arg0)) shapeCasts_S64x1x8192_S64x8192 := by
    show StableHlo.after hostOps0 _ (Proc.devRef .tc main_v4) = _
    after_results
    rfl
  rw [e]
  refine shapeCast_apply (m ((c : Thread nD τ).loc main_arg0)) shapeCasts_S64x1x8192_S64x8192 (ix2 r D : S64x8192.Idx) (ix3 r (0 : Fin 1) D : S64x1x8192.Idx) ?_
  show (S64x1x8192.rowMajor (ix3 r (0 : Fin 1) D : S64x1x8192.Idx)).val = (S64x8192.rowMajor (ix2 r D : S64x8192.Idx)).val
  rw [Shape.rowMajor_val_three, Shape.rowMajor_val_two]
  exact acts_pos r.val D.val 8192

/-! ## The run -/

set_option backward.isDefEq.respectTransparency.types false in
/-- A run of the program from proof data that constrain some windows, over variable data. -/
theorem run_rel (dat : (c : Dev nD) → Dat τ (Elt Ideal) Unit ℕ (UR sig nD τ) ℕ cfg0 c) (fgt : Fin 7 → Bool)
    (Rl : (c : Dev nD) → (w : Fin 7) → Fin cfg0.N → ((cfg0.win w).block.Idx → Elt Ideal (cfg0.win w).elt) → Prop)
    (hbody : ∀ c, BodyObligationRel (dat c) (defs₀ (F := Ideal)) Variants.none () Set.univ fgt (Rl c))
    (hshare : ∀ c w, (dat c).share w = fullShare) (howed : ∀ c t, (dat c).owed t = 0)
    (hA : ∀ c w, (dat c).A w = V m c (Pipeline.arrRef spec0 w))
    (hin : ∀ c, Pipeline.ΦA spec0 c ⊢ (dat c).Φ 0) (hout : ∀ c, (dat c).Φ (Fin.last cfg0.N) ⊢ Pipeline.ΦA spec0 c) :
    θ_run defs (onTc (τ := τ) (main (F := Ideal))) (s₀ m ρ)
      (fun r => Pipeline.RDat.FramePost (cfgs 0) (fun c => (dat c).toRRel fgt (Rl c)) (V m) r ∧ r.2.sem = fun _ => 0) :=
  Pipeline.RDat.θ_run_frame_track (Q' := _) cfgs (0 : Fin 1) launch0 defs₀ Variants.none (fun c => (dat c).toRRel fgt (Rl c)) m ρ main
    (hbody := fun c => (hbody c).toRRel) (hshare := hshare) (howed := howed) (V := V m) (hmain := hmain m Variants.none) (hA := hA) (hin := hin) (hout := hout)

theorem phi_in (T : Fin 32 → BitVec 8) (c : Dev nD) : (Pipeline.ΦA spec0 c : sProp 𝕄) ⊢ PhiV m T c 0 := by
  rw [PhiA0_eq]; unfold PhiV
  iintro ⟨⟨S0, S1, ⟨%M, S2⟩, ⟨%I, S3⟩, ⟨%S, S4⟩⟩, Hg⟩
  isplitl [S0 S1 S2 S3 S4]
  · isplitl [S0]; · iexact S0
    isplitl [S1]; · iexact S1
    iexists M, I, S
    isplitr
    · ipureintro; exact fun h => absurd rfl h
    isplitl [S2]; · iexact S2
    isplitl [S3]; · iexact S3
    iexact S4
  iexact Hg

theorem phi_out (T : Fin 32 → BitVec 8) (c : Dev nD) (n : Nat) : PhiV m T c n ⊢ (Pipeline.ΦA spec0 c : sProp 𝕄) := by
  rw [PhiA0_eq]; unfold PhiV
  iintro ⟨⟨S0, S1, ⟨%M, %I, %S, -, S2, S3, S4⟩⟩, Hg⟩
  isplitl [S0 S1 S2 S3 S4]
  · isplitl [S0]; · iexact S0
    isplitl [S1]; · iexact S1
    isplitl [S2]; · iexists M; iexact S2
    isplitl [S3]; · iexists I; iexact S3
    iexists S; iexact S4
  iexact Hg

theorem run_value : θ_run defs (onTc (τ := τ) (main (F := Ideal))) (s₀ m ρ)
    (fun r => Pipeline.RDat.FramePost (cfgs 0) (fun c => (datV m lit0 c).toRRel marked (leaves m lit0 c)) (V m) r ∧ r.2.sem = fun _ => 0) :=
  run_rel m ρ (datV m lit0) marked (leaves m lit0) (fun c => body_obligationV m lit0 c (V_table m c)) (fun c => (datV m lit0 c).share_full fun _ => rfl)
    (fun _ _ => rfl) (datV_A m lit0) (fun c => phi_in m lit0 c) (fun c => phi_out m lit0 c _)

theorem last_lt : 74 < cfg0.N := by rw [show cfg0.N = 75 from N_0]; decide

theorem whole4 : (cfg0.win 4).WholeAt ⟨74, last_lt⟩ := by decide +kernel
theorem whole5 : (cfg0.win 5).WholeAt ⟨74, last_lt⟩ := by decide +kernel
theorem whole6 : (cfg0.win 6).WholeAt ⟨74, last_lt⟩ := by decide +kernel

/-- What result array 0 holds after the run, of what the body left in its buffer at the last point. -/
theorem out4_of {c : Dev nD} (rd : Pipeline.RDat τ (Elt Ideal) Unit ℕ (UR sig nD τ) ℕ cfg0 c) (G : S64x1.Idx → BitVec 32)
    (hG : rd.ArrAt 4 cfg0.N (G : Buf (Elt Ideal) ((c : Thread nD τ).loc main_v5_0))) (P : S64x1.Idx → BitVec 32)
    (h : ∀ X, rd.Leaves 4 ⟨74, last_lt⟩ X → X = P) : G = P := by
  obtain ⟨X, hX, hj⟩ := hG.emb_eq_of_wholeAt whole4
  exact (funext fun j => hj j).trans (h X hX)

/-- What result array 1 holds after the run, of what the body left in its buffer at the last point. -/
theorem out5_of {c : Dev nD} (rd : Pipeline.RDat τ (Elt Ideal) Unit ℕ (UR sig nD τ) ℕ cfg0 c) (G : S64x1.Idx → EReal)
    (hG : rd.ArrAt 5 cfg0.N (G : Buf (Elt Ideal) ((c : Thread nD τ).loc main_v5_1))) (P : S64x1.Idx → EReal)
    (h : ∀ X, rd.Leaves 5 ⟨74, last_lt⟩ X → X = P) : G = P := by
  obtain ⟨X, hX, hj⟩ := hG.emb_eq_of_wholeAt whole5
  exact (funext fun j => hj j).trans (h X hX)

/-- What result array 2 holds after the run, of what the body left in its buffer at the last point. -/
theorem out6_of {c : Dev nD} (rd : Pipeline.RDat τ (Elt Ideal) Unit ℕ (UR sig nD τ) ℕ cfg0 c) (G : S64x1.Idx → EReal)
    (hG : rd.ArrAt 6 cfg0.N (G : Buf (Elt Ideal) ((c : Thread nD τ).loc main_v5_2))) (P : S64x1.Idx → EReal)
    (h : ∀ X, rd.Leaves 6 ⟨74, last_lt⟩ X → X = P) : G = P := by
  obtain ⟨X, hX, hj⟩ := hG.emb_eq_of_wholeAt whole6
  exact (funext fun j => hj j).trans (h X hX)

theorem leaves_at4 (c : Dev nD) {X : S64x1.Idx → BitVec 32} (h : ((datV m lit0 c).toRRel marked (leaves m lit0 c)).Leaves 4 ⟨74, last_lt⟩ X) :
    X = k0_pay5 (F := Ideal) (finM m lit0 c) (finI m lit0 c) :=
  ((datV m lit0 c).toRRel_leaves (fgt := marked) (Rl := leaves m lit0 c) (w := 4) rfl h : leaves m lit0 c 4 ⟨74, last_lt⟩ X) rfl

theorem leaves_at5 (c : Dev nD) {X : S64x1.Idx → EReal} (h : ((datV m lit0 c).toRRel marked (leaves m lit0 c)).Leaves 5 ⟨74, last_lt⟩ X) :
    X = k0_pay6 (F := Ideal) (finM m lit0 c) (finS m lit0 c) (finI m lit0 c) :=
  ((datV m lit0 c).toRRel_leaves (fgt := marked) (Rl := leaves m lit0 c) (w := 5) rfl h : leaves m lit0 c 5 ⟨74, last_lt⟩ X) rfl

theorem leaves_at6 (c : Dev nD) {X : S64x1.Idx → EReal} (h : ((datV m lit0 c).toRRel marked (leaves m lit0 c)).Leaves 6 ⟨74, last_lt⟩ X) :
    X = k0_pay4 (F := Ideal) (finM m lit0 c) :=
  ((datV m lit0 c).toRRel_leaves (fgt := marked) (Rl := leaves m lit0 c) (w := 6) rfl h : leaves m lit0 c 6 ⟨74, last_lt⟩ X) rfl

/-- The program's run at the exact reals: the three results are what the closing formulas make of the final running buffers, the
    arguments unchanged. -/
theorem run_results : θ_run defs (onTc (τ := τ) (main (F := Ideal))) ⟨m, fun _ => 0, ρ⟩ (fun r => ∀ c : Dev nD,
      r.2.mem ((c.tc : Thread nD τ).loc main_v5_0) = k0_pay5 (F := Ideal) (finM m lit0 c) (finI m lit0 c)
      ∧ r.2.mem ((c.tc : Thread nD τ).loc main_v5_1) = k0_pay6 (F := Ideal) (finM m lit0 c) (finS m lit0 c) (finI m lit0 c)
      ∧ r.2.mem ((c.tc : Thread nD τ).loc main_v5_2) = k0_pay4 (F := Ideal) (finM m lit0 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨out4_of _ _ ((h.1 c).1 4) _ fun X hX => leaves_at4 m c hX,
      out5_of _ _ ((h.1 c).1 5) _ fun X hX => leaves_at5 m c hX,
      out6_of _ _ ((h.1 c).1 6) _ fun X hX => leaves_at6 m c hX,
      ((h.1 c).2 main_arg0 (Pipeline.mem_restRefs_of main_arg0 (by decide) (by decide))).trans (V_main_arg0 m c),
      (h.1.arr_in c 2 rfl).trans (V_main_arg1 m c),
      (h.1.arr_in c 3 rfl).trans (V_main_arg2 m c)⟩) (run_value m ρ)

end Cert.KernelIdeal.Hand

end
-- ==== Proof.E.Equation.lean ====
module

public import proofs.«01_k».proof.Proof.E.RefTop
public import proofs.«01_k».proof.Proof.E.RefLogit
public import proofs.«01_k».proof.Proof.V.Final
public import proofs.«01_k».proof.Proof.V.Launch

/-!
The kernel's three results and the reference's, a token at a time: both are the largest logit, its least vocabulary row, and its lead over
the largest of the other rows, so they are equal (`equation`).
-/

open Idealize.ShloMosaic Idealize.ShloMosaic.TcCoe
open Cert.ReferenceIdeal Cert.ReferenceIdeal.Gen Cert.ReferenceIdeal.Read

@[expose] public section

noncomputable section

namespace Cert.Equation

open Cert.KernelIdeal.Hand (IsTop2 Held logit select_eq)

variable (x0 : S64x1x8192.Idx → EReal) (x1 : S38016x4096.Idx → BitVec 8) (x2 : S38016x256.Idx → EReal)

/-- A token's logits by vocabulary row, `⊥` past the last row. -/
def row (r : Fin 64) (v : Nat) : EReal :=
  if h : v < 38016 then logit Cert.KernelIdeal.lit0 (fun D => x0 (ix3 r (0 : Fin 1) D)) (fun cc => x1 (ix2 (⟨v, h⟩ : Fin 38016) cc))
    (fun g => x2 (ix2 (⟨v, h⟩ : Fin 38016) g)) else ⊥

theorem row_eq (r : Fin 64) (v : Fin 38016) : row x0 x1 x2 r v.val = val_main_v103 (F := Ideal) x0 x1 x2 (ix2 r v) := by
  unfold row
  rw [dif_pos v.isLt, Decode.val103_apply]

theorem row_past (r : Fin 64) (v : Nat) (h : 38016 ≤ v) : row x0 x1 x2 r v = ⊥ := dif_neg (not_lt.mpr h)

/-- The reference's masked logits. -/
theorem masked (r : Fin 64) (v0 : Fin 38016) (h0 : val_main_v105 (F := Ideal) x0 x1 x2 (ix1 r) = BitVec.ofNat 32 v0.val) (v : Fin 38016) :
    val_main_v110 (F := Ideal) x0 x1 x2 (ix2 r v) = if v = v0 then ⊥ else val_main_v103 (F := Ideal) x0 x1 x2 (ix2 r v) := by
  have hi : idx_main_v107 (idx_main_v108 (ix2 r v)) = ix1 r := funext fun a => match a with
    | ⟨0, _⟩ => rfl
  have hb : val_main_call31_v1 (F := Ideal) (ix2 r v) = ⊥ := by
    rw [val_main_call31_v1_apply]
    exact Top.negInf_bits
  have hv : (BitVec.ofNat 32 v.val = BitVec.ofNat 32 v0.val) ↔ v = v0 := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  rw [val_main_v110_apply, val_main_v109_apply, val_main_v106_apply, val_main_v108_apply, val_main_v107_apply, hi, h0, hb, select_eq]
  exact if_congr hv rfl rfl

/-- The reference's three words of a token's row. -/
theorem ref_top2 (r : Fin 64) : IsTop2 (row x0 x1 x2 r) (val_main_v104 (F := Ideal) x0 x1 x2 (ix1 r)) (val_main_v105 (F := Ideal) x0 x1 x2 (ix1 r))
    (val_main_v111 (F := Ideal) x0 x1 x2 (ix1 r)) := by
  obtain ⟨v0, e, hmax, hlt⟩ := Top.argmax_spec (val_main_v103 (F := Ideal) x0 x1 x2) r
  have h0 : val_main_v105 (F := Ideal) x0 x1 x2 (ix1 r) = BitVec.ofNat 32 v0.val := e
  have ht : ∀ z, val_main_v104 (F := Ideal) x0 x1 x2 (ix1 r) ≤ z ↔ ∀ v : Fin 38016, val_main_v103 (F := Ideal) x0 x1 x2 (ix2 r v) ≤ z :=
    Top.max_spec (val_main_v103 (F := Ideal) x0 x1 x2) r
  have hs : ∀ z, val_main_v111 (F := Ideal) x0 x1 x2 (ix1 r) ≤ z ↔ ∀ v : Fin 38016, val_main_v110 (F := Ideal) x0 x1 x2 (ix2 r v) ≤ z :=
    Top.max_spec (val_main_v110 (F := Ideal) x0 x1 x2) r
  have hm := masked x0 x1 x2 r v0 h0
  have et : val_main_v103 (F := Ideal) x0 x1 x2 (ix2 r v0) = val_main_v104 (F := Ideal) x0 x1 x2 (ix1 r) :=
    le_antisymm ((ht _).mp le_rfl v0) ((ht _).mpr hmax)
  refine ⟨v0.val, by omega, h0, (row_eq x0 x1 x2 r v0).trans et, fun z => ?_, fun v hv => ?_, fun z => ?_⟩
  · rw [ht z]
    constructor
    · intro h v
      by_cases hv : v < 38016
      · exact (row_eq x0 x1 x2 r ⟨v, hv⟩).trans_le (h ⟨v, hv⟩)
      · rw [row_past x0 x1 x2 r v (not_lt.mp hv)]; exact bot_le
    · intro h v
      exact (row_eq x0 x1 x2 r v).symm.trans_le (h v.val)
  · rw [← et]
    have hv' : v < 38016 := hv.trans v0.isLt
    exact (row_eq x0 x1 x2 r ⟨v, hv'⟩).trans_lt (hlt ⟨v, hv'⟩ hv)
  · rw [hs z]
    constructor
    · intro h v hv
      by_cases hv' : v < 38016
      · have := h ⟨v, hv'⟩
        rw [hm, if_neg fun c => hv (congrArg Fin.val c)] at this
        exact (row_eq x0 x1 x2 r ⟨v, hv'⟩).trans_le this
      · rw [row_past x0 x1 x2 r v (not_lt.mp hv')]; exact bot_le
    · intro h v
      rw [hm]
      by_cases c : v = v0
      · rw [if_pos c]; exact bot_le
      · rw [if_neg c]
        exact (row_eq x0 x1 x2 r v).symm.trans_le (h v.val fun k => c (Fin.ext k))

/-- The reference's results at a token. -/
theorem idx_token (r : Fin 64) : idx_main_v113 (ix2 r (0 : Fin 1)) = ix1 r ∧ idx_main_v114 (ix2 r (0 : Fin 1)) = ix1 r ∧ idx_main_v115 (ix2 r (0 : Fin 1)) = ix1 r := by
  refine ⟨?_, ?_, ?_⟩ <;> exact funext fun a => match a with
    | ⟨0, _⟩ => Fin.ext (Nat.mul_one _)

variable (m : (ℓ : Loc Cert.KernelIdeal.nD Cert.KernelIdeal.τ Cert.KernelIdeal.sig) → Buf (Elt Ideal) ℓ) (c : Dev Cert.KernelIdeal.nD)

/-- The kernel's logit, of the activations with their middle axis dropped, is the row's. -/
theorem lg_row (x : Cert.KernelIdeal.S64x8192.Idx → EReal) (w : S38016x4096.Idx → BitVec 8) (s : S38016x256.Idx → EReal) (r : Fin 64)
    (hx : ∀ D : Fin 8192, x (ix2 r D) = x0 (ix3 r (0 : Fin 1) D)) (hw : w = x1) (hs : s = x2) (v : Nat) :
    Cert.KernelIdeal.Hand.Lg Cert.KernelIdeal.lit0 x w s r v = row x0 x1 x2 r v := by
  subst hw hs
  have e : (fun D : Fin 8192 => x (ix2 r D)) = fun D => x0 (ix3 r (0 : Fin 1) D) := funext hx
  unfold Cert.KernelIdeal.Hand.Lg row
  rw [e]

/-- The kernel's logits by block and lane are the token's row. -/
theorem lane_row (h0 : m ((c : Thread Cert.KernelIdeal.nD Cert.KernelIdeal.τ).loc Cert.KernelIdeal.main_arg0) = x0)
    (h1 : m ((c : Thread Cert.KernelIdeal.nD Cert.KernelIdeal.τ).loc Cert.KernelIdeal.main_arg1) = x1)
    (h2 : m ((c : Thread Cert.KernelIdeal.nD Cert.KernelIdeal.τ).loc Cert.KernelIdeal.main_arg2) = x2) (r : Fin 64) (l : Fin 128) :
    Cert.KernelIdeal.Hand.Lv m Cert.KernelIdeal.lit0 c r l = fun b => row x0 x1 x2 r (128 * b + l.val) :=
  funext fun b => lg_row x0 x1 x2 _ _ _ r (fun D => (Cert.KernelIdeal.Hand.V_acts m c r D).trans (congrFun h0 _))
    ((Cert.KernelIdeal.Gen.V_main_arg1 m c).trans h1) ((Cert.KernelIdeal.Gen.V_main_arg2 m c).trans h2) (128 * b + l.val)

theorem fin_apply (r : Fin 64) (l : Fin 128) : Cert.KernelIdeal.Hand.finM m Cert.KernelIdeal.lit0 c (ix2 r l) = (Cert.KernelIdeal.Hand.runs (Cert.KernelIdeal.Hand.Lv m Cert.KernelIdeal.lit0 c r l) 75).m
    ∧ Cert.KernelIdeal.Hand.finI m Cert.KernelIdeal.lit0 c (ix2 r l) = (Cert.KernelIdeal.Hand.runs (Cert.KernelIdeal.Hand.Lv m Cert.KernelIdeal.lit0 c r l) 75).i
    ∧ Cert.KernelIdeal.Hand.finS m Cert.KernelIdeal.lit0 c (ix2 r l) = (Cert.KernelIdeal.Hand.runs (Cert.KernelIdeal.Hand.Lv m Cert.KernelIdeal.lit0 c r l) 75).s := by
  unfold Cert.KernelIdeal.Hand.finM Cert.KernelIdeal.Hand.finI Cert.KernelIdeal.Hand.finS
  exact ⟨rfl, rfl, rfl⟩

/-- A lane's final running top-2 is that of its places in the token's row. -/
theorem kernel_held (h0 : m ((c : Thread Cert.KernelIdeal.nD Cert.KernelIdeal.τ).loc Cert.KernelIdeal.main_arg0) = x0)
    (h1 : m ((c : Thread Cert.KernelIdeal.nD Cert.KernelIdeal.τ).loc Cert.KernelIdeal.main_arg1) = x1)
    (h2 : m ((c : Thread Cert.KernelIdeal.nD Cert.KernelIdeal.τ).loc Cert.KernelIdeal.main_arg2) = x2) (r : Fin 64) (l : Fin 128) :
    Held (fun b => row x0 x1 x2 r (128 * b + l.val)) 300 ⟨Cert.KernelIdeal.Hand.finM m Cert.KernelIdeal.lit0 c (ix2 r l),
      Cert.KernelIdeal.Hand.finI m Cert.KernelIdeal.lit0 c (ix2 r l), Cert.KernelIdeal.Hand.finS m Cert.KernelIdeal.lit0 c (ix2 r l)⟩ := by
  obtain ⟨e1, e2, e3⟩ := fin_apply m c r l
  rw [e1, e2, e3, lane_row x0 x1 x2 m c h0 h1 h2 r l]
  have h := Cert.KernelIdeal.Hand.held_runs (L := fun b => row x0 x1 x2 r (128 * b + l.val))
    (fun b hb => row_past x0 x1 x2 r _ (by omega)) 75
  generalize Cert.KernelIdeal.Hand.runs (fun b => row x0 x1 x2 r (128 * b + l.val)) 75 = q at h ⊢
  exact h

/-- The kernel's three results are the reference's. -/
theorem equation (h0 : m ((c : Thread Cert.KernelIdeal.nD Cert.KernelIdeal.τ).loc Cert.KernelIdeal.main_arg0) = x0)
    (h1 : m ((c : Thread Cert.KernelIdeal.nD Cert.KernelIdeal.τ).loc Cert.KernelIdeal.main_arg1) = x1)
    (h2 : m ((c : Thread Cert.KernelIdeal.nD Cert.KernelIdeal.τ).loc Cert.KernelIdeal.main_arg2) = x2) :
    val_main_v113 (F := Ideal) x0 x1 x2 = Cert.KernelIdeal.Gen.k0_pay5 (F := Ideal) (Cert.KernelIdeal.Hand.finM m Cert.KernelIdeal.lit0 c) (Cert.KernelIdeal.Hand.finI m Cert.KernelIdeal.lit0 c)
    ∧ val_main_v114 (F := Ideal) x0 x1 x2 = Cert.KernelIdeal.Gen.k0_pay6 (F := Ideal) (Cert.KernelIdeal.Hand.finM m Cert.KernelIdeal.lit0 c)
      (Cert.KernelIdeal.Hand.finS m Cert.KernelIdeal.lit0 c) (Cert.KernelIdeal.Hand.finI m Cert.KernelIdeal.lit0 c)
    ∧ val_main_v115 (F := Ideal) x0 x1 x2 = Cert.KernelIdeal.Gen.k0_pay4 (F := Ideal) (Cert.KernelIdeal.Hand.finM m Cert.KernelIdeal.lit0 c) := by
  have key : ∀ r : Fin 64, val_main_v113 (F := Ideal) x0 x1 x2 (ix2 r (0 : Fin 1)) = Cert.KernelIdeal.Gen.k0_pay5 (F := Ideal) (Cert.KernelIdeal.Hand.finM m Cert.KernelIdeal.lit0 c) (Cert.KernelIdeal.Hand.finI m Cert.KernelIdeal.lit0 c) (ix2 r (0 : Fin 1))
      ∧ val_main_v114 (F := Ideal) x0 x1 x2 (ix2 r (0 : Fin 1)) = Cert.KernelIdeal.Gen.k0_pay6 (F := Ideal) (Cert.KernelIdeal.Hand.finM m Cert.KernelIdeal.lit0 c)
        (Cert.KernelIdeal.Hand.finS m Cert.KernelIdeal.lit0 c) (Cert.KernelIdeal.Hand.finI m Cert.KernelIdeal.lit0 c) (ix2 r (0 : Fin 1))
      ∧ val_main_v115 (F := Ideal) x0 x1 x2 (ix2 r (0 : Fin 1)) = Cert.KernelIdeal.Gen.k0_pay4 (F := Ideal) (Cert.KernelIdeal.Hand.finM m Cert.KernelIdeal.lit0 c) (ix2 r (0 : Fin 1)) := fun r => by
    obtain ⟨sec, hk, hmar⟩ := Cert.KernelIdeal.Hand.final_top2 (Cert.KernelIdeal.Hand.finM m Cert.KernelIdeal.lit0 c) (Cert.KernelIdeal.Hand.finS m Cert.KernelIdeal.lit0 c)
      (Cert.KernelIdeal.Hand.finI m Cert.KernelIdeal.lit0 c) r (row x0 x1 x2 r) (fun p hp => row_past x0 x1 x2 r p hp) (kernel_held x0 x1 x2 m c h0 h1 h2 r)
    obtain ⟨et, ek, es⟩ := (ref_top2 x0 x1 x2 r).unique hk
    obtain ⟨i1, i2, i3⟩ := idx_token r
    rw [val_main_v113_apply, val_main_v114_apply, val_main_v115_apply, i1, i2, i3, hmar, val_main_v112_apply, et, ek, es]
    exact ⟨rfl, rfl, rfl⟩
  have split : ∀ y : S64x1.Idx, y = ix2 (y 0) (0 : Fin 1) := fun y => funext fun a => match a with
    | ⟨0, _⟩ => rfl
    | ⟨1, _⟩ => Subsingleton.elim (α := Fin 1) _ _
  refine ⟨funext fun y => ?_, funext fun y => ?_, funext fun y => ?_⟩
  · rw [split y]; exact (key (y 0)).1
  · rw [split y]; exact (key (y 0)).2.1
  · rw [split y]; exact (key (y 0)).2.2

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.R.Run
public import proofs.«01_k».proof.Proof.R.Read
public import proofs.«01_k».proof.Proof.K.KernelFrame
public import proofs.«01_k».proof.Proof.K.KernelIdealFrame
public import proofs.«01_k».proof.Proof.E.Equation
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: every execution terminates, the arguments unchanged, every semaphore counter at zero. -/
theorem frame_kernel : Cert.quiescent_Kernel (hKernel := Cert.Kernel.Gen.facts) := fun m ρ _ =>
  Cert.Kernel.Hand.frame_main m ρ

/-- The idealized kernel's frame. -/
theorem frame_kernelIdeal : Cert.quiescent_KernelIdeal (hKernelIdeal := Cert.KernelIdeal.Gen.facts) := fun m ρ _ =>
  Cert.KernelIdeal.Hand.frame_main m ρ

/-- The reference's frame: its run read at the arguments; it declares no semaphore. -/
theorem frame_referenceIdeal : Cert.quiescent_ReferenceIdeal (hReferenceIdeal := Cert.ReferenceIdeal.Gen.facts) := fun m ρ _ =>
  (θ_run _ _ _).mono (fun _ h => ⟨fun c => (h c).2.2.2, sem_eq_zero_of_no_sems rfl _⟩) (Cert.ReferenceIdeal.Value.run m ρ)

/-- The rewrites that lead from the kernel to the idealized kernel, each its rule's statement at its shapes. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- The idealized kernel and the reference leave the same three results: the token, its margin and its logit. -/
theorem algebraic : Cert.algebraic_KernelIdeal_ReferenceIdeal (hKernelIdeal := Cert.KernelIdeal.Gen.facts) (hReferenceIdeal := Cert.ReferenceIdeal.Gen.facts) :=
  fun m g m' g' _ h => by
    have eqn := fun c => Cert.Equation.equation _ _ _ m c (h c).1.symm (h c).2.1.symm (h c).2.2.symm
    refine ⟨fun c => Cert.KernelIdeal.Gen.k0_pay5 (F := Ideal) (Cert.KernelIdeal.Hand.finM m Cert.KernelIdeal.lit0 c) (Cert.KernelIdeal.Hand.finI m Cert.KernelIdeal.lit0 c),
      fun c => Cert.KernelIdeal.Gen.k0_pay6 (F := Ideal) (Cert.KernelIdeal.Hand.finM m Cert.KernelIdeal.lit0 c) (Cert.KernelIdeal.Hand.finS m Cert.KernelIdeal.lit0 c)
        (Cert.KernelIdeal.Hand.finI m Cert.KernelIdeal.lit0 c),
      fun c => Cert.KernelIdeal.Gen.k0_pay4 (F := Ideal) (Cert.KernelIdeal.Hand.finM m Cert.KernelIdeal.lit0 c), Cert.KernelIdeal.Hand.run_results m g, ?_⟩
    refine (θ_run _ _ _).mono (fun r k c => ?_) (Cert.ReferenceIdeal.Value.run m' g')
    obtain ⟨k0, k1, k2, ka⟩ := k c
    exact ⟨(k0.trans (Cert.ReferenceIdeal.Read.val_main_v113_eq _)).trans (eqn c).1, (k1.trans (Cert.ReferenceIdeal.Read.val_main_v114_eq _)).trans (eqn c).2.1,
      (k2.trans (Cert.ReferenceIdeal.Read.val_main_v115_eq _)).trans (eqn c).2.2, ka⟩

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
